-- ==== Defs.lean ====
def Pre_Chunk (m : (ℓ : Loc Cert.Chunk.nD Cert.Chunk.τ Cert.Chunk.sig) → Buf (Elt Bits) ℓ) : Prop :=
  True

def Pre_ChunkIdeal (m : (ℓ : Loc Cert.ChunkIdeal.nD Cert.ChunkIdeal.τ Cert.ChunkIdeal.sig) → Buf (Elt Ideal) ℓ) : Prop :=
  True

def Pre_ChunkIdeal_finite_scores [hPre_finite_scores : Cert.Pre_finite_scores.Facts] (m : (ℓ : Loc Cert.ChunkIdeal.nD Cert.ChunkIdeal.τ Cert.ChunkIdeal.sig) → Buf (Elt Ideal) ℓ) : Prop :=
  ∀ c : Dev Cert.ChunkIdeal.nD,
    (Cert.Pre_finite_scores.fn (F := Ideal) (m ((c.tc : Thread Cert.ChunkIdeal.nD Cert.ChunkIdeal.τ).loc Cert.ChunkIdeal.main_arg0)) (m ((c.tc : Thread Cert.ChunkIdeal.nD Cert.ChunkIdeal.τ).loc Cert.ChunkIdeal.main_arg1))) = (fun _ => 1#1)

def Pre_ChunkRefIdeal (m : (ℓ : Loc Cert.ChunkRefIdeal.nD Cert.ChunkRefIdeal.τ Cert.ChunkRefIdeal.sig) → Buf (Elt Ideal) ℓ) : Prop :=
  True

def Pre_ChunkRefIdeal_finite_scores [hPre_finite_scores : Cert.Pre_finite_scores.Facts] (m : (ℓ : Loc Cert.ChunkRefIdeal.nD Cert.ChunkRefIdeal.τ Cert.ChunkRefIdeal.sig) → Buf (Elt Ideal) ℓ) : Prop :=
  ∀ c : Dev Cert.ChunkRefIdeal.nD,
    (Cert.Pre_finite_scores.fn (F := Ideal) (m ((c.tc : Thread Cert.ChunkRefIdeal.nD Cert.ChunkRefIdeal.τ).loc Cert.ChunkRefIdeal.main_arg0)) (m ((c.tc : Thread Cert.ChunkRefIdeal.nD Cert.ChunkRefIdeal.τ).loc Cert.ChunkRefIdeal.main_arg1))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_latent [hPre_finite_latent : Cert.Pre_finite_latent.Facts] (m : (ℓ : Loc Cert.MlaIdeal.nD Cert.MlaIdeal.τ Cert.MlaIdeal.sig) → Buf (Elt Ideal) ℓ) : Prop :=
  ∀ c : Dev Cert.MlaIdeal.nD,
    (Cert.Pre_finite_latent.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_latent [hPre_finite_latent : Cert.Pre_finite_latent.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_latent.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_maps [hPre_finite_maps : Cert.Pre_finite_maps.Facts] (m : (ℓ : Loc Cert.DiffIdeal.nD Cert.DiffIdeal.τ Cert.DiffIdeal.sig) → Buf (Elt Ideal) ℓ) : Prop :=
  ∀ c : Dev Cert.DiffIdeal.nD,
    (Cert.Pre_finite_maps.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_maps [hPre_finite_maps : Cert.Pre_finite_maps.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_maps.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def quiescent_Chunk [hChunk : Cert.Chunk.Facts] : Prop :=
  ∀ (m : (ℓ : Loc Cert.Chunk.nD Cert.Chunk.τ Cert.Chunk.sig) → Buf (Elt Bits) ℓ) (g : Dev Cert.Chunk.nD → PrngReg), Pre_Chunk m →
    θ_run (Cert.Chunk.defs (F := Bits)) (onTc (τ := Cert.Chunk.τ) (Cert.Chunk.main (F := Bits))) ⟨m, fun _ => 0, g⟩ (fun r => (∀ c : Dev Cert.Chunk.nD,
      r.2.mem ((c.tc : Thread Cert.Chunk.nD Cert.Chunk.τ).loc Cert.Chunk.main_arg0) = m ((c.tc : Thread Cert.Chunk.nD Cert.Chunk.τ).loc Cert.Chunk.main_arg0)
      ∧ r.2.mem ((c.tc : Thread Cert.Chunk.nD Cert.Chunk.τ).loc Cert.Chunk.main_arg1) = m ((c.tc : Thread Cert.Chunk.nD Cert.Chunk.τ).loc Cert.Chunk.main_arg1))
      ∧ r.2.sem = fun _ => 0)

def quiescent_ChunkIdeal [hChunkIdeal : Cert.ChunkIdeal.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ r.2.sem = fun _ => 0)

def quiescent_ChunkIdeal_pre_finite_scores [hChunkIdeal : Cert.ChunkIdeal.Facts] [hPre_finite_scores : Cert.Pre_finite_scores.Facts] : Prop :=
  ∀ (m : (ℓ : Loc Cert.ChunkIdeal.nD Cert.ChunkIdeal.τ Cert.ChunkIdeal.sig) → Buf (Elt Ideal) ℓ) (g : Dev Cert.ChunkIdeal.nD → PrngReg), Pre_ChunkIdeal_finite_scores m →
    θ_run (Cert.ChunkIdeal.defs (F := Ideal)) (onTc (τ := Cert.ChunkIdeal.τ) (Cert.ChunkIdeal.main (F := Ideal))) ⟨m, fun _ => 0, g⟩ (fun r => (∀ c : Dev Cert.ChunkIdeal.nD,
      r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
      ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ r.2.sem = fun _ => 0)

def quiescent_ChunkRefIdeal [hChunkRefIdeal : Cert.ChunkRefIdeal.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def quiescent_ChunkRefIdeal_pre_finite_scores [hChunkRefIdeal : Cert.ChunkRefIdeal.Facts] [hPre_finite_scores : Cert.Pre_finite_scores.Facts] : Prop :=
  ∀ (m : (ℓ : Loc Cert.ChunkRefIdeal.nD Cert.ChunkRefIdeal.τ Cert.ChunkRefIdeal.sig) → Buf (Elt Ideal) ℓ) (g : Dev Cert.ChunkRefIdeal.nD → PrngReg), Pre_ChunkRefIdeal_finite_scores m →
    θ_run (Cert.ChunkRefIdeal.defs (F := Ideal)) (onTc (τ := Cert.ChunkRefIdeal.τ) (Cert.ChunkRefIdeal.main (F := Ideal))) ⟨m, fun _ => 0, g⟩ (fun r => (∀ c : Dev Cert.ChunkRefIdeal.nD,
      r.2.mem ((c.tc : Thread Cert.ChunkRefIdeal.nD Cert.ChunkRefIdeal.τ).loc Cert.ChunkRefIdeal.main_arg0) = m ((c.tc : Thread Cert.ChunkRefIdeal.nD Cert.ChunkRefIdeal.τ).loc Cert.ChunkRefIdeal.main_arg0)
      ∧ r.2.mem ((c.tc : Thread Cert.ChunkRefIdeal.nD Cert.ChunkRefIdeal.τ).loc Cert.ChunkRefIdeal.main_arg1) = m ((c.tc : Thread Cert.ChunkRefIdeal.nD Cert.ChunkRefIdeal.τ).loc Cert.ChunkRefIdeal.main_arg1))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_latent [hMlaIdeal : Cert.MlaIdeal.Facts] [hPre_finite_latent : Cert.Pre_finite_latent.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_latent m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_latent [hMlaRefIdeal : Cert.MlaRefIdeal.Facts] [hPre_finite_latent : Cert.Pre_finite_latent.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_latent m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffIdeal_pre_finite_maps [hDiffIdeal : Cert.DiffIdeal.Facts] [hPre_finite_maps : Cert.Pre_finite_maps.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_maps m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_DiffRefIdeal_pre_finite_maps [hDiffRefIdeal : Cert.DiffRefIdeal.Facts] [hPre_finite_maps : Cert.Pre_finite_maps.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_maps m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def preserves_Chunk_ChunkIdeal : Prop :=
  IdealRules.named_const.Statement Cert.ChunkIdeal.κ "masked" .f32 0xF149F2CA#32 ⊥

def algebraic_ChunkIdeal_ChunkRefIdeal_pre_finite_scores [hChunkIdeal : Cert.ChunkIdeal.Facts] [hChunkRefIdeal : Cert.ChunkRefIdeal.Facts] [hPre_finite_scores : Cert.Pre_finite_scores.Facts] : Prop :=
  ∀ (m : (ℓ : Loc Cert.ChunkIdeal.nD Cert.ChunkIdeal.τ Cert.ChunkIdeal.sig) → Buf (Elt Ideal) ℓ) (g : Dev Cert.ChunkIdeal.nD → PrngReg)
    (m' : (ℓ : Loc Cert.ChunkRefIdeal.nD Cert.ChunkRefIdeal.τ Cert.ChunkRefIdeal.sig) → Buf (Elt Ideal) ℓ) (g' : Dev Cert.ChunkRefIdeal.nD → PrngReg), Pre_ChunkIdeal_finite_scores m →
    (∀ c : Dev Cert.ChunkIdeal.nD,
      m' ((c.tc : Thread Cert.ChunkRefIdeal.nD Cert.ChunkRefIdeal.τ).loc Cert.ChunkRefIdeal.main_arg0) = m ((c.tc : Thread Cert.ChunkIdeal.nD Cert.ChunkIdeal.τ).loc Cert.ChunkIdeal.main_arg0)
      ∧ m' ((c.tc : Thread Cert.ChunkRefIdeal.nD Cert.ChunkRefIdeal.τ).loc Cert.ChunkRefIdeal.main_arg1) = m ((c.tc : Thread Cert.ChunkIdeal.nD Cert.ChunkIdeal.τ).loc Cert.ChunkIdeal.main_arg1)) →
    ∃ (v0 : (c : Dev Cert.ChunkIdeal.nD) → Buf (Elt Ideal) ((c.tc : Thread Cert.ChunkIdeal.nD Cert.ChunkIdeal.τ).loc Cert.ChunkIdeal.main_v0)),
      θ_run (Cert.ChunkIdeal.defs (F := Ideal)) (onTc (τ := Cert.ChunkIdeal.τ) (Cert.ChunkIdeal.main (F := Ideal))) ⟨m, fun _ => 0, g⟩ (fun r => ∀ c : Dev Cert.ChunkIdeal.nD,
          r.2.mem ((c.tc : Thread Cert.ChunkIdeal.nD Cert.ChunkIdeal.τ).loc Cert.ChunkIdeal.main_v0) = v0 c
          ∧ r.2.mem ((c.tc : Thread Cert.ChunkIdeal.nD Cert.ChunkIdeal.τ).loc Cert.ChunkIdeal.main_arg0) = m ((c.tc : Thread Cert.ChunkIdeal.nD Cert.ChunkIdeal.τ).loc Cert.ChunkIdeal.main_arg0)
          ∧ r.2.mem ((c.tc : Thread Cert.ChunkIdeal.nD Cert.ChunkIdeal.τ).loc Cert.ChunkIdeal.main_arg1) = m ((c.tc : Thread Cert.ChunkIdeal.nD Cert.ChunkIdeal.τ).loc Cert.ChunkIdeal.main_arg1))
      ∧ θ_run (Cert.ChunkRefIdeal.defs (F := Ideal)) (onTc (τ := Cert.ChunkRefIdeal.τ) (Cert.ChunkRefIdeal.main (F := Ideal))) ⟨m', fun _ => 0, g'⟩ (fun r => ∀ c : Dev Cert.ChunkRefIdeal.nD,
          r.2.mem ((c.tc : Thread Cert.ChunkRefIdeal.nD Cert.ChunkRefIdeal.τ).loc Cert.ChunkRefIdeal.main_v61) = v0 c
          ∧ r.2.mem ((c.tc : Thread Cert.ChunkRefIdeal.nD Cert.ChunkRefIdeal.τ).loc Cert.ChunkRefIdeal.main_arg0) = m' ((c.tc : Thread Cert.ChunkRefIdeal.nD Cert.ChunkRefIdeal.τ).loc Cert.ChunkRefIdeal.main_arg0)
          ∧ r.2.mem ((c.tc : Thread Cert.ChunkRefIdeal.nD Cert.ChunkRefIdeal.τ).loc Cert.ChunkRefIdeal.main_arg1) = m' ((c.tc : Thread Cert.ChunkRefIdeal.nD Cert.ChunkRefIdeal.τ).loc Cert.ChunkRefIdeal.main_arg1))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v17) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Mla_MlaIdeal : Prop :=
  IdealRules.named_const.Statement Cert.MlaIdeal.κ "masked" .f32 0xF149F2CA#32 ⊥

def algebraic_MlaIdeal_MlaRefIdeal_pre_finite_latent [hMlaIdeal : Cert.MlaIdeal.Facts] [hMlaRefIdeal : Cert.MlaRefIdeal.Facts] [hPre_finite_latent : Cert.Pre_finite_latent.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_latent m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v30) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Diff_DiffIdeal : Prop :=
  IdealRules.named_const.Statement Cert.DiffIdeal.κ "masked" .f32 0xF149F2CA#32 ⊥

def algebraic_DiffIdeal_DiffRefIdeal_pre_finite_maps [hDiffIdeal : Cert.DiffIdeal.Facts] [hDiffRefIdeal : Cert.DiffRefIdeal.Facts] [hPre_finite_maps : Cert.Pre_finite_maps.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_maps m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)) →
    ∃ (v0 : (c : Dev Cert.DiffIdeal.nD) → Buf (Elt Ideal) ((c.tc : Thread Cert.DiffIdeal.nD Cert.DiffIdeal.τ).loc Cert.DiffIdeal.main_v5)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v5) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v79) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v8) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v1)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v1) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v21) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def Claim : Prop :=
  ∃ (hChunk : Cert.Chunk.Facts) (hChunkIdeal : Cert.ChunkIdeal.Facts) (hChunkRefIdeal : Cert.ChunkRefIdeal.Facts) (hMoe : Cert.Moe.Facts) (hMoeIdeal : Cert.MoeIdeal.Facts) (hMoeRefIdeal : Cert.MoeRefIdeal.Facts) (hMla : Cert.Mla.Facts) (hMlaIdeal : Cert.MlaIdeal.Facts) (hMlaRefIdeal : Cert.MlaRefIdeal.Facts) (hDiff : Cert.Diff.Facts) (hDiffIdeal : Cert.DiffIdeal.Facts) (hDiffRefIdeal : Cert.DiffRefIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hFinalNorm : Cert.FinalNorm.Facts) (hFinalNormIdeal : Cert.FinalNormIdeal.Facts) (hFinalNormRefIdeal : Cert.FinalNormRefIdeal.Facts) (hNormMod : Cert.NormMod.Facts) (hNormModIdeal : Cert.NormModIdeal.Facts) (hNormModRefIdeal : Cert.NormModRefIdeal.Facts) (hPre_finite_scores : Cert.Pre_finite_scores.Facts) (hPre_finite_latent : Cert.Pre_finite_latent.Facts) (hPre_finite_maps : Cert.Pre_finite_maps.Facts),
    quiescent_Chunk (hChunk := hChunk)
    ∧ quiescent_ChunkIdeal (hChunkIdeal := hChunkIdeal)
    ∧ quiescent_ChunkIdeal_pre_finite_scores (hChunkIdeal := hChunkIdeal) (hPre_finite_scores := hPre_finite_scores)
    ∧ quiescent_ChunkRefIdeal (hChunkRefIdeal := hChunkRefIdeal)
    ∧ quiescent_ChunkRefIdeal_pre_finite_scores (hChunkRefIdeal := hChunkRefIdeal) (hPre_finite_scores := hPre_finite_scores)
    ∧ quiescent_Moe (hMoe := hMoe)
    ∧ quiescent_MoeIdeal (hMoeIdeal := hMoeIdeal)
    ∧ quiescent_MoeRefIdeal (hMoeRefIdeal := hMoeRefIdeal)
    ∧ quiescent_Mla (hMla := hMla)
    ∧ quiescent_MlaIdeal (hMlaIdeal := hMlaIdeal)
    ∧ quiescent_MlaIdeal_pre_finite_latent (hMlaIdeal := hMlaIdeal) (hPre_finite_latent := hPre_finite_latent)
    ∧ quiescent_MlaRefIdeal (hMlaRefIdeal := hMlaRefIdeal)
    ∧ quiescent_MlaRefIdeal_pre_finite_latent (hMlaRefIdeal := hMlaRefIdeal) (hPre_finite_latent := hPre_finite_latent)
    ∧ quiescent_Diff (hDiff := hDiff)
    ∧ quiescent_DiffIdeal (hDiffIdeal := hDiffIdeal)
    ∧ quiescent_DiffIdeal_pre_finite_maps (hDiffIdeal := hDiffIdeal) (hPre_finite_maps := hPre_finite_maps)
    ∧ quiescent_DiffRefIdeal (hDiffRefIdeal := hDiffRefIdeal)
    ∧ quiescent_DiffRefIdeal_pre_finite_maps (hDiffRefIdeal := hDiffRefIdeal) (hPre_finite_maps := hPre_finite_maps)
    ∧ quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateRefIdeal (hGateRefIdeal := hGateRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_NormMod (hNormMod := hNormMod)
    ∧ quiescent_NormModIdeal (hNormModIdeal := hNormModIdeal)
    ∧ quiescent_NormModRefIdeal (hNormModRefIdeal := hNormModRefIdeal)
    ∧ preserves_Chunk_ChunkIdeal
    ∧ algebraic_ChunkIdeal_ChunkRefIdeal_pre_finite_scores (hChunkIdeal := hChunkIdeal) (hChunkRefIdeal := hChunkRefIdeal) (hPre_finite_scores := hPre_finite_scores)
    ∧ preserves_Moe_MoeIdeal
    ∧ algebraic_MoeIdeal_MoeRefIdeal (hMoeIdeal := hMoeIdeal) (hMoeRefIdeal := hMoeRefIdeal)
    ∧ preserves_Mla_MlaIdeal
    ∧ algebraic_MlaIdeal_MlaRefIdeal_pre_finite_latent (hMlaIdeal := hMlaIdeal) (hMlaRefIdeal := hMlaRefIdeal) (hPre_finite_latent := hPre_finite_latent)
    ∧ preserves_Diff_DiffIdeal
    ∧ algebraic_DiffIdeal_DiffRefIdeal_pre_finite_maps (hDiffIdeal := hDiffIdeal) (hDiffRefIdeal := hDiffRefIdeal) (hPre_finite_maps := hPre_finite_maps)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal (hGateIdeal := hGateIdeal) (hGateRefIdeal := hGateRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_NormMod_NormModIdeal
    ∧ algebraic_NormModIdeal_NormModRefIdeal (hNormModIdeal := hNormModIdeal) (hNormModRefIdeal := hNormModRefIdeal)
-- ==== Pre_finite_latent.lean ====
abbrev S16384x1024 : Shape := ⟨2, ![16384, 1024]⟩
abbrev S16384x512 : Shape := ⟨2, ![16384, 512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .bf16) (main_arg1 : FVec F S16384x1024 .bf16) (main_arg2 : FVec F S16384x512 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  main_v10
-- ==== Pre_finite_maps.lean ====
abbrev S16384x1536 : Shape := ⟨2, ![16384, 1536]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  let main_v20 : FVec F S64 .f32 := Host.absf main_arg4
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  main_v24

def fn {F : FTy → Type} [FloatOps F] (main_arg0 : FVec F S16384x1536 .bf16) (main_arg1 : FVec F S64 .f32) (main_arg2 : FVec F S64 .f32) (main_arg3 : FVec F S64 .f32) (main_arg4 : FVec F S64 .f32) (main_arg5 : FVec F S128 .f32) : IVec S_ 1 :=
  let main_v0 : FVec F S16384x1536 .f32 := (extf .f32 · bitsLt_bf16_f32) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_c : IVec S_ 1 := constantI S_ 1 1#1
  let main_v4 : IVec S_ 1 := (fun x v => Host.reduce IntOp.andi x v reducesTo_S16384x1536_S_d0_1 h_S_) main_v3 main_c
  let main_v5 : FVec F S64 .f32 := Host.absf main_arg1
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S64 .f32 := Host.absf main_arg3
  let main_cst_4 : FVec F S_ .f32 := constant S_ .f32 0x7F800000#32
  let main_v16 : FVec F S64 .f32 := broadcastInDim S64 ![] bcast_S_S64 main_cst_4
  fn_part1 (F := F) main_arg4 main_v14 main_v15 main_v16
-- ==== Pre_finite_scores.lean ====
abbrev S16384x1536 : Shape := ⟨2, ![16384, 1536]⟩
abbrev S8x128x640 : Shape := ⟨3, ![8, 128, 640]⟩
abbrev S16384x1024 : Shape := ⟨2, ![16384, 1024]⟩
abbrev S_ : Shape := ⟨0, ![]⟩

class Facts : Prop where
  slices_S16384x1536_S16384x1024_0_0 : S16384x1536.Slices ![0, 0] S16384x1024
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x128x640 : S_.BroadcastsInDim S8x128x640 (![] : Fin 0 → Fin S8x128x640.rank)
  reducesTo_S8x128x640_S_d0_1_2 : S8x128x640.ReducesTo [0, 1, 2] S_

variable [Facts]

def fn {F : FTy → Type} [FloatOps F] (main_arg0 : FVec F S16384x1536 .bf16) (main_arg1 : FVec F S8x128x640 .f32) : IVec S_ 1 :=
  let main_v0 : FVec F S16384x1024 .bf16 := (extractStridedSlice S16384x1024 ![0, 0] · slices_S16384x1536_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  let main_v6 : FVec F S8x128x640 .f32 := Host.absf main_arg1
  let main_cst_0 : FVec F S_ .f32 := constant S_ .f32 0x7F800000#32
  let main_v7 : FVec F S8x128x640 .f32 := broadcastInDim S8x128x640 ![] bcast_S_S8x128x640 main_cst_0
  let main_v8 : IVec S8x128x640 1 := cmpf .olt main_v6 main_v7
  let main_c_1 : IVec S_ 1 := constantI S_ 1 1#1
  let main_v9 : IVec S_ 1 := (fun x v => Host.reduce IntOp.andi x v reducesTo_S8x128x640_S_d0_1_2 h_S_) main_v8 main_c_1
  let main_v10 : IVec S_ 1 := andi main_v5 main_v9
  main_v10
-- ==== Chunk.lean ====
abbrev S16384x1536 : Shape := ⟨2, ![16384, 1536]⟩
abbrev S8x128x640 : Shape := ⟨3, ![8, 128, 640]⟩
abbrev S16384x512 : Shape := ⟨2, ![16384, 512]⟩
abbrev S128x512 : Shape := ⟨2, ![128, 512]⟩
abbrev S4096x512 : Shape := ⟨2, ![4096, 512]⟩
abbrev S4608x512 : Shape := ⟨2, ![4608, 512]⟩
abbrev S512x512 : Shape := ⟨2, ![512, 512]⟩
abbrev S128x128 : Shape := ⟨2, ![128, 128]⟩
abbrev S128x640 : Shape := ⟨2, ![128, 640]⟩
abbrev S640x128 : Shape := ⟨2, ![640, 128]⟩
abbrev S1x128x640 : Shape := ⟨3, ![1, 128, 640]⟩
abbrev S128 : Shape := ⟨1, ![128]⟩
abbrev S128x1 : Shape := ⟨2, ![128, 1]⟩

abbrev nBuf : Space → Nat
  | .hbm => 3
  | .vmem => 11
  | .smem => 0
  | _ => 0

abbrev bufTy : (tb : Table) → Fin (tcTables nBuf tb) → BufTy
  | .hbm, ⟨0, _⟩ => ⟨S16384x1536, .bf16⟩
  | .hbm, ⟨1, _⟩ => ⟨S8x128x640, .f32⟩
  | .hbm, ⟨2, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S8x128x640, .f32⟩
  | .local _ .vmem, ⟨7, _⟩ => ⟨S128x512, .bf16⟩
  | .local _ .vmem, ⟨8, _⟩ => ⟨S128x512, .bf16⟩
  | .local _ .vmem, ⟨9, _⟩ => ⟨S4608x512, .bf16⟩
  | .local _ .vmem, ⟨10, _⟩ => ⟨S4608x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v23 : Index := Scalar.indexCast v4
  let c0_5 : Index := 0#32
  ![v23.toNat, 0]
def k0_off2 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v74 : Index := Scalar.indexCast v4
  let c128_28 : Index := 128#32
  ![v74.toNat, 128]
def k0_off3 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v125 : Index := Scalar.indexCast v4
  let c256_50 : Index := 256#32
  ![v125.toNat, 256]
def k0_off4 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v176 : Index := Scalar.indexCast v4
  let c384_72 : Index := 384#32
  ![v176.toNat, 384]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ChunkIdeal.lean ====
variable {F : FTy → Type} [FloatOps F] [Named F]
def κ : String → Option EReal := fun
  | "masked" => some ⊥
  | _ => none
-- ==== ChunkRefIdeal.lean ====
abbrev S16384x1536 : Shape := ⟨2, ![16384, 1536]⟩
abbrev S8x128x640 : Shape := ⟨3, ![8, 128, 640]⟩
abbrev S4x4096x1536 : Shape := ⟨3, ![4, 4096, 1536]⟩
abbrev S4x4096x512 : Shape := ⟨3, ![4, 4096, 512]⟩
abbrev S4x4096x8x64 : Shape := ⟨4, ![4, 4096, 8, 64]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x8x4096x4096 : Shape := ⟨4, ![4, 8, 4096, 4096]⟩
abbrev S4096x4096x1 : Shape := ⟨3, ![4096, 4096, 1]⟩
abbrev S4096x4096x2 : Shape := ⟨3, ![4096, 4096, 2]⟩
abbrev S8x4096x4096 : Shape := ⟨3, ![8, 4096, 4096]⟩
abbrev S1x8x4096x4096 : Shape := ⟨4, ![1, 8, 4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩
abbrev S16384x512 : Shape := ⟨2, ![16384, 512]⟩

abbrev nBuf : Space → Nat
  | .hbm => 107
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S8x128x640, .f32⟩
  | .hbm, ⟨2, _⟩ => ⟨S16384x1536, .f32⟩
  | .hbm, ⟨3, _⟩ => ⟨S4x4096x1536, .f32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x8x64, .f32⟩
  | .hbm, ⟨8, _⟩ => ⟨S4x4096x8x64, .f32⟩
  | .hbm, ⟨9, _⟩ => ⟨S4x4096x8x64, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S_, .i1⟩
  | .hbm, ⟨27, _⟩ => ⟨S4096, .i1⟩
  | .hbm, ⟨28, _⟩ => ⟨S4096, .i1⟩
  | .hbm, ⟨29, _⟩ => ⟨S4096, .i1⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S1x4096, .i32⟩
  | .hbm, ⟨34, _⟩ => ⟨S4096, .i32⟩
  | .hbm, ⟨35, _⟩ => ⟨S4096x1, .i32⟩
  | .hbm, ⟨36, _⟩ => ⟨S4096x4096, .i32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S_, .i32⟩
  | .hbm, ⟨43, _⟩ => ⟨S4096x4096, .i32⟩
  | .hbm, ⟨44, _⟩ => ⟨S4096x4096, .i1⟩
  | .hbm, ⟨45, _⟩ => ⟨S_, .i32⟩
  | .hbm, ⟨46, _⟩ => ⟨S4096x4096, .i32⟩
  | .hbm, ⟨47, _⟩ => ⟨S4096x4096, .i1⟩
  | .hbm, ⟨48, _⟩ => ⟨S4096x4096, .i1⟩
  | .hbm, ⟨49, _⟩ => ⟨S4x8x4096x4096, .f32⟩
  | .hbm, ⟨50, _⟩ => ⟨S_, .f32⟩
  | .hbm, ⟨51, _⟩ => ⟨S4x8x4096x4096, .f32⟩
  | .hbm, ⟨52, _⟩ => ⟨S4x8x4096x4096, .f32⟩
  | .hbm, ⟨53, _⟩ => ⟨S4096x1, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S4096x4096, .i32⟩
  | .hbm, ⟨58, _⟩ => ⟨S4096x4096, .i32⟩
  | .hbm, ⟨59, _⟩ => ⟨S_, .i32⟩
  | .hbm, ⟨60, _⟩ => ⟨S4096x4096, .i32⟩
  | .hbm, ⟨61, _⟩ => ⟨S4096x4096, .i32⟩
  | .hbm, ⟨62, _⟩ => ⟨S_, .i32⟩
  | .hbm, ⟨63, _⟩ => ⟨S4096x1, .i32⟩
  | .hbm, ⟨64, _⟩ => ⟨S4096x1, .i1⟩
  | .hbm, ⟨65, _⟩ => ⟨S_, .i32⟩
  | .hbm, ⟨66, _⟩ => ⟨S4096x1, .i32⟩
  | .hbm, ⟨67, _⟩ => ⟨S4096x1, .i32⟩
  | .hbm, ⟨68, _⟩ => ⟨S4096x1, .i32⟩
  | .hbm, ⟨69, _⟩ => ⟨S_, .i32⟩
  | .hbm, ⟨70, _⟩ => ⟨S4096x4096, .i32⟩
  | .hbm, ⟨71, _⟩ => ⟨S4096x4096, .i1⟩
  | .hbm, ⟨72, _⟩ => ⟨S_, .i32⟩
  | .hbm, ⟨73, _⟩ => ⟨S4096x4096, .i32⟩
  | .hbm, ⟨74, _⟩ => ⟨S4096x4096, .i32⟩
  | .hbm, ⟨75, _⟩ => ⟨S4096x4096, .i32⟩
  | .hbm, ⟨76, _⟩ => ⟨S4096x4096, .i32⟩
  | .hbm, ⟨77, _⟩ => ⟨S4096x4096x1, .i32⟩
  | .hbm, ⟨78, _⟩ => ⟨S4096x4096x1, .i32⟩
  | .hbm, ⟨79, _⟩ => ⟨S4096x4096x2, .i32⟩
  | .hbm, ⟨80, _⟩ => ⟨S8x4096x4096, .f32⟩
  | .hbm, ⟨81, _⟩ => ⟨S1x8x4096x4096, .f32⟩
  | .hbm, ⟨82, _⟩ => ⟨S4x8x4096x4096, .f32⟩
  | .hbm, ⟨83, _⟩ => ⟨S4x8x4096x4096, .f32⟩
  | .hbm, ⟨84, _⟩ => ⟨S_, .f32⟩
  | .hbm, ⟨85, _⟩ => ⟨S_, .f32⟩
  | .hbm, ⟨86, _⟩ => ⟨S4x8x4096x4096, .i1⟩
  | .hbm, ⟨87, _⟩ => ⟨S4x8x4096x4096, .f32⟩
  | .hbm, ⟨88, _⟩ => ⟨S4x8x4096x4096, .f32⟩
  | .hbm, ⟨89, _⟩ => ⟨S_, .f32⟩
  | .hbm, ⟨90, _⟩ => ⟨S4x8x4096, .f32⟩
  | .hbm, ⟨91, _⟩ => ⟨S_, .f32⟩
  | .hbm, ⟨92, _⟩ => ⟨S4x8x4096, .f32⟩
  | .hbm, ⟨93, _⟩ => ⟨S4x8x4096, .f32⟩
  | .hbm, ⟨94, _⟩ => ⟨S4x8x4096x1, .f32⟩
  | .hbm, ⟨95, _⟩ => ⟨S4x8x4096x4096, .f32⟩
  | .hbm, ⟨96, _⟩ => ⟨S4x8x4096x4096, .f32⟩
  | .hbm, ⟨97, _⟩ => ⟨S4x8x4096x4096, .f32⟩
  | .hbm, ⟨98, _⟩ => ⟨S_, .f32⟩
  | .hbm, ⟨99, _⟩ => ⟨S4x8x4096, .f32⟩
  | .hbm, ⟨100, _⟩ => ⟨S4x8x4096x1, .f32⟩
  | .hbm, ⟨101, _⟩ => ⟨S4x8x4096x4096, .f32⟩
  | .hbm, ⟨102, _⟩ => ⟨S4x8x4096x4096, .f32⟩
  | .hbm, ⟨103, _⟩ => ⟨S4x8x64x4096, .f32⟩
  | .hbm, ⟨104, _⟩ => ⟨S4x4096x8x64, .f32⟩
  | .hbm, ⟨105, _⟩ => ⟨S16384x512, .f32⟩
  | .hbm, ⟨106, _⟩ => ⟨S16384x512, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_0 : Ref sig .tc := ⟨.hbm, 39, rfl⟩
abbrev main_v16 : Ref sig .tc := ⟨.hbm, 40, rfl⟩
abbrev main_v17 : Ref sig .tc := ⟨.hbm, 41, rfl⟩
abbrev main_c_1 : Ref sig .tc := ⟨.hbm, 42, rfl⟩
abbrev main_v18 : Ref sig .tc := ⟨.hbm, 43, rfl⟩
abbrev main_v19 : Ref sig .tc := ⟨.hbm, 44, rfl⟩
abbrev main_c_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_3 : Ref sig .tc := ⟨.hbm, 54, rfl⟩
abbrev main_c_4 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v27 : Ref sig .tc := ⟨.hbm, 61, rfl⟩
abbrev main_c_5 : Ref sig .tc := ⟨.hbm, 62, rfl⟩
abbrev main_v28 : Ref sig .tc := ⟨.hbm, 63, rfl⟩
abbrev main_v29 : Ref sig .tc := ⟨.hbm, 64, rfl⟩
abbrev main_c_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_7 : Ref sig .tc := ⟨.hbm, 69, rfl⟩
abbrev main_v33 : Ref sig .tc := ⟨.hbm, 70, rfl⟩
abbrev main_v34 : Ref sig .tc := ⟨.hbm, 71, rfl⟩
abbrev main_c_8 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_9 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v46 : Ref sig .tc := ⟨.hbm, 88, rfl⟩
abbrev main_cst_10 : Ref sig .tc := ⟨.hbm, 89, rfl⟩
abbrev main_v47 : Ref sig .tc := ⟨.hbm, 90, rfl⟩
abbrev main_cst_11 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_12 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩

abbrev nD : Nat := 1
abbrev τ : Topo := Topo.v7x

variable {F : FTy → Type} [FloatOps F]
-- ==== Moe.lean ====
abbrev S16384x1024 : Shape := ⟨2, ![16384, 1024]⟩
abbrev S16x16384 : Shape := ⟨2, ![16, 16384]⟩
abbrev S4x1x1024 : Shape := ⟨3, ![4, 1, 1024]⟩
abbrev S16x1024x512 : Shape := ⟨3, ![16, 1024, 512]⟩
abbrev S16x512x1024 : Shape := ⟨3, ![16, 512, 1024]⟩
abbrev S16x16384x1 : Shape := ⟨3, ![16, 16384, 1]⟩
abbrev S1024x1024 : Shape := ⟨2, ![1024, 1024]⟩
abbrev S1x1024x512 : Shape := ⟨3, ![1, 1024, 512]⟩
abbrev S1x512x1024 : Shape := ⟨3, ![1, 512, 1024]⟩
abbrev S1x1024x1 : Shape := ⟨3, ![1, 1024, 1]⟩
abbrev S1x1x1024 : Shape := ⟨3, ![1, 1, 1024]⟩
abbrev S1024x512 : Shape := ⟨2, ![1024, 512]⟩
abbrev S1024x1 : Shape := ⟨2, ![1024, 1]⟩
abbrev S512x1024 : Shape := ⟨2, ![512, 1024]⟩
abbrev S1x1024 : Shape := ⟨2, ![1, 1024]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16x16384, .f32⟩
  | .hbm, ⟨2, _⟩ => ⟨S16384x1024, .f32⟩
  | .hbm, ⟨3, _⟩ => ⟨S4x1x1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16x16384x1, .f32⟩
  | .hbm, ⟨8, _⟩ => ⟨S16x1024x512, .bf16⟩
  | .hbm, ⟨9, _⟩ => ⟨S16x1024x512, .bf16⟩
  | .hbm, ⟨10, _⟩ => ⟨S16x512x1024, .bf16⟩
  | .hbm, ⟨11, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x1, .f32⟩
  | .local _ .vmem, ⟨9, _⟩ => ⟨S1x1024x1, .f32⟩
  | .local _ .vmem, ⟨10, _⟩ => ⟨S1024x1024, .f32⟩
  | .local _ .vmem, ⟨11, _⟩ => ⟨S1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_20 : BitVec 32 := 0#32
  let v28 : BitVec 1 := Scalar.cmpi .ne v27 c0_i32_20
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S16384x1024 : Shape := ⟨2, ![16384, 1024]⟩
abbrev S16x16384 : Shape := ⟨2, ![16, 16384]⟩
abbrev S4x1x1024 : Shape := ⟨3, ![4, 1, 1024]⟩
abbrev S16x1024x512 : Shape := ⟨3, ![16, 1024, 512]⟩
abbrev S16x512x1024 : Shape := ⟨3, ![16, 512, 1024]⟩
abbrev S16x512x16384 : Shape := ⟨3, ![16, 512, 16384]⟩
abbrev S16x16384x512 : Shape := ⟨3, ![16, 16384, 512]⟩
abbrev S_ : Shape := ⟨0, ![]⟩
abbrev S16x16384x1024 : Shape := ⟨3, ![16, 16384, 1024]⟩
abbrev S16x16384x1 : Shape := ⟨3, ![16, 16384, 1]⟩
abbrev S4x4096x1024 : Shape := ⟨3, ![4, 4096, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16x16384, .f32⟩
  | .hbm, ⟨2, _⟩ => ⟨S16384x1024, .f32⟩
  | .hbm, ⟨3, _⟩ => ⟨S4x1x1024, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S16384x1024, .f32⟩
  | .hbm, ⟨8, _⟩ => ⟨S16x512x16384, .f32⟩
  | .hbm, ⟨9, _⟩ => ⟨S16x16384x512, .f32⟩
  | .hbm, ⟨10, _⟩ => ⟨S16x512x16384, .f32⟩
  | .hbm, ⟨11, _⟩ => ⟨S16x16384x512, .f32⟩
  | .hbm, ⟨12, _⟩ => ⟨S16x16384x512, .f32⟩
  | .hbm, ⟨13, _⟩ => ⟨S16x16384x512, .f32⟩
  | .hbm, ⟨14, _⟩ => ⟨S_, .f32⟩
  | .hbm, ⟨15, _⟩ => ⟨S16x16384x512, .f32⟩
  | .hbm, ⟨16, _⟩ => ⟨S16x16384x512, .f32⟩
  | .hbm, ⟨17, _⟩ => ⟨S_, .f32⟩
  | .hbm, ⟨18, _⟩ => ⟨S16x16384x512, .f32⟩
  | .hbm, ⟨19, _⟩ => ⟨S16x16384x512, .f32⟩
  | .hbm, ⟨20, _⟩ => ⟨S16x16384x512, .f32⟩
  | .hbm, ⟨21, _⟩ => ⟨S16x16384x512, .f32⟩
  | .hbm, ⟨22, _⟩ => ⟨S16x16384x1024, .f32⟩
  | .hbm, ⟨23, _⟩ => ⟨S16x16384x1, .f32⟩
  | .hbm, ⟨24, _⟩ => ⟨S16x16384x1024, .f32⟩
  | .hbm, ⟨25, _⟩ => ⟨S16x16384x1024, .f32⟩
  | .hbm, ⟨26, _⟩ => ⟨S_, .f32⟩
  | .hbm, ⟨27, _⟩ => ⟨S16384x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Mla.lean ====
abbrev S16384x1024 : Shape := ⟨2, ![16384, 1024]⟩
abbrev S16384x512 : Shape := ⟨2, ![16384, 512]⟩
abbrev S256x1024 : Shape := ⟨2, ![256, 1024]⟩
abbrev S4096x1024 : Shape := ⟨2, ![4096, 1024]⟩
abbrev S4096x512 : Shape := ⟨2, ![4096, 512]⟩
abbrev S256x512 : Shape := ⟨2, ![256, 512]⟩
abbrev S256x128 : Shape := ⟨2, ![256, 128]⟩
abbrev S256x256 : Shape := ⟨2, ![256, 256]⟩
abbrev S256x1 : Shape := ⟨2, ![256, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x512, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x512, .bf16⟩
  | .local _ .vmem, ⟨5, _⟩ => ⟨S4096x512, .bf16⟩
  | .local _ .vmem, ⟨6, _⟩ => ⟨S256x512, .bf16⟩
  | .local _ .vmem, ⟨7, _⟩ => ⟨S256x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_15 : BitVec 32 := 0#32
  let arg1 : BitVec 32 := BitVec.ofNat 32 (i 1).val
  let v58 : BitVec 32 := Scalar.subi arg1 c0_i32_15
  let c1_i32_16 : BitVec 32 := 1#32
  let v60 : BitVec 32 := Scalar.divsi v58 c1_i32_16
  let v61 : BitVec 32 := Scalar.muli v60 c1_i32_16
  let v62 : BitVec 32 := Scalar.addi c0_i32_15 v61
  let c1_i32_17 : BitVec 32 := 1#32
  ⟨c0_i32_15, v62, c1_i32_17⟩
def k0_mult1 (i : grid0.Coords) (k0_t1 : Fin (k0_t1_loop i).trips) : BitVec 32 :=
  let c0_i32_15 : BitVec 32 := 0#32
  let c1_i32_17 : BitVec 32 := 1#32
  let arg6 : BitVec 32 := Scf.iv c0_i32_15 c1_i32_17 k0_t1
  let c256_i32_125 : BitVec 32 := 256#32
  let v357 : BitVec 32 := Scalar.muli arg6 c256_i32_125
  v357
def k0_off1 (i : grid0.Coords) (k0_t1 : Fin (k0_t1_loop i).trips) : Fin 2 → Nat :=
  let c0_i32_15 : BitVec 32 := 0#32
  let c1_i32_17 : BitVec 32 := 1#32
  let arg6 : BitVec 32 := Scf.iv c0_i32_15 c1_i32_17 k0_t1
  let c256_i32_125 : BitVec 32 := 256#32
  let v357 : BitVec 32 := Scalar.muli arg6 c256_i32_125
  let v358 : BitVec 32 := v357
  let v359 : Index := Scalar.indexCast v358
  let c0_126 : Index := 0#32
  ![v359.toNat, 0]
def k0_off2 (i : grid0.Coords) (k0_t1 : Fin (k0_t1_loop i).trips) : Fin 2 → Nat :=
  let c0_i32_15 : BitVec 32 := 0#32
  let c1_i32_17 : BitVec 32 := 1#32
  let arg6 : BitVec 32 := Scf.iv c0_i32_15 c1_i32_17 k0_t1
  let c256_i32_125 : BitVec 32 := 256#32
  let v357 : BitVec 32 := Scalar.muli arg6 c256_i32_125
  let v358 : BitVec 32 := v357
  let v362 : Index := Scalar.indexCast v358
  let c0_128 : Index := 0#32
  ![v362.toNat, 0]
@[reducible] def k0_t2_loop (i : grid0.Coords) : Scf.Loop 32 :=
  let c0_i32_15 : BitVec 32 := 0#32
  let arg1 : BitVec 32 := BitVec.ofNat 32 (i 1).val
  let v58 : BitVec 32 := Scalar.subi arg1 c0_i32_15
  let c1_i32_16 : BitVec 32 := 1#32
  let v60 : BitVec 32 := Scalar.divsi v58 c1_i32_16
  let v61 : BitVec 32 := Scalar.muli v60 c1_i32_16
  let v62 : BitVec 32 := Scalar.addi c0_i32_15 v61
  let v59 : BitVec 32 := Scalar.addi c0_i32_15 v58
  let c1_i32_18 : BitVec 32 := 1#32
  ⟨v62, v59, c1_i32_18⟩
def k0_mult2 (i : grid0.Coords) (k0_t2 : Fin (k0_t2_loop i).trips) : BitVec 32 :=
  let c0_i32_15 : BitVec 32 := 0#32
  let arg1 : BitVec 32 := BitVec.ofNat 32 (i 1).val
  let v58 : BitVec 32 := Scalar.subi arg1 c0_i32_15
  let c1_i32_16 : BitVec 32 := 1#32
  let v60 : BitVec 32 := Scalar.divsi v58 c1_i32_16
  let v61 : BitVec 32 := Scalar.muli v60 c1_i32_16
  let v62 : BitVec 32 := Scalar.addi c0_i32_15 v61
  let c1_i32_18 : BitVec 32 := 1#32
  let arg6 : BitVec 32 := Scf.iv v62 c1_i32_18 k0_t2
  let c256_i32_125 : BitVec 32 := 256#32
  let v357 : BitVec 32 := Scalar.muli arg6 c256_i32_125
  v357
def k0_off3 (i : grid0.Coords) (k0_t2 : Fin (k0_t2_loop i).trips) : Fin 2 → Nat :=
  let c0_i32_15 : BitVec 32 := 0#32
  let arg1 : BitVec 32 := BitVec.ofNat 32 (i 1).val
  let v58 : BitVec 32 := Scalar.subi arg1 c0_i32_15
  let c1_i32_16 : BitVec 32 := 1#32
  let v60 : BitVec 32 := Scalar.divsi v58 c1_i32_16
  let v61 : BitVec 32 := Scalar.muli v60 c1_i32_16
  let v62 : BitVec 32 := Scalar.addi c0_i32_15 v61
  let c1_i32_18 : BitVec 32 := 1#32
  let arg6 : BitVec 32 := Scf.iv v62 c1_i32_18 k0_t2
  let c256_i32_125 : BitVec 32 := 256#32
  let v357 : BitVec 32 := Scalar.muli arg6 c256_i32_125
  let v358 : BitVec 32 := v357
  let v359 : Index := Scalar.indexCast v358
  let c0_126 : Index := 0#32
  ![v359.toNat, 0]
def k0_off4 (i : grid0.Coords) (k0_t2 : Fin (k0_t2_loop i).trips) : Fin 2 → Nat :=
  let c0_i32_15 : BitVec 32 := 0#32
  let arg1 : BitVec 32 := BitVec.ofNat 32 (i 1).val
  let v58 : BitVec 32 := Scalar.subi arg1 c0_i32_15
  let c1_i32_16 : BitVec 32 := 1#32
  let v60 : BitVec 32 := Scalar.divsi v58 c1_i32_16
  let v61 : BitVec 32 := Scalar.muli v60 c1_i32_16
  let v62 : BitVec 32 := Scalar.addi c0_i32_15 v61
  let c1_i32_18 : BitVec 32 := 1#32
  let arg6 : BitVec 32 := Scf.iv v62 c1_i32_18 k0_t2
  let c256_i32_125 : BitVec 32 := 256#32
  let v357 : BitVec 32 := Scalar.muli arg6 c256_i32_125
  let v358 : BitVec 32 := v357
  let v362 : Index := Scalar.indexCast v358
  let c0_128 : Index := 0#32
  ![v362.toNat, 0]
def k0_mult3 (i : grid0.Coords) : BitVec 32 :=
  let arg1 : BitVec 32 := BitVec.ofNat 32 (i 1).val
  let c256_i32 : BitVec 32 := 256#32
  let v65 : BitVec 32 := Scalar.muli arg1 c256_i32
  v65
def k0_off5 (i : grid0.Coords) : Fin 2 → Nat :=
  let arg1 : BitVec 32 := BitVec.ofNat 32 (i 1).val
  let c256_i32 : BitVec 32 := 256#32
  let v65 : BitVec 32 := Scalar.muli arg1 c256_i32
  let v66 : BitVec 32 := v65
  let v67 : Index := Scalar.indexCast v66
  let c0_19 : Index := 0#32
  ![v67.toNat, 0]
def k0_off6 (i : grid0.Coords) : Fin 2 → Nat :=
  let arg1 : BitVec 32 := BitVec.ofNat 32 (i 1).val
  let c256_i32 : BitVec 32 := 256#32
  let v65 : BitVec 32 := Scalar.muli arg1 c256_i32
  let v66 : BitVec 32 := v65
  let v72 : Index := Scalar.indexCast v66
  let c0_22 : Index := 0#32
  ![v72.toNat, 0]
@[reducible] def k0_t3_loop (i : grid0.Coords) : Scf.Loop 32 :=
  let c0_i32_27 : BitVec 32 := 0#32
  let arg1 : BitVec 32 := BitVec.ofNat 32 (i 1).val
  let v94 : BitVec 32 := Scalar.subi arg1 c0_i32_27
  let c1_i32_28 : BitVec 32 := 1#32
  let v96 : BitVec 32 := Scalar.divsi v94 c1_i32_28
  let v97 : BitVec 32 := Scalar.muli v96 c1_i32_28
  let v98 : BitVec 32 := Scalar.addi c0_i32_27 v97
  let c1_i32_29 : BitVec 32 := 1#32
  ⟨c0_i32_27, v98, c1_i32_29⟩
def k0_mult4 (i : grid0.Coords) (k0_t3 : Fin (k0_t3_loop i).trips) : BitVec 32 :=
  let c0_i32_27 : BitVec 32 := 0#32
  let c1_i32_29 : BitVec 32 := 1#32
  let arg6 : BitVec 32 := Scf.iv c0_i32_27 c1_i32_29 k0_t3
  let c256_i32_125 : BitVec 32 := 256#32
  let v357 : BitVec 32 := Scalar.muli arg6 c256_i32_125
  v357
def k0_off7 (i : grid0.Coords) (k0_t3 : Fin (k0_t3_loop i).trips) : Fin 2 → Nat :=
  let c0_i32_27 : BitVec 32 := 0#32
  let c1_i32_29 : BitVec 32 := 1#32
  let arg6 : BitVec 32 := Scf.iv c0_i32_27 c1_i32_29 k0_t3
  let c256_i32_125 : BitVec 32 := 256#32
  let v357 : BitVec 32 := Scalar.muli arg6 c256_i32_125
  let v358 : BitVec 32 := v357
  let v359 : Index := Scalar.indexCast v358
  let c128_126 : Index := 128#32
  ![v359.toNat, 128]
def k0_off8 (i : grid0.Coords) (k0_t3 : Fin (k0_t3_loop i).trips) : Fin 2 → Nat :=
  let c0_i32_27 : BitVec 32 := 0#32
  let c1_i32_29 : BitVec 32 := 1#32
  let arg6 : BitVec 32 := Scf.iv c0_i32_27 c1_i32_29 k0_t3
  let c256_i32_125 : BitVec 32 := 256#32
  let v357 : BitVec 32 := Scalar.muli arg6 c256_i32_125
  let v358 : BitVec 32 := v357
  let v362 : Index := Scalar.indexCast v358
  let c0_128 : Index := 0#32
  ![v362.toNat, 0]
@[reducible] def k0_t4_loop (i : grid0.Coords) : Scf.Loop 32 :=
  let c0_i32_27 : BitVec 32 := 0#32
  let arg1 : BitVec 32 := BitVec.ofNat 32 (i 1).val
  let v94 : BitVec 32 := Scalar.subi arg1 c0_i32_27
  let c1_i32_28 : BitVec 32 := 1#32
  let v96 : BitVec 32 := Scalar.divsi v94 c1_i32_28
  let v97 : BitVec 32 := Scalar.muli v96 c1_i32_28
  let v98 : BitVec 32 := Scalar.addi c0_i32_27 v97
  let v95 : BitVec 32 := Scalar.addi c0_i32_27 v94
  let c1_i32_30 : BitVec 32 := 1#32
  ⟨v98, v95, c1_i32_30⟩
def k0_mult5 (i : grid0.Coords) (k0_t4 : Fin (k0_t4_loop i).trips) : BitVec 32 :=
  let c0_i32_27 : BitVec 32 := 0#32
  let arg1 : BitVec 32 := BitVec.ofNat 32 (i 1).val
  let v94 : BitVec 32 := Scalar.subi arg1 c0_i32_27
  let c1_i32_28 : BitVec 32 := 1#32
  let v96 : BitVec 32 := Scalar.divsi v94 c1_i32_28
  let v97 : BitVec 32 := Scalar.muli v96 c1_i32_28
  let v98 : BitVec 32 := Scalar.addi c0_i32_27 v97
  let c1_i32_30 : BitVec 32 := 1#32
  let arg6 : BitVec 32 := Scf.iv v98 c1_i32_30 k0_t4
  let c256_i32_125 : BitVec 32 := 256#32
  let v357 : BitVec 32 := Scalar.muli arg6 c256_i32_125
  v357
def k0_off9 (i : grid0.Coords) (k0_t4 : Fin (k0_t4_loop i).trips) : Fin 2 → Nat :=
  let c0_i32_27 : BitVec 32 := 0#32
  let arg1 : BitVec 32 := BitVec.ofNat 32 (i 1).val
  let v94 : BitVec 32 := Scalar.subi arg1 c0_i32_27
  let c1_i32_28 : BitVec 32 := 1#32
  let v96 : BitVec 32 := Scalar.divsi v94 c1_i32_28
  let v97 : BitVec 32 := Scalar.muli v96 c1_i32_28
  let v98 : BitVec 32 := Scalar.addi c0_i32_27 v97
  let c1_i32_30 : BitVec 32 := 1#32
  let arg6 : BitVec 32 := Scf.iv v98 c1_i32_30 k0_t4
  let c256_i32_125 : BitVec 32 := 256#32
  let v357 : BitVec 32 := Scalar.muli arg6 c256_i32_125
  let v358 : BitVec 32 := v357
  let v359 : Index := Scalar.indexCast v358
  let c128_126 : Index := 128#32
  ![v359.toNat, 128]
def k0_off10 (i : grid0.Coords) (k0_t4 : Fin (k0_t4_loop i).trips) : Fin 2 → Nat :=
  let c0_i32_27 : BitVec 32 := 0#32
  let arg1 : BitVec 32 := BitVec.ofNat 32 (i 1).val
  let v94 : BitVec 32 := Scalar.subi arg1 c0_i32_27
  let c1_i32_28 : BitVec 32 := 1#32
  let v96 : BitVec 32 := Scalar.divsi v94 c1_i32_28
  let v97 : BitVec 32 := Scalar.muli v96 c1_i32_28
  let v98 : BitVec 32 := Scalar.addi c0_i32_27 v97
  let c1_i32_30 : BitVec 32 := 1#32
  let arg6 : BitVec 32 := Scf.iv v98 c1_i32_30 k0_t4
  let c256_i32_125 : BitVec 32 := 256#32
  let v357 : BitVec 32 := Scalar.muli arg6 c256_i32_125
  let v358 : BitVec 32 := v357
  let v362 : Index := Scalar.indexCast v358
  let c0_128 : Index := 0#32
  ![v362.toNat, 0]
def k0_mult6 (i : grid0.Coords) : BitVec 32 :=
  let arg1 : BitVec 32 := BitVec.ofNat 32 (i 1).val
  let c256_i32_31 : BitVec 32 := 256#32
  let v101 : BitVec 32 := Scalar.muli arg1 c256_i32_31
  v101
def k0_off11 (i : grid0.Coords) : Fin 2 → Nat :=
  let arg1 : BitVec 32 := BitVec.ofNat 32 (i 1).val
  let c256_i32_31 : BitVec 32 := 256#32
  let v101 : BitVec 32 := Scalar.muli arg1 c256_i32_31
  let v102 : BitVec 32 := v101
  let v103 : Index := Scalar.indexCast v102
  let c128_32 : Index := 128#32
  ![v103.toNat, 128]
@[reducible] def k0_t5_loop (i : grid0.Coords) : Scf.Loop 32 :=
  let c0_i32_42 : BitVec 32 := 0#32
  let arg1 : BitVec 32 := BitVec.ofNat 32 (i 1).val
  let v133 : BitVec 32 := Scalar.subi arg1 c0_i32_42
  let c1_i32_43 : BitVec 32 := 1#32
  let v135 : BitVec 32 := Scalar.divsi v133 c1_i32_43
  let v136 : BitVec 32 := Scalar.muli v135 c1_i32_43
  let v137 : BitVec 32 := Scalar.addi c0_i32_42 v136
  let c1_i32_44 : BitVec 32 := 1#32
  ⟨c0_i32_42, v137, c1_i32_44⟩
def k0_mult7 (i : grid0.Coords) (k0_t5 : Fin (k0_t5_loop i).trips) : BitVec 32 :=
  let c0_i32_42 : BitVec 32 := 0#32
  let c1_i32_44 : BitVec 32 := 1#32
  let arg6 : BitVec 32 := Scf.iv c0_i32_42 c1_i32_44 k0_t5
  let c256_i32_125 : BitVec 32 := 256#32
  let v357 : BitVec 32 := Scalar.muli arg6 c256_i32_125
  v357
def k0_off12 (i : grid0.Coords) (k0_t5 : Fin (k0_t5_loop i).trips) : Fin 2 → Nat :=
  let c0_i32_42 : BitVec 32 := 0#32
  let c1_i32_44 : BitVec 32 := 1#32
  let arg6 : BitVec 32 := Scf.iv c0_i32_42 c1_i32_44 k0_t5
  let c256_i32_125 : BitVec 32 := 256#32
  let v357 : BitVec 32 := Scalar.muli arg6 c256_i32_125
  let v358 : BitVec 32 := v357
  let v359 : Index := Scalar.indexCast v358
  let c256_126 : Index := 256#32
  ![v359.toNat, 256]
def k0_off13 (i : grid0.Coords) (k0_t5 : Fin (k0_t5_loop i).trips) : Fin 2 → Nat :=
  let c0_i32_42 : BitVec 32 := 0#32
  let c1_i32_44 : BitVec 32 := 1#32
  let arg6 : BitVec 32 := Scf.iv c0_i32_42 c1_i32_44 k0_t5
  let c256_i32_125 : BitVec 32 := 256#32
  let v357 : BitVec 32 := Scalar.muli arg6 c256_i32_125
  let v358 : BitVec 32 := v357
  let v362 : Index := Scalar.indexCast v358
  let c128_128 : Index := 128#32
  ![v362.toNat, 128]
@[reducible] def k0_t6_loop (i : grid0.Coords) : Scf.Loop 32 :=
  let c0_i32_42 : BitVec 32 := 0#32
  let arg1 : BitVec 32 := BitVec.ofNat 32 (i 1).val
  let v133 : BitVec 32 := Scalar.subi arg1 c0_i32_42
  let c1_i32_43 : BitVec 32 := 1#32
  let v135 : BitVec 32 := Scalar.divsi v133 c1_i32_43
  let v136 : BitVec 32 := Scalar.muli v135 c1_i32_43
  let v137 : BitVec 32 := Scalar.addi c0_i32_42 v136
  let v134 : BitVec 32 := Scalar.addi c0_i32_42 v133
  let c1_i32_45 : BitVec 32 := 1#32
  ⟨v137, v134, c1_i32_45⟩
def k0_mult8 (i : grid0.Coords) (k0_t6 : Fin (k0_t6_loop i).trips) : BitVec 32 :=
  let c0_i32_42 : BitVec 32 := 0#32
  let arg1 : BitVec 32 := BitVec.ofNat 32 (i 1).val
  let v133 : BitVec 32 := Scalar.subi arg1 c0_i32_42
  let c1_i32_43 : BitVec 32 := 1#32
  let v135 : BitVec 32 := Scalar.divsi v133 c1_i32_43
  let v136 : BitVec 32 := Scalar.muli v135 c1_i32_43
  let v137 : BitVec 32 := Scalar.addi c0_i32_42 v136
  let c1_i32_45 : BitVec 32 := 1#32
  let arg6 : BitVec 32 := Scf.iv v137 c1_i32_45 k0_t6
  let c256_i32_125 : BitVec 32 := 256#32
  let v357 : BitVec 32 := Scalar.muli arg6 c256_i32_125
  v357
def k0_off14 (i : grid0.Coords) (k0_t6 : Fin (k0_t6_loop i).trips) : Fin 2 → Nat :=
  let c0_i32_42 : BitVec 32 := 0#32
  let arg1 : BitVec 32 := BitVec.ofNat 32 (i 1).val
  let v133 : BitVec 32 := Scalar.subi arg1 c0_i32_42
  let c1_i32_43 : BitVec 32 := 1#32
  let v135 : BitVec 32 := Scalar.divsi v133 c1_i32_43
  let v136 : BitVec 32 := Scalar.muli v135 c1_i32_43
  let v137 : BitVec 32 := Scalar.addi c0_i32_42 v136
  let c1_i32_45 : BitVec 32 := 1#32
  let arg6 : BitVec 32 := Scf.iv v137 c1_i32_45 k0_t6
  let c256_i32_125 : BitVec 32 := 256#32
  let v357 : BitVec 32 := Scalar.muli arg6 c256_i32_125
  let v358 : BitVec 32 := v357
  let v359 : Index := Scalar.indexCast v358
  let c256_126 : Index := 256#32
  ![v359.toNat, 256]
def k0_off15 (i : grid0.Coords) (k0_t6 : Fin (k0_t6_loop i).trips) : Fin 2 → Nat :=
  let c0_i32_42 : BitVec 32 := 0#32
  let arg1 : BitVec 32 := BitVec.ofNat 32 (i 1).val
  let v133 : BitVec 32 := Scalar.subi arg1 c0_i32_42
  let c1_i32_43 : BitVec 32 := 1#32
  let v135 : BitVec 32 := Scalar.divsi v133 c1_i32_43
  let v136 : BitVec 32 := Scalar.muli v135 c1_i32_43
  let v137 : BitVec 32 := Scalar.addi c0_i32_42 v136
  let c1_i32_45 : BitVec 32 := 1#32
  let arg6 : BitVec 32 := Scf.iv v137 c1_i32_45 k0_t6
  let c256_i32_125 : BitVec 32 := 256#32
  let v357 : BitVec 32 := Scalar.muli arg6 c256_i32_125
  let v358 : BitVec 32 := v357
  let v362 : Index := Scalar.indexCast v358
  let c128_128 : Index := 128#32
  ![v362.toNat, 128]
def k0_mult9 (i : grid0.Coords) : BitVec 32 :=
  let arg1 : BitVec 32 := BitVec.ofNat 32 (i 1).val
  let c256_i32_46 : BitVec 32 := 256#32
  let v140 : BitVec 32 := Scalar.muli arg1 c256_i32_46
  v140
def k0_off16 (i : grid0.Coords) : Fin 2 → Nat :=
  let arg1 : BitVec 32 := BitVec.ofNat 32 (i 1).val
  let c256_i32_46 : BitVec 32 := 256#32
  let v140 : BitVec 32 := Scalar.muli arg1 c256_i32_46
  let v141 : BitVec 32 := v140
  let v142 : Index := Scalar.indexCast v141
  let c256_47 : Index := 256#32
  ![v142.toNat, 256]
def k0_off17 (i : grid0.Coords) : Fin 2 → Nat :=
  let arg1 : BitVec 32 := BitVec.ofNat 32 (i 1).val
  let c256_i32_46 : BitVec 32 := 256#32
  let v140 : BitVec 32 := Scalar.muli arg1 c256_i32_46
  let v141 : BitVec 32 := v140
  let v147 : Index := Scalar.indexCast v141
  let c128_50 : Index := 128#32
  ![v147.toNat, 128]
@[reducible] def k0_t7_loop (i : grid0.Coords) : Scf.Loop 32 :=
  let c0_i32_55 : BitVec 32 := 0#32
  let arg1 : BitVec 32 := BitVec.ofNat 32 (i 1).val
  let v169 : BitVec 32 := Scalar.subi arg1 c0_i32_55
  let c1_i32_56 : BitVec 32 := 1#32
  let v171 : BitVec 32 := Scalar.divsi v169 c1_i32_56
  let v172 : BitVec 32 := Scalar.muli v171 c1_i32_56
  let v173 : BitVec 32 := Scalar.addi c0_i32_55 v172
  let c1_i32_57 : BitVec 32 := 1#32
  ⟨c0_i32_55, v173, c1_i32_57⟩
def k0_mult10 (i : grid0.Coords) (k0_t7 : Fin (k0_t7_loop i).trips) : BitVec 32 :=
  let c0_i32_55 : BitVec 32 := 0#32
  let c1_i32_57 : BitVec 32 := 1#32
  let arg6 : BitVec 32 := Scf.iv c0_i32_55 c1_i32_57 k0_t7
  let c256_i32_125 : BitVec 32 := 256#32
  let v357 : BitVec 32 := Scalar.muli arg6 c256_i32_125
  v357
def k0_off18 (i : grid0.Coords) (k0_t7 : Fin (k0_t7_loop i).trips) : Fin 2 → Nat :=
  let c0_i32_55 : BitVec 32 := 0#32
  let c1_i32_57 : BitVec 32 := 1#32
  let arg6 : BitVec 32 := Scf.iv c0_i32_55 c1_i32_57 k0_t7
  let c256_i32_125 : BitVec 32 := 256#32
  let v357 : BitVec 32 := Scalar.muli arg6 c256_i32_125
  let v358 : BitVec 32 := v357
  let v359 : Index := Scalar.indexCast v358
  let c384_126 : Index := 384#32
  ![v359.toNat, 384]
def k0_off19 (i : grid0.Coords) (k0_t7 : Fin (k0_t7_loop i).trips) : Fin 2 → Nat :=
  let c0_i32_55 : BitVec 32 := 0#32
  let c1_i32_57 : BitVec 32 := 1#32
  let arg6 : BitVec 32 := Scf.iv c0_i32_55 c1_i32_57 k0_t7
  let c256_i32_125 : BitVec 32 := 256#32
  let v357 : BitVec 32 := Scalar.muli arg6 c256_i32_125
  let v358 : BitVec 32 := v357
  let v362 : Index := Scalar.indexCast v358
  let c128_128 : Index := 128#32
  ![v362.toNat, 128]
@[reducible] def k0_t8_loop (i : grid0.Coords) : Scf.Loop 32 :=
  let c0_i32_55 : BitVec 32 := 0#32
  let arg1 : BitVec 32 := BitVec.ofNat 32 (i 1).val
  let v169 : BitVec 32 := Scalar.subi arg1 c0_i32_55
  let c1_i32_56 : BitVec 32 := 1#32
  let v171 : BitVec 32 := Scalar.divsi v169 c1_i32_56
  let v172 : BitVec 32 := Scalar.muli v171 c1_i32_56
  let v173 : BitVec 32 := Scalar.addi c0_i32_55 v172
  let v170 : BitVec 32 := Scalar.addi c0_i32_55 v169
  let c1_i32_58 : BitVec 32 := 1#32
  ⟨v173, v170, c1_i32_58⟩
def k0_mult11 (i : grid0.Coords) (k0_t8 : Fin (k0_t8_loop i).trips) : BitVec 32 :=
  let c0_i32_55 : BitVec 32 := 0#32
  let arg1 : BitVec 32 := BitVec.ofNat 32 (i 1).val
  let v169 : BitVec 32 := Scalar.subi arg1 c0_i32_55
  let c1_i32_56 : BitVec 32 := 1#32
  let v171 : BitVec 32 := Scalar.divsi v169 c1_i32_56
  let v172 : BitVec 32 := Scalar.muli v171 c1_i32_56
  let v173 : BitVec 32 := Scalar.addi c0_i32_55 v172
  let c1_i32_58 : BitVec 32 := 1#32
  let arg6 : BitVec 32 := Scf.iv v173 c1_i32_58 k0_t8
  let c256_i32_125 : BitVec 32 := 256#32
  let v357 : BitVec 32 := Scalar.muli arg6 c256_i32_125
  v357
def k0_off20 (i : grid0.Coords) (k0_t8 : Fin (k0_t8_loop i).trips) : Fin 2 → Nat :=
  let c0_i32_55 : BitVec 32 := 0#32
  let arg1 : BitVec 32 := BitVec.ofNat 32 (i 1).val
  let v169 : BitVec 32 := Scalar.subi arg1 c0_i32_55
  let c1_i32_56 : BitVec 32 := 1#32
  let v171 : BitVec 32 := Scalar.divsi v169 c1_i32_56
  let v172 : BitVec 32 := Scalar.muli v171 c1_i32_56
  let v173 : BitVec 32 := Scalar.addi c0_i32_55 v172
  let c1_i32_58 : BitVec 32 := 1#32
  let arg6 : BitVec 32 := Scf.iv v173 c1_i32_58 k0_t8
  let c256_i32_125 : BitVec 32 := 256#32
  let v357 : BitVec 32 := Scalar.muli arg6 c256_i32_125
  let v358 : BitVec 32 := v357
  let v359 : Index := Scalar.indexCast v358
  let c384_126 : Index := 384#32
  ![v359.toNat, 384]
def k0_off21 (i : grid0.Coords) (k0_t8 : Fin (k0_t8_loop i).trips) : Fin 2 → Nat :=
  let c0_i32_55 : BitVec 32 := 0#32
  let arg1 : BitVec 32 := BitVec.ofNat 32 (i 1).val
  let v169 : BitVec 32 := Scalar.subi arg1 c0_i32_55
  let c1_i32_56 : BitVec 32 := 1#32
  let v171 : BitVec 32 := Scalar.divsi v169 c1_i32_56
  let v172 : BitVec 32 := Scalar.muli v171 c1_i32_56
  let v173 : BitVec 32 := Scalar.addi c0_i32_55 v172
  let c1_i32_58 : BitVec 32 := 1#32
  let arg6 : BitVec 32 := Scf.iv v173 c1_i32_58 k0_t8
  let c256_i32_125 : BitVec 32 := 256#32
  let v357 : BitVec 32 := Scalar.muli arg6 c256_i32_125
  let v358 : BitVec 32 := v357
  let v362 : Index := Scalar.indexCast v358
  let c128_128 : Index := 128#32
  ![v362.toNat, 128]
def k0_mult12 (i : grid0.Coords) : BitVec 32 :=
  let arg1 : BitVec 32 := BitVec.ofNat 32 (i 1).val
  let c256_i32_59 : BitVec 32 := 256#32
  let v176 : BitVec 32 := Scalar.muli arg1 c256_i32_59
  v176
def k0_off22 (i : grid0.Coords) : Fin 2 → Nat :=
  let arg1 : BitVec 32 := BitVec.ofNat 32 (i 1).val
  let c256_i32_59 : BitVec 32 := 256#32
  let v176 : BitVec 32 := Scalar.muli arg1 c256_i32_59
  let v177 : BitVec 32 := v176
  let v178 : Index := Scalar.indexCast v177
  let c384_60 : Index := 384#32
  ![v178.toNat, 384]
@[reducible] def k0_t9_loop (i : grid0.Coords) : Scf.Loop 32 :=
  let c0_i32_70 : BitVec 32 := 0#32
  let arg1 : BitVec 32 := BitVec.ofNat 32 (i 1).val
  let v208 : BitVec 32 := Scalar.subi arg1 c0_i32_70
  let c1_i32_71 : BitVec 32 := 1#32
  let v210 : BitVec 32 := Scalar.divsi v208 c1_i32_71
  let v211 : BitVec 32 := Scalar.muli v210 c1_i32_71
  let v212 : BitVec 32 := Scalar.addi c0_i32_70 v211
  let c1_i32_72 : BitVec 32 := 1#32
  ⟨c0_i32_70, v212, c1_i32_72⟩
def k0_mult13 (i : grid0.Coords) (k0_t9 : Fin (k0_t9_loop i).trips) : BitVec 32 :=
  let c0_i32_70 : BitVec 32 := 0#32
  let c1_i32_72 : BitVec 32 := 1#32
  let arg6 : BitVec 32 := Scf.iv c0_i32_70 c1_i32_72 k0_t9
  let c256_i32_125 : BitVec 32 := 256#32
  let v357 : BitVec 32 := Scalar.muli arg6 c256_i32_125
  v357
def k0_off23 (i : grid0.Coords) (k0_t9 : Fin (k0_t9_loop i).trips) : Fin 2 → Nat :=
  let c0_i32_70 : BitVec 32 := 0#32
  let c1_i32_72 : BitVec 32 := 1#32
  let arg6 : BitVec 32 := Scf.iv c0_i32_70 c1_i32_72 k0_t9
  let c256_i32_125 : BitVec 32 := 256#32
  let v357 : BitVec 32 := Scalar.muli arg6 c256_i32_125
  let v358 : BitVec 32 := v357
  let v359 : Index := Scalar.indexCast v358
  let c512_126 : Index := 512#32
  ![v359.toNat, 512]
def k0_off24 (i : grid0.Coords) (k0_t9 : Fin (k0_t9_loop i).trips) : Fin 2 → Nat :=
  let c0_i32_70 : BitVec 32 := 0#32
  let c1_i32_72 : BitVec 32 := 1#32
  let arg6 : BitVec 32 := Scf.iv c0_i32_70 c1_i32_72 k0_t9
  let c256_i32_125 : BitVec 32 := 256#32
  let v357 : BitVec 32 := Scalar.muli arg6 c256_i32_125
  let v358 : BitVec 32 := v357
  let v362 : Index := Scalar.indexCast v358
  let c256_128 : Index := 256#32
  ![v362.toNat, 256]
@[reducible] def k0_t10_loop (i : grid0.Coords) : Scf.Loop 32 :=
  let c0_i32_70 : BitVec 32 := 0#32
  let arg1 : BitVec 32 := BitVec.ofNat 32 (i 1).val
  let v208 : BitVec 32 := Scalar.subi arg1 c0_i32_70
  let c1_i32_71 : BitVec 32 := 1#32
  let v210 : BitVec 32 := Scalar.divsi v208 c1_i32_71
  let v211 : BitVec 32 := Scalar.muli v210 c1_i32_71
  let v212 : BitVec 32 := Scalar.addi c0_i32_70 v211
  let v209 : BitVec 32 := Scalar.addi c0_i32_70 v208
  let c1_i32_73 : BitVec 32 := 1#32
  ⟨v212, v209, c1_i32_73⟩
def k0_mult14 (i : grid0.Coords) (k0_t10 : Fin (k0_t10_loop i).trips) : BitVec 32 :=
  let c0_i32_70 : BitVec 32 := 0#32
  let arg1 : BitVec 32 := BitVec.ofNat 32 (i 1).val
  let v208 : BitVec 32 := Scalar.subi arg1 c0_i32_70
  let c1_i32_71 : BitVec 32 := 1#32
  let v210 : BitVec 32 := Scalar.divsi v208 c1_i32_71
  let v211 : BitVec 32 := Scalar.muli v210 c1_i32_71
  let v212 : BitVec 32 := Scalar.addi c0_i32_70 v211
  let c1_i32_73 : BitVec 32 := 1#32
  let arg6 : BitVec 32 := Scf.iv v212 c1_i32_73 k0_t10
  let c256_i32_125 : BitVec 32 := 256#32
  let v357 : BitVec 32 := Scalar.muli arg6 c256_i32_125
  v357
def k0_off25 (i : grid0.Coords) (k0_t10 : Fin (k0_t10_loop i).trips) : Fin 2 → Nat :=
  let c0_i32_70 : BitVec 32 := 0#32
  let arg1 : BitVec 32 := BitVec.ofNat 32 (i 1).val
  let v208 : BitVec 32 := Scalar.subi arg1 c0_i32_70
  let c1_i32_71 : BitVec 32 := 1#32
  let v210 : BitVec 32 := Scalar.divsi v208 c1_i32_71
  let v211 : BitVec 32 := Scalar.muli v210 c1_i32_71
  let v212 : BitVec 32 := Scalar.addi c0_i32_70 v211
  let c1_i32_73 : BitVec 32 := 1#32
  let arg6 : BitVec 32 := Scf.iv v212 c1_i32_73 k0_t10
  let c256_i32_125 : BitVec 32 := 256#32
  let v357 : BitVec 32 := Scalar.muli arg6 c256_i32_125
  let v358 : BitVec 32 := v357
  let v359 : Index := Scalar.indexCast v358
  let c512_126 : Index := 512#32
  ![v359.toNat, 512]
def k0_off26 (i : grid0.Coords) (k0_t10 : Fin (k0_t10_loop i).trips) : Fin 2 → Nat :=
  let c0_i32_70 : BitVec 32 := 0#32
  let arg1 : BitVec 32 := BitVec.ofNat 32 (i 1).val
  let v208 : BitVec 32 := Scalar.subi arg1 c0_i32_70
  let c1_i32_71 : BitVec 32 := 1#32
  let v210 : BitVec 32 := Scalar.divsi v208 c1_i32_71
  let v211 : BitVec 32 := Scalar.muli v210 c1_i32_71
  let v212 : BitVec 32 := Scalar.addi c0_i32_70 v211
  let c1_i32_73 : BitVec 32 := 1#32
  let arg6 : BitVec 32 := Scf.iv v212 c1_i32_73 k0_t10
  let c256_i32_125 : BitVec 32 := 256#32
  let v357 : BitVec 32 := Scalar.muli arg6 c256_i32_125
  let v358 : BitVec 32 := v357
  let v362 : Index := Scalar.indexCast v358
  let c256_128 : Index := 256#32
  ![v362.toNat, 256]
def k0_mult15 (i : grid0.Coords) : BitVec 32 :=
  let arg1 : BitVec 32 := BitVec.ofNat 32 (i 1).val
  let c256_i32_74 : BitVec 32 := 256#32
  let v215 : BitVec 32 := Scalar.muli arg1 c256_i32_74
  v215
def k0_off27 (i : grid0.Coords) : Fin 2 → Nat :=
  let arg1 : BitVec 32 := BitVec.ofNat 32 (i 1).val
  let c256_i32_74 : BitVec 32 := 256#32
  let v215 : BitVec 32 := Scalar.muli arg1 c256_i32_74
  let v216 : BitVec 32 := v215
  let v217 : Index := Scalar.indexCast v216
  let c512_75 : Index := 512#32
  ![v217.toNat, 512]
def k0_off28 (i : grid0.Coords) : Fin 2 → Nat :=
  let arg1 : BitVec 32 := BitVec.ofNat 32 (i 1).val
  let c256_i32_74 : BitVec 32 := 256#32
  let v215 : BitVec 32 := Scalar.muli arg1 c256_i32_74
  let v216 : BitVec 32 := v215
  let v222 : Index := Scalar.indexCast v216
  let c256_78 : Index := 256#32
  ![v222.toNat, 256]
@[reducible] def k0_t11_loop (i : grid0.Coords) : Scf.Loop 32 :=
  let c0_i32_83 : BitVec 32 := 0#32
  let arg1 : BitVec 32 := BitVec.ofNat 32 (i 1).val
  let v244 : BitVec 32 := Scalar.subi arg1 c0_i32_83
  let c1_i32_84 : BitVec 32 := 1#32
  let v246 : BitVec 32 := Scalar.divsi v244 c1_i32_84
  let v247 : BitVec 32 := Scalar.muli v246 c1_i32_84
  let v248 : BitVec 32 := Scalar.addi c0_i32_83 v247
  let c1_i32_85 : BitVec 32 := 1#32
  ⟨c0_i32_83, v248, c1_i32_85⟩
def k0_mult16 (i : grid0.Coords) (k0_t11 : Fin (k0_t11_loop i).trips) : BitVec 32 :=
  let c0_i32_83 : BitVec 32 := 0#32
  let c1_i32_85 : BitVec 32 := 1#32
  let arg6 : BitVec 32 := Scf.iv c0_i32_83 c1_i32_85 k0_t11
  let c256_i32_125 : BitVec 32 := 256#32
  let v357 : BitVec 32 := Scalar.muli arg6 c256_i32_125
  v357
def k0_off29 (i : grid0.Coords) (k0_t11 : Fin (k0_t11_loop i).trips) : Fin 2 → Nat :=
  let c0_i32_83 : BitVec 32 := 0#32
  let c1_i32_85 : BitVec 32 := 1#32
  let arg6 : BitVec 32 := Scf.iv c0_i32_83 c1_i32_85 k0_t11
  let c256_i32_125 : BitVec 32 := 256#32
  let v357 : BitVec 32 := Scalar.muli arg6 c256_i32_125
  let v358 : BitVec 32 := v357
  let v359 : Index := Scalar.indexCast v358
  let c640_126 : Index := 640#32
  ![v359.toNat, 640]
def k0_off30 (i : grid0.Coords) (k0_t11 : Fin (k0_t11_loop i).trips) : Fin 2 → Nat :=
  let c0_i32_83 : BitVec 32 := 0#32
  let c1_i32_85 : BitVec 32 := 1#32
  let arg6 : BitVec 32 := Scf.iv c0_i32_83 c1_i32_85 k0_t11
  let c256_i32_125 : BitVec 32 := 256#32
  let v357 : BitVec 32 := Scalar.muli arg6 c256_i32_125
  let v358 : BitVec 32 := v357
  let v362 : Index := Scalar.indexCast v358
  let c256_128 : Index := 256#32
  ![v362.toNat, 256]
@[reducible] def k0_t12_loop (i : grid0.Coords) : Scf.Loop 32 :=
  let c0_i32_83 : BitVec 32 := 0#32
  let arg1 : BitVec 32 := BitVec.ofNat 32 (i 1).val
  let v244 : BitVec 32 := Scalar.subi arg1 c0_i32_83
  let c1_i32_84 : BitVec 32 := 1#32
  let v246 : BitVec 32 := Scalar.divsi v244 c1_i32_84
  let v247 : BitVec 32 := Scalar.muli v246 c1_i32_84
  let v248 : BitVec 32 := Scalar.addi c0_i32_83 v247
  let v245 : BitVec 32 := Scalar.addi c0_i32_83 v244
  let c1_i32_86 : BitVec 32 := 1#32
  ⟨v248, v245, c1_i32_86⟩
def k0_mult17 (i : grid0.Coords) (k0_t12 : Fin (k0_t12_loop i).trips) : BitVec 32 :=
  let c0_i32_83 : BitVec 32 := 0#32
  let arg1 : BitVec 32 := BitVec.ofNat 32 (i 1).val
  let v244 : BitVec 32 := Scalar.subi arg1 c0_i32_83
  let c1_i32_84 : BitVec 32 := 1#32
  let v246 : BitVec 32 := Scalar.divsi v244 c1_i32_84
  let v247 : BitVec 32 := Scalar.muli v246 c1_i32_84
  let v248 : BitVec 32 := Scalar.addi c0_i32_83 v247
  let c1_i32_86 : BitVec 32 := 1#32
  let arg6 : BitVec 32 := Scf.iv v248 c1_i32_86 k0_t12
  let c256_i32_125 : BitVec 32 := 256#32
  let v357 : BitVec 32 := Scalar.muli arg6 c256_i32_125
  v357
def k0_off31 (i : grid0.Coords) (k0_t12 : Fin (k0_t12_loop i).trips) : Fin 2 → Nat :=
  let c0_i32_83 : BitVec 32 := 0#32
  let arg1 : BitVec 32 := BitVec.ofNat 32 (i 1).val
  let v244 : BitVec 32 := Scalar.subi arg1 c0_i32_83
  let c1_i32_84 : BitVec 32 := 1#32
  let v246 : BitVec 32 := Scalar.divsi v244 c1_i32_84
  let v247 : BitVec 32 := Scalar.muli v246 c1_i32_84
  let v248 : BitVec 32 := Scalar.addi c0_i32_83 v247
  let c1_i32_86 : BitVec 32 := 1#32
  let arg6 : BitVec 32 := Scf.iv v248 c1_i32_86 k0_t12
  let c256_i32_125 : BitVec 32 := 256#32
  let v357 : BitVec 32 := Scalar.muli arg6 c256_i32_125
  let v358 : BitVec 32 := v357
  let v359 : Index := Scalar.indexCast v358
  let c640_126 : Index := 640#32
  ![v359.toNat, 640]
def k0_off32 (i : grid0.Coords) (k0_t12 : Fin (k0_t12_loop i).trips) : Fin 2 → Nat :=
  let c0_i32_83 : BitVec 32 := 0#32
  let arg1 : BitVec 32 := BitVec.ofNat 32 (i 1).val
  let v244 : BitVec 32 := Scalar.subi arg1 c0_i32_83
  let c1_i32_84 : BitVec 32 := 1#32
  let v246 : BitVec 32 := Scalar.divsi v244 c1_i32_84
  let v247 : BitVec 32 := Scalar.muli v246 c1_i32_84
  let v248 : BitVec 32 := Scalar.addi c0_i32_83 v247
  let c1_i32_86 : BitVec 32 := 1#32
  let arg6 : BitVec 32 := Scf.iv v248 c1_i32_86 k0_t12
  let c256_i32_125 : BitVec 32 := 256#32
  let v357 : BitVec 32 := Scalar.muli arg6 c256_i32_125
  let v358 : BitVec 32 := v357
  let v362 : Index := Scalar.indexCast v358
  let c256_128 : Index := 256#32
  ![v362.toNat, 256]
def k0_mult18 (i : grid0.Coords) : BitVec 32 :=
  let arg1 : BitVec 32 := BitVec.ofNat 32 (i 1).val
  let c256_i32_87 : BitVec 32 := 256#32
  let v251 : BitVec 32 := Scalar.muli arg1 c256_i32_87
  v251
def k0_off33 (i : grid0.Coords) : Fin 2 → Nat :=
  let arg1 : BitVec 32 := BitVec.ofNat 32 (i 1).val
  let c256_i32_87 : BitVec 32 := 256#32
  let v251 : BitVec 32 := Scalar.muli arg1 c256_i32_87
  let v252 : BitVec 32 := v251
  let v253 : Index := Scalar.indexCast v252
  let c640_88 : Index := 640#32
  ![v253.toNat, 640]
@[reducible] def k0_t13_loop (i : grid0.Coords) : Scf.Loop 32 :=
  let c0_i32_98 : BitVec 32 := 0#32
  let arg1 : BitVec 32 := BitVec.ofNat 32 (i 1).val
  let v283 : BitVec 32 := Scalar.subi arg1 c0_i32_98
  let c1_i32_99 : BitVec 32 := 1#32
  let v285 : BitVec 32 := Scalar.divsi v283 c1_i32_99
  let v286 : BitVec 32 := Scalar.muli v285 c1_i32_99
  let v287 : BitVec 32 := Scalar.addi c0_i32_98 v286
  let c1_i32_100 : BitVec 32 := 1#32
  ⟨c0_i32_98, v287, c1_i32_100⟩
def k0_mult19 (i : grid0.Coords) (k0_t13 : Fin (k0_t13_loop i).trips) : BitVec 32 :=
  let c0_i32_98 : BitVec 32 := 0#32
  let c1_i32_100 : BitVec 32 := 1#32
  let arg6 : BitVec 32 := Scf.iv c0_i32_98 c1_i32_100 k0_t13
  let c256_i32_125 : BitVec 32 := 256#32
  let v357 : BitVec 32 := Scalar.muli arg6 c256_i32_125
  v357
def k0_off34 (i : grid0.Coords) (k0_t13 : Fin (k0_t13_loop i).trips) : Fin 2 → Nat :=
  let c0_i32_98 : BitVec 32 := 0#32
  let c1_i32_100 : BitVec 32 := 1#32
  let arg6 : BitVec 32 := Scf.iv c0_i32_98 c1_i32_100 k0_t13
  let c256_i32_125 : BitVec 32 := 256#32
  let v357 : BitVec 32 := Scalar.muli arg6 c256_i32_125
  let v358 : BitVec 32 := v357
  let v359 : Index := Scalar.indexCast v358
  let c768_126 : Index := 768#32
  ![v359.toNat, 768]
def k0_off35 (i : grid0.Coords) (k0_t13 : Fin (k0_t13_loop i).trips) : Fin 2 → Nat :=
  let c0_i32_98 : BitVec 32 := 0#32
  let c1_i32_100 : BitVec 32 := 1#32
  let arg6 : BitVec 32 := Scf.iv c0_i32_98 c1_i32_100 k0_t13
  let c256_i32_125 : BitVec 32 := 256#32
  let v357 : BitVec 32 := Scalar.muli arg6 c256_i32_125
  let v358 : BitVec 32 := v357
  let v362 : Index := Scalar.indexCast v358
  let c384_128 : Index := 384#32
  ![v362.toNat, 384]
@[reducible] def k0_t14_loop (i : grid0.Coords) : Scf.Loop 32 :=
  let c0_i32_98 : BitVec 32 := 0#32
  let arg1 : BitVec 32 := BitVec.ofNat 32 (i 1).val
  let v283 : BitVec 32 := Scalar.subi arg1 c0_i32_98
  let c1_i32_99 : BitVec 32 := 1#32
  let v285 : BitVec 32 := Scalar.divsi v283 c1_i32_99
  let v286 : BitVec 32 := Scalar.muli v285 c1_i32_99
  let v287 : BitVec 32 := Scalar.addi c0_i32_98 v286
  let v284 : BitVec 32 := Scalar.addi c0_i32_98 v283
  let c1_i32_101 : BitVec 32 := 1#32
  ⟨v287, v284, c1_i32_101⟩
def k0_mult20 (i : grid0.Coords) (k0_t14 : Fin (k0_t14_loop i).trips) : BitVec 32 :=
  let c0_i32_98 : BitVec 32 := 0#32
  let arg1 : BitVec 32 := BitVec.ofNat 32 (i 1).val
  let v283 : BitVec 32 := Scalar.subi arg1 c0_i32_98
  let c1_i32_99 : BitVec 32 := 1#32
  let v285 : BitVec 32 := Scalar.divsi v283 c1_i32_99
  let v286 : BitVec 32 := Scalar.muli v285 c1_i32_99
  let v287 : BitVec 32 := Scalar.addi c0_i32_98 v286
  let c1_i32_101 : BitVec 32 := 1#32
  let arg6 : BitVec 32 := Scf.iv v287 c1_i32_101 k0_t14
  let c256_i32_125 : BitVec 32 := 256#32
  let v357 : BitVec 32 := Scalar.muli arg6 c256_i32_125
  v357
def k0_off36 (i : grid0.Coords) (k0_t14 : Fin (k0_t14_loop i).trips) : Fin 2 → Nat :=
  let c0_i32_98 : BitVec 32 := 0#32
  let arg1 : BitVec 32 := BitVec.ofNat 32 (i 1).val
  let v283 : BitVec 32 := Scalar.subi arg1 c0_i32_98
  let c1_i32_99 : BitVec 32 := 1#32
  let v285 : BitVec 32 := Scalar.divsi v283 c1_i32_99
  let v286 : BitVec 32 := Scalar.muli v285 c1_i32_99
  let v287 : BitVec 32 := Scalar.addi c0_i32_98 v286
  let c1_i32_101 : BitVec 32 := 1#32
  let arg6 : BitVec 32 := Scf.iv v287 c1_i32_101 k0_t14
  let c256_i32_125 : BitVec 32 := 256#32
  let v357 : BitVec 32 := Scalar.muli arg6 c256_i32_125
  let v358 : BitVec 32 := v357
  let v359 : Index := Scalar.indexCast v358
  let c768_126 : Index := 768#32
  ![v359.toNat, 768]
def k0_off37 (i : grid0.Coords) (k0_t14 : Fin (k0_t14_loop i).trips) : Fin 2 → Nat :=
  let c0_i32_98 : BitVec 32 := 0#32
  let arg1 : BitVec 32 := BitVec.ofNat 32 (i 1).val
  let v283 : BitVec 32 := Scalar.subi arg1 c0_i32_98
  let c1_i32_99 : BitVec 32 := 1#32
  let v285 : BitVec 32 := Scalar.divsi v283 c1_i32_99
  let v286 : BitVec 32 := Scalar.muli v285 c1_i32_99
  let v287 : BitVec 32 := Scalar.addi c0_i32_98 v286
  let c1_i32_101 : BitVec 32 := 1#32
  let arg6 : BitVec 32 := Scf.iv v287 c1_i32_101 k0_t14
  let c256_i32_125 : BitVec 32 := 256#32
  let v357 : BitVec 32 := Scalar.muli arg6 c256_i32_125
  let v358 : BitVec 32 := v357
  let v362 : Index := Scalar.indexCast v358
  let c384_128 : Index := 384#32
  ![v362.toNat, 384]
def k0_mult21 (i : grid0.Coords) : BitVec 32 :=
  let arg1 : BitVec 32 := BitVec.ofNat 32 (i 1).val
  let c256_i32_102 : BitVec 32 := 256#32
  let v290 : BitVec 32 := Scalar.muli arg1 c256_i32_102
  v290
def k0_off38 (i : grid0.Coords) : Fin 2 → Nat :=
  let arg1 : BitVec 32 := BitVec.ofNat 32 (i 1).val
  let c256_i32_102 : BitVec 32 := 256#32
  let v290 : BitVec 32 := Scalar.muli arg1 c256_i32_102
  let v291 : BitVec 32 := v290
  let v292 : Index := Scalar.indexCast v291
  let c768_103 : Index := 768#32
  ![v292.toNat, 768]
def k0_off39 (i : grid0.Coords) : Fin 2 → Nat :=
  let arg1 : BitVec 32 := BitVec.ofNat 32 (i 1).val
  let c256_i32_102 : BitVec 32 := 256#32
  let v290 : BitVec 32 := Scalar.muli arg1 c256_i32_102
  let v291 : BitVec 32 := v290
  let v297 : Index := Scalar.indexCast v291
  let c384_106 : Index := 384#32
  ![v297.toNat, 384]
@[reducible] def k0_t15_loop (i : grid0.Coords) : Scf.Loop 32 :=
  let c0_i32_111 : BitVec 32 := 0#32
  let arg1 : BitVec 32 := BitVec.ofNat 32 (i 1).val
  let v319 : BitVec 32 := Scalar.subi arg1 c0_i32_111
  let c1_i32_112 : BitVec 32 := 1#32
  let v321 : BitVec 32 := Scalar.divsi v319 c1_i32_112
  let v322 : BitVec 32 := Scalar.muli v321 c1_i32_112
  let v323 : BitVec 32 := Scalar.addi c0_i32_111 v322
  let c1_i32_113 : BitVec 32 := 1#32
  ⟨c0_i32_111, v323, c1_i32_113⟩
def k0_mult22 (i : grid0.Coords) (k0_t15 : Fin (k0_t15_loop i).trips) : BitVec 32 :=
  let c0_i32_111 : BitVec 32 := 0#32
  let c1_i32_113 : BitVec 32 := 1#32
  let arg6 : BitVec 32 := Scf.iv c0_i32_111 c1_i32_113 k0_t15
  let c256_i32_125 : BitVec 32 := 256#32
  let v357 : BitVec 32 := Scalar.muli arg6 c256_i32_125
  v357
def k0_off40 (i : grid0.Coords) (k0_t15 : Fin (k0_t15_loop i).trips) : Fin 2 → Nat :=
  let c0_i32_111 : BitVec 32 := 0#32
  let c1_i32_113 : BitVec 32 := 1#32
  let arg6 : BitVec 32 := Scf.iv c0_i32_111 c1_i32_113 k0_t15
  let c256_i32_125 : BitVec 32 := 256#32
  let v357 : BitVec 32 := Scalar.muli arg6 c256_i32_125
  let v358 : BitVec 32 := v357
  let v359 : Index := Scalar.indexCast v358
  let c896_126 : Index := 896#32
  ![v359.toNat, 896]
def k0_off41 (i : grid0.Coords) (k0_t15 : Fin (k0_t15_loop i).trips) : Fin 2 → Nat :=
  let c0_i32_111 : BitVec 32 := 0#32
  let c1_i32_113 : BitVec 32 := 1#32
  let arg6 : BitVec 32 := Scf.iv c0_i32_111 c1_i32_113 k0_t15
  let c256_i32_125 : BitVec 32 := 256#32
  let v357 : BitVec 32 := Scalar.muli arg6 c256_i32_125
  let v358 : BitVec 32 := v357
  let v362 : Index := Scalar.indexCast v358
  let c384_128 : Index := 384#32
  ![v362.toNat, 384]
@[reducible] def k0_t16_loop (i : grid0.Coords) : Scf.Loop 32 :=
  let c0_i32_111 : BitVec 32 := 0#32
  let arg1 : BitVec 32 := BitVec.ofNat 32 (i 1).val
  let v319 : BitVec 32 := Scalar.subi arg1 c0_i32_111
  let c1_i32_112 : BitVec 32 := 1#32
  let v321 : BitVec 32 := Scalar.divsi v319 c1_i32_112
  let v322 : BitVec 32 := Scalar.muli v321 c1_i32_112
  let v323 : BitVec 32 := Scalar.addi c0_i32_111 v322
  let v320 : BitVec 32 := Scalar.addi c0_i32_111 v319
  let c1_i32_114 : BitVec 32 := 1#32
  ⟨v323, v320, c1_i32_114⟩
def k0_mult23 (i : grid0.Coords) (k0_t16 : Fin (k0_t16_loop i).trips) : BitVec 32 :=
  let c0_i32_111 : BitVec 32 := 0#32
  let arg1 : BitVec 32 := BitVec.ofNat 32 (i 1).val
  let v319 : BitVec 32 := Scalar.subi arg1 c0_i32_111
  let c1_i32_112 : BitVec 32 := 1#32
  let v321 : BitVec 32 := Scalar.divsi v319 c1_i32_112
  let v322 : BitVec 32 := Scalar.muli v321 c1_i32_112
  let v323 : BitVec 32 := Scalar.addi c0_i32_111 v322
  let c1_i32_114 : BitVec 32 := 1#32
  let arg6 : BitVec 32 := Scf.iv v323 c1_i32_114 k0_t16
  let c256_i32_125 : BitVec 32 := 256#32
  let v357 : BitVec 32 := Scalar.muli arg6 c256_i32_125
  v357
def k0_off42 (i : grid0.Coords) (k0_t16 : Fin (k0_t16_loop i).trips) : Fin 2 → Nat :=
  let c0_i32_111 : BitVec 32 := 0#32
  let arg1 : BitVec 32 := BitVec.ofNat 32 (i 1).val
  let v319 : BitVec 32 := Scalar.subi arg1 c0_i32_111
  let c1_i32_112 : BitVec 32 := 1#32
  let v321 : BitVec 32 := Scalar.divsi v319 c1_i32_112
  let v322 : BitVec 32 := Scalar.muli v321 c1_i32_112
  let v323 : BitVec 32 := Scalar.addi c0_i32_111 v322
  let c1_i32_114 : BitVec 32 := 1#32
  let arg6 : BitVec 32 := Scf.iv v323 c1_i32_114 k0_t16
  let c256_i32_125 : BitVec 32 := 256#32
  let v357 : BitVec 32 := Scalar.muli arg6 c256_i32_125
  let v358 : BitVec 32 := v357
  let v359 : Index := Scalar.indexCast v358
  let c896_126 : Index := 896#32
  ![v359.toNat, 896]
def k0_off43 (i : grid0.Coords) (k0_t16 : Fin (k0_t16_loop i).trips) : Fin 2 → Nat :=
  let c0_i32_111 : BitVec 32 := 0#32
  let arg1 : BitVec 32 := BitVec.ofNat 32 (i 1).val
  let v319 : BitVec 32 := Scalar.subi arg1 c0_i32_111
  let c1_i32_112 : BitVec 32 := 1#32
  let v321 : BitVec 32 := Scalar.divsi v319 c1_i32_112
  let v322 : BitVec 32 := Scalar.muli v321 c1_i32_112
  let v323 : BitVec 32 := Scalar.addi c0_i32_111 v322
  let c1_i32_114 : BitVec 32 := 1#32
  let arg6 : BitVec 32 := Scf.iv v323 c1_i32_114 k0_t16
  let c256_i32_125 : BitVec 32 := 256#32
  let v357 : BitVec 32 := Scalar.muli arg6 c256_i32_125
  let v358 : BitVec 32 := v357
  let v362 : Index := Scalar.indexCast v358
  let c384_128 : Index := 384#32
  ![v362.toNat, 384]
def k0_mult24 (i : grid0.Coords) : BitVec 32 :=
  let arg1 : BitVec 32 := BitVec.ofNat 32 (i 1).val
  let c256_i32_115 : BitVec 32 := 256#32
  let v326 : BitVec 32 := Scalar.muli arg1 c256_i32_115
  v326
def k0_off44 (i : grid0.Coords) : Fin 2 → Nat :=
  let arg1 : BitVec 32 := BitVec.ofNat 32 (i 1).val
  let c256_i32_115 : BitVec 32 := 256#32
  let v326 : BitVec 32 := Scalar.muli arg1 c256_i32_115
  let v327 : BitVec 32 := v326
  let v328 : Index := Scalar.indexCast v327
  let c896_116 : Index := 896#32
  ![v328.toNat, 896]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaIdeal.lean ====
variable {F : FTy → Type} [FloatOps F] [Named F]
def κ : String → Option EReal := fun
  | "masked" => some ⊥
  | _ => none
-- ==== MlaRefIdeal.lean ====
abbrev S16384x1024 : Shape := ⟨2, ![16384, 1024]⟩
abbrev S16384x512 : Shape := ⟨2, ![16384, 512]⟩
abbrev S4x4096x8x128 : Shape := ⟨4, ![4, 4096, 8, 128]⟩
abbrev S4x4096x8x64 : Shape := ⟨4, ![4, 4096, 8, 64]⟩
abbrev S4096 : Shape := ⟨1, ![4096]⟩
abbrev S1x4096 : Shape := ⟨2, ![1, 4096]⟩
abbrev S_ : Shape := ⟨0, ![]⟩
abbrev S4096x1 : Shape := ⟨2, ![4096, 1]⟩
abbrev S4096x4096 : Shape := ⟨2, ![4096, 4096]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x1024, .f32⟩
  | .hbm, ⟨4, _⟩ => ⟨S4x4096x8x128, .f32⟩
  | .hbm, ⟨5, _⟩ => ⟨S16384x1024, .f32⟩
  | .hbm, ⟨6, _⟩ => ⟨S4x4096x8x128, .f32⟩
  | .hbm, ⟨7, _⟩ => ⟨S16384x512, .f32⟩
  | .hbm, ⟨8, _⟩ => ⟨S4x4096x8x64, .f32⟩
  | .hbm, ⟨9, _⟩ => ⟨S4096, .i32⟩
  | .hbm, ⟨10, _⟩ => ⟨S1x4096, .i32⟩
  | .hbm, ⟨11, _⟩ => ⟨S_, .i32⟩
  | .hbm, ⟨12, _⟩ => ⟨S_, .i32⟩
  | .hbm, ⟨13, _⟩ => ⟨S1x4096, .i32⟩
  | .hbm, ⟨14, _⟩ => ⟨S1x4096, .i32⟩
  | .hbm, ⟨15, _⟩ => ⟨S1x4096, .i32⟩
  | .hbm, ⟨16, _⟩ => ⟨S_, .i32⟩
  | .hbm, ⟨17, _⟩ => ⟨S1x4096, .i32⟩
  | .hbm, ⟨18, _⟩ => ⟨S1x4096, .i1⟩
  | .hbm, ⟨19, _⟩ => ⟨S1x4096, .i32⟩
  | .hbm, ⟨20, _⟩ => ⟨S1x4096, .i32⟩
  | .hbm, ⟨21, _⟩ => ⟨S_, .i32⟩
  | .hbm, ⟨22, _⟩ => ⟨S1x4096, .i32⟩
  | .hbm, ⟨23, _⟩ => ⟨S1x4096, .i1⟩
  | .hbm, ⟨24, _⟩ => ⟨S1x4096, .i1⟩
  | .hbm, ⟨25, _⟩ => ⟨S_, .i32⟩
  | .hbm, ⟨26, _⟩ => ⟨S1x4096, .i32⟩
  | .hbm, ⟨27, _⟩ => ⟨S1x4096, .i32⟩
  | .hbm, ⟨28, _⟩ => ⟨S1x4096, .i32⟩
  | .hbm, ⟨29, _⟩ => ⟨S4096x1, .i32⟩
  | .hbm, ⟨30, _⟩ => ⟨S_, .i32⟩
  | .hbm, ⟨31, _⟩ => ⟨S_, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S_, .i32⟩
  | .hbm, ⟨36, _⟩ => ⟨S4096x1, .i32⟩
  | .hbm, ⟨37, _⟩ => ⟨S4096x1, .i1⟩
  | .hbm, ⟨38, _⟩ => ⟨S4096x1, .i32⟩
  | .hbm, ⟨39, _⟩ => ⟨S4096x1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S4096x1, .i1⟩
  | .hbm, ⟨44, _⟩ => ⟨S_, .i32⟩
  | .hbm, ⟨45, _⟩ => ⟨S4096x1, .i32⟩
  | .hbm, ⟨46, _⟩ => ⟨S4096x1, .i32⟩
  | .hbm, ⟨47, _⟩ => ⟨S4096x1, .i32⟩
  | .hbm, ⟨48, _⟩ => ⟨S4096x4096, .i32⟩
  | .hbm, ⟨49, _⟩ => ⟨S4096x4096, .i32⟩
  | .hbm, ⟨50, _⟩ => ⟨S4096x4096, .i1⟩
  | .hbm, ⟨51, _⟩ => ⟨S4x8x4096x4096, .f32⟩
  | .hbm, ⟨52, _⟩ => ⟨S_, .f32⟩
  | .hbm, ⟨53, _⟩ => ⟨S_, .f32⟩
  | .hbm, ⟨54, _⟩ => ⟨S4x8x4096x4096, .i1⟩
  | .hbm, ⟨55, _⟩ => ⟨S4x8x4096x4096, .f32⟩
  | .hbm, ⟨56, _⟩ => ⟨S4x8x4096x4096, .f32⟩
  | .hbm, ⟨57, _⟩ => ⟨S_, .f32⟩
  | .hbm, ⟨58, _⟩ => ⟨S4x8x4096, .f32⟩
  | .hbm, ⟨59, _⟩ => ⟨S_, .f32⟩
  | .hbm, ⟨60, _⟩ => ⟨S4x8x4096, .f32⟩
  | .hbm, ⟨61, _⟩ => ⟨S4x8x4096, .f32⟩
  | .hbm, ⟨62, _⟩ => ⟨S4x8x4096x1, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S_, .f32⟩
  | .hbm, ⟨67, _⟩ => ⟨S4x8x4096, .f32⟩
  | .hbm, ⟨68, _⟩ => ⟨S4x8x4096x1, .f32⟩
  | .hbm, ⟨69, _⟩ => ⟨S4x8x4096x4096, .f32⟩
  | .hbm, ⟨70, _⟩ => ⟨S4x8x4096x4096, .f32⟩
  | .hbm, ⟨71, _⟩ => ⟨S4x8x64x4096, .f32⟩
  | .hbm, ⟨72, _⟩ => ⟨S4x4096x8x64, .f32⟩
  | .hbm, ⟨73, _⟩ => ⟨S16384x512, .f32⟩
  | .hbm, ⟨74, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v15 : Ref sig .tc := ⟨.hbm, 56, rfl⟩
abbrev main_cst_1 : Ref sig .tc := ⟨.hbm, 57, rfl⟩
abbrev main_v16 : Ref sig .tc := ⟨.hbm, 58, rfl⟩
abbrev main_cst_2 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_3 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩

abbrev nD : Nat := 1
abbrev τ : Topo := Topo.v7x

variable {F : FTy → Type} [FloatOps F]
-- ==== Diff.lean ====
abbrev S16384x1536 : Shape := ⟨2, ![16384, 1536]⟩
abbrev S64 : Shape := ⟨1, ![64]⟩
abbrev S128 : Shape := ⟨1, ![128]⟩
abbrev S1x64 : Shape := ⟨2, ![1, 64]⟩
abbrev S1x128 : Shape := ⟨2, ![1, 128]⟩
abbrev S16384x512 : Shape := ⟨2, ![16384, 512]⟩
abbrev S256x512 : Shape := ⟨2, ![256, 512]⟩
abbrev S4096x512 : Shape := ⟨2, ![4096, 512]⟩
abbrev S1 : Shape := ⟨1, ![1]⟩
abbrev S1x1 : Shape := ⟨2, ![1, 1]⟩
abbrev S256x128 : Shape := ⟨2, ![256, 128]⟩
abbrev S256x256 : Shape := ⟨2, ![256, 256]⟩
abbrev S256x1 : Shape := ⟨2, ![256, 1]⟩
abbrev S256 : Shape := ⟨1, ![256]⟩

abbrev nBuf : Space → Nat
  | .hbm => 12
  | .vmem => 13
  | .smem => 0
  | _ => 0

abbrev bufTy : (tb : Table) → Fin (tcTables nBuf tb) → BufTy
  | .hbm, ⟨0, _⟩ => ⟨S16384x1536, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S256x512, .bf16⟩
  | .local _ .vmem, ⟨12, _⟩ => ⟨S256x512, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_33 : BitVec 32 := 0#32
  let arg1 : BitVec 32 := BitVec.ofNat 32 (i 1).val
  let v96 : BitVec 32 := Scalar.subi arg1 c0_i32_33
  let c1_i32_34 : BitVec 32 := 1#32
  let v98 : BitVec 32 := Scalar.divsi v96 c1_i32_34
  let v99 : BitVec 32 := Scalar.muli v98 c1_i32_34
  let v100 : BitVec 32 := Scalar.addi c0_i32_33 v99
  let c1_i32_35 : BitVec 32 := 1#32
  ⟨c0_i32_33, v100, c1_i32_35⟩
def k0_mult1 (i : grid0.Coords) (k0_t1 : Fin (k0_t1_loop i).trips) : BitVec 32 :=
  let c0_i32_33 : BitVec 32 := 0#32
  let c1_i32_35 : BitVec 32 := 1#32
  let arg11 : BitVec 32 := Scf.iv c0_i32_33 c1_i32_35 k0_t1
  let c256_i32_155 : BitVec 32 := 256#32
  let v465 : BitVec 32 := Scalar.muli arg11 c256_i32_155
  v465
def k0_off1 (i : grid0.Coords) (k0_t1 : Fin (k0_t1_loop i).trips) : Fin 2 → Nat :=
  let c0_i32_33 : BitVec 32 := 0#32
  let c1_i32_35 : BitVec 32 := 1#32
  let arg11 : BitVec 32 := Scf.iv c0_i32_33 c1_i32_35 k0_t1
  let c256_i32_155 : BitVec 32 := 256#32
  let v465 : BitVec 32 := Scalar.muli arg11 c256_i32_155
  let v466 : BitVec 32 := v465
  let v467 : Index := Scalar.indexCast v466
  let c0_156 : Index := 0#32
  ![v467.toNat, 0]
@[reducible] def k0_t2_loop (i : grid0.Coords) : Scf.Loop 32 :=
  let c0_i32_33 : BitVec 32 := 0#32
  let arg1 : BitVec 32 := BitVec.ofNat 32 (i 1).val
  let v96 : BitVec 32 := Scalar.subi arg1 c0_i32_33
  let c1_i32_34 : BitVec 32 := 1#32
  let v98 : BitVec 32 := Scalar.divsi v96 c1_i32_34
  let v99 : BitVec 32 := Scalar.muli v98 c1_i32_34
  let v100 : BitVec 32 := Scalar.addi c0_i32_33 v99
  let v97 : BitVec 32 := Scalar.addi c0_i32_33 v96
  let c1_i32_36 : BitVec 32 := 1#32
  ⟨v100, v97, c1_i32_36⟩
def k0_mult2 (i : grid0.Coords) (k0_t2 : Fin (k0_t2_loop i).trips) : BitVec 32 :=
  let c0_i32_33 : BitVec 32 := 0#32
  let arg1 : BitVec 32 := BitVec.ofNat 32 (i 1).val
  let v96 : BitVec 32 := Scalar.subi arg1 c0_i32_33
  let c1_i32_34 : BitVec 32 := 1#32
  let v98 : BitVec 32 := Scalar.divsi v96 c1_i32_34
  let v99 : BitVec 32 := Scalar.muli v98 c1_i32_34
  let v100 : BitVec 32 := Scalar.addi c0_i32_33 v99
  let c1_i32_36 : BitVec 32 := 1#32
  let arg11 : BitVec 32 := Scf.iv v100 c1_i32_36 k0_t2
  let c256_i32_155 : BitVec 32 := 256#32
  let v465 : BitVec 32 := Scalar.muli arg11 c256_i32_155
  v465
def k0_off2 (i : grid0.Coords) (k0_t2 : Fin (k0_t2_loop i).trips) : Fin 2 → Nat :=
  let c0_i32_33 : BitVec 32 := 0#32
  let arg1 : BitVec 32 := BitVec.ofNat 32 (i 1).val
  let v96 : BitVec 32 := Scalar.subi arg1 c0_i32_33
  let c1_i32_34 : BitVec 32 := 1#32
  let v98 : BitVec 32 := Scalar.divsi v96 c1_i32_34
  let v99 : BitVec 32 := Scalar.muli v98 c1_i32_34
  let v100 : BitVec 32 := Scalar.addi c0_i32_33 v99
  let c1_i32_36 : BitVec 32 := 1#32
  let arg11 : BitVec 32 := Scf.iv v100 c1_i32_36 k0_t2
  let c256_i32_155 : BitVec 32 := 256#32
  let v465 : BitVec 32 := Scalar.muli arg11 c256_i32_155
  let v466 : BitVec 32 := v465
  let v467 : Index := Scalar.indexCast v466
  let c0_156 : Index := 0#32
  ![v467.toNat, 0]
def k0_mult3 (i : grid0.Coords) : BitVec 32 :=
  let arg1 : BitVec 32 := BitVec.ofNat 32 (i 1).val
  let c256_i32 : BitVec 32 := 256#32
  let v103 : BitVec 32 := Scalar.muli arg1 c256_i32
  v103
def k0_off3 (i : grid0.Coords) : Fin 2 → Nat :=
  let arg1 : BitVec 32 := BitVec.ofNat 32 (i 1).val
  let c256_i32 : BitVec 32 := 256#32
  let v103 : BitVec 32 := Scalar.muli arg1 c256_i32
  let v104 : BitVec 32 := v103
  let v105 : Index := Scalar.indexCast v104
  let c0_37 : Index := 0#32
  ![v105.toNat, 0]
@[reducible] def k0_t3_loop (i : grid0.Coords) : Scf.Loop 32 :=
  let c0_i32_65 : BitVec 32 := 0#32
  let arg1 : BitVec 32 := BitVec.ofNat 32 (i 1).val
  let v192 : BitVec 32 := Scalar.subi arg1 c0_i32_65
  let c1_i32_66 : BitVec 32 := 1#32
  let v194 : BitVec 32 := Scalar.divsi v192 c1_i32_66
  let v195 : BitVec 32 := Scalar.muli v194 c1_i32_66
  let v196 : BitVec 32 := Scalar.addi c0_i32_65 v195
  let c1_i32_67 : BitVec 32 := 1#32
  ⟨c0_i32_65, v196, c1_i32_67⟩
def k0_mult4 (i : grid0.Coords) (k0_t3 : Fin (k0_t3_loop i).trips) : BitVec 32 :=
  let c0_i32_65 : BitVec 32 := 0#32
  let c1_i32_67 : BitVec 32 := 1#32
  let arg11 : BitVec 32 := Scf.iv c0_i32_65 c1_i32_67 k0_t3
  let c256_i32_155 : BitVec 32 := 256#32
  let v465 : BitVec 32 := Scalar.muli arg11 c256_i32_155
  v465
def k0_off4 (i : grid0.Coords) (k0_t3 : Fin (k0_t3_loop i).trips) : Fin 2 → Nat :=
  let c0_i32_65 : BitVec 32 := 0#32
  let c1_i32_67 : BitVec 32 := 1#32
  let arg11 : BitVec 32 := Scf.iv c0_i32_65 c1_i32_67 k0_t3
  let c256_i32_155 : BitVec 32 := 256#32
  let v465 : BitVec 32 := Scalar.muli arg11 c256_i32_155
  let v466 : BitVec 32 := v465
  let v467 : Index := Scalar.indexCast v466
  let c128_156 : Index := 128#32
  ![v467.toNat, 128]
@[reducible] def k0_t4_loop (i : grid0.Coords) : Scf.Loop 32 :=
  let c0_i32_65 : BitVec 32 := 0#32
  let arg1 : BitVec 32 := BitVec.ofNat 32 (i 1).val
  let v192 : BitVec 32 := Scalar.subi arg1 c0_i32_65
  let c1_i32_66 : BitVec 32 := 1#32
  let v194 : BitVec 32 := Scalar.divsi v192 c1_i32_66
  let v195 : BitVec 32 := Scalar.muli v194 c1_i32_66
  let v196 : BitVec 32 := Scalar.addi c0_i32_65 v195
  let v193 : BitVec 32 := Scalar.addi c0_i32_65 v192
  let c1_i32_68 : BitVec 32 := 1#32
  ⟨v196, v193, c1_i32_68⟩
def k0_mult5 (i : grid0.Coords) (k0_t4 : Fin (k0_t4_loop i).trips) : BitVec 32 :=
  let c0_i32_65 : BitVec 32 := 0#32
  let arg1 : BitVec 32 := BitVec.ofNat 32 (i 1).val
  let v192 : BitVec 32 := Scalar.subi arg1 c0_i32_65
  let c1_i32_66 : BitVec 32 := 1#32
  let v194 : BitVec 32 := Scalar.divsi v192 c1_i32_66
  let v195 : BitVec 32 := Scalar.muli v194 c1_i32_66
  let v196 : BitVec 32 := Scalar.addi c0_i32_65 v195
  let c1_i32_68 : BitVec 32 := 1#32
  let arg11 : BitVec 32 := Scf.iv v196 c1_i32_68 k0_t4
  let c256_i32_155 : BitVec 32 := 256#32
  let v465 : BitVec 32 := Scalar.muli arg11 c256_i32_155
  v465
def k0_off5 (i : grid0.Coords) (k0_t4 : Fin (k0_t4_loop i).trips) : Fin 2 → Nat :=
  let c0_i32_65 : BitVec 32 := 0#32
  let arg1 : BitVec 32 := BitVec.ofNat 32 (i 1).val
  let v192 : BitVec 32 := Scalar.subi arg1 c0_i32_65
  let c1_i32_66 : BitVec 32 := 1#32
  let v194 : BitVec 32 := Scalar.divsi v192 c1_i32_66
  let v195 : BitVec 32 := Scalar.muli v194 c1_i32_66
  let v196 : BitVec 32 := Scalar.addi c0_i32_65 v195
  let c1_i32_68 : BitVec 32 := 1#32
  let arg11 : BitVec 32 := Scf.iv v196 c1_i32_68 k0_t4
  let c256_i32_155 : BitVec 32 := 256#32
  let v465 : BitVec 32 := Scalar.muli arg11 c256_i32_155
  let v466 : BitVec 32 := v465
  let v467 : Index := Scalar.indexCast v466
  let c128_156 : Index := 128#32
  ![v467.toNat, 128]
def k0_mult6 (i : grid0.Coords) : BitVec 32 :=
  let arg1 : BitVec 32 := BitVec.ofNat 32 (i 1).val
  let c256_i32_69 : BitVec 32 := 256#32
  let v199 : BitVec 32 := Scalar.muli arg1 c256_i32_69
  v199
def k0_off6 (i : grid0.Coords) : Fin 2 → Nat :=
  let arg1 : BitVec 32 := BitVec.ofNat 32 (i 1).val
  let c256_i32_69 : BitVec 32 := 256#32
  let v199 : BitVec 32 := Scalar.muli arg1 c256_i32_69
  let v200 : BitVec 32 := v199
  let v201 : Index := Scalar.indexCast v200
  let c128_70 : Index := 128#32
  ![v201.toNat, 128]
@[reducible] def k0_t5_loop (i : grid0.Coords) : Scf.Loop 32 :=
  let c0_i32_98 : BitVec 32 := 0#32
  let arg1 : BitVec 32 := BitVec.ofNat 32 (i 1).val
  let v288 : BitVec 32 := Scalar.subi arg1 c0_i32_98
  let c1_i32_99 : BitVec 32 := 1#32
  let v290 : BitVec 32 := Scalar.divsi v288 c1_i32_99
  let v291 : BitVec 32 := Scalar.muli v290 c1_i32_99
  let v292 : BitVec 32 := Scalar.addi c0_i32_98 v291
  let c1_i32_100 : BitVec 32 := 1#32
  ⟨c0_i32_98, v292, c1_i32_100⟩
def k0_mult7 (i : grid0.Coords) (k0_t5 : Fin (k0_t5_loop i).trips) : BitVec 32 :=
  let c0_i32_98 : BitVec 32 := 0#32
  let c1_i32_100 : BitVec 32 := 1#32
  let arg11 : BitVec 32 := Scf.iv c0_i32_98 c1_i32_100 k0_t5
  let c256_i32_155 : BitVec 32 := 256#32
  let v465 : BitVec 32 := Scalar.muli arg11 c256_i32_155
  v465
def k0_off7 (i : grid0.Coords) (k0_t5 : Fin (k0_t5_loop i).trips) : Fin 2 → Nat :=
  let c0_i32_98 : BitVec 32 := 0#32
  let c1_i32_100 : BitVec 32 := 1#32
  let arg11 : BitVec 32 := Scf.iv c0_i32_98 c1_i32_100 k0_t5
  let c256_i32_155 : BitVec 32 := 256#32
  let v465 : BitVec 32 := Scalar.muli arg11 c256_i32_155
  let v466 : BitVec 32 := v465
  let v467 : Index := Scalar.indexCast v466
  let c256_156 : Index := 256#32
  ![v467.toNat, 256]
@[reducible] def k0_t6_loop (i : grid0.Coords) : Scf.Loop 32 :=
  let c0_i32_98 : BitVec 32 := 0#32
  let arg1 : BitVec 32 := BitVec.ofNat 32 (i 1).val
  let v288 : BitVec 32 := Scalar.subi arg1 c0_i32_98
  let c1_i32_99 : BitVec 32 := 1#32
  let v290 : BitVec 32 := Scalar.divsi v288 c1_i32_99
  let v291 : BitVec 32 := Scalar.muli v290 c1_i32_99
  let v292 : BitVec 32 := Scalar.addi c0_i32_98 v291
  let v289 : BitVec 32 := Scalar.addi c0_i32_98 v288
  let c1_i32_101 : BitVec 32 := 1#32
  ⟨v292, v289, c1_i32_101⟩
def k0_mult8 (i : grid0.Coords) (k0_t6 : Fin (k0_t6_loop i).trips) : BitVec 32 :=
  let c0_i32_98 : BitVec 32 := 0#32
  let arg1 : BitVec 32 := BitVec.ofNat 32 (i 1).val
  let v288 : BitVec 32 := Scalar.subi arg1 c0_i32_98
  let c1_i32_99 : BitVec 32 := 1#32
  let v290 : BitVec 32 := Scalar.divsi v288 c1_i32_99
  let v291 : BitVec 32 := Scalar.muli v290 c1_i32_99
  let v292 : BitVec 32 := Scalar.addi c0_i32_98 v291
  let c1_i32_101 : BitVec 32 := 1#32
  let arg11 : BitVec 32 := Scf.iv v292 c1_i32_101 k0_t6
  let c256_i32_155 : BitVec 32 := 256#32
  let v465 : BitVec 32 := Scalar.muli arg11 c256_i32_155
  v465
def k0_off8 (i : grid0.Coords) (k0_t6 : Fin (k0_t6_loop i).trips) : Fin 2 → Nat :=
  let c0_i32_98 : BitVec 32 := 0#32
  let arg1 : BitVec 32 := BitVec.ofNat 32 (i 1).val
  let v288 : BitVec 32 := Scalar.subi arg1 c0_i32_98
  let c1_i32_99 : BitVec 32 := 1#32
  let v290 : BitVec 32 := Scalar.divsi v288 c1_i32_99
  let v291 : BitVec 32 := Scalar.muli v290 c1_i32_99
  let v292 : BitVec 32 := Scalar.addi c0_i32_98 v291
  let c1_i32_101 : BitVec 32 := 1#32
  let arg11 : BitVec 32 := Scf.iv v292 c1_i32_101 k0_t6
  let c256_i32_155 : BitVec 32 := 256#32
  let v465 : BitVec 32 := Scalar.muli arg11 c256_i32_155
  let v466 : BitVec 32 := v465
  let v467 : Index := Scalar.indexCast v466
  let c256_156 : Index := 256#32
  ![v467.toNat, 256]
def k0_mult9 (i : grid0.Coords) : BitVec 32 :=
  let arg1 : BitVec 32 := BitVec.ofNat 32 (i 1).val
  let c256_i32_102 : BitVec 32 := 256#32
  let v295 : BitVec 32 := Scalar.muli arg1 c256_i32_102
  v295
def k0_off9 (i : grid0.Coords) : Fin 2 → Nat :=
  let arg1 : BitVec 32 := BitVec.ofNat 32 (i 1).val
  let c256_i32_102 : BitVec 32 := 256#32
  let v295 : BitVec 32 := Scalar.muli arg1 c256_i32_102
  let v296 : BitVec 32 := v295
  let v297 : Index := Scalar.indexCast v296
  let c256_103 : Index := 256#32
  ![v297.toNat, 256]
@[reducible] def k0_t7_loop (i : grid0.Coords) : Scf.Loop 32 :=
  let c0_i32_131 : BitVec 32 := 0#32
  let arg1 : BitVec 32 := BitVec.ofNat 32 (i 1).val
  let v384 : BitVec 32 := Scalar.subi arg1 c0_i32_131
  let c1_i32_132 : BitVec 32 := 1#32
  let v386 : BitVec 32 := Scalar.divsi v384 c1_i32_132
  let v387 : BitVec 32 := Scalar.muli v386 c1_i32_132
  let v388 : BitVec 32 := Scalar.addi c0_i32_131 v387
  let c1_i32_133 : BitVec 32 := 1#32
  ⟨c0_i32_131, v388, c1_i32_133⟩
def k0_mult10 (i : grid0.Coords) (k0_t7 : Fin (k0_t7_loop i).trips) : BitVec 32 :=
  let c0_i32_131 : BitVec 32 := 0#32
  let c1_i32_133 : BitVec 32 := 1#32
  let arg11 : BitVec 32 := Scf.iv c0_i32_131 c1_i32_133 k0_t7
  let c256_i32_155 : BitVec 32 := 256#32
  let v465 : BitVec 32 := Scalar.muli arg11 c256_i32_155
  v465
def k0_off10 (i : grid0.Coords) (k0_t7 : Fin (k0_t7_loop i).trips) : Fin 2 → Nat :=
  let c0_i32_131 : BitVec 32 := 0#32
  let c1_i32_133 : BitVec 32 := 1#32
  let arg11 : BitVec 32 := Scf.iv c0_i32_131 c1_i32_133 k0_t7
  let c256_i32_155 : BitVec 32 := 256#32
  let v465 : BitVec 32 := Scalar.muli arg11 c256_i32_155
  let v466 : BitVec 32 := v465
  let v467 : Index := Scalar.indexCast v466
  let c384_156 : Index := 384#32
  ![v467.toNat, 384]
@[reducible] def k0_t8_loop (i : grid0.Coords) : Scf.Loop 32 :=
  let c0_i32_131 : BitVec 32 := 0#32
  let arg1 : BitVec 32 := BitVec.ofNat 32 (i 1).val
  let v384 : BitVec 32 := Scalar.subi arg1 c0_i32_131
  let c1_i32_132 : BitVec 32 := 1#32
  let v386 : BitVec 32 := Scalar.divsi v384 c1_i32_132
  let v387 : BitVec 32 := Scalar.muli v386 c1_i32_132
  let v388 : BitVec 32 := Scalar.addi c0_i32_131 v387
  let v385 : BitVec 32 := Scalar.addi c0_i32_131 v384
  let c1_i32_134 : BitVec 32 := 1#32
  ⟨v388, v385, c1_i32_134⟩
def k0_mult11 (i : grid0.Coords) (k0_t8 : Fin (k0_t8_loop i).trips) : BitVec 32 :=
  let c0_i32_131 : BitVec 32 := 0#32
  let arg1 : BitVec 32 := BitVec.ofNat 32 (i 1).val
  let v384 : BitVec 32 := Scalar.subi arg1 c0_i32_131
  let c1_i32_132 : BitVec 32 := 1#32
  let v386 : BitVec 32 := Scalar.divsi v384 c1_i32_132
  let v387 : BitVec 32 := Scalar.muli v386 c1_i32_132
  let v388 : BitVec 32 := Scalar.addi c0_i32_131 v387
  let c1_i32_134 : BitVec 32 := 1#32
  let arg11 : BitVec 32 := Scf.iv v388 c1_i32_134 k0_t8
  let c256_i32_155 : BitVec 32 := 256#32
  let v465 : BitVec 32 := Scalar.muli arg11 c256_i32_155
  v465
def k0_off11 (i : grid0.Coords) (k0_t8 : Fin (k0_t8_loop i).trips) : Fin 2 → Nat :=
  let c0_i32_131 : BitVec 32 := 0#32
  let arg1 : BitVec 32 := BitVec.ofNat 32 (i 1).val
  let v384 : BitVec 32 := Scalar.subi arg1 c0_i32_131
  let c1_i32_132 : BitVec 32 := 1#32
  let v386 : BitVec 32 := Scalar.divsi v384 c1_i32_132
  let v387 : BitVec 32 := Scalar.muli v386 c1_i32_132
  let v388 : BitVec 32 := Scalar.addi c0_i32_131 v387
  let c1_i32_134 : BitVec 32 := 1#32
  let arg11 : BitVec 32 := Scf.iv v388 c1_i32_134 k0_t8
  let c256_i32_155 : BitVec 32 := 256#32
  let v465 : BitVec 32 := Scalar.muli arg11 c256_i32_155
  let v466 : BitVec 32 := v465
  let v467 : Index := Scalar.indexCast v466
  let c384_156 : Index := 384#32
  ![v467.toNat, 384]
def k0_mult12 (i : grid0.Coords) : BitVec 32 :=
  let arg1 : BitVec 32 := BitVec.ofNat 32 (i 1).val
  let c256_i32_135 : BitVec 32 := 256#32
  let v391 : BitVec 32 := Scalar.muli arg1 c256_i32_135
  v391
def k0_off12 (i : grid0.Coords) : Fin 2 → Nat :=
  let arg1 : BitVec 32 := BitVec.ofNat 32 (i 1).val
  let c256_i32_135 : BitVec 32 := 256#32
  let v391 : BitVec 32 := Scalar.muli arg1 c256_i32_135
  let v392 : BitVec 32 := v391
  let v393 : Index := Scalar.indexCast v392
  let c384_136 : Index := 384#32
  ![v393.toNat, 384]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DiffIdeal.lean ====
variable {F : FTy → Type} [FloatOps F] [Named F]
def κ : String → Option EReal := fun
  | "masked" => some ⊥
  | _ => none
-- ==== DiffRefIdeal.lean ====
abbrev S16384x1536 : Shape := ⟨2, ![16384, 1536]⟩
abbrev S64 : Shape := ⟨1, ![64]⟩
abbrev S128 : Shape := ⟨1, ![128]⟩
abbrev S4 : Shape := ⟨1, ![4]⟩
abbrev S16384x512 : Shape := ⟨2, ![16384, 512]⟩
abbrev S4x4096x4x2x64 : Shape := ⟨5, ![4, 4096, 4, 2, 64]⟩
abbrev S4x4096x4x128 : Shape := ⟨4, ![4, 4096, 4, 128]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4x4x2x4096x4096 : Shape := ⟨5, ![4, 4, 2, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 136
  | .vmem => 0
  | .smem => 0
  | _ => 0

abbrev hbmTy0_0 (i : Nat) : BufTy := match i % 128 with
  | 0 => ⟨S16384x1536, .bf16⟩
  | 1 => ⟨S64, .f32⟩
  | 2 => ⟨S64, .f32⟩
  | 3 => ⟨S64, .f32⟩
  | 4 => ⟨S64, .f32⟩
  | 5 => ⟨S128, .f32⟩
  | 6 => ⟨S4, .f32⟩
  | 7 => ⟨S16384x1536, .f32⟩
  | 8 => ⟨S16384x512, .f32⟩
  | 9 => ⟨S16384x512, .f32⟩
  | 10 => ⟨S16384x512, .f32⟩
  | 11 => ⟨S4x4096x4x2x64, .f32⟩
  | 12 => ⟨S4x4096x4x2x64, .f32⟩
  | 13 => ⟨S4x4096x4x128, .f32⟩
  | 14 => ⟨S64, .f32⟩
  | 15 => ⟨S_, .f32⟩
  | 16 => ⟨S_, .f32⟩
  | 17 => ⟨S_, .f32⟩
  | 18 => ⟨S64, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S4096, .i32⟩
  | 26 => ⟨S1x4096, .i32⟩
  | 27 => ⟨S_, .i32⟩
  | 28 => ⟨S_, .i32⟩
  | 29 => ⟨S1x4096, .i32⟩
  | 30 => ⟨S1x4096, .i32⟩
  | 31 => ⟨S1x4096, .i32⟩
  | 32 => ⟨S_, .i32⟩
  | 33 => ⟨S1x4096, .i32⟩
  | 34 => ⟨S1x4096, .i1⟩
  | 35 => ⟨S1x4096, .i32⟩
  | 36 => ⟨S1x4096, .i32⟩
  | 37 => ⟨S_, .i32⟩
  | 38 => ⟨S1x4096, .i32⟩
  | 39 => ⟨S1x4096, .i1⟩
  | 40 => ⟨S1x4096, .i1⟩
  | 41 => ⟨S_, .i32⟩
  | 42 => ⟨S1x4096, .i32⟩
  | 43 => ⟨S1x4096, .i32⟩
  | 44 => ⟨S1x4096, .i32⟩
  | 45 => ⟨S4096x1, .i32⟩
  | 46 => ⟨S_, .i32⟩
  | 47 => ⟨S_, .i32⟩
  | 48 => ⟨S4096x1, .i32⟩
  | 49 => ⟨S4096x1, .i32⟩
  | 50 => ⟨S4096x1, .i32⟩
  | 51 => ⟨S_, .i32⟩
  | 52 => ⟨S4096x1, .i32⟩
  | 53 => ⟨S4096x1, .i1⟩
  | 54 => ⟨S4096x1, .i32⟩
  | 55 => ⟨S4096x1, .i32⟩
  | 56 => ⟨S_, .i32⟩
  | 57 => ⟨S4096x1, .i32⟩
  | 58 => ⟨S4096x1, .i1⟩
  | 59 => ⟨S4096x1, .i1⟩
  | 60 => ⟨S_, .i32⟩
  | 61 => ⟨S4096x1, .i32⟩
  | 62 => ⟨S4096x1, .i32⟩
  | 63 => ⟨S4096x1, .i32⟩
  | 64 => ⟨S4096x4096, .i32⟩
  | 65 => ⟨S4096x4096, .i32⟩
  | 66 => ⟨S4096x4096, .i1⟩
  | 67 => ⟨S4096x1, .i32⟩
  | 68 => ⟨S1x4096, .i32⟩
  | 69 => ⟨S4096x4096, .i32⟩
  | 70 => ⟨S4096x4096, .i32⟩
  | 71 => ⟨S4096x4096, .i32⟩
  | 72 => ⟨S4096x4096, .i32⟩
  | 73 => ⟨S4096x4096, .f32⟩
  | 74 => ⟨S4x1x1, .f32⟩
  | 75 => ⟨S4x1x1, .f32⟩
  | 76 => ⟨S1x4096x4096, .f32⟩
  | 77 => ⟨S4x4096x4096, .f32⟩
  | 78 => ⟨S4x4096x4096, .f32⟩
  | 79 => ⟨S4x4096x4096, .f32⟩
  | 80 => ⟨S4x4x2x4096x4096, .f32⟩
  | 81 => ⟨S_, .f32⟩
  | 82 => ⟨S4x4x2x4096x4096, .f32⟩
  | 83 => ⟨S4x4x2x4096x4096, .f32⟩
  | 84 => ⟨S1x4x1x4096x4096, .f32⟩
  | 85 => ⟨S4x4x2x4096x4096, .f32⟩
  | 86 => ⟨S4x4x2x4096x4096, .f32⟩
  | 87 => ⟨S_, .f32⟩
  | 88 => ⟨S_, .f32⟩
  | 89 => ⟨S4x4x2x4096x4096, .i1⟩
  | 90 => ⟨S4x4x2x4096x4096, .f32⟩
  | 91 => ⟨S4x4x2x4096x4096, .f32⟩
  | 92 => ⟨S_, .f32⟩
  | 93 => ⟨S4x4x2x4096, .f32⟩
  | 94 => ⟨S_, .f32⟩
  | 95 => ⟨S4x4x2x4096, .f32⟩
  | 96 => ⟨S4x4x2x4096, .f32⟩
  | 97 => ⟨S4x4x2x4096x1, .f32⟩
  | 98 => ⟨S4x4x2x4096x4096, .f32⟩
  | 99 => ⟨S4x4x2x4096x4096, .f32⟩
  | 100 => ⟨S4x4x2x4096x4096, .f32⟩
  | 101 => ⟨S_, .f32⟩
  | 102 => ⟨S4x4x2x4096, .f32⟩
  | 103 => ⟨S4x4x2x4096x1, .f32⟩
  | 104 => ⟨S4x4x2x4096x4096, .f32⟩
  | 105 => ⟨S4x4x2x4096x4096, .f32⟩
  | 106 => ⟨S4x4x1x4096x4096, .f32⟩
  | 107 => ⟨S4x4x4096x4096, .f32⟩
  | 108 => ⟨S4x4x1x4096x4096, .f32⟩
  | 109 => ⟨S4x4x4096x4096, .f32⟩
  | 110 => ⟨S4x4x4096x4096, .f32⟩
  | 111 => ⟨S4x4x4096x4096, .f32⟩
  | 112 => ⟨S4x4x4096x4096, .f32⟩
  | 113 => ⟨S4x4x128x4096, .f32⟩
  | 114 => ⟨S4x4096x4x128, .f32⟩
  | 115 => ⟨S4x4096x4x128, .f32⟩
  | 116 => ⟨S_, .f32⟩
  | 117 => ⟨S4x4096x4, .f32⟩
  | 118 => ⟨S4x4096x4x1, .f32⟩
  | 119 => ⟨S_, .f32⟩
  | 120 => ⟨S4x4096x4x1, .f32⟩
  | 121 => ⟨S4x4096x4x1, .f32⟩
  | 122 => ⟨S_, .f32⟩
  | 123 => ⟨S4x4096x4x1, .f32⟩
  | 124 => ⟨S4x4096x4x1, .f32⟩
  | 125 => ⟨S4x4096x4x1, .f32⟩
  | 126 => ⟨S4x4096x4x128, .f32⟩
  | 127 => ⟨S4x4096x4x128, .f32⟩
  | _ => ⟨S16384x1536, .bf16⟩

abbrev hbmTy0_1 (i : Nat) : BufTy := match i % 128 with
  | 0 => ⟨S1x1x1x128, .f32⟩
  | 1 => ⟨S4x4096x4x128, .f32⟩
  | 2 => ⟨S4x4096x4x128, .f32⟩
  | 3 => ⟨S_, .f32⟩
  | 4 => ⟨S4x4096x4x128, .f32⟩
  | 5 => ⟨S4x4096x4x128, .f32⟩
  | 6 => ⟨S16384x512, .f32⟩
  | 7 => ⟨S16384x512, .bf16⟩
  | _ => ⟨S16384x1536, .bf16⟩

abbrev hbmTy (i : Nat) : BufTy := match i / 128 with
  | 0 => hbmTy0_0 i
  | 1 => hbmTy0_1 i
  | _ => ⟨S16384x1536, .bf16⟩

abbrev bufTy : (tb : Table) → Fin (tcTables nBuf tb) → BufTy
  | .hbm, ⟨i, _⟩ => hbmTy i
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_cst_4 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_5 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v42 : Ref sig .tc := ⟨.hbm, 91, rfl⟩
abbrev main_cst_6 : Ref sig .tc := ⟨.hbm, 92, rfl⟩
abbrev main_v43 : Ref sig .tc := ⟨.hbm, 93, rfl⟩
abbrev main_cst_7 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_8 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_9 : Ref sig .tc := ⟨.hbm, 116, rfl⟩
abbrev main_v64 : Ref sig .tc := ⟨.hbm, 117, rfl⟩
abbrev main_v65 : Ref sig .tc := ⟨.hbm, 118, rfl⟩
abbrev main_cst_10 : Ref sig .tc := ⟨.hbm, 119, rfl⟩
abbrev main_v66 : Ref sig .tc := ⟨.hbm, 120, rfl⟩
abbrev main_v67 : Ref sig .tc := ⟨.hbm, 121, rfl⟩
abbrev main_cst_11 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_12 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩

abbrev nD : Nat := 1
abbrev τ : Topo := Topo.v7x

variable {F : FTy → Type} [FloatOps F]
-- ==== Proj.lean ====
abbrev S16384x1024 : Shape := ⟨2, ![16384, 1024]⟩
abbrev S1024x1536 : Shape := ⟨2, ![1024, 1536]⟩
abbrev S16384x1536 : Shape := ⟨2, ![16384, 1536]⟩
abbrev S512x1024 : Shape := ⟨2, ![512, 1024]⟩
abbrev S512x1536 : Shape := ⟨2, ![512, 1536]⟩
abbrev S1024x512 : Shape := ⟨2, ![1024, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1536, .f32⟩
  | .hbm, ⟨2, _⟩ => ⟨S1024x1536, .bf16⟩
  | .hbm, ⟨3, _⟩ => ⟨S16384x1536, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S512x1536, .bf16⟩
  | .local _ .vmem, ⟨4, _⟩ => ⟨S512x1536, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjRefIdeal.lean ====
abbrev S16384x1024 : Shape := ⟨2, ![16384, 1024]⟩
abbrev S1024x1536 : Shape := ⟨2, ![1024, 1536]⟩
abbrev S16384x1536 : Shape := ⟨2, ![16384, 1536]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1536, .f32⟩
  | .hbm, ⟨2, _⟩ => ⟨S16384x1024, .f32⟩
  | .hbm, ⟨3, _⟩ => ⟨S16384x1536, .f32⟩
  | .hbm, ⟨4, _⟩ => ⟨S16384x1536, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gate.lean ====
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩
abbrev S1024x512 : Shape := ⟨2, ![1024, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S1024x3072, .bf16⟩
  | .hbm, ⟨3, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRefIdeal.lean ====
abbrev S16384x1024 : Shape := ⟨2, ![16384, 1024]⟩
abbrev S1024x3072 : Shape := ⟨2, ![1024, 3072]⟩
abbrev S16384x3072 : Shape := ⟨2, ![16384, 3072]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x3072, .f32⟩
  | .hbm, ⟨2, _⟩ => ⟨S16384x1024, .f32⟩
  | .hbm, ⟨3, _⟩ => ⟨S16384x3072, .f32⟩
  | .hbm, ⟨4, _⟩ => ⟨S16384x3072, .f32⟩
  | .hbm, ⟨5, _⟩ => ⟨S16384x3072, .f32⟩
  | .hbm, ⟨6, _⟩ => ⟨S_, .f32⟩
  | .hbm, ⟨7, _⟩ => ⟨S16384x3072, .f32⟩
  | .hbm, ⟨8, _⟩ => ⟨S16384x3072, .f32⟩
  | .hbm, ⟨9, _⟩ => ⟨S_, .f32⟩
  | .hbm, ⟨10, _⟩ => ⟨S16384x3072, .f32⟩
  | .hbm, ⟨11, _⟩ => ⟨S16384x3072, .f32⟩
  | .hbm, ⟨12, _⟩ => ⟨S16384x3072, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FinalNorm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMod.lean ====
abbrev S16384x1024 : Shape := ⟨2, ![16384, 1024]⟩
abbrev S1024 : Shape := ⟨1, ![1024]⟩
abbrev S4x1x1024 : Shape := ⟨3, ![4, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1x1024, .f32⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S16384x1024 : Shape := ⟨2, ![16384, 1024]⟩
abbrev S1024 : Shape := ⟨1, ![1024]⟩
abbrev S4x1x1024 : Shape := ⟨3, ![4, 1, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4x4096x1024 : Shape := ⟨3, ![4, 4096, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S16384x1024, .f32⟩
  | .hbm, ⟨29, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Softmax.lean ====
/-
  Softmax averages on the extended reals: the quotient form the kernels compute (the weighted sum of the values over the
  sum of the weights), the form with every weight normalized first, masked scores, and the running form that takes the
  scores tile by tile.
-/
module

public import proofs.«01_k».proof.Defs

@[expose] public section

noncomputable section

open Idealize.ShloMosaic

namespace Cert.Softmax

variable {ι κ : Type}

/-- The largest score of a set. -/
def top (S : Finset ι) (s : ι → EReal) : EReal := S.sup s

/-- The sum of the exponentials of the scores of a set, each less `m`. -/
def mass (S : Finset ι) (s : ι → EReal) (m : EReal) : EReal := ∑ i ∈ S, Ideal.exp (s i - m)

/-- The sum of the values of a set, each weighted with the exponential of its score less `m`. -/
def pull (S : Finset ι) (s v : ι → EReal) (m : EReal) : EReal := ∑ i ∈ S, Ideal.exp (s i - m) * v i

/-- The softmax average as one quotient. -/
def quot (S : Finset ι) (s v : ι → EReal) : EReal := Ideal.div (pull S s v (top S s)) (mass S s (top S s))

/-- The softmax average, each weight divided by their sum first. -/
def attend (S : Finset ι) (s v : ι → EReal) : EReal :=
  ∑ i ∈ S, Ideal.div (Ideal.exp (s i - top S s)) (mass S s (top S s)) * v i

/-- The exponential is nonnegative. -/
theorem exp_nonneg (x : EReal) : 0 ≤ Ideal.exp x := by
  induction x with
  | bot => exact le_refl _
  | top => exact le_top
  | coe r => exact EReal.coe_nonneg.mpr (Real.exp_pos r).le

/-- The exponential vanishes at the least element. -/
theorem exp_bot_sub (m : EReal) : Ideal.exp (⊥ - m) = 0 := by
  rw [EReal.bot_sub]; rfl

/-- The exponential is positive elsewhere. -/
theorem exp_pos {x : EReal} (h : x ≠ ⊥) : 0 < Ideal.exp x := by
  induction x with
  | bot => exact absurd rfl h
  | top => exact EReal.zero_lt_top
  | coe r => exact EReal.coe_pos.mpr (Real.exp_pos r)

/-- Below a finite bound, the exponential of the difference is finite. -/
theorem exp_sub_ne_top {s m : EReal} (h : s ≤ m) (hm : m ≠ ⊤) : Ideal.exp (s - m) ≠ ⊤ := by
  induction m with
  | bot => rw [le_bot_iff.mp h, exp_bot_sub]; exact EReal.zero_ne_top
  | top => exact absurd rfl hm
  | coe r =>
    induction s with
    | bot => rw [exp_bot_sub]; exact EReal.zero_ne_top
    | top => exact absurd h (by simp)
    | coe q => rw [← EReal.coe_sub]; exact EReal.coe_ne_top _

/-- Moving the subtracted bound up multiplies the exponential by that of the bounds' difference. -/
theorem exp_shift {s m m' : EReal} (h : s ≤ m) (h' : m ≤ m') (hm : m' ≠ ⊤) :
    Ideal.exp (m - m') * Ideal.exp (s - m) = Ideal.exp (s - m') := by
  induction m with
  | bot => rw [le_bot_iff.mp h, exp_bot_sub, exp_bot_sub, zero_mul]
  | top => exact absurd (top_le_iff.mp h') hm
  | coe r =>
    induction m' with
    | bot => exact absurd h' (by simp)
    | top => exact absurd rfl hm
    | coe r' =>
      induction s with
      | bot => rw [exp_bot_sub, exp_bot_sub, mul_zero]
      | top => exact absurd h (by simp)
      | coe q =>
        rw [← EReal.coe_sub, ← EReal.coe_sub, ← EReal.coe_sub]
        change ((Real.exp (r - r') : ℝ) : EReal) * ((Real.exp (q - r) : ℝ) : EReal) = ((Real.exp (q - r') : ℝ) : EReal)
        rw [← EReal.coe_mul, ← Real.exp_add]
        congr 2
        ring

/-- A finite nonnegative factor moves into a sum. -/
theorem mul_sum {c : EReal} (h0 : 0 ≤ c) (ht : c ≠ ⊤) (S : Finset ι) (f : ι → EReal) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 ht, ih]

/-- The sum of the exponentials with the bound moved up. -/
theorem mass_shift (S : Finset ι) (s : ι → EReal) {m m' : EReal} (h : ∀ i ∈ S, s i ≤ m) (h' : m ≤ m') (hm : m' ≠ ⊤) :
    Ideal.exp (m - m') * mass S s m = mass S s m' := by
  unfold mass
  rw [mul_sum (exp_nonneg _) (exp_sub_ne_top h' hm)]
  exact Finset.sum_congr rfl fun i hi => exp_shift (h i hi) h' hm

/-- The weighted sum of the values with the bound moved up. -/
theorem pull_shift (S : Finset ι) (s v : ι → EReal) {m m' : EReal} (h : ∀ i ∈ S, s i ≤ m) (h' : m ≤ m') (hm : m' ≠ ⊤) :
    Ideal.exp (m - m') * pull S s v m = pull S s v m' := by
  unfold pull
  rw [mul_sum (exp_nonneg _) (exp_sub_ne_top h' hm)]
  exact Finset.sum_congr rfl fun i hi => by rw [← mul_assoc, exp_shift (h i hi) h' hm]

/-- The largest of scores none of which is the top is not the top. -/
theorem top_ne_top (S : Finset ι) (s : ι → EReal) (h : ∀ i ∈ S, s i ≠ ⊤) : top S s ≠ ⊤ := by
  refine ne_of_lt ((Finset.sup_lt_iff (by exact bot_lt_top)).mpr fun i hi => ?_)
  exact lt_top_iff_ne_top.mpr (h i hi)

/-- The sum of the exponentials is nonnegative. -/
theorem mass_nonneg (S : Finset ι) (s : ι → EReal) (m : EReal) : 0 ≤ mass S s m :=
  Finset.sum_nonneg fun _ _ => exp_nonneg _

/-- The sum of the exponentials is not zero once one score is not the bottom. -/
theorem mass_ne_zero (S : Finset ι) (s : ι → EReal) (h : ∀ i ∈ S, s i ≠ ⊤) (hb : ∃ i ∈ S, s i ≠ ⊥) :
    mass S s (top S s) ≠ 0 := by
  obtain ⟨i, hi, hs⟩ := hb
  have ht := top_ne_top S s h
  have hle : s i ≤ top S s := Finset.le_sup hi
  have hp : 0 < Ideal.exp (s i - top S s) := by
    refine exp_pos ?_
    generalize top S s = m at *
    have h1 := h i hi
    generalize s i = q at *
    induction m with
    | bot => exact absurd (le_bot_iff.mp hle) hs
    | top => exact absurd rfl ht
    | coe r =>
      induction q with
      | bot => exact absurd rfl hs
      | top => exact absurd rfl h1
      | coe q => rw [← EReal.coe_sub]; exact EReal.coe_ne_bot _
  exact (lt_of_lt_of_le hp (Finset.single_le_sum (f := fun i => Ideal.exp (s i - top S s)) (fun _ _ => exp_nonneg _) hi)).ne'

/-- The inverse is never the top. -/
theorem inv_ne_top (x : EReal) : x⁻¹ ≠ ⊤ := by
  induction x with
  | bot => simp
  | top => simp
  | coe r => rw [← EReal.coe_inv]; exact EReal.coe_ne_top _

/-- The quotient form is the form with normalized weights. -/
theorem attend_eq_quot (S : Finset ι) (s v : ι → EReal) (h : ∀ i ∈ S, s i ≠ ⊤) (hb : ∃ i ∈ S, s i ≠ ⊥) :
    attend S s v = quot S s v := by
  have hz := mass_ne_zero S s h hb
  unfold attend quot pull
  unfold Ideal.div
  rw [if_neg hz, mul_comm, mul_sum (EReal.inv_nonneg_of_nonneg (mass_nonneg S s _)) (inv_ne_top _)]
  refine Finset.sum_congr rfl fun i _ => ?_
  rw [if_neg hz, ← mul_assoc, mul_comm (mass S s (top S s))⁻¹]

/-- Scores at the bottom do not count in the largest one. -/
theorem top_subset {S U : Finset ι} (s : ι → EReal) (h : S ⊆ U) (ho : ∀ i ∈ U, i ∉ S → s i = ⊥) : top U s = top S s := by
  refine le_antisymm (Finset.sup_le fun i hi => ?_) (Finset.sup_mono h)
  by_cases hS : i ∈ S
  · exact Finset.le_sup hS
  · rw [ho i hi hS]; exact bot_le

/-- Scores at the bottom do not count in the average. -/
theorem quot_subset {S U : Finset ι} (s v : ι → EReal) (h : S ⊆ U) (ho : ∀ i ∈ U, i ∉ S → s i = ⊥) :
    quot U s v = quot S s v := by
  unfold quot pull mass
  rw [top_subset s h ho]
  congr 1
  · exact (Finset.sum_subset h fun i hi hn => by rw [ho i hi hn, exp_bot_sub, zero_mul]).symm
  · exact (Finset.sum_subset h fun i hi hn => by rw [ho i hi hn, exp_bot_sub]).symm

/-- The average over the image of an injection. -/
theorem quot_map (S : Finset κ) (e : κ ↪ ι) (s v : ι → EReal) :
    quot (S.map e) s v = quot S (fun i => s (e i)) (fun i => v (e i)) := by
  unfold quot pull mass top
  rw [Finset.sup_map, Finset.sum_map, Finset.sum_map]
  rfl

/-- The average when every score outside the image of an injection is the bottom. -/
theorem quot_embed [Fintype ι] [Fintype κ] (e : κ ↪ ι) (s v : ι → EReal) (ho : ∀ i, (∀ k, e k ≠ i) → s i = ⊥) :
    quot Finset.univ s v = quot Finset.univ (fun i => s (e i)) (fun i => v (e i)) := by
  rw [← quot_map, quot_subset s v (Finset.subset_univ (Finset.univ.map e)) fun i _ hi => ho i fun k hk => hi ?_]
  exact Finset.mem_map.mpr ⟨k, Finset.mem_univ _, hk⟩

/-- The average depends on the scores and values of the set only. -/
theorem quot_congr {S : Finset ι} {s s' v v' : ι → EReal} (hs : ∀ i ∈ S, s i = s' i) (hv : ∀ i ∈ S, v i = v' i) :
    quot S s v = quot S s' v' := by
  have ht : top S s = top S s' := Finset.sup_congr rfl hs
  unfold quot pull mass
  rw [ht]
  congr 1
  · exact Finset.sum_congr rfl fun i hi => by rw [hs i hi, hv i hi]
  · exact Finset.sum_congr rfl fun i hi => by rw [hs i hi]

/-- A sum over the first `n` naturals as one over the finite type. -/
theorem sum_below (n : ℕ) (f : ℕ → EReal) : ∑ i ∈ Finset.range n, f i = ∑ i : Fin n, f i.val := Finset.sum_range f

/-- The largest of the first `n` scores as one over the finite type. -/
theorem top_below (n : ℕ) (s : ℕ → EReal) : top (Finset.range n) s = top Finset.univ (fun i : Fin n => s i.val) := by
  refine le_antisymm (Finset.sup_le fun i hi => ?_) (Finset.sup_le fun i _ => ?_)
  · exact Finset.le_sup (f := fun i : Fin n => s i.val) (Finset.mem_univ ⟨i, Finset.mem_range.mp hi⟩)
  · exact Finset.le_sup (f := s) (Finset.mem_range.mpr i.isLt)

/-- The average over the first `n` naturals as one over the finite type. -/
theorem quot_below (n : ℕ) (s v : ℕ → EReal) :
    quot (Finset.range n) s v = quot Finset.univ (fun i : Fin n => s i.val) (fun i : Fin n => v i.val) := by
  unfold quot pull mass
  rw [top_below, sum_below, sum_below]

/-- What the running form carries: the largest score so far, the sum of the weights, the weighted sum of the values. -/
structure Carried (n : ℕ) (s v : ℕ → EReal) (m l a : EReal) : Prop where
  /-- the largest score -/
  hm : m = top (Finset.range n) s
  /-- the sum of the weights -/
  hl : l = mass (Finset.range n) s m
  /-- the weighted sum of the values -/
  ha : a = pull (Finset.range n) s v m

/-- Before the first tile: the bottom, and two zeros. -/
theorem carried_zero (s v : ℕ → EReal) : Carried 0 s v ⊥ 0 0 := ⟨rfl, rfl, rfl⟩

/-- One tile of `w` scores: the bound moves up to the tile's largest, and both sums are rescaled and extended. -/
theorem carried_step {n : ℕ} (w : ℕ) {s v : ℕ → EReal} {m l a : EReal} (h : Carried n s v m l a)
    (hs : ∀ i < n + w, s i ≠ ⊤) :
    Carried (n + w) s v (max m (top Finset.univ fun j : Fin w => s (n + j.val)))
      (Ideal.exp (m - max m (top Finset.univ fun j : Fin w => s (n + j.val))) * l
        + ∑ j : Fin w, Ideal.exp (s (n + j.val) - max m (top Finset.univ fun j : Fin w => s (n + j.val))))
      (Ideal.exp (m - max m (top Finset.univ fun j : Fin w => s (n + j.val))) * a
        + ∑ j : Fin w, Ideal.exp (s (n + j.val) - max m (top Finset.univ fun j : Fin w => s (n + j.val))) * v (n + j.val)) := by
  have e : max m (top Finset.univ fun j : Fin w => s (n + j.val)) = top (Finset.range (n + w)) s := by
    rw [h.hm]
    refine le_antisymm (max_le (Finset.sup_mono (Finset.range_mono (Nat.le_add_right n w))) (Finset.sup_le fun j _ => ?_))
      (Finset.sup_le fun i hi => ?_)
    · exact Finset.le_sup (f := s) (Finset.mem_range.mpr (Nat.add_lt_add_left j.isLt n))
    · by_cases hn : i < n
      · exact le_max_of_le_left (Finset.le_sup (f := s) (Finset.mem_range.mpr hn))
      · refine le_max_of_le_right ?_
        have hi' := Finset.mem_range.mp hi
        have := Finset.le_sup (f := fun j : Fin w => s (n + j.val)) (Finset.mem_univ (⟨i - n, by omega⟩ : Fin w))
        have e' : n + (i - n) = i := by omega
        simp only [e'] at this
        exact this
  have ht : top (Finset.range (n + w)) s ≠ ⊤ := top_ne_top _ _ fun i hi => hs i (Finset.mem_range.mp hi)
  have hle : m ≤ top (Finset.range (n + w)) s := e ▸ le_max_left _ _
  have hb : ∀ i ∈ Finset.range n, s i ≤ m := fun i hi => h.hm ▸ Finset.le_sup hi
  rw [e]
  refine ⟨rfl, ?_, ?_⟩
  · rw [h.hl, mass_shift _ s hb hle ht]
    unfold mass
    rw [Finset.sum_range_add, sum_below w]
  · rw [h.ha, pull_shift _ s v hb hle ht]
    unfold pull
    rw [Finset.sum_range_add, sum_below w]

/-- What the running form ends with: the average of all the scores taken. -/
theorem carried_quot {n : ℕ} {s v : ℕ → EReal} {m l a : EReal} (h : Carried n s v m l a) :
    Ideal.div a l = quot (Finset.range n) s v := by
  rw [h.ha, h.hl, h.hm]; rfl

end Cert.Softmax

end
-- ==== Proof.Window.lean ====
module

public import proofs.«01_k».proof.Proof.Softmax
public import Idealize.ShloMosaic.Lib.Pointwise

@[expose] public section

noncomputable section

open Idealize.ShloMosaic

namespace Cert.Window

/-- A query at position `p` reaches the keys of its own 128 positions and of the 512 before them. -/
def near (p k : ℕ) : Prop := 128 * (p / 128) ≤ k + 512 ∧ k + 512 < 128 * (p / 128) + 640

instance (p k : ℕ) : Decidable (near p k) := inferInstanceAs (Decidable (_ ∧ _))

/-- The bias's row of a query: its place among its 128 positions. -/
def place (p : ℕ) : Fin 128 := ⟨p % 128, by omega⟩

/-- The bias's column of a query and a key: the key's place among the keys in reach. -/
def slot (p k : ℕ) : Fin 640 := ⟨min (k + 512 - 128 * (p / 128)) 639, by omega⟩

/-- The word of a key's place among the keys in reach. -/
def reach (p k : ℕ) : BitVec 32 := BitVec.ofNat 32 (k + 4608 - 128 * (p / 128)) - 4096#32

/-- The words that compute a key's place among the keys in reach. -/
theorem reach_word (p k : Fin 4096) :
    IntOp.addi (IntOp.subi (BitVec.ofNat 32 k.val) (IntOp.subi (BitVec.ofNat 32 p.val) (BitVec.ofNat 32 (p.val % 128)))) 512#32
      = reach p.val k.val := by
  show BitVec.ofNat 32 k.val - (BitVec.ofNat 32 p.val - BitVec.ofNat 32 (p.val % 128)) + 512#32 = _
  unfold reach
  refine BitVec.eq_of_toNat_eq ?_
  simp only [BitVec.toNat_sub, BitVec.toNat_ofNat, BitVec.toNat_add]
  have := Nat.div_add_mod p.val 128
  omega

/-- The words that compare a place with the bounds of the reach. -/
theorem bounds_word : ∀ e : Fin 8704,
    IntOp.andi (IntOp.cmpi .sge (BitVec.ofNat 32 e.val - 4096#32) 0#32) (IntOp.cmpi .slt (BitVec.ofNat 32 e.val - 4096#32) 640#32)
      = if 4096 ≤ e.val ∧ e.val < 4736 then 1#1 else 0#1 := by decide +kernel

/-- The words that say whether a query reaches a key. -/
theorem near_word (p k : Fin 4096) :
    IntOp.andi (IntOp.cmpi .sge (reach p.val k.val) 0#32) (IntOp.cmpi .slt (reach p.val k.val) 640#32)
      = if near p.val k.val then 1#1 else 0#1 := by
  refine (bounds_word ⟨k.val + 4608 - 128 * (p.val / 128), by omega⟩).trans ?_
  refine if_congr ?_ rfl rfl
  unfold near
  show 4096 ≤ k.val + 4608 - 128 * (p.val / 128) ∧ k.val + 4608 - 128 * (p.val / 128) < 4736 ↔ _
  omega

/-- The words that hold a place between its bounds. -/
theorem clamp_word : ∀ e : Fin 8704,
    min (Scalar.select (IntOp.cmpi .slt (IntOp.minsi 639#32 (IntOp.maxsi 0#32 (BitVec.ofNat 32 e.val - 4096#32))) 0#32)
      (IntOp.addi (IntOp.minsi 639#32 (IntOp.maxsi 0#32 (BitVec.ofNat 32 e.val - 4096#32))) 640#32)
      (IntOp.minsi 639#32 (IntOp.maxsi 0#32 (BitVec.ofNat 32 e.val - 4096#32)))).toInt.toNat 639
      = min (e.val - 4096) 639 := by decide +kernel

/-- The words that look up the bias's column. -/
theorem slot_word (p k : Fin 4096) :
    min (Scalar.select (IntOp.cmpi .slt (IntOp.minsi 639#32 (IntOp.maxsi 0#32 (reach p.val k.val))) 0#32)
      (IntOp.addi (IntOp.minsi 639#32 (IntOp.maxsi 0#32 (reach p.val k.val))) 640#32)
      (IntOp.minsi 639#32 (IntOp.maxsi 0#32 (reach p.val k.val)))).toInt.toNat 639
      = (slot p.val k.val).val := by
  refine (clamp_word ⟨k.val + 4608 - 128 * (p.val / 128), by omega⟩).trans ?_
  show min (k.val + 4608 - 128 * (p.val / 128) - 4096) 639 = min (k.val + 512 - 128 * (p.val / 128)) 639
  omega

/-- The words that look up the bias's row. -/
theorem place_word : ∀ r : Fin 128,
    min (Scalar.select (IntOp.cmpi .slt (BitVec.ofNat 32 r.val) 0#32) (IntOp.addi (BitVec.ofNat 32 r.val) 128#32) (BitVec.ofNat 32 r.val)).toInt.toNat 127
      = r.val := by decide +kernel

/-- The score of a query and a key of one batch and head: their scaled product and the bias, where the query reaches the key. -/
def score (x : (⟨2, ![16384, 1536]⟩ : Shape).Idx → EReal) (bias : (⟨3, ![8, 128, 640]⟩ : Shape).Idx → EReal) (b : Fin 4) (h : Fin 8) (p k : Fin 4096) : EReal :=
  if near p.val k.val then
    (∑ d : Fin 64, x (ix2 ⟨b.val * 4096 + p.val, by omega⟩ ⟨h.val * 64 + d.val, by omega⟩)
      * x (ix2 ⟨b.val * 4096 + k.val, by omega⟩ ⟨512 + (h.val * 64 + d.val), by omega⟩)) * Ideal.ofBits .f32 0x3E000000#32
      + bias (ix3 h (place p.val) (slot p.val k.val))
  else ⊥

/-- The value of a key at one lane of a head. -/
def value (x : (⟨2, ![16384, 1536]⟩ : Shape).Idx → EReal) (b : Fin 4) (h : Fin 8) (d : Fin 64) (k : Fin 4096) : EReal :=
  x (ix2 ⟨b.val * 4096 + k.val, by omega⟩ ⟨1024 + (h.val * 64 + d.val), by omega⟩)

/-- The attention's output at one row and column: the softmax average of the values over all keys. -/
def seen (x : (⟨2, ![16384, 1536]⟩ : Shape).Idx → EReal) (bias : (⟨3, ![8, 128, 640]⟩ : Shape).Idx → EReal) (b : Fin 4) (h : Fin 8) (p : Fin 4096) (d : Fin 64) : EReal :=
  Softmax.attend Finset.univ (score x bias b h p) (value x b h d)

end Cert.Window
-- ==== Proof.HostMax.lean ====
/-
  A host maximum reduction along the last of four axes, read at an entry, for any extents.
-/
module

public import Idealize.ShloMosaic.Lib.Pipeline.ValueKit
public import Idealize.ShloMosaic.Lib.Pointwise
public import proofs.«01_k».proof.Proof.Softmax

@[expose] public section

noncomputable section

open Idealize.ShloMosaic

namespace Cert.Softmax

/-- A fold of the maximum from the bottom is the largest score. -/
theorem fold_max {ι : Type} (S : Finset ι) (s : ι → EReal) (b : EReal) (hb : b = ⊥) : S.fold max b s = top S s := by
  subst hb; rfl

/-- The maximum along the last of four axes. -/
theorem reduce_max {n0 n1 n2 n3 : ℕ} {u : Shape} (hr : (⟨4, ![n0, n1, n2, n3]⟩ : Shape).ReducesTo [3] ⟨3, ![n0, n1, n2]⟩)
    (x : FVec Ideal (⟨4, ![n0, n1, n2, n3]⟩ : Shape) .f32) (init : FVec Ideal u .f32) (hu : 0 < u.numel) (hb : init (Shape.Idx.first hu) = (⊥ : EReal))
    (i : Fin n0) (j : Fin n1) (k : Fin n2) :
    Host.reduce FloatOps.maximumf x init hr hu (ix3 i j k) = top Finset.univ fun l : Fin n3 => (x (ix4 i j k l) : EReal) := by
  refine Eq.trans ?_ (fold_max Finset.univ _ _ hb)
  pointwise

end Cert.Softmax
end
-- ==== Proof.ChunkTile.lean ====
module

public import Idealize.ShloMosaic.Lib.Pipeline.ValueKit
public import Idealize.ShloMosaic.Lib.Pipeline.ReadBack
public import Idealize.ShloMosaic.Lib.Pointwise
public import proofs.«01_k».proof.Proof.Window
public import proofs.«01_k».proof.Proof.HostMax
public import proofs.«01_k».proof.Proof.Gen.ChunkIdeal.Value

@[expose] public section

set_option maxRecDepth 16384

noncomputable section

open Idealize.ShloMosaic Idealize.ShloMosaic.TcCoe Idealize.SL.Sem
open Idealize.ShloMosaic.Pipeline (Dat)

namespace Cert.ChunkIdeal.Whole

open Cert.ChunkIdeal Cert.ChunkIdeal.Gen

/-- The scores of one half: the products of the queries and the keys and the bias, within the sequence. -/
def scores (i : grid0.Coords) (M : IVec S128x128 1) (q : Vec Ideal S128x128 .bf16) (k : Vec Ideal S640x128 .bf16) (b : Vec Ideal S1x128x640 .f32) : FVec Ideal S128x640 .f32 :=
  select (k0_pay8 i) (addf (matmul (φ₂ := .bf16) dot_S128x128_S640x128_S128x640_1_1_0_0_n_n none
      (truncf .bf16 (select M (mulf (extf .f32 q bitsLt_bf16_f32) (broadcast S128x128 (Scalar.ofBits .f32 0x3E000000#32))) (broadcast S128x128 (Scalar.ofBits .f32 0x00000000#32))) bitsLt_bf16_f32 : FVec Ideal S128x128 .bf16) k
      (constant S128x640 .f32 0x00000000#32)) (shapeCast S128x640 b shapeCasts_S1x128x640_S128x640))
    (broadcast S128x640 (Named.named κ "masked" 0xF149F2CA#32))

/-- The weights of one half: the exponentials of the scores, each less its row's largest. -/
def weights (S : FVec Ideal S128x640 .f32) : FVec Ideal S128x640 .f32 :=
  exp (subf S (broadcastTo S128x640 (shapeCast S128x1 (multiReduction .maximumf [1] S128 S 0xFF800000#32 reduces_S128x640_S128 (.inl rfl) rfl) shapeCasts_S128_S128x1) broadcasts_S128x1_S128x640))

/-- The output of one half: the weighted sum of the values over the sum of the weights. -/
def half (S : FVec Ideal S128x640 .f32) (v : Vec Ideal S640x128 .bf16) : FVec Ideal S128x128 .f32 :=
  divf (matmul (φ₂ := .bf16) dot_S128x640_S640x128_S128x128_1_0_0_1_n_n none (truncf .bf16 (weights S) bitsLt_bf16_f32 : FVec Ideal S128x640 .bf16) v (constant S128x128 .f32 0x00000000#32))
    (broadcastTo S128x128 (shapeCast S128x1 (multiReduction .add [1] S128 (weights S) 0x00000000#32 reduces_S128x640_S128 (.inl rfl) rfl) shapeCasts_S128_S128x1) broadcasts_S128x1_S128x128)

/-- The output of a pair of heads, whose lanes lie side by side. -/
def tile (i : grid0.Coords) (q : Vec Ideal S128x128 .bf16) (k v : Vec Ideal S640x128 .bf16) (b0 b1 : Vec Ideal S1x128x640 .f32) : FVec Ideal S128x128 .bf16 :=
  truncf .bf16 (select k0_pay6 (half (scores i k0_pay6 q k b0) v) (half (scores i k0_pay7 q k b1) v)) bitsLt_bf16_f32

/-- The first pair's output is a tile. -/
theorem tile_0 (i : grid0.Coords) (q : Vec Ideal S128x128 .bf16) (k v : Vec Ideal S640x128 .bf16) (b0 b1 : Vec Ideal S1x128x640 .f32) :
    k0_pay12 k0_pay6 (k0_pay8 i) (k0_pay10 q) k v (k0_pay11 i q k b0) b1 = tile i q k v b0 b1 := rfl

/-- The second pair's output is a tile. -/
theorem tile_1 (i : grid0.Coords) (q : Vec Ideal S128x128 .bf16) (k v : Vec Ideal S640x128 .bf16) (b0 b1 : Vec Ideal S1x128x640 .f32) :
    k0_pay16 k0_pay6 (k0_pay8 i) (k0_pay14 k0_pay6 q) (k0_pay15 k0_pay7 q) k v b0 b1 = tile i q k v b0 b1 := rfl

/-- The third pair's output is a tile. -/
theorem tile_2 (i : grid0.Coords) (q : Vec Ideal S128x128 .bf16) (k v : Vec Ideal S640x128 .bf16) (b0 b1 : Vec Ideal S1x128x640 .f32) :
    k0_pay21 k0_pay6 v (k0_pay19 k0_pay6 (k0_pay8 i) (k0_pay17 q) k v b0) (k0_pay20 k0_pay7 (k0_pay8 i) (k0_pay17 q) k b1) = tile i q k v b0 b1 := rfl

/-- The fourth pair's output is a tile. -/
theorem tile_3 (i : grid0.Coords) (q : Vec Ideal S128x128 .bf16) (k v : Vec Ideal S640x128 .bf16) (b0 b1 : Vec Ideal S1x128x640 .f32) :
    k0_pay1 k0_pay6 (k0_pay8 i) (k0_pay23 k0_pay7 q) k v (k0_pay24 k0_pay6 (k0_pay8 i) q k v b0) (constant S128x640 .f32 0x00000000#32) b1 = tile i q k v b0 b1 := rfl

/-- A row's largest score, read at its row. -/
theorem row_top (S : FVec Ideal S128x640 .f32) (a : Fin 128) (w : Fin 640) :
    broadcastTo S128x640 (shapeCast S128x1 (multiReduction .maximumf [1] S128 S 0xFF800000#32 reduces_S128x640_S128 (.inl rfl) rfl) shapeCasts_S128_S128x1) broadcasts_S128x1_S128x640 (ix2 a w)
      = Cert.Softmax.top Finset.univ fun j : Fin 640 => S (ix2 a j) := by
  have hb : Ideal.ofBits .f32 0xFF800000#32 = (⊥ : EReal) := by simp [Ideal.ofBits, Ideal.ieee]
  pointwise
  exact Cert.Softmax.fold_max _ _ _ hb

/-- A weight, read at its place. -/
theorem weight_at (S : FVec Ideal S128x640 .f32) (a : Fin 128) (w : Fin 640) :
    weights S (ix2 a w) = Ideal.exp (S (ix2 a w) - Cert.Softmax.top Finset.univ fun j : Fin 640 => S (ix2 a j)) :=
  congrArg (fun y => Ideal.exp (S (ix2 a w) - y)) (row_top S a w)

/-- The output of one half is the softmax average of the values, as one quotient. -/
theorem half_at (S : FVec Ideal S128x640 .f32) (v : Vec Ideal S640x128 .bf16) (a d : Fin 128) :
    half S v (ix2 a d) = Cert.Softmax.quot Finset.univ (fun w => S (ix2 a w)) (fun w => v (ix2 w d)) := by
  have h : half S v (ix2 a d) = Ideal.div (∑ w : Fin 640, weights S (ix2 a w) * v (ix2 w d)) (∑ w : Fin 640, weights S (ix2 a w)) := by
    unfold half
    pointwise
  rw [h]
  refine congrArg₂ Ideal.div (Finset.sum_congr rfl fun w _ => ?_) (Finset.sum_congr rfl fun w _ => weight_at S a w)
  rw [weight_at]

/-- A score, read at its place. -/
theorem score_at (i : grid0.Coords) (M : IVec S128x128 1) (q : Vec Ideal S128x128 .bf16) (k : Vec Ideal S640x128 .bf16) (b : Vec Ideal S1x128x640 .f32) (a : Fin 128) (w : Fin 640) :
    scores i M q k b (ix2 a w) = Scalar.select (k0_pay8 i (ix2 a w))
      ((∑ l : Fin 128, Scalar.select (M (ix2 a l)) (q (ix2 a l) * Ideal.ofBits .f32 0x3E000000#32) 0 * k (ix2 w l)) + b (ix3 0 a w)) ⊥ := by
  unfold scores
  pointwise
  rfl

/-- A pair's output at a lane is the half that the lane lies in. -/
theorem tile_at (i : grid0.Coords) (q : Vec Ideal S128x128 .bf16) (k v : Vec Ideal S640x128 .bf16) (b0 b1 : Vec Ideal S1x128x640 .f32) (a d : Fin 128) :
    tile i q k v b0 b1 (ix2 a d) = if d.val < 64 then half (scores i k0_pay6 q k b0) v (ix2 a d) else half (scores i k0_pay7 q k b1) v (ix2 a d) := by
  have h : ∀ d : Fin 128, k0_pay6 (ix2 a d) = if d.val < 64 then 1#1 else 0#1 := fun d => by
    unfold k0_pay6
    pointwise
    revert d
    decide +kernel
  have e : tile i q k v b0 b1 (ix2 a d) = Scalar.select (k0_pay6 (ix2 a d)) (half (scores i k0_pay6 q k b0) v (ix2 a d)) (half (scores i k0_pay7 q k b1) v (ix2 a d)) := rfl
  rw [e, h]
  split <;> rfl

/-- The mask of the lanes of the first head of a pair. -/
theorem lo_at (a d : Fin 128) : k0_pay6 (ix2 a d) = if d.val < 64 then 1#1 else 0#1 := by
  unfold k0_pay6
  pointwise
  revert d
  decide +kernel

/-- The mask of the lanes of the second head of a pair. -/
theorem hi_at (a d : Fin 128) : k0_pay7 (ix2 a d) = if 64 ≤ d.val then 1#1 else 0#1 := by
  unfold k0_pay7 k0_pay6
  pointwise
  revert d
  decide +kernel

/-- The window's columns within the sequence. -/
theorem inside_at (i : grid0.Coords) (a : Fin 128) (w : Fin 640) : k0_pay8 i (ix2 a w) = if 512 ≤ 128 * (i 1).val + w.val then 1#1 else 0#1 := by
  unfold k0_pay8
  pointwise
  generalize i 1 = q
  revert q w
  decide +kernel

end Cert.ChunkIdeal.Whole

end
-- ==== Proof.Numbers.lean ====
module

public import proofs.«01_k».proof.Defs
public import Idealize.ShloMosaic.Lib.Pointwise
public import Idealize.ShloMosaic.Lib.ReduceAll

@[expose] public section

noncomputable section

open Idealize.ShloMosaic

namespace Cert.Numbers

/-- The comparison that a precondition makes of an entry says that the entry is a number. -/
theorem number {s u : Shape} (x : FVec Ideal s .f32) (f : Fin u.rank → Fin s.rank) (h : u.BroadcastsInDim s f) (i : s.Idx)
    (e : cmpf .olt (Host.absf x) (broadcastInDim s f h (constant u .f32 0x7F800000#32 : FVec Ideal u .f32)) i = 1#1) :
    x i ≠ ⊤ ∧ x i ≠ ⊥ := by
  have ht : Ideal.ofBits .f32 0x7F800000#32 = (⊤ : EReal) := by simp [Ideal.ofBits, Ideal.ieee]
  have e' : Ideal.cmp .olt (max (x i) (-x i) : EReal) (Ideal.ofBits .f32 0x7F800000#32) = 1#1 := e
  rw [ht] at e'
  constructor
  · intro hx
    rw [hx] at e'
    simp [Ideal.cmp] at e'
  · intro hx
    rw [hx] at e'
    simp [Ideal.cmp] at e'

/-- Both of two answers are yes if their conjunction is. -/
theorem both (a b : BitVec 1) (h : IntOp.andi a b = 1#1) : a = 1#1 ∧ b = 1#1 := by
  revert a b
  decide

/-- A sum of products of numbers is a number. -/
theorem sum_number (n : ℕ) (f g : Fin n → EReal) (hf : ∀ i, f i ≠ ⊤ ∧ f i ≠ ⊥) (hg : ∀ i, g i ≠ ⊤ ∧ g i ≠ ⊥) :
    ∃ r : ℝ, ∑ i, f i * g i = (r : EReal) := by
  choose f' hf' using fun i => (⟨(f i).toReal, (EReal.coe_toReal (hf i).1 (hf i).2).symm⟩ : ∃ r : ℝ, f i = (r : EReal))
  choose g' hg' using fun i => (⟨(g i).toReal, (EReal.coe_toReal (hg i).1 (hg i).2).symm⟩ : ∃ r : ℝ, g i = (r : EReal))
  refine ⟨∑ i, f' i * g' i, ?_⟩
  rw [Finset.sum_congr rfl fun i _ => by rw [hf' i, hg' i, ← EReal.coe_mul]]
  exact (map_sum (⟨⟨((↑) : ℝ → EReal), EReal.coe_zero⟩, EReal.coe_add⟩ : ℝ →+ EReal) _ _).symm

end Cert.Numbers

end
-- ==== Proof.ChunkHead.lean ====
module

public import proofs.«01_k».proof.Defs
public import proofs.«01_k».proof.Proof.Gen.ChunkIdeal.Value
public import proofs.«01_k».proof.Proof.ChunkTile
public import proofs.«01_k».proof.Proof.Window
public import proofs.«01_k».proof.Proof.Numbers
public import proofs.«01_k».proof.Proof.Softmax
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ChunkIdeal.Whole

open Cert.ChunkIdeal Cert.ChunkIdeal.Gen

/-- A batch's keys or values below 512 rows of zeros. -/
def padded (x : (⟨2, ![16384, 1536]⟩ : Shape).Idx → EReal) (b base : ℕ) (i : (⟨2, ![4608, 512]⟩ : Shape).Idx) : EReal :=
  if h : b < 4 ∧ base ≤ 1024 ∧ 512 ≤ (i 0).val then
    x (ix2 ⟨4096 * b + ((i 0).val - 512), by have := (i 0).isLt; change (i 0).val < 4608 at this; omega⟩ ⟨base + (i 1).val, by have := (i 1).isLt; change (i 1).val < 512 at this; omega⟩)
  else 0

/-- Below the zeros the rows are the batch's. -/
theorem padded_pos (x : (⟨2, ![16384, 1536]⟩ : Shape).Idx → EReal) (b base : ℕ) (r : Fin 4608) (c : Fin 512) (R : Fin 16384) (C : Fin 1536)
    (hb : b < 4) (hs : base ≤ 1024) (hr : 512 ≤ r.val) (hR : R.val = b * 4096 + (r.val - 512)) (hC : C.val = base + c.val) :
    padded x b base (ix2 r c) = x (ix2 R C) := by
  refine (dif_pos ⟨hb, hs, hr⟩).trans ?_
  congr 2
  · exact Fin.ext (by show 4096 * b + (r.val - 512) = R.val; omega)
  · exact Fin.ext (by show base + c.val = C.val; omega)

/-- The zeros' rows. -/
theorem padded_neg (x : (⟨2, ![16384, 1536]⟩ : Shape).Idx → EReal) (b base : ℕ) (r : Fin 4608) (c : Fin 512) (hr : ¬ 512 ≤ r.val) :
    padded x b base (ix2 r c) = 0 := dif_neg fun h => hr h.2.2

/-- A sum over a pair's lanes with the other head's masked is the sum over the head's lanes. -/
theorem lanes (e : Fin 2) (f : Fin 128 → EReal) (M : Fin 128 → BitVec 1) (g : Fin 128 → EReal)
    (hM : ∀ l, M l = if l.val / 64 = e.val then 1#1 else 0#1) :
    (∑ l : Fin 128, Scalar.select (M l) (f l) 0 * g l) = ∑ d : Fin 64, f ⟨64 * e.val + d.val, by omega⟩ * g ⟨64 * e.val + d.val, by omega⟩ := by
  have hs : ∀ l, (Scalar.select (M l) (f l) 0 : EReal) * g l = if l.val / 64 = e.val then f l * g l else 0 := fun l => by
    rw [hM]
    split
    · rfl
    · exact zero_mul _
  rw [Finset.sum_congr rfl fun l _ => hs l, ← Finset.sum_filter]
  refine Finset.sum_bij' (fun l _ => ⟨l.val % 64, by omega⟩) (fun d _ => ⟨64 * e.val + d.val, by omega⟩) ?_ ?_ ?_ ?_ ?_
  · exact fun _ _ => Finset.mem_univ _
  · exact fun d _ => Finset.mem_filter.mpr ⟨Finset.mem_univ _, by show (64 * e.val + d.val) / 64 = e.val; omega⟩
  · intro l hl
    have := (Finset.mem_filter.mp hl).2
    exact Fin.ext (by show 64 * e.val + l.val % 64 = l.val; omega)
  · exact fun d _ => Fin.ext (by show (64 * e.val + d.val) % 64 = d.val; omega)
  · intro l hl
    have := (Finset.mem_filter.mp hl).2
    have hq : (⟨64 * e.val + l.val % 64, by omega⟩ : Fin 128) = l := Fin.ext (by show 64 * e.val + l.val % 64 = l.val; omega)
    rw [hq]

/-- The scale, one eighth, is a number. -/
theorem eighth : Ideal.ofBits .f32 0x3E000000#32 = ((1 / 8 : ℝ) : EReal) := by
  simp [Ideal.ofBits, Ideal.ieee]
  rw [← EReal.coe_mul]
  norm_num

/-- The head's scaled product: the scale of each factor moved out of the sum. -/
theorem product (q k : Fin 64 → EReal) :
    (∑ d : Fin 64, q d * Ideal.ofBits .f32 0x3E000000#32 * k d) = (∑ d : Fin 64, q d * k d) * Ideal.ofBits .f32 0x3E000000#32 := by
  have h0 : 0 ≤ Ideal.ofBits .f32 0x3E000000#32 := by rw [eighth]; exact_mod_cast (by norm_num : (0 : ℝ) ≤ 1 / 8)
  have ht : Ideal.ofBits .f32 0x3E000000#32 ≠ ⊤ := by rw [eighth]; exact EReal.coe_ne_top _
  rw [mul_comm, Cert.Softmax.mul_sum h0 ht]
  exact Finset.sum_congr rfl fun d _ => by rw [mul_right_comm, mul_comm]

variable (x : (⟨2, ![16384, 1536]⟩ : Shape).Idx → EReal) (bias : (⟨3, ![8, 128, 640]⟩ : Shape).Idx → EReal)

/-- The queries and keys and the bias are numbers. -/
def Finite : Prop :=
  (∀ (r : Fin 16384) (j : Fin 1024), x (ix2 r ⟨j.val, by omega⟩) ≠ ⊤ ∧ x (ix2 r ⟨j.val, by omega⟩) ≠ ⊥)
  ∧ ∀ (h : Fin 8) (a : Fin 128) (w : Fin 640), bias (ix3 h a w) ≠ ⊤ ∧ bias (ix3 h a w) ≠ ⊥

variable {x bias}

/-- A key in reach has a score that is a number. -/
theorem score_number (hfin : Finite x bias) (b : Fin 4) (h : Fin 8) (p k : Fin 4096) (hn : Cert.Window.near p.val k.val) :
    ∃ r : ℝ, Cert.Window.score x bias b h p k = (r : EReal) := by
  unfold Cert.Window.score
  rw [if_pos hn]
  obtain ⟨s, hs⟩ := Cert.Numbers.sum_number 64 (fun d => x (ix2 ⟨b.val * 4096 + p.val, by omega⟩ ⟨h.val * 64 + d.val, by omega⟩))
    (fun d => x (ix2 ⟨b.val * 4096 + k.val, by omega⟩ ⟨512 + (h.val * 64 + d.val), by omega⟩))
    (fun d => hfin.1 ⟨b.val * 4096 + p.val, by omega⟩ ⟨h.val * 64 + d.val, by omega⟩)
    (fun d => hfin.1 ⟨b.val * 4096 + k.val, by omega⟩ ⟨512 + (h.val * 64 + d.val), by omega⟩)
  obtain ⟨ht, hb⟩ := hfin.2 h (Cert.Window.place p.val) (Cert.Window.slot p.val k.val)
  refine ⟨s * (1 / 8) + (bias (ix3 h (Cert.Window.place p.val) (Cert.Window.slot p.val k.val))).toReal, ?_⟩
  rw [hs, eighth, EReal.coe_add, EReal.coe_mul, EReal.coe_toReal ht hb]

/-- A head's output over the window is its output over all keys. -/
theorem head_seen (hfin : Finite x bias) (b : Fin 4) (h : Fin 8) (qi : Fin 32) (a : Fin 128) (d : Fin 64)
    (s v : Fin 640 → EReal)
    (hs : ∀ w : Fin 640, s w = if hw : 512 ≤ 128 * qi.val + w.val then Cert.Window.score x bias b h ⟨128 * qi.val + a.val, by omega⟩ ⟨128 * qi.val + w.val - 512, by omega⟩ else ⊥)
    (hv : ∀ w : Fin 640, v w = if hw : 512 ≤ 128 * qi.val + w.val then Cert.Window.value x b h d ⟨128 * qi.val + w.val - 512, by omega⟩ else 0) :
    Cert.Softmax.quot Finset.univ s v = Cert.Window.seen x bias b h ⟨128 * qi.val + a.val, by omega⟩ d := by
  have hp : (128 * qi.val + a.val) / 128 = qi.val := by omega
  have h1 : Cert.Softmax.quot Finset.univ s v
      = Cert.Softmax.quot Finset.univ (fun j : Fin 4608 => if hw : 512 ≤ j.val then Cert.Window.score x bias b h ⟨128 * qi.val + a.val, by omega⟩ ⟨j.val - 512, by omega⟩ else ⊥)
        (fun j : Fin 4608 => if hw : 512 ≤ j.val then Cert.Window.value x b h d ⟨j.val - 512, by omega⟩ else 0) := by
    rw [Cert.Softmax.quot_embed (⟨fun w : Fin 640 => ⟨128 * qi.val + w.val, by omega⟩, fun w w' e => Fin.ext (by have := congrArg Fin.val e; simp only at this; omega)⟩ : Fin 640 ↪ Fin 4608)]
    · exact Cert.Softmax.quot_congr (fun w _ => hs w) (fun w _ => hv w)
    · intro j hj
      split
      · unfold Cert.Window.score Cert.Window.near
        refine if_neg fun hn => ?_
        simp only [hp] at hn
        exact hj ⟨j.val - 128 * qi.val, by omega⟩ (Fin.ext (by show 128 * qi.val + (j.val - 128 * qi.val) = j.val; omega))
      · rfl
  rw [h1, Cert.Softmax.quot_embed (⟨fun k : Fin 4096 => ⟨k.val + 512, by omega⟩, fun w w' e => Fin.ext (by have := congrArg Fin.val e; simp only at this; omega)⟩ : Fin 4096 ↪ Fin 4608)]
  · unfold Cert.Window.seen
    rw [Cert.Softmax.attend_eq_quot]
    · refine Cert.Softmax.quot_congr (fun k _ => ?_) (fun k _ => ?_)
      · exact (dif_pos (show 512 ≤ k.val + 512 by omega)).trans (congrArg _ (Fin.ext (by show k.val + 512 - 512 = k.val; omega)))
      · exact (dif_pos (show 512 ≤ k.val + 512 by omega)).trans (congrArg _ (Fin.ext (by show k.val + 512 - 512 = k.val; omega)))
    · intro k _
      by_cases hn : Cert.Window.near (128 * qi.val + a.val) k.val
      · obtain ⟨r, hr⟩ := score_number hfin b h ⟨128 * qi.val + a.val, by omega⟩ k hn
        rw [hr]; exact EReal.coe_ne_top _
      · unfold Cert.Window.score
        rw [if_neg hn]; exact bot_ne_top
    · refine ⟨⟨128 * qi.val + a.val, by omega⟩, Finset.mem_univ _, ?_⟩
      obtain ⟨r, hr⟩ := score_number hfin b h ⟨128 * qi.val + a.val, by omega⟩ ⟨128 * qi.val + a.val, by omega⟩
        (by unfold Cert.Window.near; show 128 * ((128 * qi.val + a.val) / 128) ≤ 128 * qi.val + a.val + 512 ∧ 128 * qi.val + a.val + 512 < 128 * ((128 * qi.val + a.val) / 128) + 640; omega)
      rw [hr]; exact EReal.coe_ne_bot _
  · intro j hj
    refine dif_neg fun hw => ?_
    exact hj ⟨j.val - 512, by omega⟩ (Fin.ext (by show j.val - 512 + 512 = j.val; omega))

/-- One half of a tile at a head's lane is the head's output over all keys. -/
theorem half_seen (hfin : Finite x bias) (b : Fin 4) (qi : Fin 32) (p : Fin 4) (e : Fin 2) (i : grid0.Coords) (hi : (i 1).val = qi.val)
    (M : IVec S128x128 1) (q : Vec Ideal S128x128 .bf16) (k v : Vec Ideal S640x128 .bf16) (bb : Vec Ideal S1x128x640 .f32)
    (hM : ∀ a l : Fin 128, M (ix2 a l) = if l.val / 64 = e.val then 1#1 else 0#1)
    (hq : ∀ a l : Fin 128, q (ix2 a l) = x (ix2 ⟨b.val * 4096 + (128 * qi.val + a.val), by omega⟩ ⟨128 * p.val + l.val, by omega⟩))
    (hk : ∀ (w : Fin 640) (l : Fin 128), k (ix2 w l) = padded x b.val 512 (ix2 ⟨128 * qi.val + w.val, by omega⟩ ⟨128 * p.val + l.val, by omega⟩))
    (hv : ∀ (w : Fin 640) (l : Fin 128), v (ix2 w l) = padded x b.val 1024 (ix2 ⟨128 * qi.val + w.val, by omega⟩ ⟨128 * p.val + l.val, by omega⟩))
    (hb : ∀ (a : Fin 128) (w : Fin 640), bb (ix3 0 a w) = bias (ix3 ⟨2 * p.val + e.val, by omega⟩ a w))
    (a d : Fin 128) (hd : d.val / 64 = e.val) :
    half (scores i M q k bb) v (ix2 a d) = Cert.Window.seen x bias b ⟨2 * p.val + e.val, by omega⟩ ⟨128 * qi.val + a.val, by omega⟩ ⟨d.val % 64, by omega⟩ := by
  rw [half_at]
  refine head_seen hfin b _ qi a _ _ _ (fun w => ?_) (fun w => ?_)
  · rw [score_at, inside_at, hi]
    by_cases hw : 512 ≤ 128 * qi.val + w.val
    · rw [dif_pos hw, if_pos hw]
      rw [hb, lanes e _ (fun l => M (ix2 a l)) _ (hM a), product]
      refine (show Scalar.select (1#1) _ _ = _ from rfl).trans ?_
      unfold Cert.Window.score
      rw [if_pos (by unfold Cert.Window.near; show 128 * ((128 * qi.val + a.val) / 128) ≤ 128 * qi.val + w.val - 512 + 512 ∧ 128 * qi.val + w.val - 512 + 512 < 128 * ((128 * qi.val + a.val) / 128) + 640; omega)]
      refine congrArg₂ (· + ·) (congrArg (· * _) (Finset.sum_congr rfl fun d' _ => congrArg₂ (· * ·) ?_ ?_)) ?_
      · rw [hq]
        congr 2
        · exact Fin.ext (by show 128 * p.val + (64 * e.val + d'.val) = (2 * p.val + e.val) * 64 + d'.val; omega)
      · rw [hk]
        exact padded_pos x _ _ _ _ _ _ b.isLt (by omega) hw rfl (by show 512 + ((2 * p.val + e.val) * 64 + d'.val) = 512 + (128 * p.val + (64 * e.val + d'.val)); omega)
      · congr 2
        · exact Fin.ext (by show a.val = (128 * qi.val + a.val) % 128; omega)
        · exact Fin.ext (by show w.val = min (128 * qi.val + w.val - 512 + 512 - 128 * ((128 * qi.val + a.val) / 128)) 639; omega)
    · rw [dif_neg hw, if_neg hw]
      rfl
  · rw [hv]
    by_cases hw : 512 ≤ 128 * qi.val + w.val
    · rw [dif_pos hw]
      exact padded_pos x _ _ _ _ _ _ b.isLt (by omega) hw rfl (by show 1024 + ((2 * p.val + e.val) * 64 + d.val % 64) = 1024 + (128 * p.val + d.val); omega)
    · rw [dif_neg hw]
      exact padded_neg x _ _ _ _ hw

/-- A tile is its two heads' outputs over all keys, side by side. -/
theorem tile_seen (hfin : Finite x bias) (b : Fin 4) (qi : Fin 32) (p : Fin 4) (i : grid0.Coords) (hi : (i 1).val = qi.val)
    (q : Vec Ideal S128x128 .bf16) (k v : Vec Ideal S640x128 .bf16) (b0 b1 : Vec Ideal S1x128x640 .f32)
    (hq : ∀ a l : Fin 128, q (ix2 a l) = x (ix2 ⟨b.val * 4096 + (128 * qi.val + a.val), by omega⟩ ⟨128 * p.val + l.val, by omega⟩))
    (hk : ∀ (w : Fin 640) (l : Fin 128), k (ix2 w l) = padded x b.val 512 (ix2 ⟨128 * qi.val + w.val, by omega⟩ ⟨128 * p.val + l.val, by omega⟩))
    (hv : ∀ (w : Fin 640) (l : Fin 128), v (ix2 w l) = padded x b.val 1024 (ix2 ⟨128 * qi.val + w.val, by omega⟩ ⟨128 * p.val + l.val, by omega⟩))
    (hb0 : ∀ (a : Fin 128) (w : Fin 640), b0 (ix3 0 a w) = bias (ix3 ⟨2 * p.val, by omega⟩ a w))
    (hb1 : ∀ (a : Fin 128) (w : Fin 640), b1 (ix3 0 a w) = bias (ix3 ⟨2 * p.val + 1, by omega⟩ a w))
    (a d : Fin 128) :
    tile i q k v b0 b1 (ix2 a d) = Cert.Window.seen x bias b ⟨(128 * p.val + d.val) / 64, by omega⟩ ⟨128 * qi.val + a.val, by omega⟩ ⟨(128 * p.val + d.val) % 64, by omega⟩ := by
  rw [tile_at]
  have hm : (⟨(128 * p.val + d.val) % 64, by omega⟩ : Fin 64) = ⟨d.val % 64, by omega⟩ := Fin.ext (by show (128 * p.val + d.val) % 64 = d.val % 64; omega)
  rw [hm]
  split
  · next hd =>
    refine (half_seen hfin b qi p 0 i hi k0_pay6 q k v b0 (fun a l => (lo_at a l).trans (if_congr (by show l.val < 64 ↔ l.val / 64 = 0; omega) rfl rfl)) hq hk hv hb0 a d (by show d.val / 64 = 0; omega)).trans ?_
    congr 1
    exact Fin.ext (by show 2 * p.val + 0 = (128 * p.val + d.val) / 64; omega)
  · next hd =>
    refine (half_seen hfin b qi p 1 i hi k0_pay7 q k v b1 (fun a l => (hi_at a l).trans (if_congr (by show 64 ≤ l.val ↔ l.val / 64 = 1; omega) rfl rfl)) hq hk hv hb1 a d (by show d.val / 64 = 1; omega)).trans ?_
    congr 1
    exact Fin.ext (by show 2 * p.val + 1 = (128 * p.val + d.val) / 64; omega)

end Cert.ChunkIdeal.Whole

end
-- ==== Proof.Gather.lean ====
module

public import Idealize.ShloMosaic.Lib.Pointwise
public import Idealize.ShloMosaic.Lib.ValueIdxCore

@[expose] public section

noncomputable section

open Idealize.ShloMosaic

namespace Cert.Gather

variable {α : Type} {H A B R C w : Nat}

/-- The dimension numbers of a lookup in every one of `H` tables of `A` rows and `B` columns. -/
abbrev cells (H A B R C : Nat)
    (wf : GatherDims.WF ⟨3, ![H, A, B]⟩ ⟨3, ![R, C, 2]⟩ ⟨3, ![H, R, C]⟩ [0] [1, 2] [] [1, 2] [] 2 ![H, 1, 1]) :
    GatherDims ⟨3, ![H, A, B]⟩ ⟨3, ![R, C, 2]⟩ ⟨3, ![H, R, C]⟩ where
  offsetDims := [0]
  collapsedSliceDims := [1, 2]
  operandBatchingDims := []
  startIndicesBatchingDims := []
  startIndexMap := [1, 2]
  indexVectorDim := 2
  sliceSizes := ![H, 1, 1]
  wf := wf

/-- A lookup reads, at table `h` and place `(r, c)`, the entry that the place's two clamped indices name. -/
theorem cells_apply (hA : 0 < A) (hB : 0 < B)
    (wf : GatherDims.WF ⟨3, ![H, A, B]⟩ ⟨3, ![R, C, 2]⟩ ⟨3, ![H, R, C]⟩ [0] [1, 2] [] [1, 2] [] 2 ![H, 1, 1])
    (x : (⟨3, ![H, A, B]⟩ : Shape).Idx → α) (idx : IVec ⟨3, ![R, C, 2]⟩ w) (h : Fin H) (r : Fin R) (c : Fin C) :
    Host.gather (cells H A B R C wf) x idx (ix3 h r c)
      = x (ix3 h ⟨min (idx (ix3 r c 0)).toInt.toNat (A - 1), by omega⟩ ⟨min (idx (ix3 r c 1)).toInt.toNat (B - 1), by omega⟩) := by
  unfold Host.gather
  refine congrArg x (funext fun a => Fin.ext ?_)
  show (cells H A B R C wf).start (ix3 h r c) idx a + (cells H A B R C wf).batchCoord (ix3 h r c) a
      + (cells H A B R C wf).offCoord (ix3 h r c) a = _
  rw [GatherDims.batchCoord_eq_zero _ _ _ List.not_mem_nil]
  have h0 : (0 : Fin 3) ∉ (cells H A B R C wf).startIndexMap := by simp
  have h1 : (1 : Fin 3) ∈ (cells H A B R C wf).startIndexMap := by simp
  have h2 : (2 : Fin 3) ∈ (cells H A B R C wf).startIndexMap := by simp
  have s1 : (cells H A B R C wf).siIdx (ix3 h r c) ⟨List.idxOf (1 : Fin 3) (cells H A B R C wf).startIndexMap,
      List.idxOf_lt_length_iff.2 h1⟩ = ix3 r c 0 := by
    funext b
    refine Fin.ext ?_
    match b with
    | ⟨0, _⟩ => rfl
    | ⟨1, _⟩ => rfl
    | ⟨2, _⟩ => rfl
  have s2 : (cells H A B R C wf).siIdx (ix3 h r c) ⟨List.idxOf (2 : Fin 3) (cells H A B R C wf).startIndexMap,
      List.idxOf_lt_length_iff.2 h2⟩ = ix3 r c 1 := by
    funext b
    refine Fin.ext ?_
    match b with
    | ⟨0, _⟩ => rfl
    | ⟨1, _⟩ => rfl
    | ⟨2, _⟩ => rfl
  match a with
  | ⟨0, _⟩ =>
    unfold GatherDims.start
    erw [dif_neg h0]
    simp only [Nat.zero_add]
    rfl
  | ⟨1, _⟩ =>
    erw [GatherDims.offCoord_eq_zero _ _ _ (fun h => ((GatherDims.mem_sKept _ _).mp h).1 (by simp))]
    unfold GatherDims.start
    erw [dif_pos h1]
    simp only [Nat.add_zero]
    erw [s1]
    rfl
  | ⟨2, _⟩ =>
    erw [GatherDims.offCoord_eq_zero _ _ _ (fun h => ((GatherDims.mem_sKept _ _).mp h).1 (by simp))]
    unfold GatherDims.start
    erw [dif_pos h2]
    simp only [Nat.add_zero]
    erw [s2]
    rfl

end Cert.Gather
-- ==== Proof.ChunkRefSide.lean ====
module

public import Idealize.ShloMosaic.Lib.Pipeline.ValueKit
public import Idealize.ShloMosaic.Lib.Pipeline.ReadBack
public import Idealize.ShloMosaic.Lib.Pointwise
public import Idealize.ShloMosaic.Lib.Quiescent
public import proofs.«01_k».proof.Proof.HostMax
public import proofs.«01_k».proof.Proof.Gather
public import proofs.«01_k».proof.Proof.Window
public import proofs.«01_k».proof.Proof.Gen.ChunkRefIdeal.Run

@[expose] public section

set_option maxRecDepth 16384

noncomputable section

open Idealize.ShloMosaic Idealize.ShloMosaic.TcCoe Idealize.SL.Sem

namespace Cert.ChunkRefIdeal.Whole

open Cert.ChunkRefIdeal Cert.ChunkRefIdeal.Gen

/-- The largest score of a row, spread over the row, read at an entry. -/
theorem ref_spread (R : FVec Ideal S4x8x4096 .f32) (b : Fin 4) (h : Fin 8) (p k : Fin 4096) :
    broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) R)) (ix4 b h p k)
      = max (Ideal.ofBits .f32 0xFF800000#32) (R (ix3 b h p)) := by
  pointwise

/-- The largest score of a row, read at an entry. -/
theorem ref_max (S : FVec Ideal S4x8x4096x4096 .f32) (b : Fin 4) (h : Fin 8) (p k : Fin 4096) :
    broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (Host.reduce FloatOps.maximumf S (constant S_ .f32 0xFF800000#32) reducesTo_S4x8x4096x4096_S4x8x4096_d3 h_S_))) (ix4 b h p k)
      = Cert.Softmax.top Finset.univ fun i : Fin 4096 => S (ix4 b h p i) := by
  have hb : Ideal.ofBits .f32 0xFF800000#32 = (⊥ : EReal) := by simp [Ideal.ofBits, Ideal.ieee]
  rw [ref_spread, hb, max_eq_right bot_le]
  exact Cert.Softmax.reduce_max reducesTo_S4x8x4096x4096_S4x8x4096_d3 S _ h_S_ hb b h p

/-- The sum of a row's weights, read at an entry. -/
theorem ref_sum (E : FVec Ideal S4x8x4096x4096 .f32) (b : Fin 4) (h : Fin 8) (p k : Fin 4096) :
    broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd E (constant S_ .f32 0x00000000#32) reducesTo_S4x8x4096x4096_S4x8x4096_d3 h_S_)) (ix4 b h p k)
      = ∑ i : Fin 4096, E (ix4 b h p i) := by
  pointwise

/-- The weighted sum of the values, read at an entry. -/
theorem ref_avg (V : FVec Ideal S4x4096x8x64 .f32) (W : FVec Ideal S4x8x4096x4096 .f32) (b : Fin 4) (p : Fin 4096) (h : Fin 8) (d : Fin 64) :
    transpose S4x4096x8x64 [0, 3, 1, 2] (Host.dotGeneral dot_S4x4096x8x64_S4x8x4096x4096_S4x8x64x4096_1_3_3_2_02_01 none V W) transposes_S4x8x64x4096_S4x4096x8x64_0_3_1_2 (ix4 b p h d)
      = ∑ i : Fin 4096, V (ix4 b i h d) * W (ix4 b h p i) := by
  pointwise

/-- The result's rows, read at an entry. -/
theorem ref_flat (Y : FVec Ideal S4x4096x8x64 .f32) (r : Fin 16384) (d : Fin 512) :
    (truncf .bf16 (shapeCast S16384x512 Y shapeCasts_S4x4096x8x64_S16384x512) bitsLt_bf16_f32 : FVec Ideal S16384x512 .bf16) (ix2 r d)
      = Y (ix4 ⟨r.val / 4096, by omega⟩ ⟨r.val % 4096, by omega⟩ ⟨d.val / 64, by omega⟩ ⟨d.val % 64, by omega⟩) := by
  pointwise

/-- A head's part of the queries, read at an entry. -/
theorem ref_q (x : FVec Ideal S16384x1536 .bf16) (b : Fin 4) (p : Fin 4096) (h : Fin 8) (d : Fin 64) :
    (shapeCast S4x4096x8x64 (extractStridedSlice S4x4096x512 ![0, 0, 512] (shapeCast S4x4096x1536 (extf .f32 x bitsLt_bf16_f32) shapeCasts_S16384x1536_S4x4096x1536) slices_S4x4096x1536_S4x4096x512_0_0_512) shapeCasts_S4x4096x512_S4x4096x8x64 : FVec Ideal S4x4096x8x64 .f32) (ix4 b p h d)
      = x (ix2 ⟨b.val * 4096 + p.val, by omega⟩ ⟨512 + (h.val * 64 + d.val), by omega⟩) := by
  pointwise

/-- The scaled products, read at an entry. -/
theorem ref_qk (Q K : FVec Ideal S4x4096x8x64 .f32) (b : Fin 4) (h : Fin 8) (p k : Fin 4096) :
    mulf (Host.dotGeneral dot_S4x4096x8x64_S4x4096x8x64_S4x8x4096x4096_3_3_1_1_02_02 none Q K) (broadcastInDim S4x8x4096x4096 ![] bcast_S_S4x8x4096x4096 (constant S_ .f32 0x3E000000#32)) (ix4 b h p k)
      = (∑ d : Fin 64, Q (ix4 b p h d) * K (ix4 b k h d)) * Ideal.ofBits .f32 0x3E000000#32 := by
  pointwise

/-- A scaled product of a query and a key, read at an entry. -/
theorem ref_scaled (x : FVec Ideal S16384x1536 .bf16) (b : Fin 4) (h : Fin 8) (p k : Fin 4096) :
    (mulf (Host.dotGeneral dot_S4x4096x8x64_S4x4096x8x64_S4x8x4096x4096_3_3_1_1_02_02 none (shapeCast S4x4096x8x64 (extractStridedSlice S4x4096x512 ![0, 0, 0] (shapeCast S4x4096x1536 (extf .f32 x bitsLt_bf16_f32) shapeCasts_S16384x1536_S4x4096x1536) slices_S4x4096x1536_S4x4096x512_0_0_0) shapeCasts_S4x4096x512_S4x4096x8x64) (shapeCast S4x4096x8x64 (extractStridedSlice S4x4096x512 ![0, 0, 512] (shapeCast S4x4096x1536 (extf .f32 x bitsLt_bf16_f32) shapeCasts_S16384x1536_S4x4096x1536) slices_S4x4096x1536_S4x4096x512_0_0_512) shapeCasts_S4x4096x512_S4x4096x8x64)) (broadcastInDim S4x8x4096x4096 ![] bcast_S_S4x8x4096x4096 (constant S_ .f32 0x3E000000#32)) : FVec Ideal S4x8x4096x4096 .f32) (ix4 b h p k)
      = (∑ d : Fin 64, x (ix2 ⟨b.val * 4096 + p.val, by omega⟩ ⟨h.val * 64 + d.val, by omega⟩) * x (ix2 ⟨b.val * 4096 + k.val, by omega⟩ ⟨512 + (h.val * 64 + d.val), by omega⟩)) * Ideal.ofBits .f32 0x3E000000#32 := by
  pointwise

/-- A head's part of the values, read at an entry. -/
theorem ref_v (x : FVec Ideal S16384x1536 .bf16) (b : Fin 4) (p : Fin 4096) (h : Fin 8) (d : Fin 64) :
    (shapeCast S4x4096x8x64 (extractStridedSlice S4x4096x512 ![0, 0, 1024] (shapeCast S4x4096x1536 (extf .f32 x bitsLt_bf16_f32) shapeCasts_S16384x1536_S4x4096x1536) slices_S4x4096x1536_S4x4096x512_0_0_1024) shapeCasts_S4x4096x512_S4x4096x8x64 : FVec Ideal S4x4096x8x64 .f32) (ix4 b p h d)
      = x (ix2 ⟨b.val * 4096 + p.val, by omega⟩ ⟨1024 + (h.val * 64 + d.val), by omega⟩) := by
  pointwise

/-- The words of a position's place among its 128. -/
theorem ref_place (p : Fin 4096) : (select (andi (cmpi .ne (cmpi .slt (Host.remsi (iotaInDim S4096 32 0) (broadcastInDim S4096 ![] bcast_S_S4096 (select (cmpi .eq (id (constantI S_ 32 128#32)) (constantI S_ 32 0#32)) (constantI S_ 32 1#32) (id (constantI S_ 32 128#32))))) (broadcastInDim S4096 ![] bcast_S_S4096 (constantI S_ 32 0#32))) (broadcastInDim S4096 ![] bcast_S_S4096 (cmpi .slt (select (cmpi .eq (id (constantI S_ 32 128#32)) (constantI S_ 32 0#32)) (constantI S_ 32 1#32) (id (constantI S_ 32 128#32))) (constantI S_ 32 0#32)))) (cmpi .ne (Host.remsi (iotaInDim S4096 32 0) (broadcastInDim S4096 ![] bcast_S_S4096 (select (cmpi .eq (id (constantI S_ 32 128#32)) (constantI S_ 32 0#32)) (constantI S_ 32 1#32) (id (constantI S_ 32 128#32))))) (broadcastInDim S4096 ![] bcast_S_S4096 (constantI S_ 32 0#32)))) (addi (Host.remsi (iotaInDim S4096 32 0) (broadcastInDim S4096 ![] bcast_S_S4096 (select (cmpi .eq (id (constantI S_ 32 128#32)) (constantI S_ 32 0#32)) (constantI S_ 32 1#32) (id (constantI S_ 32 128#32))))) (broadcastInDim S4096 ![] bcast_S_S4096 (select (cmpi .eq (id (constantI S_ 32 128#32)) (constantI S_ 32 0#32)) (constantI S_ 32 1#32) (id (constantI S_ 32 128#32))))) (Host.remsi (iotaInDim S4096 32 0) (broadcastInDim S4096 ![] bcast_S_S4096 (select (cmpi .eq (id (constantI S_ 32 128#32)) (constantI S_ 32 0#32)) (constantI S_ 32 1#32) (id (constantI S_ 32 128#32)))))) (ix1 p) = BitVec.ofNat 32 (p.val % 128) := by
  pointwise
  revert p
  decide +kernel

/-- The words of a key's place among the keys in reach. -/
theorem ref_reach (L : IVec S4096 32) (hL : ∀ p, L (ix1 p) = BitVec.ofNat 32 (p.val % 128)) (p k : Fin 4096) :
    (addi (subi (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (subi (iotaInDim S4096 32 0) L)))) (broadcastInDim S4096x4096 ![] bcast_S_S4096x4096 (constantI S_ 32 512#32))) (ix2 p k) = Cert.Window.reach p.val k.val := by
  pointwise
  rw [hL]
  exact Cert.Window.reach_word p k

/-- The mask at a query and a key is set where the query reaches the key. -/
theorem ref_mask (U : IVec S4096x4096 32) (hU : ∀ p k, U (ix2 p k) = Cert.Window.reach p.val k.val) (b : Fin 4) (h : Fin 8) (p k : Fin 4096) :
    (broadcastInDim S4x8x4096x4096 ![2, 3] bcast_S4096x4096_S4x8x4096x4096_2_3 (andi (cmpi .sge U (broadcastInDim S4096x4096 ![] bcast_S_S4096x4096 (constantI S_ 32 0#32))) (cmpi .slt U (broadcastInDim S4096x4096 ![] bcast_S_S4096x4096 (constantI S_ 32 640#32)))) : IVec S4x8x4096x4096 1) (ix4 b h p k) = if Cert.Window.near p.val k.val then 1#1 else 0#1 := by
  pointwise
  rw [hU]
  exact Cert.Window.near_word p k

/-- The bias at a query and a key. -/
theorem ref_bias (bias : FVec Ideal S8x128x640 .f32) (L : IVec S4096 32) (U : IVec S4096x4096 32) (hL : ∀ p, L (ix1 p) = BitVec.ofNat 32 (p.val % 128))
    (hU : ∀ p k, U (ix2 p k) = Cert.Window.reach p.val k.val) (b : Fin 4) (h : Fin 8) (p k : Fin 4096) :
    (broadcastInDim S4x8x4096x4096 ![0, 1, 2, 3] bcast_S1x8x4096x4096_S4x8x4096x4096_0_1_2_3 (broadcastInDim S1x8x4096x4096 ![1, 2, 3] bcast_S8x4096x4096_S1x8x4096x4096_1_2_3 (Host.gather gather_S8x128x640_S4096x4096x2_S8x4096x4096_0_12_n_n_12_2_811 bias (concatenate S4096x4096x2 2 [⟨S4096x4096x1, (broadcastInDim S4096x4096x1 ![0, 1] bcast_S4096x4096_S4096x4096x1_0_1 (broadcastInDim S4096x4096 ![0, 1] bcast_S4096x1_S4096x4096_0_1 (select (cmpi .slt (broadcastInDim S4096x1 ![0] bcast_S4096_S4096x1_0 L) (broadcastInDim S4096x1 ![] bcast_S_S4096x1 (constantI S_ 32 0#32))) (addi (broadcastInDim S4096x1 ![0] bcast_S4096_S4096x1_0 L) (broadcastInDim S4096x1 ![] bcast_S_S4096x1 (constantI S_ 32 128#32))) (broadcastInDim S4096x1 ![0] bcast_S4096_S4096x1_0 L))))⟩, ⟨S4096x4096x1, (broadcastInDim S4096x4096x1 ![0, 1] bcast_S4096x4096_S4096x4096x1_0_1 (select (cmpi .slt (minsi (broadcastInDim S4096x4096 ![] bcast_S_S4096x4096 (id (constantI S_ 32 639#32))) (maxsi (broadcastInDim S4096x4096 ![] bcast_S_S4096x4096 (id (constantI S_ 32 0#32))) U)) (broadcastInDim S4096x4096 ![] bcast_S_S4096x4096 (constantI S_ 32 0#32))) (addi (minsi (broadcastInDim S4096x4096 ![] bcast_S_S4096x4096 (id (constantI S_ 32 639#32))) (maxsi (broadcastInDim S4096x4096 ![] bcast_S_S4096x4096 (id (constantI S_ 32 0#32))) U)) (broadcastInDim S4096x4096 ![] bcast_S_S4096x4096 (constantI S_ 32 640#32))) (minsi (broadcastInDim S4096x4096 ![] bcast_S_S4096x4096 (id (constantI S_ 32 639#32))) (maxsi (broadcastInDim S4096x4096 ![] bcast_S_S4096x4096 (id (constantI S_ 32 0#32))) U))))⟩] concatenates_S4096x4096x1_S4096x4096x1_S4096x4096x2_d2))) : FVec Ideal S4x8x4096x4096 .f32) (ix4 b h p k)
      = bias (ix3 h (Cert.Window.place p.val) (Cert.Window.slot p.val k.val)) := by
  pointwise
  refine (Cert.Gather.cells_apply (by decide) (by decide) _ bias _ h p k).trans ?_
  refine congrArg₂ (fun i j => bias (ix3 h i j)) (Fin.ext ?_) (Fin.ext ?_)
  · pointwise
    rw [hL]
    exact Cert.Window.place_word ⟨p.val % 128, by omega⟩
  · pointwise
    rw [hU]
    exact Cert.Window.slot_word p k

/-- A score, read at an entry: the sum of its two parts where the mask is set, the bottom elsewhere. -/
theorem ref_score (M : IVec S4x8x4096x4096 1) (X Y : FVec Ideal S4x8x4096x4096 .f32) (b : Fin 4) (h : Fin 8) (p k : Fin 4096) :
    (select M (addf X Y) (broadcastInDim S4x8x4096x4096 ![] bcast_S_S4x8x4096x4096 (id (constant S_ .f32 0xFF800000#32))) : FVec Ideal S4x8x4096x4096 .f32) (ix4 b h p k)
      = Scalar.select (M (ix4 b h p k)) (X (ix4 b h p k) + Y (ix4 b h p k)) ⊥ := by
  have hb : Ideal.ofBits .f32 0xFF800000#32 = (⊥ : EReal) := by simp [Ideal.ofBits, Ideal.ieee]
  pointwise
  show Scalar.select _ _ (Ideal.ofBits .f32 0xFF800000#32) = _
  rw [hb]

/-- A row of the result is the softmax average of the values, each weight divided by their sum. -/
theorem ref_rows (V : FVec Ideal S4x4096x8x64 .f32) (S : FVec Ideal S4x8x4096x4096 .f32) (b : Fin 4) (p : Fin 4096) (h : Fin 8) (d : Fin 64) :
    transpose S4x4096x8x64 [0, 3, 1, 2] (Host.dotGeneral dot_S4x4096x8x64_S4x8x4096x4096_S4x8x64x4096_1_3_3_2_02_01 none V
      (Host.divf (Host.exp (subf S (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (Host.reduce FloatOps.maximumf S (constant S_ .f32 0xFF800000#32) reducesTo_S4x8x4096x4096_S4x8x4096_d3 h_S_))))))
        (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd (Host.exp (subf S (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (Host.reduce FloatOps.maximumf S (constant S_ .f32 0xFF800000#32) reducesTo_S4x8x4096x4096_S4x8x4096_d3 h_S_)))))) (constant S_ .f32 0x00000000#32) reducesTo_S4x8x4096x4096_S4x8x4096_d3 h_S_))))) transposes_S4x8x64x4096_S4x4096x8x64_0_3_1_2 (ix4 b p h d)
      = Cert.Softmax.attend Finset.univ (fun k => S (ix4 b h p k)) (fun k => V (ix4 b k h d)) := by
  refine (ref_avg _ _ b p h d).trans ?_
  unfold Cert.Softmax.attend
  refine Finset.sum_congr rfl fun k _ => ?_
  rw [mul_comm]
  refine congrArg (· * V (ix4 b k h d)) ?_
  refine congrArg₂ Ideal.div ?_ ?_
  · exact congrArg (fun y => Ideal.exp (S (ix4 b h p k) - y)) (ref_max S b h p k)
  · refine (ref_sum _ b h p k).trans ?_
    unfold Cert.Softmax.mass
    refine Finset.sum_congr rfl fun i _ => ?_
    exact congrArg (fun y => Ideal.exp (S (ix4 b h p i) - y)) (ref_max S b h p i)

/-- The reference's result at one entry. -/
theorem ref_out (m : (ℓ : Loc nD τ sig) → Buf (Elt Ideal) ℓ) (c : Dev nD) (r : Fin 16384) (d : Fin 512) :
    Value.res_main_v61 m c (ix2 r d)
      = Cert.Window.seen (m ((c.tc : Thread nD τ).loc main_arg0)) (m ((c.tc : Thread nD τ).loc main_arg1))
          ⟨r.val / 4096, by omega⟩ ⟨d.val / 64, by omega⟩ ⟨r.val % 4096, by omega⟩ ⟨d.val % 64, by omega⟩ := by
  unfold Value.res_main_v61
  refine (ref_flat _ r d).trans ((ref_rows _ _ _ _ _ _).trans ?_)
  unfold Cert.Window.seen
  refine congrArg₂ (Cert.Softmax.attend Finset.univ) (funext fun k => ?_) (funext fun k => ?_)
  · refine (ref_score _ _ _ _ _ _ _).trans ?_
    rw [ref_scaled, ref_bias _ _ _ ref_place (ref_reach _ ref_place), ref_mask _ (ref_reach _ ref_place)]
    unfold Cert.Window.score
    split <;> rfl
  · exact ref_v _ _ _ _ _

end Cert.ChunkRefIdeal.Whole

end
-- ==== Proof.ChunkValue.lean ====
module

public import proofs.«01_k».proof.Defs
public import proofs.«01_k».proof.Proof.Gen.Chunk.Frame
public import proofs.«01_k».proof.Proof.Gen.ChunkIdeal.Value
public import proofs.«01_k».proof.Proof.ChunkTile
public import proofs.«01_k».proof.Proof.ChunkHead
public import proofs.«01_k».proof.Proof.Numbers
public import proofs.«01_k».proof.Proof.Gen.Pre_finite_scores
public import proofs.«01_k».proof.Proof.ChunkRefSide
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ChunkIdeal.Whole

open Cert.ChunkIdeal Cert.ChunkIdeal.Gen

variable (m : (ℓ : Loc nD τ sig) → Buf (Elt Ideal) ℓ)

theorem placesQ : ∀ t : Fin cfg0.N, win0_0.index t = ![t.val, 0] ∧ win0_4.index t = ![t.val, 0] :=
  (by decide +kernel : ∀ t : Fin grid0.N, win0_0.index t = ![t.val, 0] ∧ win0_4.index t = ![t.val, 0])

theorem placesK : ∀ t : Fin cfg0.N, win0_1.index t = ![t.val / 32, 1] ∧ win0_2.index t = ![t.val / 32, 2] ∧ win0_3.index t = ![0, 0, 0] :=
  (by decide +kernel : ∀ t : Fin grid0.N, win0_1.index t = ![t.val / 32, 1] ∧ win0_2.index t = ![t.val / 32, 2] ∧ win0_3.index t = ![0, 0, 0])

theorem coords_1 : ∀ t : Fin cfg0.N, (grid0.coords t 1).val = t.val % 32 :=
  (by decide +kernel : ∀ t : Fin grid0.N, (grid0.coords t 1).val = t.val % 32)

/-- The block of the bias is the whole argument. -/
theorem readB (c : Dev nD) (t : Fin cfg0.N) (h : Fin 8) (a : Fin 128) (w : Fin 640) :
    iblk m c 3 t (ix3 h a w) = m ((c : Thread nD τ).loc main_arg1) (ix3 h a w) := by
  have e := (placesK t).2.2
  blk_ext [iblk, V, e]

/-- A block's queries, read at their place. -/
theorem readQ (c : Dev nD) (t : Fin cfg0.N) (a : Fin 128) (l : Fin 512) (ht : t.val < 128) :
    iblk m c 0 t (ix2 a l) = m ((c : Thread nD τ).loc main_arg0) (ix2 ⟨128 * t.val + a.val, by omega⟩ ⟨l.val, by omega⟩) := by
  have e := (placesQ t).1
  blk_ext [iblk, V, e]

theorem readK (c : Dev nD) (t : Fin cfg0.N) (a : Fin 4096) (l : Fin 512) (ht : t.val < 128) :
    iblk m c 1 t (ix2 a l) = m ((c : Thread nD τ).loc main_arg0) (ix2 ⟨4096 * (t.val / 32) + a.val, by omega⟩ ⟨512 + l.val, by omega⟩) := by
  have e := (placesK t).1
  blk_ext [iblk, V, e]

theorem readV (c : Dev nD) (t : Fin cfg0.N) (a : Fin 4096) (l : Fin 512) (ht : t.val < 128) :
    iblk m c 2 t (ix2 a l) = m ((c : Thread nD τ).loc main_arg0) (ix2 ⟨4096 * (t.val / 32) + a.val, by omega⟩ ⟨1024 + l.val, by omega⟩) := by
  have e := (placesK t).2.1
  blk_ext [iblk, V, e]

/-- Two stores, one below the other, cover the rows. -/
theorem rows_cover (u : S4096x512.Idx → Elt Ideal .bf16) (v : S512x512.Idx → Elt Ideal .bf16) (i : S4608x512.Idx) :
    ∃ p ∈ ([⟨Rect.unit ![512, 0] ![4096, 512] inb_S4608x512_S4096x512_512_0, u⟩, ⟨Rect.unit ![0, 0] ![512, 512] inb_S4608x512_S512x512_0_0, v⟩] : List (View.Piece (Elt Ideal) S4608x512 .bf16)), i ∈ p.1.set := by
  have h0 : (i 0).val < 4608 := (i 0).isLt
  have h1 : (i 1).val < 512 := (i 1).isLt
  by_cases h : 512 ≤ (i 0).val
  · refine ⟨_, List.mem_cons_self, (Rect.mem_set_unit (inb := inb_S4608x512_S4096x512_512_0)).mpr fun a => ?_⟩
    match a with
    | ⟨0, _⟩ => exact ⟨h, by show (i 0).val < 512 + 4096; omega⟩
    | ⟨1, _⟩ => exact ⟨Nat.zero_le _, by show (i 1).val < 0 + 512; omega⟩
  · refine ⟨_, List.mem_cons_of_mem _ List.mem_cons_self, (Rect.mem_set_unit (inb := inb_S4608x512_S512x512_0_0)).mpr fun a => ?_⟩
    match a with
    | ⟨0, _⟩ => exact ⟨Nat.zero_le _, by show (i 0).val < 0 + 512; omega⟩
    | ⟨1, _⟩ => exact ⟨Nat.zero_le _, by show (i 1).val < 0 + 512; omega⟩

/-- The first case's stores leave a batch's keys below rows of zeros. -/
theorem keys_canon (c : Dev nD) (t : Fin cfg0.N) :
    View.canon ([⟨Rect.unit ![512, 0] ![4096, 512] inb_S4608x512_S4096x512_512_0, k0_pay4 (iblk m c 1 t)⟩, ⟨Rect.unit ![0, 0] ![512, 512] inb_S4608x512_S512x512_0_0, k0_pay2 (F := Ideal)⟩] : List (View.Piece (Elt Ideal) S4608x512 .bf16))
      = padded (m ((c : Thread nD τ).loc main_arg0)) (t.val / 32) 512 := by
  have ht : t.val < 128 := lt_of_lt_of_eq t.isLt N_0
  funext i
  canon_tiles x h using rows_cover _ _ _
  · obtain ⟨a, l, rfl⟩ : ∃ (a : Fin 4096) (l : Fin 512), x = ix2 a l := ⟨x 0, x 1, eq_ix2 x⟩
    have e : k0_pay4 (iblk m c 1 t) (ix2 a l) = iblk m c 1 t (ix2 a l) := by pointwise [k0_pay4]
    have h0' : (i 0).val = 512 + a.val := h0
    have h1' : (i 1).val = l.val := by simpa using h1
    unfold padded
    rw [e, readK m c t _ _ ht, dif_pos (by omega)]
    congr 2
    · exact Fin.ext (by show 4096 * (t.val / 32) + a.val = 4096 * (t.val / 32) + ((i 0).val - 512); omega)
    · exact Fin.ext (by show 512 + l.val = 512 + (i 1).val; omega)
  · obtain ⟨a, l, rfl⟩ : ∃ (a l : Fin 512), x = ix2 a l := ⟨x 0, x 1, eq_ix2 x⟩
    have e : k0_pay2 (F := Ideal) (ix2 a l) = 0 := by pointwise [k0_pay2]
    have h0' : (i 0).val = a.val := h0
    unfold padded
    rw [e, dif_neg (by omega)]

/-- The first case's stores leave a batch's values below rows of zeros. -/
theorem vals_canon (c : Dev nD) (t : Fin cfg0.N) :
    View.canon ([⟨Rect.unit ![512, 0] ![4096, 512] inb_S4608x512_S4096x512_512_0, k0_pay5 (iblk m c 2 t)⟩, ⟨Rect.unit ![0, 0] ![512, 512] inb_S4608x512_S512x512_0_0, k0_pay3 (F := Ideal)⟩] : List (View.Piece (Elt Ideal) S4608x512 .bf16))
      = padded (m ((c : Thread nD τ).loc main_arg0)) (t.val / 32) 1024 := by
  have ht : t.val < 128 := lt_of_lt_of_eq t.isLt N_0
  funext i
  canon_tiles x h using rows_cover _ _ _
  · obtain ⟨a, l, rfl⟩ : ∃ (a : Fin 4096) (l : Fin 512), x = ix2 a l := ⟨x 0, x 1, eq_ix2 x⟩
    have e : k0_pay5 (iblk m c 2 t) (ix2 a l) = iblk m c 2 t (ix2 a l) := by pointwise [k0_pay5]
    have h0' : (i 0).val = 512 + a.val := h0
    have h1' : (i 1).val = l.val := by simpa using h1
    unfold padded
    rw [e, readV m c t _ _ ht, dif_pos (by omega)]
    congr 2
    · exact Fin.ext (by show 4096 * (t.val / 32) + a.val = 4096 * (t.val / 32) + ((i 0).val - 512); omega)
    · exact Fin.ext (by show 1024 + l.val = 1024 + (i 1).val; omega)
  · obtain ⟨a, l, rfl⟩ : ∃ (a l : Fin 512), x = ix2 a l := ⟨x 0, x 1, eq_ix2 x⟩
    have e : k0_pay3 (F := Ideal) (ix2 a l) = 0 := by pointwise [k0_pay3]
    have h0' : (i 0).val = a.val := h0
    unfold padded
    rw [e, dif_neg (by omega)]

/-- At the first point of a batch the carried keys are the batch's, below rows of zeros. -/
theorem keys_A (c : Dev nD) (t : Fin cfg0.N) (h0 : t.val % 32 = 0) :
    (outsAt0 m c t.val t.isLt).2.1 = padded (m ((c : Thread nD τ).loc main_arg0)) (t.val / 32) 512 := by
  rw [outsAt0_A m c t h0]
  frame_out
  exact keys_canon m c t

/-- At the first point of a batch the carried values are the batch's, below rows of zeros. -/
theorem vals_A (c : Dev nD) (t : Fin cfg0.N) (h0 : t.val % 32 = 0) :
    (outsAt0 m c t.val t.isLt).2.2 = padded (m ((c : Thread nD τ).loc main_arg0)) (t.val / 32) 1024 := by
  rw [outsAt0_A m c t h0]
  frame_out
  exact vals_canon m c t

/-- At the other points the carried keys stay. -/
theorem keys_B (c : Dev nD) (t : Fin cfg0.N) (h0 : ¬ t.val % 32 = 0) :
    (outsAt0 m c t.val t.isLt).2.1 = (outsAt0 m c (t.val - 1) (by omega)).2.1 := by
  rw [outsAt0_B m c t h0]
  simp only [sout0_B_0]

/-- At the other points the carried values stay. -/
theorem vals_B (c : Dev nD) (t : Fin cfg0.N) (h0 : ¬ t.val % 32 = 0) :
    (outsAt0 m c t.val t.isLt).2.2 = (outsAt0 m c (t.val - 1) (by omega)).2.2 := by
  rw [outsAt0_B m c t h0]
  simp only [sout0_B_1]

/-- After every point the carried keys and values are the batch's, below rows of zeros. -/
theorem carried (c : Dev nD) : ∀ (n : ℕ) (hn : n < cfg0.N),
    (outsAt0 m c n hn).2.1 = padded (m ((c : Thread nD τ).loc main_arg0)) (n / 32) 512
    ∧ (outsAt0 m c n hn).2.2 = padded (m ((c : Thread nD τ).loc main_arg0)) (n / 32) 1024 := by
  intro n
  induction n with
  | zero => exact fun hn => ⟨keys_A m c ⟨0, hn⟩ rfl, vals_A m c ⟨0, hn⟩ rfl⟩
  | succ n ih =>
    intro hn
    by_cases h0 : (n + 1) % 32 = 0
    · exact ⟨keys_A m c ⟨n + 1, hn⟩ h0, vals_A m c ⟨n + 1, hn⟩ h0⟩
    · have hd : (n + 1) / 32 = n / 32 := by omega
      rw [hd]
      exact ⟨(keys_B m c ⟨n + 1, hn⟩ h0).trans (ih (Nat.lt_of_succ_lt hn)).1, (vals_B m c ⟨n + 1, hn⟩ h0).trans (ih (Nat.lt_of_succ_lt hn)).2⟩

theorem offs_0 : ∀ t : Fin cfg0.N, k0_off1 (grid0.coords t) = ![128 * (t.val % 32), 0] :=
  (by decide +kernel : ∀ t : Fin grid0.N, k0_off1 (grid0.coords t) = ![128 * (t.val % 32), 0])

theorem offs_1 : ∀ t : Fin cfg0.N, k0_off2 (grid0.coords t) = ![128 * (t.val % 32), 128] :=
  (by decide +kernel : ∀ t : Fin grid0.N, k0_off2 (grid0.coords t) = ![128 * (t.val % 32), 128])

theorem offs_2 : ∀ t : Fin cfg0.N, k0_off3 (grid0.coords t) = ![128 * (t.val % 32), 256] :=
  (by decide +kernel : ∀ t : Fin grid0.N, k0_off3 (grid0.coords t) = ![128 * (t.val % 32), 256])

theorem offs_3 : ∀ t : Fin cfg0.N, k0_off4 (grid0.coords t) = ![128 * (t.val % 32), 384] :=
  (by decide +kernel : ∀ t : Fin grid0.N, k0_off4 (grid0.coords t) = ![128 * (t.val % 32), 384])

/-- Pair 0's columns of the carried rows that a block reads. -/
theorem window_0 (t : Fin cfg0.N) (K : Vec Ideal S4608x512 .bf16) (w : Fin 640) (l : Fin 128) :
    View.ld K (Rect.unit (k0_off1 (grid0.coords t)) ![640, 128] (k0_off1_inb (grid0.coords t))) (ix2 w l)
      = K (ix2 ⟨128 * (t.val % 32) + w.val, by omega⟩ ⟨128 * 0 + l.val, by omega⟩) := by
  have e : k0_off1 (grid0.coords t) = ![128 * (t.val % 32), 0] := offs_0 t
  refine View.ld_unit_apply_of K _ _ _ _ _ fun a => Eq.trans ?_ (congrArg (· + _) (congrFun e a).symm)
  fin_cases a <;> rfl

/-- Pair 0's queries of a block. -/
theorem queries_0 (c : Dev nD) (t : Fin cfg0.N) (ht : t.val < 128) (a l : Fin 128) :
    View.ld (iblk m c 0 t) (Rect.unit ![0, 0] ![128, 128] inb_S128x512_S128x128_0_0) (ix2 a l)
      = m ((c : Thread nD τ).loc main_arg0) (ix2 ⟨t.val / 32 * 4096 + (128 * (t.val % 32) + a.val), by omega⟩ ⟨128 * 0 + l.val, by omega⟩) := by
  refine (?_ : _ = iblk m c 0 t (ix2 a ⟨128 * 0 + l.val, by omega⟩)).trans ((readQ m c t a ⟨128 * 0 + l.val, by omega⟩ ht).trans ?_)
  · refine View.ld_unit_apply_of _ _ _ _ _ _ fun b => ?_
    fin_cases b
    · exact (Nat.zero_add _).symm
    · rfl
  · congr 2
    exact Fin.ext (by show 128 * t.val + a.val = t.val / 32 * 4096 + (128 * (t.val % 32) + a.val); omega)

/-- Pair 0's biases. -/
theorem bias_0 (c : Dev nD) (t : Fin cfg0.N) (a : Fin 128) (w : Fin 640) :
    View.ld (iblk m c 3 t) (Rect.unit ![0, 0, 0] ![1, 128, 640] inb_S8x128x640_S1x128x640_0_0_0) (ix3 0 a w) = m ((c : Thread nD τ).loc main_arg1) (ix3 0 a w)
    ∧ View.ld (iblk m c 3 t) (Rect.unit ![1, 0, 0] ![1, 128, 640] inb_S8x128x640_S1x128x640_1_0_0) (ix3 0 a w) = m ((c : Thread nD τ).loc main_arg1) (ix3 1 a w) := by
  refine ⟨Eq.trans ?_ (readB m c t 0 a w), Eq.trans ?_ (readB m c t 1 a w)⟩ <;>
    (refine View.ld_unit_apply_of _ _ _ _ _ _ fun b => ?_; fin_cases b <;> first | rfl | exact (Nat.zero_add _).symm)

/-- Pair 1's columns of the carried rows that a block reads. -/
theorem window_1 (t : Fin cfg0.N) (K : Vec Ideal S4608x512 .bf16) (w : Fin 640) (l : Fin 128) :
    View.ld K (Rect.unit (k0_off2 (grid0.coords t)) ![640, 128] (k0_off2_inb (grid0.coords t))) (ix2 w l)
      = K (ix2 ⟨128 * (t.val % 32) + w.val, by omega⟩ ⟨128 * 1 + l.val, by omega⟩) := by
  have e : k0_off2 (grid0.coords t) = ![128 * (t.val % 32), 128] := offs_1 t
  refine View.ld_unit_apply_of K _ _ _ _ _ fun a => Eq.trans ?_ (congrArg (· + _) (congrFun e a).symm)
  fin_cases a <;> rfl

/-- Pair 1's queries of a block. -/
theorem queries_1 (c : Dev nD) (t : Fin cfg0.N) (ht : t.val < 128) (a l : Fin 128) :
    View.ld (iblk m c 0 t) (Rect.unit ![0, 128] ![128, 128] inb_S128x512_S128x128_0_128) (ix2 a l)
      = m ((c : Thread nD τ).loc main_arg0) (ix2 ⟨t.val / 32 * 4096 + (128 * (t.val % 32) + a.val), by omega⟩ ⟨128 * 1 + l.val, by omega⟩) := by
  refine (?_ : _ = iblk m c 0 t (ix2 a ⟨128 * 1 + l.val, by omega⟩)).trans ((readQ m c t a ⟨128 * 1 + l.val, by omega⟩ ht).trans ?_)
  · refine View.ld_unit_apply_of _ _ _ _ _ _ fun b => ?_
    fin_cases b
    · exact (Nat.zero_add _).symm
    · rfl
  · congr 2
    exact Fin.ext (by show 128 * t.val + a.val = t.val / 32 * 4096 + (128 * (t.val % 32) + a.val); omega)

/-- Pair 1's biases. -/
theorem bias_1 (c : Dev nD) (t : Fin cfg0.N) (a : Fin 128) (w : Fin 640) :
    View.ld (iblk m c 3 t) (Rect.unit ![2, 0, 0] ![1, 128, 640] inb_S8x128x640_S1x128x640_2_0_0) (ix3 0 a w) = m ((c : Thread nD τ).loc main_arg1) (ix3 2 a w)
    ∧ View.ld (iblk m c 3 t) (Rect.unit ![3, 0, 0] ![1, 128, 640] inb_S8x128x640_S1x128x640_3_0_0) (ix3 0 a w) = m ((c : Thread nD τ).loc main_arg1) (ix3 3 a w) := by
  refine ⟨Eq.trans ?_ (readB m c t 2 a w), Eq.trans ?_ (readB m c t 3 a w)⟩ <;>
    (refine View.ld_unit_apply_of _ _ _ _ _ _ fun b => ?_; fin_cases b <;> first | rfl | exact (Nat.zero_add _).symm)

/-- Pair 2's columns of the carried rows that a block reads. -/
theorem window_2 (t : Fin cfg0.N) (K : Vec Ideal S4608x512 .bf16) (w : Fin 640) (l : Fin 128) :
    View.ld K (Rect.unit (k0_off3 (grid0.coords t)) ![640, 128] (k0_off3_inb (grid0.coords t))) (ix2 w l)
      = K (ix2 ⟨128 * (t.val % 32) + w.val, by omega⟩ ⟨128 * 2 + l.val, by omega⟩) := by
  have e : k0_off3 (grid0.coords t) = ![128 * (t.val % 32), 256] := offs_2 t
  refine View.ld_unit_apply_of K _ _ _ _ _ fun a => Eq.trans ?_ (congrArg (· + _) (congrFun e a).symm)
  fin_cases a <;> rfl

/-- Pair 2's queries of a block. -/
theorem queries_2 (c : Dev nD) (t : Fin cfg0.N) (ht : t.val < 128) (a l : Fin 128) :
    View.ld (iblk m c 0 t) (Rect.unit ![0, 256] ![128, 128] inb_S128x512_S128x128_0_256) (ix2 a l)
      = m ((c : Thread nD τ).loc main_arg0) (ix2 ⟨t.val / 32 * 4096 + (128 * (t.val % 32) + a.val), by omega⟩ ⟨128 * 2 + l.val, by omega⟩) := by
  refine (?_ : _ = iblk m c 0 t (ix2 a ⟨128 * 2 + l.val, by omega⟩)).trans ((readQ m c t a ⟨128 * 2 + l.val, by omega⟩ ht).trans ?_)
  · refine View.ld_unit_apply_of _ _ _ _ _ _ fun b => ?_
    fin_cases b
    · exact (Nat.zero_add _).symm
    · rfl
  · congr 2
    exact Fin.ext (by show 128 * t.val + a.val = t.val / 32 * 4096 + (128 * (t.val % 32) + a.val); omega)

/-- Pair 2's biases. -/
theorem bias_2 (c : Dev nD) (t : Fin cfg0.N) (a : Fin 128) (w : Fin 640) :
    View.ld (iblk m c 3 t) (Rect.unit ![4, 0, 0] ![1, 128, 640] inb_S8x128x640_S1x128x640_4_0_0) (ix3 0 a w) = m ((c : Thread nD τ).loc main_arg1) (ix3 4 a w)
    ∧ View.ld (iblk m c 3 t) (Rect.unit ![5, 0, 0] ![1, 128, 640] inb_S8x128x640_S1x128x640_5_0_0) (ix3 0 a w) = m ((c : Thread nD τ).loc main_arg1) (ix3 5 a w) := by
  refine ⟨Eq.trans ?_ (readB m c t 4 a w), Eq.trans ?_ (readB m c t 5 a w)⟩ <;>
    (refine View.ld_unit_apply_of _ _ _ _ _ _ fun b => ?_; fin_cases b <;> first | rfl | exact (Nat.zero_add _).symm)

/-- Pair 3's columns of the carried rows that a block reads. -/
theorem window_3 (t : Fin cfg0.N) (K : Vec Ideal S4608x512 .bf16) (w : Fin 640) (l : Fin 128) :
    View.ld K (Rect.unit (k0_off4 (grid0.coords t)) ![640, 128] (k0_off4_inb (grid0.coords t))) (ix2 w l)
      = K (ix2 ⟨128 * (t.val % 32) + w.val, by omega⟩ ⟨128 * 3 + l.val, by omega⟩) := by
  have e : k0_off4 (grid0.coords t) = ![128 * (t.val % 32), 384] := offs_3 t
  refine View.ld_unit_apply_of K _ _ _ _ _ fun a => Eq.trans ?_ (congrArg (· + _) (congrFun e a).symm)
  fin_cases a <;> rfl

/-- Pair 3's queries of a block. -/
theorem queries_3 (c : Dev nD) (t : Fin cfg0.N) (ht : t.val < 128) (a l : Fin 128) :
    View.ld (iblk m c 0 t) (Rect.unit ![0, 384] ![128, 128] inb_S128x512_S128x128_0_384) (ix2 a l)
      = m ((c : Thread nD τ).loc main_arg0) (ix2 ⟨t.val / 32 * 4096 + (128 * (t.val % 32) + a.val), by omega⟩ ⟨128 * 3 + l.val, by omega⟩) := by
  refine (?_ : _ = iblk m c 0 t (ix2 a ⟨128 * 3 + l.val, by omega⟩)).trans ((readQ m c t a ⟨128 * 3 + l.val, by omega⟩ ht).trans ?_)
  · refine View.ld_unit_apply_of _ _ _ _ _ _ fun b => ?_
    fin_cases b
    · exact (Nat.zero_add _).symm
    · rfl
  · congr 2
    exact Fin.ext (by show 128 * t.val + a.val = t.val / 32 * 4096 + (128 * (t.val % 32) + a.val); omega)

/-- Pair 3's biases. -/
theorem bias_3 (c : Dev nD) (t : Fin cfg0.N) (a : Fin 128) (w : Fin 640) :
    View.ld (iblk m c 3 t) (Rect.unit ![6, 0, 0] ![1, 128, 640] inb_S8x128x640_S1x128x640_6_0_0) (ix3 0 a w) = m ((c : Thread nD τ).loc main_arg1) (ix3 6 a w)
    ∧ View.ld (iblk m c 3 t) (Rect.unit ![7, 0, 0] ![1, 128, 640] inb_S8x128x640_S1x128x640_7_0_0) (ix3 0 a w) = m ((c : Thread nD τ).loc main_arg1) (ix3 7 a w) := by
  refine ⟨Eq.trans ?_ (readB m c t 6 a w), Eq.trans ?_ (readB m c t 7 a w)⟩ <;>
    (refine View.ld_unit_apply_of _ _ _ _ _ _ fun b => ?_; fin_cases b <;> first | rfl | exact (Nat.zero_add _).symm)

/-- The block that the body leaves, its four pairs of heads side by side. -/
theorem tiles (c : Dev nD) (t : Fin cfg0.N) (K V : Vec Ideal S4608x512 .bf16) (hK : K = padded (m ((c : Thread nD τ).loc main_arg0)) (t.val / 32) 512)
    (hV : V = padded (m ((c : Thread nD τ).loc main_arg0)) (t.val / 32) 1024) :
    (outsAt0 m c t.val t.isLt).1 = View.canon ([
      ⟨Rect.unit ![0, 384] ![128, 128] inb_S128x512_S128x128_0_384, tile (grid0.coords t) (View.ld (iblk m c 0 t) (Rect.unit ![0, 384] ![128, 128] inb_S128x512_S128x128_0_384))
        (View.ld K (Rect.unit (k0_off4 (grid0.coords t)) ![640, 128] (k0_off4_inb (grid0.coords t)))) (View.ld V (Rect.unit (k0_off4 (grid0.coords t)) ![640, 128] (k0_off4_inb (grid0.coords t))))
        (View.ld (iblk m c 3 t) (Rect.unit ![6, 0, 0] ![1, 128, 640] inb_S8x128x640_S1x128x640_6_0_0)) (View.ld (iblk m c 3 t) (Rect.unit ![7, 0, 0] ![1, 128, 640] inb_S8x128x640_S1x128x640_7_0_0))⟩,
      ⟨Rect.unit ![0, 256] ![128, 128] inb_S128x512_S128x128_0_256, tile (grid0.coords t) (View.ld (iblk m c 0 t) (Rect.unit ![0, 256] ![128, 128] inb_S128x512_S128x128_0_256))
        (View.ld K (Rect.unit (k0_off3 (grid0.coords t)) ![640, 128] (k0_off3_inb (grid0.coords t)))) (View.ld V (Rect.unit (k0_off3 (grid0.coords t)) ![640, 128] (k0_off3_inb (grid0.coords t))))
        (View.ld (iblk m c 3 t) (Rect.unit ![4, 0, 0] ![1, 128, 640] inb_S8x128x640_S1x128x640_4_0_0)) (View.ld (iblk m c 3 t) (Rect.unit ![5, 0, 0] ![1, 128, 640] inb_S8x128x640_S1x128x640_5_0_0))⟩,
      ⟨Rect.unit ![0, 128] ![128, 128] inb_S128x512_S128x128_0_128, tile (grid0.coords t) (View.ld (iblk m c 0 t) (Rect.unit ![0, 128] ![128, 128] inb_S128x512_S128x128_0_128))
        (View.ld K (Rect.unit (k0_off2 (grid0.coords t)) ![640, 128] (k0_off2_inb (grid0.coords t)))) (View.ld V (Rect.unit (k0_off2 (grid0.coords t)) ![640, 128] (k0_off2_inb (grid0.coords t))))
        (View.ld (iblk m c 3 t) (Rect.unit ![2, 0, 0] ![1, 128, 640] inb_S8x128x640_S1x128x640_2_0_0)) (View.ld (iblk m c 3 t) (Rect.unit ![3, 0, 0] ![1, 128, 640] inb_S8x128x640_S1x128x640_3_0_0))⟩,
      ⟨Rect.unit ![0, 0] ![128, 128] inb_S128x512_S128x128_0_0, tile (grid0.coords t) (View.ld (iblk m c 0 t) (Rect.unit ![0, 0] ![128, 128] inb_S128x512_S128x128_0_0))
        (View.ld K (Rect.unit (k0_off1 (grid0.coords t)) ![640, 128] (k0_off1_inb (grid0.coords t)))) (View.ld V (Rect.unit (k0_off1 (grid0.coords t)) ![640, 128] (k0_off1_inb (grid0.coords t))))
        (View.ld (iblk m c 3 t) (Rect.unit ![0, 0, 0] ![1, 128, 640] inb_S8x128x640_S1x128x640_0_0_0)) (View.ld (iblk m c 3 t) (Rect.unit ![1, 0, 0] ![1, 128, 640] inb_S8x128x640_S1x128x640_1_0_0))⟩] : List (View.Piece (Elt Ideal) S128x512 .bf16)) := by
  by_cases h0 : t.val % 32 = 0
  · rw [outsAt0_A m c t h0]
    frame_out
    rw [keys_canon, vals_canon, ← hK, ← hV, tile_0, tile_1, tile_2, tile_3]
    rfl
  · have hk := (carried m c (t.val - 1) (by omega))
    rw [show (t.val - 1) / 32 = t.val / 32 by omega, ← hK, ← hV] at hk
    rw [outsAt0_B m c t h0]
    frame_out
    simp only [read_unread_whole, hk.1, hk.2]
    rw [tile_0, tile_1, tile_2, tile_3]
    rfl

/-- The call's output: every position's softmax average over its window. -/
abbrev out (c : Dev nD) : Buf (Elt Ideal) ((c : Thread nD τ).loc main_v0) := fun i =>
  Cert.Window.seen (m ((c : Thread nD τ).loc main_arg0)) (m ((c : Thread nD τ).loc main_arg1)) ⟨(i 0).val / 4096, by have := (i 0).isLt; change (i 0).val < 16384 at this; omega⟩
    ⟨(i 1).val / 64, by have := (i 1).isLt; change (i 1).val < 512 at this; omega⟩ ⟨(i 0).val % 4096, by omega⟩ ⟨(i 1).val % 64, by omega⟩

/-- Two places of the attention's output with the same numbers. -/
theorem seen_at (x : (⟨2, ![16384, 1536]⟩ : Shape).Idx → EReal) (bias : (⟨3, ![8, 128, 640]⟩ : Shape).Idx → EReal) {b b' : Fin 4} {h h' : Fin 8} {p p' : Fin 4096} {d d' : Fin 64}
    (hb : b.val = b'.val) (hh : h.val = h'.val) (hp : p.val = p'.val) (hd : d.val = d'.val) : Cert.Window.seen x bias b h p d = Cert.Window.seen x bias b' h' p' d' := by
  rw [Fin.ext hb, Fin.ext hh, Fin.ext hp, Fin.ext hd]

/-- A block of the call's output is what the body leaves. -/
theorem block (c : Dev nD) (hfin : Finite (m ((c : Thread nD τ).loc main_arg0)) (m ((c : Thread nD τ).loc main_arg1))) (t : Fin cfg0.N) (ht : t.val < 128) (a : Fin 128) (d : Fin 512) :
    (outsAt0 m c t.val t.isLt).1 (ix2 a d) = out m c (ix2 ⟨128 * t.val + a.val, by omega⟩ d) := by
  rw [tiles m c t _ _ rfl rfl]
  generalize hi : (ix2 a d : S128x512.Idx) = i
  canon_tiles x h
  · obtain ⟨a', l, rfl⟩ : ∃ (a l : Fin 128), x = ix2 a l := ⟨x 0, x 1, eq_ix2 x⟩
    subst hi
    have h0' : a.val = a'.val := h0
    have h1' : d.val = 384 + l.val := h1
    refine (tile_seen hfin ⟨t.val / 32, by omega⟩ ⟨t.val % 32, by omega⟩ 3 (grid0.coords t) (coords_1 t) _ _ _ _ _ (queries_3 m c t ht) (window_3 t _) (window_3 t _)
      (fun a w => (bias_3 m c t a w).1) (fun a w => (bias_3 m c t a w).2) a' l).trans ?_
    refine seen_at _ _ ?_ ?_ ?_ ?_
    · show t.val / 32 = (128 * t.val + a.val) / 4096; omega
    · show (128 * 3 + l.val) / 64 = d.val / 64; omega
    · show 128 * (t.val % 32) + a'.val = (128 * t.val + a.val) % 4096; omega
    · show (128 * 3 + l.val) % 64 = d.val % 64; omega
  · obtain ⟨a', l, rfl⟩ : ∃ (a l : Fin 128), x = ix2 a l := ⟨x 0, x 1, eq_ix2 x⟩
    subst hi
    have h0' : a.val = a'.val := h0
    have h1' : d.val = 256 + l.val := h1
    refine (tile_seen hfin ⟨t.val / 32, by omega⟩ ⟨t.val % 32, by omega⟩ 2 (grid0.coords t) (coords_1 t) _ _ _ _ _ (queries_2 m c t ht) (window_2 t _) (window_2 t _)
      (fun a w => (bias_2 m c t a w).1) (fun a w => (bias_2 m c t a w).2) a' l).trans ?_
    refine seen_at _ _ ?_ ?_ ?_ ?_
    · show t.val / 32 = (128 * t.val + a.val) / 4096; omega
    · show (128 * 2 + l.val) / 64 = d.val / 64; omega
    · show 128 * (t.val % 32) + a'.val = (128 * t.val + a.val) % 4096; omega
    · show (128 * 2 + l.val) % 64 = d.val % 64; omega
  · obtain ⟨a', l, rfl⟩ : ∃ (a l : Fin 128), x = ix2 a l := ⟨x 0, x 1, eq_ix2 x⟩
    subst hi
    have h0' : a.val = a'.val := h0
    have h1' : d.val = 128 + l.val := h1
    refine (tile_seen hfin ⟨t.val / 32, by omega⟩ ⟨t.val % 32, by omega⟩ 1 (grid0.coords t) (coords_1 t) _ _ _ _ _ (queries_1 m c t ht) (window_1 t _) (window_1 t _)
      (fun a w => (bias_1 m c t a w).1) (fun a w => (bias_1 m c t a w).2) a' l).trans ?_
    refine seen_at _ _ ?_ ?_ ?_ ?_
    · show t.val / 32 = (128 * t.val + a.val) / 4096; omega
    · show (128 * 1 + l.val) / 64 = d.val / 64; omega
    · show 128 * (t.val % 32) + a'.val = (128 * t.val + a.val) % 4096; omega
    · show (128 * 1 + l.val) % 64 = d.val % 64; omega
  · obtain ⟨a', l, rfl⟩ : ∃ (a l : Fin 128), x = ix2 a l := ⟨x 0, x 1, eq_ix2 x⟩
    subst hi
    have h0' : a.val = a'.val := h0
    have h1' : d.val = l.val := h1
    refine (tile_seen hfin ⟨t.val / 32, by omega⟩ ⟨t.val % 32, by omega⟩ 0 (grid0.coords t) (coords_1 t) _ _ _ _ _ (queries_0 m c t ht) (window_0 t _) (window_0 t _)
      (fun a w => (bias_0 m c t a w).1) (fun a w => (bias_0 m c t a w).2) a' l).trans ?_
    refine seen_at _ _ ?_ ?_ ?_ ?_
    · show t.val / 32 = (128 * t.val + a.val) / 4096; omega
    · show (128 * 0 + l.val) / 64 = d.val / 64; omega
    · show 128 * (t.val % 32) + a'.val = (128 * t.val + a.val) % 4096; omega
    · show (128 * 0 + l.val) % 64 = d.val % 64; omega

/-- The call leaves every position's softmax average over its window. -/
theorem final (c : Dev nD) (hfin : Finite (m ((c : Thread nD τ).loc main_arg0)) (m ((c : Thread nD τ).loc main_arg1))) :
    (dats m 0 c).arrAt 4 (cfgs 0).N = out m c := by
  refine (dats m 0 c).arrAt_eq_of_covers 4 _ (by decide +kernel) fun t hf y => ?_
  have e := (placesQ t).2
  obtain ⟨a, d, rfl⟩ : ∃ (a : Fin 128) (d : Fin 512), y = ix2 a d := ⟨y 0, y 1, eq_ix2 y⟩
  rw [after0_4]
  refine Eq.trans ?_ ((block m c hfin t t.isLt a d).trans (congrArg (out m c) ?_))
  · rfl
  · blk_ext [e]

/-- The precondition says that the queries, the keys and the biases are numbers. -/
theorem finite (h : Cert.Pre_ChunkIdeal_finite_scores (hPre_finite_scores := Cert.Pre_finite_scores.Gen.facts) m) (c : Dev nD) :
    Finite (m ((c : Thread nD τ).loc main_arg0)) (m ((c : Thread nD τ).loc main_arg1)) := by
  have e := congrFun (h c) ix0
  dsimp only [Cert.Pre_finite_scores.fn] at e
  obtain ⟨e0, e1⟩ := Cert.Numbers.both _ _ e
  constructor
  · intro r j
    have q := Host.reduce_andi_all _ _ _ _ _ e0 (ix2 r j)
    have n := Cert.Numbers.number _ _ _ _ q
    have hx : (extf .f32 (extractStridedSlice Cert.Pre_finite_scores.S16384x1024 ![0, 0] (m ((c : Thread nD τ).loc main_arg0)) Cert.Pre_finite_scores.Facts.slices_S16384x1536_S16384x1024_0_0) Cert.Pre_finite_scores.Facts.bitsLt_bf16_f32 : FVec Ideal _ .f32) (ix2 r j)
        = m ((c : Thread nD τ).loc main_arg0) (ix2 r ⟨j.val, by omega⟩) := by pointwise
    rwa [← hx]
  · intro h a w
    exact Cert.Numbers.number _ _ _ _ (Host.reduce_andi_all _ _ _ _ _ e1 (ix3 h a w))

end Cert.ChunkIdeal.Whole

namespace Cert.Proof.ChunkClaims

/-- The kernel's frame at the bit instance. -/
theorem frame_p : Cert.quiescent_Chunk (hChunk := Cert.Chunk.Gen.facts) := fun m ρ _ => Cert.Chunk.Gen.frame m ρ
/-- The kernel's frame at the ideal instance. -/
theorem frame_pi : Cert.quiescent_ChunkIdeal (hChunkIdeal := Cert.ChunkIdeal.Gen.facts) := fun m ρ _ => Cert.ChunkIdeal.Gen.frame m ρ
/-- The kernel's frame at the ideal instance, where the arguments are numbers. -/
theorem frame_pi_pre : Cert.quiescent_ChunkIdeal_pre_finite_scores (hChunkIdeal := Cert.ChunkIdeal.Gen.facts) (hPre_finite_scores := Cert.Pre_finite_scores.Gen.facts) :=
  fun m ρ _ => Cert.ChunkIdeal.Gen.frame m ρ
/-- The reference keeps its arguments and has no semaphore. -/
theorem frame_ri : Cert.quiescent_ChunkRefIdeal (hChunkRefIdeal := Cert.ChunkRefIdeal.Gen.facts) := fun m ρ _ =>
  (θ_run Cert.ChunkRefIdeal.defs _ _).mono (fun r h => ⟨fun c => (h c).2,
      Idealize.ShloMosaic.sem_eq_zero_of_no_sems (by decide) r.2⟩)
    (Cert.ChunkRefIdeal.Value.run (F := Ideal) m ρ)
/-- The reference keeps its arguments and has no semaphore, where the arguments are numbers. -/
theorem frame_ri_pre : Cert.quiescent_ChunkRefIdeal_pre_finite_scores (hChunkRefIdeal := Cert.ChunkRefIdeal.Gen.facts) (hPre_finite_scores := Cert.Pre_finite_scores.Gen.facts) :=
  fun m ρ _ => frame_ri m ρ trivial
/-- The name for the masked score stands for minus infinity. -/
theorem preserves : Cert.preserves_Chunk_ChunkIdeal :=
  IdealRules.named_const.statement Cert.ChunkIdeal.κ "masked" .f32 0xF149F2CA#32 (⊥ : EReal) rfl

/-- The kernel's windows compute the attention over all keys that the reference defines. -/
theorem algebraic : Cert.algebraic_ChunkIdeal_ChunkRefIdeal_pre_finite_scores (hChunkIdeal := Cert.ChunkIdeal.Gen.facts) (hChunkRefIdeal := Cert.ChunkRefIdeal.Gen.facts) (hPre_finite_scores := Cert.Pre_finite_scores.Gen.facts) := by
  intro m ρ m' ρ' hpre hagree
  refine ⟨fun c => Cert.ChunkIdeal.Whole.out m c, ?_, ?_⟩
  · exact (θ_run Cert.ChunkIdeal.defs _ _).mono
      (fun _ h c => ⟨(h c).1.trans ((Cert.ChunkIdeal.Value.final4 m c).symm.trans (Cert.ChunkIdeal.Whole.final m c (Cert.ChunkIdeal.Whole.finite m hpre c))), (h c).2⟩)
      (Cert.ChunkIdeal.Value.run (F := Ideal) m ρ)
  · refine (θ_run Cert.ChunkRefIdeal.defs _ _).mono (fun _ h c => ⟨(h c).1.trans ?_, (h c).2⟩)
      (Cert.ChunkRefIdeal.Value.run (F := Ideal) m' ρ')
    obtain ⟨h0, h1⟩ := hagree c
    funext j
    idx_vars j
    refine (Cert.ChunkRefIdeal.Whole.ref_out m' c j0 j1).trans ?_
    rw [h0, h1]
    rfl

end Cert.Proof.ChunkClaims

end
-- ==== Proof.Causal.lean ====
module

public import proofs.«01_k».proof.Proof.Softmax
public import Idealize.ShloMosaic.Lib.Pointwise

@[expose] public section

noncomputable section

open Idealize.ShloMosaic

namespace Cert.Causal

/-- The comparison of two chunks' numbers as words. -/
theorem before_word : ∀ p k : Fin 64, IntOp.cmpi .sle (BitVec.ofNat 32 k.val) (BitVec.ofNat 32 p.val) = if k.val ≤ p.val then 1#1 else 0#1 := by
  decide +kernel

/-- The score of a query and a key of one batch and head: their product, where the key's chunk is not after the query's. -/
def score (q k : (⟨2, ![16384, 1024]⟩ : Shape).Idx → EReal) (b : Fin 4) (h : Fin 8) (p j : Fin 4096) : EReal :=
  if j.val / 64 ≤ p.val / 64 then
    ∑ d : Fin 128, q (ix2 ⟨b.val * 4096 + p.val, by omega⟩ ⟨h.val * 128 + d.val, by omega⟩) * k (ix2 ⟨b.val * 4096 + j.val, by omega⟩ ⟨h.val * 128 + d.val, by omega⟩)
  else ⊥

/-- A head's value at a position and lane. -/
def value (v : (⟨2, ![16384, 512]⟩ : Shape).Idx → EReal) (b : Fin 4) (h : Fin 8) (d : Fin 64) (j : Fin 4096) : EReal :=
  v (ix2 ⟨b.val * 4096 + j.val, by omega⟩ ⟨h.val * 64 + d.val, by omega⟩)

/-- The attention's output at one row and column: the softmax average of the values over all keys. -/
def seen (q k : (⟨2, ![16384, 1024]⟩ : Shape).Idx → EReal) (v : (⟨2, ![16384, 512]⟩ : Shape).Idx → EReal) (b : Fin 4) (h : Fin 8) (p : Fin 4096) (d : Fin 64) : EReal :=
  Softmax.attend Finset.univ (score q k b h p) (value v b h d)

end Cert.Causal

end
-- ==== Proof.MlaTile.lean ====
module

public import Idealize.ShloMosaic.Lib.Pipeline.ValueKit
public import Idealize.ShloMosaic.Lib.Pipeline.ReadBack
public import Idealize.ShloMosaic.Lib.Pointwise
public import proofs.«01_k».proof.Proof.HostMax
public import proofs.«01_k».proof.Proof.Causal
public import proofs.«01_k».proof.Proof.Gen.MlaIdeal.Value

@[expose] public section

set_option maxRecDepth 16384

noncomputable section

open Idealize.ShloMosaic Idealize.ShloMosaic.TcCoe Idealize.SL.Sem
open Idealize.ShloMosaic.Pipeline (Dat)

namespace Cert.MlaIdeal.Whole

open Cert.MlaIdeal Cert.MlaIdeal.Gen

/-- What a head carries from tile to tile: each row's largest score, sum of weights and weighted sum of values. -/
abbrev Acc : Type := FVec Ideal S256x1 .f32 × FVec Ideal S256x1 .f32 × FVec Ideal S256x128 .f32

/-- The products of a tile of queries and a tile of keys. -/
def prod (q k : Vec Ideal S256x128 .bf16) : FVec Ideal S256x256 .f32 :=
  matmul (φ₁ := .bf16) (φ₂ := .bf16) dot_S256x128_S256x128_S256x256_1_1_0_0_n_n none q k (constant S256x256 .f32 0x00000000#32)

/-- The mask of the tile on the diagonal. -/
def diag : IVec S256x256 1 := k0_pay6 (iota .tc S256x256 32 [0] iota_S256x256_d0_w32) k0_pay3 64#32 k0_pay4 k0_pay5

/-- The scores of the tile on the diagonal: the products where the mask is set. -/
def masked (q k : Vec Ideal S256x128 .bf16) : FVec Ideal S256x256 .f32 :=
  select diag (prod q k) (broadcast S256x256 (Named.named κ "masked" 0xF149F2CA#32))

/-- The bound moved up to a tile's largest scores. -/
def upM (S : FVec Ideal S256x256 .f32) (m : FVec Ideal S256x1 .f32) : FVec Ideal S256x1 .f32 :=
  maximumf m (shapeCast S256x1 (multiReduction .maximumf [1] S256 S 0xFF800000#32 reduces_S256x256_S256 (.inl rfl) rfl) shapeCasts_S256_S256x1)

/-- A tile's weights under the new bound. -/
def wts (S : FVec Ideal S256x256 .f32) (m : FVec Ideal S256x1 .f32) : FVec Ideal S256x256 .f32 :=
  exp (subf S (broadcastTo S256x256 (upM S m) broadcasts_S256x1_S256x256))

/-- The sum of the weights, rescaled and extended by a tile's. -/
def upL (S : FVec Ideal S256x256 .f32) (m l : FVec Ideal S256x1 .f32) : FVec Ideal S256x1 .f32 :=
  addf (mulf (exp (subf m (upM S m))) l) (shapeCast S256x1 (multiReduction .add [1] S256 (wts S m) 0x00000000#32 reduces_S256x256_S256 (.inl rfl) rfl) shapeCasts_S256_S256x1)

/-- The weighted sum of the values, rescaled and extended by a tile's. -/
def upA (S : FVec Ideal S256x256 .f32) (v : Vec Ideal S256x128 .bf16) (m : FVec Ideal S256x1 .f32) (a : FVec Ideal S256x128 .f32) : FVec Ideal S256x128 .f32 :=
  addf (mulf (broadcastTo S256x128 (exp (subf m (upM S m))) broadcasts_S256x1_S256x128) a)
    (matmul (φ₂ := .bf16) dot_S256x256_S256x128_S256x128_1_0_0_1_n_n none (truncf .bf16 (wts S m) bitsLt_bf16_f32 : FVec Ideal S256x256 .bf16) v (constant S256x128 .f32 0x00000000#32))

/-- One tile's step. -/
def step (S : FVec Ideal S256x256 .f32) (v : Vec Ideal S256x128 .bf16) (acc : Acc) : Acc :=
  (upM S acc.1, upL S acc.1 acc.2.1, upA S v acc.1 acc.2.2)

/-- What a head carries before its tile `n`. -/
def state (q : Vec Ideal S256x128 .bf16) (K V : ℕ → Vec Ideal S256x128 .bf16) : ℕ → Acc
  | 0 => (k0_pay7, k0_pay8, k0_pay9)
  | n + 1 => step (prod q (K n)) (V n) (state q K V n)

/-- A head's output: the weighted sum over the sum of the weights, after the tile on the diagonal. -/
def quo (acc : Acc) : FVec Ideal S256x128 .f32 := divf acc.2.2 (broadcastTo S256x128 acc.2.1 broadcasts_S256x1_S256x128)

/-- A head's output from all its tiles. -/
def head (q : Vec Ideal S256x128 .bf16) (K V : ℕ → Vec Ideal S256x128 .bf16) (n : ℕ) : FVec Ideal S256x128 .f32 :=
  quo (step (masked q (K n)) (V n) (state q K V n))

/-- A product, read at its place. -/
theorem prod_at (q k : Vec Ideal S256x128 .bf16) (a w : Fin 256) : prod q k (ix2 a w) = ∑ l : Fin 128, q (ix2 a l) * k (ix2 w l) := by
  unfold prod
  pointwise

/-- The mask of the tile on the diagonal, read at its place. -/
theorem diag_at (a w : Fin 256) : diag (ix2 a w) = if w.val / 64 ≤ a.val / 64 then 1#1 else 0#1 := by
  have hr : ∀ a : Fin 256, IntOp.cmpi .sle (BitVec.ofNat 32 (w.val / 64)) (BitVec.ofNat 32 (a.val / 64)) = diag (ix2 a w) := fun a => by
    unfold diag k0_pay6
    rw [show ∀ x y : IVec S256x256 32, cmpi .sle x y (ix2 a w) = IntOp.cmpi .sle (x (ix2 a w)) (y (ix2 a w)) from fun _ _ => rfl]
    refine congrArg₂ (IntOp.cmpi .sle) ?_ ?_
    · unfold k0_pay3
      pointwise
      revert w
      decide +kernel
    · unfold k0_pay4 k0_pay5
      pointwise
      revert a
      decide +kernel
  rw [← hr]
  exact Cert.Causal.before_word ⟨a.val / 64, by omega⟩ ⟨w.val / 64, by omega⟩

/-- A score of the tile on the diagonal, read at its place. -/
theorem masked_at (q k : Vec Ideal S256x128 .bf16) (a w : Fin 256) :
    masked q k (ix2 a w) = if w.val / 64 ≤ a.val / 64 then ∑ l : Fin 128, q (ix2 a l) * k (ix2 w l) else ⊥ := by
  have e : masked q k (ix2 a w) = Scalar.select (diag (ix2 a w)) (prod q k (ix2 a w)) ⊥ := rfl
  rw [e, diag_at, prod_at]
  split <;> rfl

/-- A row's largest score in a tile. -/
theorem tile_top (S : FVec Ideal S256x256 .f32) (a : Fin 256) (z : Fin 1) :
    shapeCast S256x1 (multiReduction .maximumf [1] S256 S 0xFF800000#32 reduces_S256x256_S256 (.inl rfl) rfl) shapeCasts_S256_S256x1 (ix2 a z)
      = Cert.Softmax.top Finset.univ fun j : Fin 256 => S (ix2 a j) := by
  have hb : Ideal.ofBits .f32 0xFF800000#32 = (⊥ : EReal) := by simp [Ideal.ofBits, Ideal.ieee]
  pointwise
  exact Cert.Softmax.fold_max _ _ _ hb

/-- The new bound, read at its row. -/
theorem upM_at (S : FVec Ideal S256x256 .f32) (m : FVec Ideal S256x1 .f32) (a : Fin 256) (z : Fin 1) :
    upM S m (ix2 a z) = max (m (ix2 a z)) (Cert.Softmax.top Finset.univ fun j : Fin 256 => S (ix2 a j)) :=
  congrArg (max (m (ix2 a z))) (tile_top S a z)

/-- A weight, read at its place. -/
theorem wts_at (S : FVec Ideal S256x256 .f32) (m : FVec Ideal S256x1 .f32) (a w : Fin 256) :
    wts S m (ix2 a w) = Ideal.exp (S (ix2 a w) - max (m (ix2 a 0)) (Cert.Softmax.top Finset.univ fun j : Fin 256 => S (ix2 a j))) := by
  rw [← upM_at]
  unfold wts
  pointwise

/-- The new sum of weights, read at its row. -/
theorem upL_at (S : FVec Ideal S256x256 .f32) (m l : FVec Ideal S256x1 .f32) (a : Fin 256) :
    upL S m l (ix2 a 0) = Ideal.exp (m (ix2 a 0) - upM S m (ix2 a 0)) * l (ix2 a 0) + ∑ w : Fin 256, wts S m (ix2 a w) := by
  unfold upL
  pointwise

/-- The new weighted sum of values, read at its place. -/
theorem upA_at (S : FVec Ideal S256x256 .f32) (v : Vec Ideal S256x128 .bf16) (m : FVec Ideal S256x1 .f32) (x : FVec Ideal S256x128 .f32) (a : Fin 256) (d : Fin 128) :
    upA S v m x (ix2 a d) = Ideal.exp (m (ix2 a 0) - upM S m (ix2 a 0)) * x (ix2 a d) + ∑ w : Fin 256, wts S m (ix2 a w) * v (ix2 w d) := by
  unfold upA
  pointwise

/-- A tile's step carries the running form on by the tile's keys. -/
theorem step_carried {n : ℕ} {s u : ℕ → EReal} (S : FVec Ideal S256x256 .f32) (v : Vec Ideal S256x128 .bf16) (acc : Acc) (a : Fin 256) (d : Fin 128)
    (h : Cert.Softmax.Carried n s u (acc.1 (ix2 a 0)) (acc.2.1 (ix2 a 0)) (acc.2.2 (ix2 a d))) (hS : ∀ w : Fin 256, S (ix2 a w) = s (n + w.val))
    (hv : ∀ w : Fin 256, v (ix2 w d) = u (n + w.val)) (hs : ∀ i < n + 256, s i ≠ ⊤) :
    Cert.Softmax.Carried (n + 256) s u ((step S v acc).1 (ix2 a 0)) ((step S v acc).2.1 (ix2 a 0)) ((step S v acc).2.2 (ix2 a d)) := by
  have e := Cert.Softmax.carried_step 256 h hs
  have hf : (fun j : Fin 256 => S (ix2 a j)) = fun j : Fin 256 => s (n + j.val) := funext hS
  unfold step
  dsimp only
  rw [upL_at, upA_at, upM_at]
  simp only [wts_at, hS, hv]
  exact e

/-- Before its tile `n` a head carries the running form of the keys of the tiles before. -/
theorem state_carried {s u : ℕ → EReal} (q : Vec Ideal S256x128 .bf16) (K V : ℕ → Vec Ideal S256x128 .bf16) (a : Fin 256) (d : Fin 128) (N : ℕ)
    (hS : ∀ n < N, ∀ w : Fin 256, prod q (K n) (ix2 a w) = s (256 * n + w.val)) (hv : ∀ n < N, ∀ w : Fin 256, V n (ix2 w d) = u (256 * n + w.val))
    (hs : ∀ i < 256 * N, s i ≠ ⊤) : ∀ n ≤ N,
    Cert.Softmax.Carried (256 * n) s u ((state q K V n).1 (ix2 a 0)) ((state q K V n).2.1 (ix2 a 0)) ((state q K V n).2.2 (ix2 a d))
  | 0, _ => by
    have e0 : (state q K V 0).1 (ix2 a 0) = (⊥ : EReal) := rfl
    have e1 : (state q K V 0).2.1 (ix2 a 0) = (0 : EReal) := by unfold state k0_pay8; pointwise
    have e2 : (state q K V 0).2.2 (ix2 a d) = (0 : EReal) := by unfold state k0_pay9; pointwise
    rw [e0, e1, e2]
    exact Cert.Softmax.carried_zero s u
  | n + 1, h => step_carried _ _ _ a d (state_carried q K V a d N hS hv hs n (by omega)) (hS n (by omega)) (hv n (by omega)) fun i (hi : i < 256 * n + 256) => hs i (by omega)

/-- A head's output at a row and lane is the softmax average of its values over the keys of its tiles, as one quotient. -/
theorem head_at {s u : ℕ → EReal} (q : Vec Ideal S256x128 .bf16) (K V : ℕ → Vec Ideal S256x128 .bf16) (a : Fin 256) (d : Fin 128) (n : ℕ)
    (hS : ∀ i < n, ∀ w : Fin 256, prod q (K i) (ix2 a w) = s (256 * i + w.val)) (hd : ∀ w : Fin 256, masked q (K n) (ix2 a w) = s (256 * n + w.val))
    (hv : ∀ i ≤ n, ∀ w : Fin 256, V i (ix2 w d) = u (256 * i + w.val)) (hs : ∀ i < 256 * n + 256, s i ≠ ⊤) :
    head q K V n (ix2 a d) = Cert.Softmax.quot (Finset.range (256 * n + 256)) s u := by
  have h := step_carried (masked q (K n)) (V n) (state q K V n) a d
    (state_carried q K V a d n hS (fun i hi => hv i (by omega)) (fun i hi => hs i (by omega)) n le_rfl) hd (hv n le_rfl) hs
  rw [← Cert.Softmax.carried_quot h]
  unfold head quo
  pointwise

end Cert.MlaIdeal.Whole

end
-- ==== Proof.Maps.lean ====
module

public import proofs.«01_k».proof.Proof.Softmax
public import proofs.«01_k».proof.Proof.Numbers
public import Idealize.ShloMosaic.Lib.Pointwise

@[expose] public section

noncomputable section

open Idealize.ShloMosaic

namespace Cert.Maps

/-- The slope of a head's linear bias. -/
def slope (h : Fin 4) : ℝ := (1 / 4 : ℝ) ^ (h.val + 1)

/-- The score of a query and a key in one of a head's two maps: their scaled product less the slope times their distance, where the key's chunk is not after the query's. -/
def score (x : (⟨2, ![16384, 1536]⟩ : Shape).Idx → EReal) (b h : Fin 4) (c : Fin 2) (p j : Fin 4096) : EReal :=
  if j.val / 64 ≤ p.val / 64 then
    (∑ d : Fin 64, x (ix2 ⟨b.val * 4096 + p.val, by omega⟩ ⟨h.val * 128 + (c.val * 64 + d.val), by omega⟩) * x (ix2 ⟨b.val * 4096 + j.val, by omega⟩ ⟨512 + (h.val * 128 + (c.val * 64 + d.val)), by omega⟩))
      * Ideal.ofBits .f32 0x3E000000#32 + ((-slope h * |(p.val : ℝ) - (j.val : ℝ)| : ℝ) : EReal)
  else ⊥

/-- A head's value at a position and lane. -/
def value (x : (⟨2, ![16384, 1536]⟩ : Shape).Idx → EReal) (b h : Fin 4) (e : Fin 128) (j : Fin 4096) : EReal :=
  x (ix2 ⟨b.val * 4096 + j.val, by omega⟩ ⟨1024 + (h.val * 128 + e.val), by omega⟩)

/-- The weight of the second map. -/
def mix (q1 k1 q2 k2 : (⟨1, ![64]⟩ : Shape).Idx → EReal) : EReal :=
  Ideal.exp (∑ d : Fin 64, q1 (ix1 d) * k1 (ix1 d)) - Ideal.exp (∑ d : Fin 64, q2 (ix1 d) * k2 (ix1 d)) + Ideal.ofBits .f32 0x3E4CCCCD#32

/-- A head's row scaled to unit root mean square, by the weights of the lanes and by a constant. -/
def normed (y g : Fin 128 → EReal) (e : Fin 128) : EReal :=
  y e * Ideal.rsqrt (Ideal.div (∑ k : Fin 128, y k * y k) (Ideal.ofBits .f32 0x43000000#32) + Ideal.ofBits .f32 0x358637BD#32) * g e * Ideal.ofBits .f32 0x3F4CCCCD#32

/-- The difference of a head's two softmax averages, the second weighted. -/
def differ (x : (⟨2, ![16384, 1536]⟩ : Shape).Idx → EReal) (w : EReal) (b h : Fin 4) (p : Fin 4096) (e : Fin 128) : EReal :=
  Cert.Softmax.attend Finset.univ (score x b h 0 p) (value x b h e) - w * Cert.Softmax.attend Finset.univ (score x b h 1 p) (value x b h e)

/-- The attention's output at one row and column. -/
def seen (x : (⟨2, ![16384, 1536]⟩ : Shape).Idx → EReal) (w : EReal) (g : (⟨1, ![128]⟩ : Shape).Idx → EReal) (b h : Fin 4) (p : Fin 4096) (e : Fin 128) : EReal :=
  normed (differ x w b h p) (fun k => g (ix1 k)) e

/-- The scale, one eighth, is a number. -/
theorem scale_number : Ideal.ofBits .f32 0x3E000000#32 = ((1 / 8 : ℝ) : EReal) := by
  simp [Ideal.ofBits, Ideal.ieee]
  rw [← EReal.coe_mul]
  norm_num

/-- The constant part of the second map's weight is a number. -/
theorem base_number : ∃ r : ℝ, Ideal.ofBits .f32 0x3E4CCCCD#32 = (r : EReal) := by
  refine ⟨13421773 / 67108864, ?_⟩
  simp [Ideal.ofBits, Ideal.ieee]
  rw [← EReal.coe_mul]
  norm_num

/-- A sum of numbers is the number of their sum. -/
theorem coe_sum {ι : Type} (S : Finset ι) (f : ι → ℝ) : ∑ i ∈ S, (f i : EReal) = ((∑ i ∈ S, f i : ℝ) : EReal) :=
  (map_sum (⟨⟨((↑) : ℝ → EReal), EReal.coe_zero⟩, EReal.coe_add⟩ : ℝ →+ EReal) _ _).symm

/-- What is neither the top nor the bottom is a number. -/
theorem real_of {y : EReal} (ht : y ≠ ⊤) (hb : y ≠ ⊥) : ∃ r : ℝ, y = (r : EReal) := ⟨y.toReal, (EReal.coe_toReal ht hb).symm⟩

/-- A normalized weight is a number. -/
theorem weight_number {ι : Type} (S : Finset ι) (s : ι → EReal) (h : ∀ i ∈ S, s i ≠ ⊤) (hb : ∃ i ∈ S, s i ≠ ⊥) (i : ι) (hi : i ∈ S) :
    ∃ r : ℝ, Ideal.div (Ideal.exp (s i - Cert.Softmax.top S s)) (Cert.Softmax.mass S s (Cert.Softmax.top S s)) = (r : EReal) := by
  have hz := Cert.Softmax.mass_ne_zero S s h hb
  obtain ⟨a, ha⟩ : ∃ r : ℝ, Ideal.exp (s i - Cert.Softmax.top S s) = (r : EReal) := real_of (Cert.Softmax.exp_sub_ne_top (Finset.le_sup hi : s i ≤ Cert.Softmax.top S s) (Cert.Softmax.top_ne_top S s h))
    (ne_of_gt (lt_of_lt_of_le EReal.bot_lt_zero (Cert.Softmax.exp_nonneg _)))
  obtain ⟨b, hb'⟩ := real_of (Cert.Softmax.inv_ne_top (Cert.Softmax.mass S s (Cert.Softmax.top S s)))
    (ne_of_gt (lt_of_lt_of_le EReal.bot_lt_zero (EReal.inv_nonneg_of_nonneg (Cert.Softmax.mass_nonneg S s _))))
  unfold Ideal.div
  rw [if_neg hz, ha, hb']
  exact ⟨a * b, (EReal.coe_mul a b).symm⟩

/-- Averaging with the difference of two maps' weights is the difference of the averages, where everything is a number. -/
theorem attend_differ {ι : Type} (S : Finset ι) (s0 s1 v : ι → EReal) (w : ℝ) (h0 : ∀ i ∈ S, s0 i ≠ ⊤) (hb0 : ∃ i ∈ S, s0 i ≠ ⊥)
    (h1 : ∀ i ∈ S, s1 i ≠ ⊤) (hb1 : ∃ i ∈ S, s1 i ≠ ⊥) (hv : ∀ i ∈ S, v i ≠ ⊤ ∧ v i ≠ ⊥) :
    (∑ i ∈ S, v i * (Ideal.div (Ideal.exp (s0 i - Cert.Softmax.top S s0)) (Cert.Softmax.mass S s0 (Cert.Softmax.top S s0))
        - (w : EReal) * Ideal.div (Ideal.exp (s1 i - Cert.Softmax.top S s1)) (Cert.Softmax.mass S s1 (Cert.Softmax.top S s1))))
      = Cert.Softmax.attend S s0 v - (w : EReal) * Cert.Softmax.attend S s1 v := by
  unfold Cert.Softmax.attend
  have e0 := weight_number S s0 h0 hb0
  have e1 := weight_number S s1 h1 hb1
  choose! a ha using e0
  choose! b hb using e1
  choose! c hc using fun i hi => real_of (hv i hi).1 (hv i hi).2
  have t0 := Finset.sum_congr (rfl : S = S) fun i hi => show v i * (Ideal.div (Ideal.exp (s0 i - Cert.Softmax.top S s0)) (Cert.Softmax.mass S s0 (Cert.Softmax.top S s0))
        - (w : EReal) * Ideal.div (Ideal.exp (s1 i - Cert.Softmax.top S s1)) (Cert.Softmax.mass S s1 (Cert.Softmax.top S s1))) = ((c i * (a i - w * b i) : ℝ) : EReal) by
    rw [ha i hi, hb i hi, hc i hi, ← EReal.coe_mul, ← EReal.coe_sub, ← EReal.coe_mul]
  have t1 := Finset.sum_congr (rfl : S = S) fun i hi => show Ideal.div (Ideal.exp (s0 i - Cert.Softmax.top S s0)) (Cert.Softmax.mass S s0 (Cert.Softmax.top S s0)) * v i = ((a i * c i : ℝ) : EReal) by
    rw [ha i hi, hc i hi, ← EReal.coe_mul]
  have t2 := Finset.sum_congr (rfl : S = S) fun i hi => show Ideal.div (Ideal.exp (s1 i - Cert.Softmax.top S s1)) (Cert.Softmax.mass S s1 (Cert.Softmax.top S s1)) * v i = ((b i * c i : ℝ) : EReal) by
    rw [hb i hi, hc i hi, ← EReal.coe_mul]
  rw [t0, t1, t2, coe_sum, coe_sum, coe_sum, ← EReal.coe_mul, ← EReal.coe_sub]
  refine congrArg _ ?_
  rw [Finset.mul_sum, ← Finset.sum_sub_distrib]
  exact Finset.sum_congr rfl fun i _ => by ring

/-- The array of queries, keys and values holds numbers. -/
def Finite (x : (⟨2, ![16384, 1536]⟩ : Shape).Idx → EReal) : Prop := ∀ (r : Fin 16384) (j : Fin 1536), x (ix2 r j) ≠ ⊤ ∧ x (ix2 r j) ≠ ⊥

variable {x : (⟨2, ![16384, 1536]⟩ : Shape).Idx → EReal}

/-- A key in reach has a score that is a number. -/
theorem score_number (hfin : Finite x) (b h : Fin 4) (c : Fin 2) (p j : Fin 4096) (hn : j.val / 64 ≤ p.val / 64) :
    ∃ r : ℝ, score x b h c p j = (r : EReal) := by
  unfold score
  rw [if_pos hn]
  obtain ⟨s, hs⟩ := Cert.Numbers.sum_number 64 (fun d => x (ix2 ⟨b.val * 4096 + p.val, by omega⟩ ⟨h.val * 128 + (c.val * 64 + d.val), by omega⟩))
    (fun d => x (ix2 ⟨b.val * 4096 + j.val, by omega⟩ ⟨512 + (h.val * 128 + (c.val * 64 + d.val)), by omega⟩)) (fun d => hfin _ _) (fun d => hfin _ _)
  exact ⟨s * (1 / 8) + -slope h * |(p.val : ℝ) - (j.val : ℝ)|, by rw [hs, scale_number, ← EReal.coe_mul, ← EReal.coe_add]⟩

/-- No score is the top. -/
theorem score_ne_top (hfin : Finite x) (b h : Fin 4) (c : Fin 2) (p j : Fin 4096) : score x b h c p j ≠ ⊤ := by
  by_cases hn : j.val / 64 ≤ p.val / 64
  · obtain ⟨r, hr⟩ := score_number hfin b h c p j hn
    rw [hr]
    exact EReal.coe_ne_top r
  · unfold score
    rw [if_neg hn]
    exact bot_ne_top

/-- Some score is not the bottom. -/
theorem score_some (hfin : Finite x) (b h : Fin 4) (c : Fin 2) (p : Fin 4096) : ∃ j ∈ Finset.univ, score x b h c p j ≠ ⊥ := by
  refine ⟨⟨0, by decide⟩, Finset.mem_univ _, ?_⟩
  obtain ⟨r, hr⟩ := score_number hfin b h c p ⟨0, by decide⟩ (Nat.zero_le _)
  rw [hr]
  exact EReal.coe_ne_bot r

/-- The average over the keys of the tiles up to the diagonal is the average over all keys. -/
theorem attend_quot (hfin : Finite x) (b h : Fin 4) (c : Fin 2) (n : Fin 16) (a : Fin 256) (e : Fin 128) :
    Cert.Softmax.quot (Finset.range (256 * n.val + 256))
        (fun j => score x b h c ⟨256 * n.val + a.val, by omega⟩ ⟨j % 4096, Nat.mod_lt _ (by decide)⟩) (fun j => value x b h e ⟨j % 4096, Nat.mod_lt _ (by decide)⟩)
      = Cert.Softmax.attend Finset.univ (score x b h c ⟨256 * n.val + a.val, by omega⟩) (value x b h e) := by
  rw [Cert.Softmax.attend_eq_quot _ _ _ (fun j _ => score_ne_top hfin b h c _ j) (score_some hfin b h c _), Cert.Softmax.quot_below]
  rw [Cert.Softmax.quot_embed (⟨fun w : Fin (256 * n.val + 256) => ⟨w.val, by omega⟩, fun w w' e => Fin.ext (by have := congrArg Fin.val e; simp only at this; omega)⟩ : Fin (256 * n.val + 256) ↪ Fin 4096)]
  · refine Cert.Softmax.quot_congr (fun w _ => ?_) (fun w _ => ?_)
    · exact congrArg _ (Fin.ext (Nat.mod_eq_of_lt (by omega)))
    · exact congrArg _ (Fin.ext (Nat.mod_eq_of_lt (by omega)))
  · intro j hj
    unfold score
    refine if_neg fun hn => ?_
    have hn' : j.val / 64 ≤ (256 * n.val + a.val) / 64 := hn
    exact hj ⟨j.val, by omega⟩ rfl

/-- The second map's weight is a number. -/
theorem mix_number (q1 k1 q2 k2 : (⟨1, ![64]⟩ : Shape).Idx → EReal) (h1 : ∀ d : Fin 64, q1 (ix1 d) ≠ ⊤ ∧ q1 (ix1 d) ≠ ⊥) (h2 : ∀ d : Fin 64, k1 (ix1 d) ≠ ⊤ ∧ k1 (ix1 d) ≠ ⊥)
    (h3 : ∀ d : Fin 64, q2 (ix1 d) ≠ ⊤ ∧ q2 (ix1 d) ≠ ⊥) (h4 : ∀ d : Fin 64, k2 (ix1 d) ≠ ⊤ ∧ k2 (ix1 d) ≠ ⊥) : ∃ r : ℝ, mix q1 k1 q2 k2 = (r : EReal) := by
  obtain ⟨s, hs⟩ := Cert.Numbers.sum_number 64 _ _ h1 h2
  obtain ⟨u, hu⟩ := Cert.Numbers.sum_number 64 _ _ h3 h4
  obtain ⟨w, hw⟩ := base_number
  unfold mix
  rw [hs, hu, hw]
  exact ⟨Real.exp s - Real.exp u + w, by rw [EReal.coe_add, EReal.coe_sub]; rfl⟩

end Cert.Maps

end
-- ==== Proof.DiffTile.lean ====
module

public import proofs.«01_k».proof.Proof.MlaTile
public import proofs.«01_k».proof.Proof.Maps
public import proofs.«01_k».proof.Proof.Gen.DiffIdeal.Value

@[expose] public section

set_option maxRecDepth 16384

noncomputable section

open Idealize.ShloMosaic Idealize.ShloMosaic.TcCoe Idealize.SL.Sem
open Idealize.ShloMosaic.Pipeline (Dat)

namespace Cert.DiffIdeal.Whole

open Cert.DiffIdeal Cert.DiffIdeal.Gen
open Cert.MlaIdeal.Whole (Acc step quo step_carried)

/-- What a head carries from tile to tile for its two maps. -/
abbrev Acc2 : Type := FVec Ideal S256x1 .f32 × FVec Ideal S256x1 .f32 × FVec Ideal S256x128 .f32 × FVec Ideal S256x1 .f32 × FVec Ideal S256x1 .f32 × FVec Ideal S256x128 .f32

/-- The scores of a tile of queries and a tile of keys: their products and the bias. -/
def scored (q k : Vec Ideal S256x128 .bf16) (B : FVec Ideal S256x256 .f32) : FVec Ideal S256x256 .f32 :=
  addf (matmul (φ₁ := .bf16) (φ₂ := .bf16) dot_S256x128_S256x128_S256x256_1_1_0_0_n_n none q k (constant S256x256 .f32 0x00000000#32)) B

/-- One tile's step of both maps. -/
def step2 (S S' : FVec Ideal S256x256 .f32) (v : Vec Ideal S256x128 .bf16) (acc : Acc2) : Acc2 :=
  let x := step S v (acc.1, acc.2.1, acc.2.2.1)
  let y := step S' v (acc.2.2.2.1, acc.2.2.2.2.1, acc.2.2.2.2.2)
  (x.1, x.2.1, x.2.2, y.1, y.2.1, y.2.2)

/-- What a head's one map carries before its tile `n`. -/
def state (q : Vec Ideal S256x128 .bf16) (K V : ℕ → Vec Ideal S256x128 .bf16) (B : ℕ → FVec Ideal S256x256 .f32) : ℕ → Acc
  | 0 => (k0_pay126, k0_pay127, k0_pay128)
  | n + 1 => step (scored q (K n) (B n)) (V n) (state q K V B n)

/-- What a head's two maps carry before its tile `n`. -/
def state2 (q q' : Vec Ideal S256x128 .bf16) (K V : ℕ → Vec Ideal S256x128 .bf16) (B : ℕ → FVec Ideal S256x256 .f32) (n : ℕ) : Acc2 :=
  ((state q K V B n).1, (state q K V B n).2.1, (state q K V B n).2.2, (state q' K V B n).1, (state q' K V B n).2.1, (state q' K V B n).2.2)

/-- One map's average from all its tiles. -/
def head (q : Vec Ideal S256x128 .bf16) (K V : ℕ → Vec Ideal S256x128 .bf16) (B : ℕ → FVec Ideal S256x256 .f32) (D : FVec Ideal S256x256 .f32) (n : ℕ) : FVec Ideal S256x128 .f32 :=
  quo (step (scored q (K n) D) (V n) (state q K V B n))

/-- The bias of a tile before the diagonal. -/
def offB (w w' : BitVec 32) (rel : FVec Ideal S256x256 .f32) (qi : BitVec 32) (n : ℕ) : FVec Ideal S256x256 .f32 :=
  addf (mulf (broadcast S256x256 (Scalar.ofBits (F := Ideal) .f32 w)) rel) (broadcast S256x256 (Scalar.mulf (Scalar.ofBits (F := Ideal) .f32 w') (Scalar.sitofp .f32 (Scalar.subi qi (Scf.iv 0#32 1#32 n)))))

/-- The bias of the tile on the diagonal. -/
def diagB (w : BitVec 32) (rel : FVec Ideal S256x256 .f32) (M : IVec S256x256 1) : FVec Ideal S256x256 .f32 :=
  select M (mulf (broadcast S256x256 (Scalar.ofBits (F := Ideal) .f32 w)) (absf rel)) (broadcast S256x256 (Named.named κ "masked" 0xF149F2CA#32))

/-- The mask of the tile on the diagonal. -/
def diag : IVec S256x256 1 := k0_pay120 (iota .tc S256x256 32 [0] iota_S256x256_d0_w32) (iota .tc S256x256 32 [1] iota_S256x256_d1_w32) 64#32 k0_pay118 k0_pay119
  (Scalar.extui (Scalar.cmpi .sgt 64#32 0#32)) (Scalar.extui (Scalar.cmpi .slt 64#32 0#32))

/-- The difference of a head's maps, normed. -/
def finish (w : FVec Ideal S1x1 .f32) (A A' : FVec Ideal S256x128 .f32) (g : Vec Ideal S1x128 .f32) : FVec Ideal S256x128 .bf16 :=
  let y : FVec Ideal S256x128 .f32 := subf A (mulf (broadcastTo S256x128 w broadcasts_S1x1_S256x128) A')
  truncf .bf16 (mulf (mulf (mulf y (broadcastTo S256x128 (rsqrt (addf (divf (shapeCast S256x1 (multiReduction .add [1] S256 (mulf y y) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32)))) broadcasts_S256x1_S256x128))
    (broadcastTo S256x128 (shapeCast S1x128 g shapeCasts_S1x128_S1x128) broadcasts_S1x128_S256x128)) (broadcast S256x128 (Scalar.ofBits (F := Ideal) .f32 0x3F4CCCCD#32))) bitsLt_bf16_f32

/-- The first map's queries of a head. -/
def half0 (q : Vec Ideal S256x128 .bf16) : FVec Ideal S256x128 .bf16 := k0_pay122 k0_pay115 q

/-- The second map's queries of a head. -/
def half1 (q : Vec Ideal S256x128 .bf16) : FVec Ideal S256x128 .bf16 := k0_pay123 k0_pay116 q

/-- A score, read at its place. -/
theorem scored_at (q k : Vec Ideal S256x128 .bf16) (B : FVec Ideal S256x256 .f32) (a w : Fin 256) :
    scored q k B (ix2 a w) = (∑ l : Fin 128, q (ix2 a l) * k (ix2 w l)) + B (ix2 a w) := by
  unfold scored
  pointwise

/-- A query of the first map. -/
theorem half0_at (q : Vec Ideal S256x128 .bf16) (a : Fin 256) (l : Fin 128) :
    half0 q (ix2 a l) = Scalar.select ((k0_pay115 : IVec S256x128 1) (ix2 a l)) (q (ix2 a l) * Ideal.ofBits .f32 0x3E000000#32) 0 := by
  unfold half0 k0_pay122 k0_pay121
  pointwise

/-- A query of the second map. -/
theorem half1_at (q : Vec Ideal S256x128 .bf16) (a : Fin 256) (l : Fin 128) :
    half1 q (ix2 a l) = Scalar.select ((k0_pay116 : IVec S256x128 1) (ix2 a l)) (q (ix2 a l) * Ideal.ofBits .f32 0x3E000000#32) 0 := by
  unfold half1 k0_pay123 k0_pay121
  pointwise

/-- The first map's lanes. -/
theorem mask0_at (a : Fin 256) (l : Fin 128) : (k0_pay115 : IVec S256x128 1) (ix2 a l) = if l.val / 64 = 0 then 1#1 else 0#1 := by
  unfold k0_pay115
  pointwise
  revert l
  decide +kernel

/-- The second map's lanes. -/
theorem mask1_at (a : Fin 256) (l : Fin 128) : (k0_pay116 : IVec S256x128 1) (ix2 a l) = if l.val / 64 = 1 then 1#1 else 0#1 := by
  unfold k0_pay116 k0_pay115
  pointwise
  revert l
  decide +kernel

/-- The mask of the tile on the diagonal, read at its place. -/
theorem diag_at (a w : Fin 256) : diag (ix2 a w) = if w.val / 64 ≤ a.val / 64 then 1#1 else 0#1 := by
  have e : diag = Cert.MlaIdeal.Whole.diag := rfl
  rw [e]
  exact Cert.MlaIdeal.Whole.diag_at a w

/-- The difference of two words of small numbers, as a number. -/
theorem word_sub (a w : ℕ) (ha : a < 256) (hw : w < 256) : (IntOp.subi (BitVec.ofNat 32 a) (BitVec.ofNat 32 w)).toInt = (a : ℤ) - w := by
  show (BitVec.ofNat 32 a - BitVec.ofNat 32 w).toInt = _
  rw [BitVec.toInt_sub, BitVec.toInt_ofNat', BitVec.toInt_ofNat']
  simp only [Int.bmod_def]
  split <;> split <;> split <;> omega

/-- The distance of a query from a key within a tile. -/
theorem rel_at (a w : Fin 256) : (k0_pay117 : FVec Ideal S256x256 .f32) (ix2 a w) = (((a.val : ℝ) - (w.val : ℝ) : ℝ) : EReal) := by
  have e : (k0_pay117 : FVec Ideal S256x256 .f32) (ix2 a w) = (((IntOp.subi (BitVec.ofNat 32 a.val) (BitVec.ofNat 32 w.val)).toInt : ℝ) : EReal) := by
    unfold k0_pay117
    pointwise
    rfl
  rw [e, word_sub _ _ a.isLt w.isLt]
  push_cast
  rfl

/-- The bias of a tile before the diagonal, read at its place. -/
theorem offB_at (u u' : BitVec 32) (s : ℝ) (h : Ideal.ofBits .f32 u = ((-s : ℝ) : EReal)) (h' : Ideal.ofBits .f32 u' = ((-s * 256 : ℝ) : EReal)) (qi n : ℕ) (hq : qi < 16) (hn : n < qi) (a w : Fin 256) :
    offB u u' k0_pay117 (BitVec.ofNat 32 qi) n (ix2 a w) = ((-s * |((256 * qi + a.val : ℕ) : ℝ) - ((256 * n + w.val : ℕ) : ℝ)| : ℝ) : EReal) := by
  have e : offB u u' k0_pay117 (BitVec.ofNat 32 qi) n (ix2 a w)
      = Ideal.ofBits .f32 u * (k0_pay117 : FVec Ideal S256x256 .f32) (ix2 a w) + Ideal.ofBits .f32 u' * (((IntOp.subi (BitVec.ofNat 32 qi) (0#32 + BitVec.ofNat 32 n * 1#32)).toInt : ℝ) : EReal) := rfl
  have ez : (0#32 + BitVec.ofNat 32 n * 1#32 : BitVec 32) = BitVec.ofNat 32 n := by rw [BitVec.mul_one, BitVec.zero_add]
  rw [e, ez, word_sub qi n (by omega) (by omega), rel_at, h, h', ← EReal.coe_mul, ← EReal.coe_mul, ← EReal.coe_add]
  refine congrArg _ ?_
  have hl : (n : ℝ) + 1 ≤ qi := by exact_mod_cast hn
  have ha : (0 : ℝ) ≤ a.val := Nat.cast_nonneg _
  have hw : (w.val : ℝ) ≤ 256 := by exact_mod_cast (by omega : w.val ≤ 256)
  rw [abs_of_nonneg (by push_cast; linarith)]
  push_cast
  ring

/-- The bias of the tile on the diagonal, read at its place. -/
theorem diagB_at (u : BitVec 32) (s : ℝ) (h : Ideal.ofBits .f32 u = ((-s : ℝ) : EReal)) (qi : ℕ) (a w : Fin 256) :
    diagB u k0_pay117 diag (ix2 a w) = if w.val / 64 ≤ a.val / 64 then ((-s * |((256 * qi + a.val : ℕ) : ℝ) - ((256 * qi + w.val : ℕ) : ℝ)| : ℝ) : EReal) else ⊥ := by
  have e : diagB u k0_pay117 diag (ix2 a w)
      = Scalar.select (diag (ix2 a w)) (Ideal.ofBits .f32 u * max ((k0_pay117 : FVec Ideal S256x256 .f32) (ix2 a w)) (-((k0_pay117 : FVec Ideal S256x256 .f32) (ix2 a w)))) ⊥ := rfl
  rw [e, diag_at, rel_at, h]
  split
  · have hm : max (((a.val : ℝ) - (w.val : ℝ) : ℝ) : EReal) (-(((a.val : ℝ) - (w.val : ℝ) : ℝ) : EReal)) = ((|(a.val : ℝ) - (w.val : ℝ)| : ℝ) : EReal) := by
      rw [← EReal.coe_neg]
      exact (EReal.coe_strictMono.monotone.map_max).symm
    refine Eq.trans (b := ((-s : ℝ) : EReal) * max (((a.val : ℝ) - (w.val : ℝ) : ℝ) : EReal) (-(((a.val : ℝ) - (w.val : ℝ) : ℝ) : EReal))) rfl ?_
    rw [hm, ← EReal.coe_mul]
    refine congrArg (fun r : ℝ => ((-s * |r| : ℝ) : EReal)) ?_
    push_cast
    ring
  · rfl

/-- The normed difference, read at its place. -/
theorem finish_at (w : FVec Ideal S1x1 .f32) (A A' : FVec Ideal S256x128 .f32) (g : Vec Ideal S1x128 .f32) (a : Fin 256) (e : Fin 128) :
    finish w A A' g (ix2 a e) = Cert.Maps.normed (fun k => A (ix2 a k) - w (ix2 0 0) * A' (ix2 a k)) (fun k => g (ix2 0 k)) e := by
  unfold finish Cert.Maps.normed
  pointwise

/-- The second map's weight as the kernel computes it. -/
theorem mix_at (q1 k1 q2 k2 : Vec Ideal S1x64 .f32) :
    (k0_pay114 q1 k1 q2 k2 : FVec Ideal S1x1 .f32) (ix2 0 0) = Cert.Maps.mix (fun i => q1 (ix2 0 (i 0))) (fun i => k1 (ix2 0 (i 0))) (fun i => q2 (ix2 0 (i 0))) (fun i => k2 (ix2 0 (i 0))) := by
  unfold k0_pay114 Cert.Maps.mix
  pointwise

/-- Before its tile `n` a map carries the running form of the keys of the tiles before. -/
theorem state_carried {s u : ℕ → EReal} (q : Vec Ideal S256x128 .bf16) (K V : ℕ → Vec Ideal S256x128 .bf16) (B : ℕ → FVec Ideal S256x256 .f32) (a : Fin 256) (d : Fin 128) (N : ℕ)
    (hS : ∀ n < N, ∀ w : Fin 256, scored q (K n) (B n) (ix2 a w) = s (256 * n + w.val)) (hv : ∀ n < N, ∀ w : Fin 256, V n (ix2 w d) = u (256 * n + w.val))
    (hs : ∀ i < 256 * N, s i ≠ ⊤) : ∀ n ≤ N,
    Cert.Softmax.Carried (256 * n) s u ((state q K V B n).1 (ix2 a 0)) ((state q K V B n).2.1 (ix2 a 0)) ((state q K V B n).2.2 (ix2 a d))
  | 0, _ => by
    have e0 : (state q K V B 0).1 (ix2 a 0) = (⊥ : EReal) := rfl
    have e1 : (state q K V B 0).2.1 (ix2 a 0) = (0 : EReal) := by unfold state k0_pay127; pointwise
    have e2 : (state q K V B 0).2.2 (ix2 a d) = (0 : EReal) := by unfold state k0_pay128; pointwise
    rw [e0, e1, e2]
    exact Cert.Softmax.carried_zero s u
  | n + 1, h => step_carried _ _ _ a d (state_carried q K V B a d N hS hv hs n (by omega)) (hS n (by omega)) (hv n (by omega)) fun i (hi : i < 256 * n + 256) => hs i (by omega)

/-- A map's average at a row and lane is the softmax average of its values over the keys of its tiles, as one quotient. -/
theorem head_at {s u : ℕ → EReal} (q : Vec Ideal S256x128 .bf16) (K V : ℕ → Vec Ideal S256x128 .bf16) (B : ℕ → FVec Ideal S256x256 .f32) (D : FVec Ideal S256x256 .f32) (a : Fin 256) (d : Fin 128) (n : ℕ)
    (hS : ∀ i < n, ∀ w : Fin 256, scored q (K i) (B i) (ix2 a w) = s (256 * i + w.val)) (hd : ∀ w : Fin 256, scored q (K n) D (ix2 a w) = s (256 * n + w.val))
    (hv : ∀ i ≤ n, ∀ w : Fin 256, V i (ix2 w d) = u (256 * i + w.val)) (hs : ∀ i < 256 * n + 256, s i ≠ ⊤) :
    head q K V B D n (ix2 a d) = Cert.Softmax.quot (Finset.range (256 * n + 256)) s u := by
  have h := step_carried (scored q (K n) D) (V n) (state q K V B n) a d
    (state_carried q K V B a d n hS (fun i hi => hv i (by omega)) (fun i hi => hs i (by omega)) n le_rfl) hd (hv n le_rfl) hs
  rw [← Cert.Softmax.carried_quot h]
  unfold head quo
  pointwise

end Cert.DiffIdeal.Whole

end
-- ==== Proof.DiffLoops.lean ====
module

public import proofs.«01_k».proof.Proof.DiffTile

@[expose] public section

set_option maxRecDepth 16384

noncomputable section

open Idealize.ShloMosaic Idealize.ShloMosaic.TcCoe Idealize.SL.Sem
open Idealize.ShloMosaic.Pipeline (Dat)

namespace Cert.DiffIdeal.Whole

open Cert.DiffIdeal Cert.DiffIdeal.Gen

/-- Tile `n` of a head's keys or values. -/
def tile (X : Vec Ideal S4096x512 .bf16) (h n : ℕ) : Vec Ideal S256x128 .bf16 := fun j =>
  X (ix2 ⟨(256 * n + (j 0).val) % 4096, Nat.mod_lt _ (by decide)⟩ ⟨(128 * h + (j 1).val) % 512, Nat.mod_lt _ (by decide)⟩)

/-- A load of the keys or values at a tile's place. -/
theorem ld_tile (X : Vec Ideal S4096x512 .bf16) (off : Fin 2 → ℕ) (inb) (h n : ℕ) (e : off = ![256 * n, 128 * h]) :
    View.ld X (Rect.unit (s := S4096x512) off S256x128.size inb) = tile X h n := by
  subst e
  have h0 : 256 * n + 256 ≤ 4096 := inb 0
  have h1 : 128 * h + 128 ≤ 512 := inb 1
  funext j
  obtain ⟨a, l, rfl⟩ : ∃ (a : Fin 256) (l : Fin 128), j = ix2 a l := ⟨j 0, j 1, eq_ix2 j⟩
  refine (View.ld_unit_apply_of X _ _ _ _ (ix2 ⟨256 * n + a.val, by omega⟩ ⟨128 * h + l.val, by omega⟩) fun b => ?_).trans (congrArg X ?_)
  · fin_cases b <;> rfl
  · exact congrArg₂ ix2 (Fin.ext (Nat.mod_eq_of_lt (show 256 * n + a.val < 4096 by omega)).symm) (Fin.ext (Nat.mod_eq_of_lt (show 128 * h + l.val < 512 by omega)).symm)

/-- Loop 1 makes one trip per tile before the diagonal. -/
theorem trips_1 : ∀ t : Fin cfg0.N, (k0_t1_loop (grid0.coords t)).trips = t.val % 16 := by
  decide +kernel

/-- Where trip `k` of loop 1 reads the keys and the values. -/
theorem off_1 : ∀ (t : Fin cfg0.N) (k : Fin (k0_t1_loop (grid0.coords t)).trips), k0_off1 (grid0.coords t) k = ![256 * k.val, 128 * 0] := by
  decide +kernel

/-- A trip of loop 1 is a tile's step of both maps. -/
theorem trip_1 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v26 : FVec Ideal S256x256 .f32) (v75 : IVec S256x256 1) (v82 : FVec Ideal S256x128 .bf16) (v85 : FVec Ideal S256x128 .bf16) (X Y) (k) (acc : Acc2) :
    tripR_k0_t1 (F := Ideal) 𝒱 c bd (grid0.coords t) arg2 harg2 arg3 harg3 arg4 harg4 arg5 harg5 arg6 harg6 arg7 harg7 arg8 harg8 arg9 harg9 arg10 harg10 arg1 v26 v75 v82 v85 (harg3.unread X) (harg4.unread Y) k acc
      = step2 (scored v82 (tile X 0 k.val) ((offB 0xBE800000#32 0xC2800000#32 v26 arg1) k.val)) (scored v85 (tile X 0 k.val) ((offB 0xBE800000#32 0xC2800000#32 v26 arg1) k.val)) (tile Y 0 k.val) acc := by
  unfold tripR_k0_t1 trip_k0_t1
  frame_open
  simp only [View.readAt_eq_ld, harg3.read_unread, harg4.read_unread]
  rw [ld_tile X _ _ 0 k.val (off_1 t k), ld_tile Y _ _ 0 k.val (off_1 t k)]
  rfl

/-- Loop 1 carries a head's two running forms. -/
theorem states_1 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v26 : FVec Ideal S256x256 .f32) (v75 : IVec S256x256 1) (v82 : FVec Ideal S256x128 .bf16) (v85 : FVec Ideal S256x128 .bf16) (X Y) : ∀ n ≤ t.val % 16,
    st_k0_t1 (F := Ideal) 𝒱 c bd (grid0.coords t) arg2 harg2 arg3 harg3 arg4 harg4 arg5 harg5 arg6 harg6 arg7 harg7 arg8 harg8 arg9 harg9 arg10 harg10 arg1 v26 v75 v82 v85 (harg3.unread X) (harg4.unread Y) (k0_pay126, k0_pay127, k0_pay128, k0_pay126, k0_pay127, k0_pay128) n
      = state2 v82 v85 (tile X 0) (tile Y 0) (offB 0xBE800000#32 0xC2800000#32 v26 arg1) n
  | 0, _ => rfl
  | n + 1, hn => by
    have hk : n < (k0_t1_loop (grid0.coords t)).trips := by rw [trips_1]; exact hn
    refine (st_k0_t1_succ (F := Ideal) 𝒱 c bd (grid0.coords t) arg2 harg2 arg3 harg3 arg4 harg4 arg5 harg5 arg6 harg6 arg7 harg7 arg8 harg8 arg9 harg9 arg10 harg10 arg1 v26 v75 v82 v85 (harg3.unread X) (harg4.unread Y) _ ⟨n, hk⟩).trans ?_
    rw [trip_1]
    exact congrArg (step2 _ _ _) (states_1 𝒱 c bd t arg2 harg2 arg3 harg3 arg4 harg4 arg5 harg5 arg6 harg6 arg7 harg7 arg8 harg8 arg9 harg9 arg10 harg10 arg1 v26 v75 v82 v85 X Y n (Nat.le_of_succ_le hn))

/-- What loop 1 leaves. -/
theorem loop_1 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v26 : FVec Ideal S256x256 .f32) (v75 : IVec S256x256 1) (v82 : FVec Ideal S256x128 .bf16) (v85 : FVec Ideal S256x128 .bf16) (X Y) :
    st_k0_t1 (F := Ideal) 𝒱 c bd (grid0.coords t) arg2 harg2 arg3 harg3 arg4 harg4 arg5 harg5 arg6 harg6 arg7 harg7 arg8 harg8 arg9 harg9 arg10 harg10 arg1 v26 v75 v82 v85 (harg3.unread X) (harg4.unread Y) (k0_pay126, k0_pay127, k0_pay128, k0_pay126, k0_pay127, k0_pay128) (Scf.trips 0#32 (Scalar.addi 0#32 (Scalar.muli (Scalar.divsi (Scalar.subi (BitVec.ofNat 32 (grid0.coords t 1).val) 0#32) 1#32) 1#32)) 1#32)
      = state2 v82 v85 (tile X 0) (tile Y 0) (offB 0xBE800000#32 0xC2800000#32 v26 arg1) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_1 t]
  exact states_1 𝒱 c bd t arg2 harg2 arg3 harg3 arg4 harg4 arg5 harg5 arg6 harg6 arg7 harg7 arg8 harg8 arg9 harg9 arg10 harg10 arg1 v26 v75 v82 v85 X Y _ le_rfl

/-- Loop 2 makes no trips. -/
theorem trips_2 : ∀ t : Fin cfg0.N, (k0_t2_loop (grid0.coords t)).trips = 0 := by
  decide +kernel

/-- Loop 2 leaves what it finds. -/
theorem loop_2 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v26 : FVec Ideal S256x256 .f32) (v75 : IVec S256x256 1) (v82 : FVec Ideal S256x128 .bf16) (v85 : FVec Ideal S256x128 .bf16) (v100 : BitVec 32) (X X' init) :
    st_k0_t2 (F := Ideal) 𝒱 c bd (grid0.coords t) arg2 harg2 arg3 harg3 arg4 harg4 arg5 harg5 arg6 harg6 arg7 harg7 arg8 harg8 arg9 harg9 arg10 harg10 arg1 v26 v75 v82 v85 v100 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_2 t]
  rfl

/-- Loop 3 makes one trip per tile before the diagonal. -/
theorem trips_3 : ∀ t : Fin cfg0.N, (k0_t3_loop (grid0.coords t)).trips = t.val % 16 := by
  decide +kernel

/-- Where trip `k` of loop 3 reads the keys and the values. -/
theorem off_3 : ∀ (t : Fin cfg0.N) (k : Fin (k0_t3_loop (grid0.coords t)).trips), k0_off4 (grid0.coords t) k = ![256 * k.val, 128 * 1] := by
  decide +kernel

/-- A trip of loop 3 is a tile's step of both maps. -/
theorem trip_3 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v173 : FVec Ideal S256x128 .f32) (X Y) (k) (acc : Acc2) :
    tripR_k0_t3 (F := Ideal) 𝒱 c bd (grid0.coords t) arg2 harg2 arg3 harg3 arg4 harg4 arg5 harg5 arg6 harg6 arg7 harg7 arg8 harg8 arg9 harg9 arg10 harg10 arg1 v21 v22 v26 v75 v173 (harg3.unread X) (harg4.unread Y) k acc
      = step2 (scored (k0_pay140 v21 v173) (tile X 1 k.val) ((offB 0xBD800000#32 0xC1800000#32 v26 arg1) k.val)) (scored (k0_pay141 v22 v173) (tile X 1 k.val) ((offB 0xBD800000#32 0xC1800000#32 v26 arg1) k.val)) (tile Y 1 k.val) acc := by
  unfold tripR_k0_t3 trip_k0_t3
  frame_open
  simp only [View.readAt_eq_ld, harg3.read_unread, harg4.read_unread]
  rw [ld_tile X _ _ 1 k.val (off_3 t k), ld_tile Y _ _ 1 k.val (off_3 t k)]
  rfl

/-- Loop 3 carries a head's two running forms. -/
theorem states_3 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v173 : FVec Ideal S256x128 .f32) (X Y) : ∀ n ≤ t.val % 16,
    st_k0_t3 (F := Ideal) 𝒱 c bd (grid0.coords t) arg2 harg2 arg3 harg3 arg4 harg4 arg5 harg5 arg6 harg6 arg7 harg7 arg8 harg8 arg9 harg9 arg10 harg10 arg1 v21 v22 v26 v75 v173 (harg3.unread X) (harg4.unread Y) (k0_pay144, k0_pay145, k0_pay146, k0_pay144, k0_pay145, k0_pay146) n
      = state2 (k0_pay140 v21 v173) (k0_pay141 v22 v173) (tile X 1) (tile Y 1) (offB 0xBD800000#32 0xC1800000#32 v26 arg1) n
  | 0, _ => rfl
  | n + 1, hn => by
    have hk : n < (k0_t3_loop (grid0.coords t)).trips := by rw [trips_3]; exact hn
    refine (st_k0_t3_succ (F := Ideal) 𝒱 c bd (grid0.coords t) arg2 harg2 arg3 harg3 arg4 harg4 arg5 harg5 arg6 harg6 arg7 harg7 arg8 harg8 arg9 harg9 arg10 harg10 arg1 v21 v22 v26 v75 v173 (harg3.unread X) (harg4.unread Y) _ ⟨n, hk⟩).trans ?_
    rw [trip_3]
    exact congrArg (step2 _ _ _) (states_3 𝒱 c bd t arg2 harg2 arg3 harg3 arg4 harg4 arg5 harg5 arg6 harg6 arg7 harg7 arg8 harg8 arg9 harg9 arg10 harg10 arg1 v21 v22 v26 v75 v173 X Y n (Nat.le_of_succ_le hn))

/-- What loop 3 leaves. -/
theorem loop_3 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v173 : FVec Ideal S256x128 .f32) (X Y) :
    st_k0_t3 (F := Ideal) 𝒱 c bd (grid0.coords t) arg2 harg2 arg3 harg3 arg4 harg4 arg5 harg5 arg6 harg6 arg7 harg7 arg8 harg8 arg9 harg9 arg10 harg10 arg1 v21 v22 v26 v75 v173 (harg3.unread X) (harg4.unread Y) (k0_pay144, k0_pay145, k0_pay146, k0_pay144, k0_pay145, k0_pay146) (Scf.trips 0#32 (Scalar.addi 0#32 (Scalar.muli (Scalar.divsi (Scalar.subi (BitVec.ofNat 32 (grid0.coords t 1).val) 0#32) 1#32) 1#32)) 1#32)
      = state2 (k0_pay140 v21 v173) (k0_pay141 v22 v173) (tile X 1) (tile Y 1) (offB 0xBD800000#32 0xC1800000#32 v26 arg1) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_3 t]
  exact states_3 𝒱 c bd t arg2 harg2 arg3 harg3 arg4 harg4 arg5 harg5 arg6 harg6 arg7 harg7 arg8 harg8 arg9 harg9 arg10 harg10 arg1 v21 v22 v26 v75 v173 X Y _ le_rfl

/-- Loop 4 makes no trips. -/
theorem trips_4 : ∀ t : Fin cfg0.N, (k0_t4_loop (grid0.coords t)).trips = 0 := by
  decide +kernel

/-- Loop 4 leaves what it finds. -/
theorem loop_4 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v173 : FVec Ideal S256x128 .f32) (v196 : BitVec 32) (X X' init) :
    st_k0_t4 (F := Ideal) 𝒱 c bd (grid0.coords t) arg2 harg2 arg3 harg3 arg4 harg4 arg5 harg5 arg6 harg6 arg7 harg7 arg8 harg8 arg9 harg9 arg10 harg10 arg1 v21 v22 v26 v75 v173 v196 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_4 t]
  rfl

/-- Loop 5 makes one trip per tile before the diagonal. -/
theorem trips_5 : ∀ t : Fin cfg0.N, (k0_t5_loop (grid0.coords t)).trips = t.val % 16 := by
  decide +kernel

/-- Where trip `k` of loop 5 reads the keys and the values. -/
theorem off_5 : ∀ (t : Fin cfg0.N) (k : Fin (k0_t5_loop (grid0.coords t)).trips), k0_off7 (grid0.coords t) k = ![256 * k.val, 128 * 2] := by
  decide +kernel

/-- A trip of loop 5 is a tile's step of both maps. -/
theorem trip_5 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v263 : FVec Ideal S256x128 .f32) (cst_85 : Ideal .f32) (v268 : Vec Ideal S256x128 .bf16) (X Y) (k) (acc : Acc2) :
    tripR_k0_t5 (F := Ideal) 𝒱 c bd (grid0.coords t) arg2 harg2 arg3 harg3 arg4 harg4 arg5 harg5 arg6 harg6 arg7 harg7 arg8 harg8 arg9 harg9 arg10 harg10 arg1 v21 v22 v26 v75 v263 cst_85 v268 (harg3.unread X) (harg4.unread Y) k acc
      = step2 (scored (k0_pay157 v21 v268) (tile X 2 k.val) ((offB 0xBC800000#32 0xC0800000#32 v26 arg1) k.val)) (scored (k0_pay158 v22 v268) (tile X 2 k.val) ((offB 0xBC800000#32 0xC0800000#32 v26 arg1) k.val)) (tile Y 2 k.val) acc := by
  unfold tripR_k0_t5 trip_k0_t5
  frame_open
  simp only [View.readAt_eq_ld, harg3.read_unread, harg4.read_unread]
  rw [ld_tile X _ _ 2 k.val (off_5 t k), ld_tile Y _ _ 2 k.val (off_5 t k)]
  rfl

/-- Loop 5 carries a head's two running forms. -/
theorem states_5 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v263 : FVec Ideal S256x128 .f32) (cst_85 : Ideal .f32) (v268 : Vec Ideal S256x128 .bf16) (X Y) : ∀ n ≤ t.val % 16,
    st_k0_t5 (F := Ideal) 𝒱 c bd (grid0.coords t) arg2 harg2 arg3 harg3 arg4 harg4 arg5 harg5 arg6 harg6 arg7 harg7 arg8 harg8 arg9 harg9 arg10 harg10 arg1 v21 v22 v26 v75 v263 cst_85 v268 (harg3.unread X) (harg4.unread Y) (k0_pay161, k0_pay162, k0_pay163, k0_pay161, k0_pay162, k0_pay163) n
      = state2 (k0_pay157 v21 v268) (k0_pay158 v22 v268) (tile X 2) (tile Y 2) (offB 0xBC800000#32 0xC0800000#32 v26 arg1) n
  | 0, _ => rfl
  | n + 1, hn => by
    have hk : n < (k0_t5_loop (grid0.coords t)).trips := by rw [trips_5]; exact hn
    refine (st_k0_t5_succ (F := Ideal) 𝒱 c bd (grid0.coords t) arg2 harg2 arg3 harg3 arg4 harg4 arg5 harg5 arg6 harg6 arg7 harg7 arg8 harg8 arg9 harg9 arg10 harg10 arg1 v21 v22 v26 v75 v263 cst_85 v268 (harg3.unread X) (harg4.unread Y) _ ⟨n, hk⟩).trans ?_
    rw [trip_5]
    exact congrArg (step2 _ _ _) (states_5 𝒱 c bd t arg2 harg2 arg3 harg3 arg4 harg4 arg5 harg5 arg6 harg6 arg7 harg7 arg8 harg8 arg9 harg9 arg10 harg10 arg1 v21 v22 v26 v75 v263 cst_85 v268 X Y n (Nat.le_of_succ_le hn))

/-- What loop 5 leaves. -/
theorem loop_5 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v263 : FVec Ideal S256x128 .f32) (cst_85 : Ideal .f32) (v268 : Vec Ideal S256x128 .bf16) (X Y) :
    st_k0_t5 (F := Ideal) 𝒱 c bd (grid0.coords t) arg2 harg2 arg3 harg3 arg4 harg4 arg5 harg5 arg6 harg6 arg7 harg7 arg8 harg8 arg9 harg9 arg10 harg10 arg1 v21 v22 v26 v75 v263 cst_85 v268 (harg3.unread X) (harg4.unread Y) (k0_pay161, k0_pay162, k0_pay163, k0_pay161, k0_pay162, k0_pay163) (Scf.trips 0#32 (Scalar.addi 0#32 (Scalar.muli (Scalar.divsi (Scalar.subi (BitVec.ofNat 32 (grid0.coords t 1).val) 0#32) 1#32) 1#32)) 1#32)
      = state2 (k0_pay157 v21 v268) (k0_pay158 v22 v268) (tile X 2) (tile Y 2) (offB 0xBC800000#32 0xC0800000#32 v26 arg1) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_5 t]
  exact states_5 𝒱 c bd t arg2 harg2 arg3 harg3 arg4 harg4 arg5 harg5 arg6 harg6 arg7 harg7 arg8 harg8 arg9 harg9 arg10 harg10 arg1 v21 v22 v26 v75 v263 cst_85 v268 X Y _ le_rfl

/-- Loop 6 makes no trips. -/
theorem trips_6 : ∀ t : Fin cfg0.N, (k0_t6_loop (grid0.coords t)).trips = 0 := by
  decide +kernel

/-- Loop 6 leaves what it finds. -/
theorem loop_6 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v263 : FVec Ideal S256x128 .f32) (cst_85 : Ideal .f32) (v268 : Vec Ideal S256x128 .bf16) (v292 : BitVec 32) (X X' init) :
    st_k0_t6 (F := Ideal) 𝒱 c bd (grid0.coords t) arg2 harg2 arg3 harg3 arg4 harg4 arg5 harg5 arg6 harg6 arg7 harg7 arg8 harg8 arg9 harg9 arg10 harg10 arg1 v21 v22 v26 v75 v263 cst_85 v268 v292 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_6 t]
  rfl

/-- Loop 7 makes one trip per tile before the diagonal. -/
theorem trips_7 : ∀ t : Fin cfg0.N, (k0_t7_loop (grid0.coords t)).trips = t.val % 16 := by
  decide +kernel

/-- Where trip `k` of loop 7 reads the keys and the values. -/
theorem off_7 : ∀ (t : Fin cfg0.N) (k : Fin (k0_t7_loop (grid0.coords t)).trips), k0_off10 (grid0.coords t) k = ![256 * k.val, 128 * 3] := by
  decide +kernel

/-- A trip of loop 7 is a tile's step of both maps. -/
theorem trip_7 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v345 : FVec Ideal S256x128 .f32) (v347 : FVec Ideal S1x128 .f32) (v350 : FVec Ideal S256x1 .f32) (cst_116 : Ideal .f32) (v364 : Vec Ideal S256x128 .bf16) (X Y) (k) (acc : Acc2) :
    tripR_k0_t7 (F := Ideal) 𝒱 c bd (grid0.coords t) arg2 harg2 arg3 harg3 arg4 harg4 arg5 harg5 arg6 harg6 arg7 harg7 arg8 harg8 arg9 harg9 arg10 harg10 arg1 v21 v22 v26 v75 v345 v347 v350 cst_116 v364 (harg3.unread X) (harg4.unread Y) k acc
      = step2 (scored (k0_pay172 v21 v364) (tile X 3 k.val) ((offB 0xBB800000#32 0xBF800000#32 v26 arg1) k.val)) (scored (k0_pay173 v22 v364) (tile X 3 k.val) ((offB 0xBB800000#32 0xBF800000#32 v26 arg1) k.val)) (tile Y 3 k.val) acc := by
  unfold tripR_k0_t7 trip_k0_t7
  frame_open
  simp only [View.readAt_eq_ld, harg3.read_unread, harg4.read_unread]
  rw [ld_tile X _ _ 3 k.val (off_7 t k), ld_tile Y _ _ 3 k.val (off_7 t k)]
  rfl

/-- Loop 7 carries a head's two running forms. -/
theorem states_7 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v345 : FVec Ideal S256x128 .f32) (v347 : FVec Ideal S1x128 .f32) (v350 : FVec Ideal S256x1 .f32) (cst_116 : Ideal .f32) (v364 : Vec Ideal S256x128 .bf16) (X Y) : ∀ n ≤ t.val % 16,
    st_k0_t7 (F := Ideal) 𝒱 c bd (grid0.coords t) arg2 harg2 arg3 harg3 arg4 harg4 arg5 harg5 arg6 harg6 arg7 harg7 arg8 harg8 arg9 harg9 arg10 harg10 arg1 v21 v22 v26 v75 v345 v347 v350 cst_116 v364 (harg3.unread X) (harg4.unread Y) (k0_pay176, k0_pay177, k0_pay178, k0_pay176, k0_pay177, k0_pay178) n
      = state2 (k0_pay172 v21 v364) (k0_pay173 v22 v364) (tile X 3) (tile Y 3) (offB 0xBB800000#32 0xBF800000#32 v26 arg1) n
  | 0, _ => rfl
  | n + 1, hn => by
    have hk : n < (k0_t7_loop (grid0.coords t)).trips := by rw [trips_7]; exact hn
    refine (st_k0_t7_succ (F := Ideal) 𝒱 c bd (grid0.coords t) arg2 harg2 arg3 harg3 arg4 harg4 arg5 harg5 arg6 harg6 arg7 harg7 arg8 harg8 arg9 harg9 arg10 harg10 arg1 v21 v22 v26 v75 v345 v347 v350 cst_116 v364 (harg3.unread X) (harg4.unread Y) _ ⟨n, hk⟩).trans ?_
    rw [trip_7]
    exact congrArg (step2 _ _ _) (states_7 𝒱 c bd t arg2 harg2 arg3 harg3 arg4 harg4 arg5 harg5 arg6 harg6 arg7 harg7 arg8 harg8 arg9 harg9 arg10 harg10 arg1 v21 v22 v26 v75 v345 v347 v350 cst_116 v364 X Y n (Nat.le_of_succ_le hn))

/-- What loop 7 leaves. -/
theorem loop_7 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v345 : FVec Ideal S256x128 .f32) (v347 : FVec Ideal S1x128 .f32) (v350 : FVec Ideal S256x1 .f32) (cst_116 : Ideal .f32) (v364 : Vec Ideal S256x128 .bf16) (X Y) :
    st_k0_t7 (F := Ideal) 𝒱 c bd (grid0.coords t) arg2 harg2 arg3 harg3 arg4 harg4 arg5 harg5 arg6 harg6 arg7 harg7 arg8 harg8 arg9 harg9 arg10 harg10 arg1 v21 v22 v26 v75 v345 v347 v350 cst_116 v364 (harg3.unread X) (harg4.unread Y) (k0_pay176, k0_pay177, k0_pay178, k0_pay176, k0_pay177, k0_pay178) (Scf.trips 0#32 (Scalar.addi 0#32 (Scalar.muli (Scalar.divsi (Scalar.subi (BitVec.ofNat 32 (grid0.coords t 1).val) 0#32) 1#32) 1#32)) 1#32)
      = state2 (k0_pay172 v21 v364) (k0_pay173 v22 v364) (tile X 3) (tile Y 3) (offB 0xBB800000#32 0xBF800000#32 v26 arg1) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_7 t]
  exact states_7 𝒱 c bd t arg2 harg2 arg3 harg3 arg4 harg4 arg5 harg5 arg6 harg6 arg7 harg7 arg8 harg8 arg9 harg9 arg10 harg10 arg1 v21 v22 v26 v75 v345 v347 v350 cst_116 v364 X Y _ le_rfl

/-- Loop 8 makes no trips. -/
theorem trips_8 : ∀ t : Fin cfg0.N, (k0_t8_loop (grid0.coords t)).trips = 0 := by
  decide +kernel

/-- Loop 8 leaves what it finds. -/
theorem loop_8 (𝒱 : Variants) (c : Dev nD) (bd : Option 𝒱.V) (t : Fin cfg0.N) (arg2 : Memref sig .tc .vmem S256x512 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x128 .f32) (harg9 : arg9.IsWhole) (arg10 : Memref sig .tc .vmem S256x512 .bf16) (harg10 : arg10.IsWhole) (arg1 : BitVec 32) (v21 : IVec S256x128 1) (v22 : IVec S256x128 1) (v26 : FVec Ideal S256x256 .f32) (v75 : IVec S256x256 1) (v345 : FVec Ideal S256x128 .f32) (v347 : FVec Ideal S1x128 .f32) (v350 : FVec Ideal S256x1 .f32) (cst_116 : Ideal .f32) (v364 : Vec Ideal S256x128 .bf16) (v388 : BitVec 32) (X X' init) :
    st_k0_t8 (F := Ideal) 𝒱 c bd (grid0.coords t) arg2 harg2 arg3 harg3 arg4 harg4 arg5 harg5 arg6 harg6 arg7 harg7 arg8 harg8 arg9 harg9 arg10 harg10 arg1 v21 v22 v26 v75 v345 v347 v350 cst_116 v364 v388 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_8 t]
  rfl

end Cert.DiffIdeal.Whole

end
-- ==== Proof.DiffHead.lean ====
module

public import proofs.«01_k».proof.Proof.DiffLoops
public import proofs.«01_k».proof.Proof.ChunkHead

@[expose] public section

set_option maxRecDepth 16384

noncomputable section

open Idealize.ShloMosaic Idealize.ShloMosaic.TcCoe Idealize.SL.Sem
open Idealize.ShloMosaic.Pipeline (Dat)

namespace Cert.DiffIdeal.Whole

open Cert.DiffIdeal Cert.DiffIdeal.Gen

variable {x : (⟨2, ![16384, 1536]⟩ : Shape).Idx → EReal}

/-- The slopes' words, negated. -/
theorem slope_at (h : Fin 4) : Ideal.ofBits .f32 (![0xBE800000#32, 0xBD800000#32, 0xBC800000#32, 0xBB800000#32] h) = ((-Cert.Maps.slope h : ℝ) : EReal) := by
  rw [EReal.coe_neg]
  unfold Cert.Maps.slope
  fin_cases h <;> (simp [Ideal.ofBits, Ideal.ieee]; rw [← EReal.coe_mul]; norm_num)

/-- The slopes' words over a tile of keys, negated. -/
theorem slope_tile (h : Fin 4) : Ideal.ofBits .f32 (![0xC2800000#32, 0xC1800000#32, 0xC0800000#32, 0xBF800000#32] h) = ((-Cert.Maps.slope h * 256 : ℝ) : EReal) := by
  rw [neg_mul, EReal.coe_neg]
  unfold Cert.Maps.slope
  fin_cases h <;> (simp [Ideal.ofBits, Ideal.ieee]; rw [← EReal.coe_mul]; norm_num; rw [← EReal.coe_mul]; norm_num)

/-- The queries of one map: the scaled queries on the map's lanes, zero on the other's. -/
def Half (x : (⟨2, ![16384, 1536]⟩ : Shape).Idx → EReal) (b h : Fin 4) (c : Fin 2) (n : Fin 16) (q : Vec Ideal S256x128 .bf16) : Prop :=
  ∃ M : Fin 256 → Fin 128 → BitVec 1, (∀ a l, M a l = if l.val / 64 = c.val then 1#1 else 0#1) ∧
    ∀ (a : Fin 256) (l : Fin 128), q (ix2 a l)
      = Scalar.select (M a l) (x (ix2 ⟨b.val * 4096 + (256 * n.val + a.val), by omega⟩ ⟨h.val * 128 + l.val, by omega⟩) * Ideal.ofBits .f32 0x3E000000#32) 0

/-- The product of one map's queries with a tile of keys. -/
theorem prod_half (b h : Fin 4) (c : Fin 2) (n : Fin 16) (q : Vec Ideal S256x128 .bf16) (X : Vec Ideal S4096x512 .bf16) (hq : Half x b h c n q)
    (hX : ∀ (p : Fin 4096) (l : Fin 512), X (ix2 p l) = x (ix2 ⟨4096 * b.val + p.val, by omega⟩ ⟨512 + l.val, by omega⟩)) (a w : Fin 256) (i : ℕ) (hi : i < 16) :
    (∑ l : Fin 128, q (ix2 a l) * tile X h.val i (ix2 w l))
      = (∑ d : Fin 64, x (ix2 ⟨b.val * 4096 + (256 * n.val + a.val), by omega⟩ ⟨h.val * 128 + (c.val * 64 + d.val), by omega⟩)
          * x (ix2 ⟨b.val * 4096 + (256 * i + w.val) % 4096, by omega⟩ ⟨512 + (h.val * 128 + (c.val * 64 + d.val)), by omega⟩)) * Ideal.ofBits .f32 0x3E000000#32 := by
  obtain ⟨M, hM, hq⟩ := hq
  simp only [hq]
  rw [Cert.ChunkIdeal.Whole.lanes c _ (M a) _ (hM a), ← Cert.ChunkIdeal.Whole.product]
  refine Finset.sum_congr rfl fun d _ => ?_
  refine congrArg₂ (· * ·) (congrArg (fun y => x y * Ideal.ofBits .f32 0x3E000000#32) ?_) ((hX _ _).trans (congrArg x ?_))
  · exact congrArg₂ ix2 rfl (Fin.ext (by show h.val * 128 + (64 * c.val + d.val) = h.val * 128 + (c.val * 64 + d.val); omega))
  · exact congrArg₂ ix2 (Fin.ext (by show 4096 * b.val + (256 * i + w.val) % 4096 = b.val * 4096 + (256 * i + w.val) % 4096; omega)) (Fin.ext (by show 512 + (128 * h.val + (64 * c.val + d.val)) % 512 = 512 + (h.val * 128 + (c.val * 64 + d.val)); omega))

/-- A map's average from its tiles is its softmax average over all keys. -/
theorem head_seen (hfin : Cert.Maps.Finite x) (b h : Fin 4) (c : Fin 2) (n : Fin 16) (q : Vec Ideal S256x128 .bf16) (X Y : Vec Ideal S4096x512 .bf16) (hq : Half x b h c n q)
    (hX : ∀ (p : Fin 4096) (l : Fin 512), X (ix2 p l) = x (ix2 ⟨4096 * b.val + p.val, by omega⟩ ⟨512 + l.val, by omega⟩))
    (hY : ∀ (p : Fin 4096) (l : Fin 512), Y (ix2 p l) = x (ix2 ⟨4096 * b.val + p.val, by omega⟩ ⟨1024 + l.val, by omega⟩))
    (u u' : BitVec 32) (hu : Ideal.ofBits .f32 u = ((-Cert.Maps.slope h : ℝ) : EReal)) (hu' : Ideal.ofBits .f32 u' = ((-Cert.Maps.slope h * 256 : ℝ) : EReal)) (a : Fin 256) (e : Fin 128) :
    head q (tile X h.val) (tile Y h.val) (offB u u' k0_pay117 (BitVec.ofNat 32 n.val)) (diagB u k0_pay117 diag) n.val (ix2 a e)
      = Cert.Softmax.attend Finset.univ (Cert.Maps.score x b h c ⟨256 * n.val + a.val, by omega⟩) (Cert.Maps.value x b h e) := by
  refine (head_at q _ _ _ _ a e n.val ?_ ?_ ?_ ?_).trans (Cert.Maps.attend_quot hfin b h c n a e)
  · intro i hi w
    rw [scored_at, prod_half b h c n q X hq hX a w i (by omega), offB_at u u' _ hu hu' n.val i n.isLt hi a w]
    unfold Cert.Maps.score
    rw [if_pos (show (256 * i + w.val) % 4096 / 64 ≤ (256 * n.val + a.val) / 64 by omega)]
    refine congrArg (fun r : ℝ => _ + ((-Cert.Maps.slope h * |((256 * n.val + a.val : ℕ) : ℝ) - r| : ℝ) : EReal)) ?_
    exact congrArg (fun k : ℕ => (k : ℝ)) (Nat.mod_eq_of_lt (by omega)).symm
  · intro w
    rw [scored_at, prod_half b h c n q X hq hX a w n.val n.isLt, diagB_at u _ hu n.val a w]
    unfold Cert.Maps.score
    by_cases hw : w.val / 64 ≤ a.val / 64
    · rw [if_pos hw, if_pos (show (256 * n.val + w.val) % 4096 / 64 ≤ (256 * n.val + a.val) / 64 by omega)]
      refine congrArg (fun r : ℝ => _ + ((-Cert.Maps.slope h * |((256 * n.val + a.val : ℕ) : ℝ) - r| : ℝ) : EReal)) ?_
      exact congrArg (fun k : ℕ => (k : ℝ)) (Nat.mod_eq_of_lt (by omega)).symm
    · rw [if_neg hw, if_neg (show ¬ (256 * n.val + w.val) % 4096 / 64 ≤ (256 * n.val + a.val) / 64 by omega), EReal.add_bot]
  · intro i hi w
    refine (hY _ _).trans (congrArg x ?_)
    exact congrArg₂ ix2 (Fin.ext (by show 4096 * b.val + (256 * i + w.val) % 4096 = b.val * 4096 + (256 * i + w.val) % 4096; omega)) (Fin.ext (by show 1024 + (128 * h.val + e.val) % 512 = 1024 + (h.val * 128 + e.val); omega))
  · exact fun i _ => Cert.Maps.score_ne_top hfin b h c _ _

/-- The scaled first-map queries of a head. -/
theorem half0_half (b h : Fin 4) (n : Fin 16) (q : Vec Ideal S256x128 .bf16)
    (hq : ∀ (a : Fin 256) (l : Fin 128), q (ix2 a l) = x (ix2 ⟨b.val * 4096 + (256 * n.val + a.val), by omega⟩ ⟨h.val * 128 + l.val, by omega⟩)) : Half x b h 0 n (half0 q) :=
  ⟨fun a l => (k0_pay115 : IVec S256x128 1) (ix2 a l), mask0_at, fun a l => by rw [half0_at, hq]⟩

/-- The scaled second-map queries of a head. -/
theorem half1_half (b h : Fin 4) (n : Fin 16) (q : Vec Ideal S256x128 .bf16)
    (hq : ∀ (a : Fin 256) (l : Fin 128), q (ix2 a l) = x (ix2 ⟨b.val * 4096 + (256 * n.val + a.val), by omega⟩ ⟨h.val * 128 + l.val, by omega⟩)) : Half x b h 1 n (half1 q) :=
  ⟨fun a l => (k0_pay116 : IVec S256x128 1) (ix2 a l), mask1_at, fun a l => by rw [half1_at, hq]⟩

/-- A head's output at a row and lane. -/
theorem head_out (hfin : Cert.Maps.Finite x) (b h : Fin 4) (n : Fin 16) (q : Vec Ideal S256x128 .bf16) (X Y : Vec Ideal S4096x512 .bf16)
    (hq : ∀ (a : Fin 256) (l : Fin 128), q (ix2 a l) = x (ix2 ⟨b.val * 4096 + (256 * n.val + a.val), by omega⟩ ⟨h.val * 128 + l.val, by omega⟩))
    (hX : ∀ (p : Fin 4096) (l : Fin 512), X (ix2 p l) = x (ix2 ⟨4096 * b.val + p.val, by omega⟩ ⟨512 + l.val, by omega⟩))
    (hY : ∀ (p : Fin 4096) (l : Fin 512), Y (ix2 p l) = x (ix2 ⟨4096 * b.val + p.val, by omega⟩ ⟨1024 + l.val, by omega⟩))
    (u u' : BitVec 32) (hu : Ideal.ofBits .f32 u = ((-Cert.Maps.slope h : ℝ) : EReal)) (hu' : Ideal.ofBits .f32 u' = ((-Cert.Maps.slope h * 256 : ℝ) : EReal))
    (W : FVec Ideal S1x1 .f32) (w : EReal) (hW : W (ix2 0 0) = w) (G : Vec Ideal S1x128 .f32) (g : (⟨1, ![128]⟩ : Shape).Idx → EReal) (hG : ∀ k : Fin 128, G (ix2 0 k) = g (ix1 k)) (a : Fin 256) (e : Fin 128) :
    finish W (head (half0 q) (tile X h.val) (tile Y h.val) (offB u u' k0_pay117 (BitVec.ofNat 32 n.val)) (diagB u k0_pay117 diag) n.val)
        (head (half1 q) (tile X h.val) (tile Y h.val) (offB u u' k0_pay117 (BitVec.ofNat 32 n.val)) (diagB u k0_pay117 diag) n.val) G (ix2 a e)
      = Cert.Maps.seen x w g b h ⟨256 * n.val + a.val, by omega⟩ e := by
  rw [finish_at]
  unfold Cert.Maps.seen
  simp only [hG]
  refine congrArg (fun y => Cert.Maps.normed y (fun k => g (ix1 k)) e) (funext fun k => ?_)
  rw [hW, head_seen hfin b h 0 n _ X Y (half0_half b h n q hq) hX hY u u' hu hu', head_seen hfin b h 1 n _ X Y (half1_half b h n q hq) hX hY u u' hu hu']
  rfl

end Cert.DiffIdeal.Whole

end
-- ==== Proof.DiffRefRead.lean ====
module

public import Idealize.ShloMosaic.Lib.Pipeline.ValueKit
public import Idealize.ShloMosaic.Lib.Pipeline.ReadBack
public import Idealize.ShloMosaic.Lib.Pointwise
public import Idealize.ShloMosaic.Lib.Quiescent
public import proofs.«01_k».proof.Proof.HostMax
public import proofs.«01_k».proof.Proof.Causal
public import proofs.«01_k».proof.Proof.Maps
public import proofs.«01_k».proof.Proof.Gen.DiffRefIdeal.Run

@[expose] public section

set_option maxRecDepth 16384

noncomputable section

open Idealize.ShloMosaic Idealize.ShloMosaic.TcCoe Idealize.SL.Sem

namespace Cert.DiffRefIdeal.Whole

open Cert.DiffRefIdeal Cert.DiffRefIdeal.Gen

/-- The maximum along the last of five axes. -/
theorem reduce_last {n0 n1 n2 n3 n4 : ℕ} {u : Shape} (hr : (⟨5, ![n0, n1, n2, n3, n4]⟩ : Shape).ReducesTo [4] ⟨4, ![n0, n1, n2, n3]⟩)
    (x : FVec Ideal (⟨5, ![n0, n1, n2, n3, n4]⟩ : Shape) .f32) (init : FVec Ideal u .f32) (hu : 0 < u.numel) (hb : init (Shape.Idx.first hu) = (⊥ : EReal))
    (i : Fin n0) (j : Fin n1) (k : Fin n2) (r : Fin n3) :
    Host.reduce FloatOps.maximumf x init hr hu (ix4 i j k r) = Cert.Softmax.top Finset.univ fun l : Fin n4 => (x (ix5 i j k r l) : EReal) := by
  refine Eq.trans ?_ (Cert.Softmax.fold_max Finset.univ _ _ hb)
  pointwise

/-- A maximum with the bottom is the other value. -/
theorem max_bottom {s : Shape} (A R : FVec Ideal s .f32) (i : s.Idx) (h : A i = (⊥ : EReal)) : maximumf A R i = R i := by
  show max (A i : EReal) (R i) = R i
  rw [h]
  exact max_eq_right bot_le

/-- The bottom at every row. -/
theorem bottom_at (i : S4x4x2x4096.Idx) : (broadcastInDim S4x4x2x4096 ![] bcast_S_S4x4x2x4096 (constant S_ .f32 0xFF800000#32) : FVec Ideal S4x4x2x4096 .f32) i = (⊥ : EReal) := by
  have hb : Ideal.ofBits .f32 0xFF800000#32 = (⊥ : EReal) := by simp [Ideal.ofBits, Ideal.ieee]
  exact hb

/-- The largest score of a row, spread over the row, read at an entry. -/
theorem ref_spread (R : FVec Ideal S4x4x2x4096 .f32) (b h : Fin 4) (c : Fin 2) (p k : Fin 4096) :
    broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 R) (ix5 b h c p k)
      = R (ix4 b h c p) := by
  pointwise

/-- The largest score of a row, read at an entry. -/
theorem ref_max (S : FVec Ideal S4x4x2x4096x4096 .f32) (b h : Fin 4) (c : Fin 2) (p k : Fin 4096) :
    broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (maximumf (broadcastInDim S4x4x2x4096 ![] bcast_S_S4x4x2x4096 (constant S_ .f32 0xFF800000#32)) (Host.reduce FloatOps.maximumf S (constant S_ .f32 0xFF800000#32) reducesTo_S4x4x2x4096x4096_S4x4x2x4096_d4 h_S_))) (ix5 b h c p k)
      = Cert.Softmax.top Finset.univ fun i : Fin 4096 => S (ix5 b h c p i) := by
  have hb : Ideal.ofBits .f32 0xFF800000#32 = (⊥ : EReal) := by simp [Ideal.ofBits, Ideal.ieee]
  refine (ref_spread _ b h c p k).trans ((max_bottom _ _ _ (bottom_at _)).trans ?_)
  exact reduce_last reducesTo_S4x4x2x4096x4096_S4x4x2x4096_d4 S (constant S_ .f32 0xFF800000#32) h_S_ hb b h c p

/-- The sum of a row's weights, read at an entry. -/
theorem ref_sum (E : FVec Ideal S4x4x2x4096x4096 .f32) (b h : Fin 4) (c : Fin 2) (p k : Fin 4096) :
    broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduceAdd E (constant S_ .f32 0x00000000#32) reducesTo_S4x4x2x4096x4096_S4x4x2x4096_d4 h_S_)) (ix5 b h c p k)
      = ∑ i : Fin 4096, E (ix5 b h c p i) := by
  rw [ref_spread]
  pointwise

/-- The softmax of the scores. -/
abbrev soft (S : FVec Ideal S4x4x2x4096x4096 .f32) : FVec Ideal S4x4x2x4096x4096 .f32 :=
  Host.divf (Host.exp (subf S (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (maximumf (broadcastInDim S4x4x2x4096 ![] bcast_S_S4x4x2x4096 (constant S_ .f32 0xFF800000#32)) (Host.reduce FloatOps.maximumf S (constant S_ .f32 0xFF800000#32) reducesTo_S4x4x2x4096x4096_S4x4x2x4096_d4 h_S_))))))
    (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduceAdd (Host.exp (subf S (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (maximumf (broadcastInDim S4x4x2x4096 ![] bcast_S_S4x4x2x4096 (constant S_ .f32 0xFF800000#32)) (Host.reduce FloatOps.maximumf S (constant S_ .f32 0xFF800000#32) reducesTo_S4x4x2x4096x4096_S4x4x2x4096_d4 h_S_)))))) (constant S_ .f32 0x00000000#32) reducesTo_S4x4x2x4096x4096_S4x4x2x4096_d4 h_S_)))

/-- A normalized weight, read at an entry. -/
theorem soft_at (S : FVec Ideal S4x4x2x4096x4096 .f32) (b h : Fin 4) (c : Fin 2) (p k : Fin 4096) :
    soft S (ix5 b h c p k) = Ideal.div (Ideal.exp (S (ix5 b h c p k) - Cert.Softmax.top Finset.univ fun i : Fin 4096 => S (ix5 b h c p i)))
      (Cert.Softmax.mass Finset.univ (fun i : Fin 4096 => S (ix5 b h c p i)) (Cert.Softmax.top Finset.univ fun i : Fin 4096 => S (ix5 b h c p i))) := by
  refine congrArg₂ Ideal.div ?_ ?_
  · exact congrArg (fun y => Ideal.exp (S (ix5 b h c p k) - y)) (ref_max S b h c p k)
  · refine (ref_sum _ b h c p k).trans ?_
    unfold Cert.Softmax.mass
    refine Finset.sum_congr rfl fun i _ => ?_
    exact congrArg (fun y => Ideal.exp (S (ix5 b h c p i) - y)) (ref_max S b h c p i)

/-- A normalized weight, where the scores are known at every entry. -/
theorem soft_score (S : FVec Ideal S4x4x2x4096x4096 .f32) (s : Fin 4 → Fin 4 → Fin 2 → Fin 4096 → Fin 4096 → EReal) (hS : ∀ b h c p k, S (ix5 b h c p k) = s b h c p k)
    (b h : Fin 4) (c : Fin 2) (p k : Fin 4096) :
    soft S (ix5 b h c p k) = Ideal.div (Ideal.exp (s b h c p k - Cert.Softmax.top Finset.univ (s b h c p)))
      (Cert.Softmax.mass Finset.univ (s b h c p) (Cert.Softmax.top Finset.univ (s b h c p))) := by
  rw [soft_at]
  simp only [hS]

/-- The first map of the two, read at an entry. -/
theorem ref_map0 (P : FVec Ideal S4x4x2x4096x4096 .f32) (b h : Fin 4) (p k : Fin 4096) :
    (shapeCast S4x4x4096x4096 (extractStridedSlice S4x4x1x4096x4096 ![0, 0, 0, 0, 0] P slices_S4x4x2x4096x4096_S4x4x1x4096x4096_0_0_0_0_0) shapeCasts_S4x4x1x4096x4096_S4x4x4096x4096 : FVec Ideal S4x4x4096x4096 .f32) (ix4 b h p k)
      = P (ix5 b h 0 p k) := by
  pointwise

/-- The second map of the two, read at an entry. -/
theorem ref_map1 (P : FVec Ideal S4x4x2x4096x4096 .f32) (b h : Fin 4) (p k : Fin 4096) :
    (shapeCast S4x4x4096x4096 (extractStridedSlice S4x4x1x4096x4096 ![0, 0, 1, 0, 0] P slices_S4x4x2x4096x4096_S4x4x1x4096x4096_0_0_1_0_0) shapeCasts_S4x4x1x4096x4096_S4x4x4096x4096 : FVec Ideal S4x4x4096x4096 .f32) (ix4 b h p k)
      = P (ix5 b h 1 p k) := by
  pointwise

/-- The weighted sum of the values, read at an entry. -/
theorem ref_avg (V : FVec Ideal S4x4096x4x128 .f32) (W : FVec Ideal S4x4x4096x4096 .f32) (b : Fin 4) (p : Fin 4096) (h : Fin 4) (e : Fin 128) :
    transpose S4x4096x4x128 [0, 3, 1, 2] (Host.dotGeneral dot_S4x4096x4x128_S4x4x4096x4096_S4x4x128x4096_1_3_3_2_02_01 none V W) transposes_S4x4x128x4096_S4x4096x4x128_0_3_1_2 (ix4 b p h e)
      = ∑ i : Fin 4096, V (ix4 b i h e) * W (ix4 b h p i) := by
  pointwise

/-- The products of the queries and keys, read at an entry. -/
theorem ref_qk (Q K : FVec Ideal S4x4096x4x2x64 .f32) (b h : Fin 4) (c : Fin 2) (p k : Fin 4096) :
    Host.dotGeneral dot_S4x4096x4x2x64_S4x4096x4x2x64_S4x4x2x4096x4096_4_4_1_1_023_023 none Q K (ix5 b h c p k)
      = ∑ d : Fin 64, Q (ix5 b p h c d) * K (ix5 b k h c d) := by
  pointwise

/-- A head's queries, read at an entry. -/
theorem ref_q (x : FVec Ideal S16384x1536 .bf16) (b : Fin 4) (p : Fin 4096) (h : Fin 4) (c : Fin 2) (d : Fin 64) :
    (shapeCast S4x4096x4x2x64 (extractStridedSlice S16384x512 ![0, 0] (extf .f32 x bitsLt_bf16_f32) slices_S16384x1536_S16384x512_0_0) shapeCasts_S16384x512_S4x4096x4x2x64 : FVec Ideal S4x4096x4x2x64 .f32) (ix5 b p h c d)
      = x (ix2 ⟨b.val * 4096 + p.val, by omega⟩ ⟨h.val * 128 + (c.val * 64 + d.val), by omega⟩) := by
  pointwise
  refine congrArg x (congrArg₂ ix2 (Fin.ext ?_) (Fin.ext ?_)) <;> simp only <;> omega

/-- A head's keys, read at an entry. -/
theorem ref_k (x : FVec Ideal S16384x1536 .bf16) (b : Fin 4) (p : Fin 4096) (h : Fin 4) (c : Fin 2) (d : Fin 64) :
    (shapeCast S4x4096x4x2x64 (extractStridedSlice S16384x512 ![0, 512] (extf .f32 x bitsLt_bf16_f32) slices_S16384x1536_S16384x512_0_512) shapeCasts_S16384x512_S4x4096x4x2x64 : FVec Ideal S4x4096x4x2x64 .f32) (ix5 b p h c d)
      = x (ix2 ⟨b.val * 4096 + p.val, by omega⟩ ⟨512 + (h.val * 128 + (c.val * 64 + d.val)), by omega⟩) := by
  pointwise
  refine congrArg x (congrArg₂ ix2 (Fin.ext ?_) (Fin.ext ?_)) <;> simp only <;> omega

/-- A head's values, read at an entry. -/
theorem ref_v (x : FVec Ideal S16384x1536 .bf16) (b : Fin 4) (p : Fin 4096) (h : Fin 4) (e : Fin 128) :
    (shapeCast S4x4096x4x128 (extractStridedSlice S16384x512 ![0, 1024] (extf .f32 x bitsLt_bf16_f32) slices_S16384x1536_S16384x512_0_1024) shapeCasts_S16384x512_S4x4096x4x128 : FVec Ideal S4x4096x4x128 .f32) (ix4 b p h e)
      = x (ix2 ⟨b.val * 4096 + p.val, by omega⟩ ⟨1024 + (h.val * 128 + e.val), by omega⟩) := by
  pointwise

/-- The number of a position's chunk, as the words along a row compute it. -/
theorem ref_row (i : Fin 1) (p : Fin 4096) :
    (select (andi (cmpi .ne (signi (broadcastInDim S1x4096 ![1] bcast_S4096_S1x4096_1 (iotaInDim S4096 32 0))) (broadcastInDim S1x4096 ![] bcast_S_S1x4096 (signi (id (constantI S_ 32 64#32))))) (cmpi .ne (Host.remsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 0#32)))) (subi (Host.divsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 1#32))) (Host.divsi (broadcastInDim S1x4096 ![1] bcast_S4096_S1x4096_1 (iotaInDim S4096 32 0)) (broadcastInDim S1x4096 ![] bcast_S_S1x4096 (id (constantI S_ 32 64#32)))) : IVec S1x4096 32) (ix2 i p) = BitVec.ofNat 32 (p.val / 64) := by
  pointwise
  revert p
  decide +kernel

/-- The number of a position's chunk, as the words down a column compute it. -/
theorem ref_col (p : Fin 4096) (i : Fin 1) :
    (select (andi (cmpi .ne (signi (broadcastInDim S4096x1 ![0] bcast_S4096_S4096x1_0 (iotaInDim S4096 32 0))) (broadcastInDim S4096x1 ![] bcast_S_S4096x1 (signi (id (constantI S_ 32 64#32))))) (cmpi .ne (Host.remsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 0#32)))) (subi (Host.divsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 1#32))) (Host.divsi (broadcastInDim S4096x1 ![0] bcast_S4096_S4096x1_0 (iotaInDim S4096 32 0)) (broadcastInDim S4096x1 ![] bcast_S_S4096x1 (id (constantI S_ 32 64#32)))) : IVec S4096x1 32) (ix2 p i) = BitVec.ofNat 32 (p.val / 64) := by
  pointwise
  revert p
  decide +kernel

/-- The mask at a query and a key is set where the key's chunk is not after the query's. -/
theorem ref_mask (A : IVec S4096x1 32) (B : IVec S1x4096 32) (hA : ∀ p i, A (ix2 p i) = BitVec.ofNat 32 (p.val / 64))
    (hB : ∀ i p, B (ix2 i p) = BitVec.ofNat 32 (p.val / 64)) (b h : Fin 4) (c : Fin 2) (p k : Fin 4096) :
    (broadcastInDim S4x4x2x4096x4096 ![3, 4] bcast_S4096x4096_S4x4x2x4096x4096_3_4 (cmpi .sle (broadcastInDim S4096x4096 ![0, 1] bcast_S1x4096_S4096x4096_0_1 B) (broadcastInDim S4096x4096 ![0, 1] bcast_S4096x1_S4096x4096_0_1 A)) : IVec S4x4x2x4096x4096 1) (ix5 b h c p k) = if k.val / 64 ≤ p.val / 64 then 1#1 else 0#1 := by
  pointwise
  rw [hA, hB]
  exact Cert.Causal.before_word ⟨p.val / 64, by omega⟩ ⟨k.val / 64, by omega⟩

/-- A score, read at an entry: the scaled product and the bias where the mask is set, the bottom elsewhere. -/
theorem ref_score (M : IVec S4x4x2x4096x4096 1) (X B : FVec Ideal S4x4x2x4096x4096 .f32) (b h : Fin 4) (c : Fin 2) (p k : Fin 4096) :
    (select M (addf (mulf X (broadcastInDim S4x4x2x4096x4096 ![] bcast_S_S4x4x2x4096x4096 (constant S_ .f32 0x3E000000#32))) B) (broadcastInDim S4x4x2x4096x4096 ![] bcast_S_S4x4x2x4096x4096 (id (constant S_ .f32 0xFF800000#32))) : FVec Ideal S4x4x2x4096x4096 .f32) (ix5 b h c p k)
      = Scalar.select (M (ix5 b h c p k)) (X (ix5 b h c p k) * Ideal.ofBits .f32 0x3E000000#32 + B (ix5 b h c p k)) ⊥ := by
  have hb : Ideal.ofBits .f32 0xFF800000#32 = (⊥ : EReal) := by simp [Ideal.ofBits, Ideal.ieee]
  refine Eq.trans (b := Scalar.select (M (ix5 b h c p k)) (X (ix5 b h c p k) * Ideal.ofBits .f32 0x3E000000#32 + B (ix5 b h c p k)) (Ideal.ofBits .f32 0xFF800000#32)) rfl ?_
  rw [hb]

/-- The distance of two positions, as the words compute it. -/
theorem word_abs (p k : ℕ) (hp : p < 4096) (hk : k < 4096) : (IntOp.absi (IntOp.subi (BitVec.ofNat 32 p) (BitVec.ofNat 32 k))).toInt = |(p : ℤ) - k| := by
  have e : (BitVec.ofNat 32 p - BitVec.ofNat 32 k).toInt = (p : ℤ) - k := by
    rw [BitVec.toInt_sub, BitVec.toInt_ofNat', BitVec.toInt_ofNat']
    simp only [Int.bmod_def]
    split <;> split <;> split <;> omega
  show (if (BitVec.ofNat 32 p - BitVec.ofNat 32 k).msb then -(BitVec.ofNat 32 p - BitVec.ofNat 32 k) else BitVec.ofNat 32 p - BitVec.ofNat 32 k).toInt = _
  rw [BitVec.msb_eq_toInt, e]
  by_cases hn : (p : ℤ) - k < 0
  · rw [if_pos (by simpa using hn), BitVec.toInt_neg, e, abs_of_neg hn]
    simp only [Int.bmod_def]
    split <;> omega
  · rw [if_neg (by simpa using hn), e, abs_of_nonneg (by omega)]

/-- The slopes' words. -/
theorem slope_word (h : Fin 4) : -(Ideal.ofBits .f32 (lit0 h)) = ((-Cert.Maps.slope h : ℝ) : EReal) := by
  rw [EReal.coe_neg]
  refine congrArg _ ?_
  unfold Cert.Maps.slope
  have e0 : Ideal.ofBits .f32 0x3E800000#32 = (((1 / 4) ^ (0 + 1) : ℝ) : EReal) := by simp [Ideal.ofBits, Ideal.ieee]; rw [← EReal.coe_mul]; norm_num
  have e1 : Ideal.ofBits .f32 0x3D800000#32 = (((1 / 4) ^ (1 + 1) : ℝ) : EReal) := by simp [Ideal.ofBits, Ideal.ieee]; rw [← EReal.coe_mul]; norm_num
  have e2 : Ideal.ofBits .f32 0x3C800000#32 = (((1 / 4) ^ (2 + 1) : ℝ) : EReal) := by simp [Ideal.ofBits, Ideal.ieee]; rw [← EReal.coe_mul]; norm_num
  have e3 : Ideal.ofBits .f32 0x3B800000#32 = (((1 / 4) ^ (3 + 1) : ℝ) : EReal) := by simp [Ideal.ofBits, Ideal.ieee]; rw [← EReal.coe_mul]; norm_num
  fin_cases h
  · exact e0
  · exact e1
  · exact e2
  · exact e3

/-- The linear bias, read at an entry. -/
theorem ref_bias (b h : Fin 4) (c : Fin 2) (p k : Fin 4096) :
    (broadcastInDim S4x4x2x4096x4096 ![0, 1, 2, 3, 4] bcast_S1x4x1x4096x4096_S4x4x2x4096x4096_0_1_2_3_4 (broadcastInDim S1x4x1x4096x4096 ![1, 3, 4] bcast_S4x4096x4096_S1x4x1x4096x4096_1_3_4
      (mulf (broadcastInDim S4x4096x4096 ![0, 1, 2] bcast_S4x1x1_S4x4096x4096_0_1_2 (Host.negf (broadcastInDim S4x1x1 ![0] bcast_S4_S4x1x1_0 ((fun i => FloatOps.ofBits .f32 (lit0 (S4.rowMajor i))) : FVec Ideal S4 .f32))))
        (broadcastInDim S4x4096x4096 ![0, 1, 2] bcast_S1x4096x4096_S4x4096x4096_0_1_2 (broadcastInDim S1x4096x4096 ![1, 2] bcast_S4096x4096_S1x4096x4096_1_2 (sitofp .f32 (absi (subi
          (broadcastInDim S4096x4096 ![0, 1] bcast_S4096x1_S4096x4096_0_1 (broadcastInDim S4096x1 ![0] bcast_S4096_S4096x1_0 (iotaInDim S4096 32 0)))
          (broadcastInDim S4096x4096 ![0, 1] bcast_S1x4096_S4096x4096_0_1 (broadcastInDim S1x4096 ![1] bcast_S4096_S1x4096_1 (iotaInDim S4096 32 0)))))))))) : FVec Ideal S4x4x2x4096x4096 .f32) (ix5 b h c p k)
      = ((-Cert.Maps.slope h * |(p.val : ℝ) - (k.val : ℝ)| : ℝ) : EReal) := by
  refine Eq.trans (b := -(Ideal.ofBits .f32 (lit0 (S4.rowMajor (ix1 h)))) * (((IntOp.absi (IntOp.subi (BitVec.ofNat 32 p.val) (BitVec.ofNat 32 k.val))).toInt : ℝ) : EReal)) ?_ ?_
  · pointwise
    rfl
  · have hr : S4.rowMajor (ix1 h) = h := by fin_cases h <;> rfl
    rw [hr, slope_word, word_abs _ _ p.isLt k.isLt, ← EReal.coe_mul]
    push_cast
    rfl

/-- The second map's weight, read at an entry. -/
theorem ref_mix (q1 k1 q2 k2 : FVec Ideal S64 .f32) (i : S4x4x4096x4096.Idx) :
    (broadcastInDim S4x4x4096x4096 ![] bcast_S_S4x4x4096x4096 (addf (subf (Host.exp (Host.reduceAdd (mulf q1 k1) (constant S_ .f32 0x00000000#32) reducesTo_S64_S_d0 h_S_)) (Host.exp (Host.reduceAdd (mulf q2 k2) (constant S_ .f32 0x00000000#32) reducesTo_S64_S_d0 h_S_))) (constant S_ .f32 0x3E4CCCCD#32)) : FVec Ideal S4x4x4096x4096 .f32) i
      = Cert.Maps.mix q1 k1 q2 k2 := by
  obtain ⟨b, h, p, k, rfl⟩ : ∃ (b h : Fin 4) (p k : Fin 4096), i = ix4 b h p k := ⟨i 0, i 1, i 2, i 3, eq_ix4 i⟩
  unfold Cert.Maps.mix
  pointwise

/-- The normed rows, read at an entry. -/
theorem ref_norm (Y : FVec Ideal S4x4096x4x128 .f32) (g : FVec Ideal S128 .f32) (r : Fin 16384) (d : Fin 512) :
    (truncf .bf16 (shapeCast S16384x512 (mulf (mulf (mulf Y (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf Y Y) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 g))) (broadcastInDim S4x4096x4x128 ![] bcast_S_S4x4096x4x128 (constant S_ .f32 0x3F4CCCCD#32))) shapeCasts_S4x4096x4x128_S16384x512) bitsLt_bf16_f32 : FVec Ideal S16384x512 .bf16) (ix2 r d)
      = Cert.Maps.normed (fun k => Y (ix4 ⟨r.val / 4096, by omega⟩ ⟨r.val % 4096, by omega⟩ ⟨d.val / 128, by omega⟩ k)) (fun k => g (ix1 k)) ⟨d.val % 128, by omega⟩ := by
  unfold Cert.Maps.normed
  pointwise

/-- The difference of the two maps' averages, where the weight is known. -/
theorem differ_eq (x : (⟨2, ![16384, 1536]⟩ : Shape).Idx → EReal) (y : EReal) (w : ℝ) (hw : y = (w : EReal)) (b h : Fin 4) (p : Fin 4096) (e : Fin 128) :
    Cert.Softmax.attend Finset.univ (Cert.Maps.score x b h 0 p) (Cert.Maps.value x b h e) - (w : EReal) * Cert.Softmax.attend Finset.univ (Cert.Maps.score x b h 1 p) (Cert.Maps.value x b h e)
      = Cert.Maps.differ x y b h p e := by
  rw [hw]
  rfl

end Cert.DiffRefIdeal.Whole

end
-- ==== Proof.DiffRefSide.lean ====
module

public import proofs.«01_k».proof.Proof.DiffRefRead

@[expose] public section

set_option maxRecDepth 16384

noncomputable section

open Idealize.ShloMosaic Idealize.ShloMosaic.TcCoe Idealize.SL.Sem

namespace Cert.DiffRefIdeal.Whole

open Cert.DiffRefIdeal Cert.DiffRefIdeal.Gen

/-- The chunk numbers along a row. -/
def rowWords : IVec S1x4096 32 := (select (andi (cmpi .ne (signi (broadcastInDim S1x4096 ![1] bcast_S4096_S1x4096_1 (iotaInDim S4096 32 0))) (broadcastInDim S1x4096 ![] bcast_S_S1x4096 (signi (id (constantI S_ 32 64#32))))) (cmpi .ne (Host.remsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 0#32)))) (subi (Host.divsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 1#32))) (Host.divsi (broadcastInDim S1x4096 ![1] bcast_S4096_S1x4096_1 (iotaInDim S4096 32 0)) (broadcastInDim S1x4096 ![] bcast_S_S1x4096 (id (constantI S_ 32 64#32)))))

/-- The chunk numbers down a column. -/
def colWords : IVec S4096x1 32 := (select (andi (cmpi .ne (signi (broadcastInDim S4096x1 ![0] bcast_S4096_S4096x1_0 (iotaInDim S4096 32 0))) (broadcastInDim S4096x1 ![] bcast_S_S4096x1 (signi (id (constantI S_ 32 64#32))))) (cmpi .ne (Host.remsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 0#32)))) (subi (Host.divsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 1#32))) (Host.divsi (broadcastInDim S4096x1 ![0] bcast_S4096_S4096x1_0 (iotaInDim S4096 32 0)) (broadcastInDim S4096x1 ![] bcast_S_S4096x1 (id (constantI S_ 32 64#32)))))

/-- The linear bias. -/
def bias : FVec Ideal S4x4x2x4096x4096 .f32 := (broadcastInDim S4x4x2x4096x4096 ![0, 1, 2, 3, 4] bcast_S1x4x1x4096x4096_S4x4x2x4096x4096_0_1_2_3_4 (broadcastInDim S1x4x1x4096x4096 ![1, 3, 4] bcast_S4x4096x4096_S1x4x1x4096x4096_1_3_4
      (mulf (broadcastInDim S4x4096x4096 ![0, 1, 2] bcast_S4x1x1_S4x4096x4096_0_1_2 (Host.negf (broadcastInDim S4x1x1 ![0] bcast_S4_S4x1x1_0 ((fun i => FloatOps.ofBits .f32 (lit0 (S4.rowMajor i))) : FVec Ideal S4 .f32))))
        (broadcastInDim S4x4096x4096 ![0, 1, 2] bcast_S1x4096x4096_S4x4096x4096_0_1_2 (broadcastInDim S1x4096x4096 ![1, 2] bcast_S4096x4096_S1x4096x4096_1_2 (sitofp .f32 (absi (subi
          (broadcastInDim S4096x4096 ![0, 1] bcast_S4096x1_S4096x4096_0_1 (broadcastInDim S4096x1 ![0] bcast_S4096_S4096x1_0 (iotaInDim S4096 32 0)))
          (broadcastInDim S4096x4096 ![0, 1] bcast_S1x4096_S4096x4096_0_1 (broadcastInDim S1x4096 ![1] bcast_S4096_S1x4096_1 (iotaInDim S4096 32 0)))))))))))

/-- The scores of both maps. -/
def scores (x : FVec Ideal S16384x1536 .bf16) : FVec Ideal S4x4x2x4096x4096 .f32 :=
  select (broadcastInDim S4x4x2x4096x4096 ![3, 4] bcast_S4096x4096_S4x4x2x4096x4096_3_4 (cmpi .sle (broadcastInDim S4096x4096 ![0, 1] bcast_S1x4096_S4096x4096_0_1 rowWords) (broadcastInDim S4096x4096 ![0, 1] bcast_S4096x1_S4096x4096_0_1 colWords)))
    (addf (mulf (Host.dotGeneral dot_S4x4096x4x2x64_S4x4096x4x2x64_S4x4x2x4096x4096_4_4_1_1_023_023 none
        (shapeCast S4x4096x4x2x64 (extractStridedSlice S16384x512 ![0, 0] (extf .f32 x bitsLt_bf16_f32) slices_S16384x1536_S16384x512_0_0) shapeCasts_S16384x512_S4x4096x4x2x64)
        (shapeCast S4x4096x4x2x64 (extractStridedSlice S16384x512 ![0, 512] (extf .f32 x bitsLt_bf16_f32) slices_S16384x1536_S16384x512_0_512) shapeCasts_S16384x512_S4x4096x4x2x64))
      (broadcastInDim S4x4x2x4096x4096 ![] bcast_S_S4x4x2x4096x4096 (constant S_ .f32 0x3E000000#32))) bias)
    (broadcastInDim S4x4x2x4096x4096 ![] bcast_S_S4x4x2x4096x4096 (id (constant S_ .f32 0xFF800000#32)))

/-- A masked score from the values of its parts. -/
theorem score_join {a a' : BitVec 1} {y y' z z' : EReal} (ha : a = a') (hy : y = y') (hz : z = z') :
    Scalar.select a (y * Ideal.ofBits .f32 0x3E000000#32 + z) (⊥ : EReal) = Scalar.select a' (y' * Ideal.ofBits .f32 0x3E000000#32 + z') ⊥ := by
  rw [ha, hy, hz]

/-- The weights of the values, read at an entry. -/
theorem weights_at (A B L : FVec Ideal S4x4x4096x4096 .f32) (i : S4x4x4096x4096.Idx) : subf A (mulf L B) i = A i - L i * B i := rfl

/-- A score of the reference, read at an entry. -/
theorem scores_at (x : FVec Ideal S16384x1536 .bf16) (b h : Fin 4) (c : Fin 2) (p k : Fin 4096) : scores x (ix5 b h c p k) = Cert.Maps.score x b h c p k := by
  refine (ref_score _ _ bias b h c p k).trans ?_
  have e1 := ref_mask colWords rowWords ref_col ref_row b h c p k
  have e2 := ref_qk (shapeCast S4x4096x4x2x64 (extractStridedSlice S16384x512 ![0, 0] (extf .f32 x bitsLt_bf16_f32) slices_S16384x1536_S16384x512_0_0) shapeCasts_S16384x512_S4x4096x4x2x64)
    (shapeCast S4x4096x4x2x64 (extractStridedSlice S16384x512 ![0, 512] (extf .f32 x bitsLt_bf16_f32) slices_S16384x1536_S16384x512_0_512) shapeCasts_S16384x512_S4x4096x4x2x64) b h c p k
  have e3 : bias (ix5 b h c p k) = ((-Cert.Maps.slope h * |(p.val : ℝ) - (k.val : ℝ)| : ℝ) : EReal) := ref_bias b h c p k
  have e4 := e2.trans (Finset.sum_congr rfl fun d _ => congrArg₂ (· * ·) (ref_q x b p h c d) (ref_k x b k h c d))
  refine (score_join e1 e4 e3).trans ?_
  unfold Cert.Maps.score
  split <;> rfl

/-- The difference of the two maps' averages, read at an entry. -/
theorem differ_at (x : FVec Ideal S16384x1536 .bf16) (hfin : Cert.Maps.Finite x) (L : FVec Ideal S4x4x4096x4096 .f32) (y : EReal) (w : ℝ) (hw : y = (w : EReal)) (hL : ∀ i, L i = y)
    (b : Fin 4) (p : Fin 4096) (h : Fin 4) (e : Fin 128) :
    transpose S4x4096x4x128 [0, 3, 1, 2] (Host.dotGeneral dot_S4x4096x4x128_S4x4x4096x4096_S4x4x128x4096_1_3_3_2_02_01 none
        (shapeCast S4x4096x4x128 (extractStridedSlice S16384x512 ![0, 1024] (extf .f32 x bitsLt_bf16_f32) slices_S16384x1536_S16384x512_0_1024) shapeCasts_S16384x512_S4x4096x4x128)
        (subf (shapeCast S4x4x4096x4096 (extractStridedSlice S4x4x1x4096x4096 ![0, 0, 0, 0, 0] (soft (scores x)) slices_S4x4x2x4096x4096_S4x4x1x4096x4096_0_0_0_0_0) shapeCasts_S4x4x1x4096x4096_S4x4x4096x4096)
          (mulf L (shapeCast S4x4x4096x4096 (extractStridedSlice S4x4x1x4096x4096 ![0, 0, 1, 0, 0] (soft (scores x)) slices_S4x4x2x4096x4096_S4x4x1x4096x4096_0_0_1_0_0) shapeCasts_S4x4x1x4096x4096_S4x4x4096x4096))))
        transposes_S4x4x128x4096_S4x4096x4x128_0_3_1_2 (ix4 b p h e)
      = Cert.Maps.differ x y b h p e := by
  generalize hS : soft (scores x) = P
  have hP : ∀ (c : Fin 2) (k : Fin 4096), P (ix5 b h c p k) = Ideal.div (Ideal.exp (Cert.Maps.score x b h c p k - Cert.Softmax.top Finset.univ (Cert.Maps.score x b h c p)))
      (Cert.Softmax.mass Finset.univ (Cert.Maps.score x b h c p) (Cert.Softmax.top Finset.univ (Cert.Maps.score x b h c p))) := fun c k => by
    rw [← hS]
    exact soft_score _ _ (scores_at x) b h c p k
  refine (ref_avg _ _ _ _ _ _).trans ?_
  refine Eq.trans (Finset.sum_congr rfl fun k _ => congrArg₂ (· * ·) (ref_v x b k h e)
    ((weights_at _ _ _ _).trans (congrArg₂ (· - ·) ((ref_map0 P b h p k).trans (hP 0 k)) (congrArg₂ (· * ·) ((hL _).trans hw) ((ref_map1 P b h p k).trans (hP 1 k)))))) ?_
  exact (Cert.Maps.attend_differ Finset.univ _ _ _ w (fun j _ => Cert.Maps.score_ne_top hfin _ _ 0 _ j) (Cert.Maps.score_some hfin _ _ 0 _)
    (fun j _ => Cert.Maps.score_ne_top hfin _ _ 1 _ j) (Cert.Maps.score_some hfin _ _ 1 _) (fun j _ => hfin _ _)).trans (differ_eq _ _ w hw _ _ _ _)

/-- The reference's result at one entry, where everything is a number. -/
theorem ref_out (m : (ℓ : Loc nD τ sig) → Buf (Elt Ideal) ℓ) (c : Dev nD) (hfin : Cert.Maps.Finite (m ((c.tc : Thread nD τ).loc main_arg0)))
    (hw : ∃ w : ℝ, Cert.Maps.mix (m ((c.tc : Thread nD τ).loc main_arg1)) (m ((c.tc : Thread nD τ).loc main_arg2)) (m ((c.tc : Thread nD τ).loc main_arg3)) (m ((c.tc : Thread nD τ).loc main_arg4)) = (w : EReal)) (r : Fin 16384) (d : Fin 512) :
    Value.res_main_v79 m c (ix2 r d)
      = Cert.Maps.seen (m ((c.tc : Thread nD τ).loc main_arg0)) (Cert.Maps.mix (m ((c.tc : Thread nD τ).loc main_arg1)) (m ((c.tc : Thread nD τ).loc main_arg2)) (m ((c.tc : Thread nD τ).loc main_arg3)) (m ((c.tc : Thread nD τ).loc main_arg4)))
          (m ((c.tc : Thread nD τ).loc main_arg5)) ⟨r.val / 4096, by omega⟩ ⟨d.val / 128, by omega⟩ ⟨r.val % 4096, by omega⟩ ⟨d.val % 128, by omega⟩ := by
  obtain ⟨w, hw⟩ := hw
  unfold Value.res_main_v79
  refine (ref_norm _ _ r d).trans ?_
  unfold Cert.Maps.seen
  refine congrArg (fun y => Cert.Maps.normed y _ _) (funext fun e => ?_)
  exact differ_at _ hfin _ _ w hw (ref_mix _ _ _ _) _ _ _ _

end Cert.DiffRefIdeal.Whole

end
-- ==== Proof.DiffValue.lean ====
module

public import Idealize.ShloMosaic.Lib.Quiescent
public import proofs.«01_k».proof.Defs
public import proofs.«01_k».proof.Proof.DiffHead
public import proofs.«01_k».proof.Proof.DiffRefSide
public import proofs.«01_k».proof.Proof.Gen.DiffRefIdeal.Run
public import proofs.«01_k».proof.Proof.Gen.Diff.Frame
public import proofs.«01_k».proof.Proof.Gen.Pre_finite_maps

@[expose] public section

set_option maxRecDepth 16384

noncomputable section

open Idealize.ShloMosaic Idealize.ShloMosaic.TcCoe Idealize.SL.Sem
open Idealize.ShloMosaic.Pipeline (Dat)

namespace Cert.DiffIdeal.Whole

open Cert.DiffIdeal Cert.DiffIdeal.Gen
open Cert.MlaIdeal.Whole (Acc step quo)

variable (m : (ℓ : Loc nD τ sig) → Buf (Elt Ideal) ℓ)

/-- A head's output from its two running forms before the diagonal. -/
def outOf (u : BitVec 32) (M : IVec S256x256 1) (W : FVec Ideal S1x1 .f32) (q k v : Vec Ideal S256x128 .bf16) (s : Acc2) (g : Vec Ideal S1x128 .f32) : FVec Ideal S256x128 .bf16 :=
  finish W (quo (step (scored (half0 q) k (diagB u k0_pay117 M)) v (s.1, s.2.1, s.2.2.1))) (quo (step (scored (half1 q) k (diagB u k0_pay117 M)) v s.2.2.2)) g

/-- The first head's output. -/
theorem out_0 (M : IVec S256x256 1) (W : FVec Ideal S1x1 .f32) (q k v : Vec Ideal S256x128 .bf16) (s : Acc2) (g : Vec Ideal S1x128 .f32) :
    k0_pay137 W (k0_pay123 k0_pay116 q) (k0_pay125 k0_pay117 M) s.2.2.2.1 s.2.2.2.2.1 s.2.2.2.2.2 k v (k0_pay135 k0_pay117 M (k0_pay122 k0_pay115 q) s.1 s.2.1 k)
      (k0_pay136 k0_pay117 M (k0_pay122 k0_pay115 q) s.1 s.2.2.1 k v) (constant S256x256 .f32 0x00000000#32) g = outOf 0xBE800000#32 M W q k v s g := rfl

/-- The second head's output. -/
theorem out_1 (M : IVec S256x256 1) (W : FVec Ideal S1x1 .f32) (q k v : Vec Ideal S256x128 .bf16) (s : Acc2) (g : Vec Ideal S1x128 .f32) :
    k0_pay155 (k0_pay154 W (k0_pay141 k0_pay116 (k0_pay138 q)) (k0_pay143 k0_pay117 M) s.2.2.1 s.2.2.2.1 s.2.2.2.2.1 s.2.2.2.2.2 k v (k0_pay151 k0_pay115 k0_pay117 M (k0_pay138 q) s.1 k)
      (k0_pay152 k0_pay115 k0_pay117 M (k0_pay138 q) s.1 k) (k0_pay153 k0_pay115 k0_pay117 M (k0_pay138 q) s.1 s.2.1 k) g) (Scalar.ofBits .f32 0x3F4CCCCD#32) = outOf 0xBD800000#32 M W q k v s g := rfl

/-- The third head's output. -/
theorem out_2 (M : IVec S256x256 1) (W : FVec Ideal S1x1 .f32) (q k v : Vec Ideal S256x128 .bf16) (s : Acc2) (g : Vec Ideal S1x128 .f32) :
    k0_pay170 (k0_pay167 W (k0_pay158 k0_pay116 q) (k0_pay160 k0_pay117 M) s.1 s.2.1 s.2.2.1 s.2.2.2.1 s.2.2.2.2.1 s.2.2.2.2.2 k v (k0_pay166 k0_pay115 q k)) (k0_pay168 g)
      (k0_pay169 W (k0_pay158 k0_pay116 q) (k0_pay160 k0_pay117 M) s.1 s.2.1 s.2.2.1 s.2.2.2.1 s.2.2.2.2.1 s.2.2.2.2.2 k v (k0_pay166 k0_pay115 q k)) (Scalar.ofBits .f32 0x43000000#32)
      = outOf 0xBC800000#32 M W q k v s g := rfl

/-- The fourth head's output. -/
theorem out_3 (M : IVec S256x256 1) (W : FVec Ideal S1x1 .f32) (q k v : Vec Ideal S256x128 .bf16) (s : Acc2) (g : Vec Ideal S1x128 .f32) :
    k0_pay1 (k0_pay181 (k0_pay172 k0_pay115 q) (k0_pay175 k0_pay117 M) s.1 s.2.1 s.2.2.1 k v) (k0_pay182 (k0_pay173 k0_pay116 q) (k0_pay175 k0_pay117 M) s.2.2.2.1 s.2.2.2.2.1 s.2.2.2.2.2 k v) (k0_pay183 W) g
      = outOf 0xBB800000#32 M W q k v s g := rfl

/-- A head's output from its two running forms is the normed difference of its maps' averages. -/
theorem outOf_head (u : BitVec 32) (M : IVec S256x256 1) (W : FVec Ideal S1x1 .f32) (q q0 q1 : Vec Ideal S256x128 .bf16) (K V : ℕ → Vec Ideal S256x128 .bf16) (B : ℕ → FVec Ideal S256x256 .f32) (n : ℕ)
    (g : Vec Ideal S1x128 .f32) (hM : M = diag) (h0 : q0 = half0 q) (h1 : q1 = half1 q) :
    outOf u M W q (K n) (V n) (state2 q0 q1 K V B n) g
      = finish W (head (half0 q) K V B (diagB u k0_pay117 diag) n) (head (half1 q) K V B (diagB u k0_pay117 diag) n) g := by
  subst hM h0 h1
  rfl

/-- The first head's output by its maps' averages. -/
theorem outOf_0 (M : IVec S256x256 1) (W : FVec Ideal S1x1 .f32) (q : Vec Ideal S256x128 .bf16) (X Y : Vec Ideal S4096x512 .bf16) (B : ℕ → FVec Ideal S256x256 .f32) (n : ℕ) (g : Vec Ideal S1x128 .f32) (hM : M = diag) :
    outOf 0xBE800000#32 M W q (tile X 0 n) (tile Y 0 n) (state2 (k0_pay122 k0_pay115 q) (k0_pay123 k0_pay116 q) (tile X 0) (tile Y 0) B n) g
      = finish W (head (half0 q) (tile X 0) (tile Y 0) B (diagB 0xBE800000#32 k0_pay117 diag) n) (head (half1 q) (tile X 0) (tile Y 0) B (diagB 0xBE800000#32 k0_pay117 diag) n) g :=
  outOf_head _ M W q _ _ (tile X 0) (tile Y 0) B n g hM rfl rfl

/-- The second head's output by its maps' averages. -/
theorem outOf_1 (M : IVec S256x256 1) (W : FVec Ideal S1x1 .f32) (q : Vec Ideal S256x128 .bf16) (X Y : Vec Ideal S4096x512 .bf16) (B : ℕ → FVec Ideal S256x256 .f32) (n : ℕ) (g : Vec Ideal S1x128 .f32) (hM : M = diag) :
    outOf 0xBD800000#32 M W q (tile X 1 n) (tile Y 1 n) (state2 (k0_pay140 k0_pay115 (k0_pay138 q)) (k0_pay141 k0_pay116 (k0_pay138 q)) (tile X 1) (tile Y 1) B n) g
      = finish W (head (half0 q) (tile X 1) (tile Y 1) B (diagB 0xBD800000#32 k0_pay117 diag) n) (head (half1 q) (tile X 1) (tile Y 1) B (diagB 0xBD800000#32 k0_pay117 diag) n) g :=
  outOf_head _ M W q _ _ (tile X 1) (tile Y 1) B n g hM rfl rfl

/-- The third head's output by its maps' averages. -/
theorem outOf_2 (M : IVec S256x256 1) (W : FVec Ideal S1x1 .f32) (q : Vec Ideal S256x128 .bf16) (X Y : Vec Ideal S4096x512 .bf16) (B : ℕ → FVec Ideal S256x256 .f32) (n : ℕ) (g : Vec Ideal S1x128 .f32) (hM : M = diag) :
    outOf 0xBC800000#32 M W q (tile X 2 n) (tile Y 2 n) (state2 (k0_pay157 k0_pay115 q) (k0_pay158 k0_pay116 q) (tile X 2) (tile Y 2) B n) g
      = finish W (head (half0 q) (tile X 2) (tile Y 2) B (diagB 0xBC800000#32 k0_pay117 diag) n) (head (half1 q) (tile X 2) (tile Y 2) B (diagB 0xBC800000#32 k0_pay117 diag) n) g :=
  outOf_head _ M W q _ _ (tile X 2) (tile Y 2) B n g hM rfl rfl

/-- The fourth head's output by its maps' averages. -/
theorem outOf_3 (M : IVec S256x256 1) (W : FVec Ideal S1x1 .f32) (q : Vec Ideal S256x128 .bf16) (X Y : Vec Ideal S4096x512 .bf16) (B : ℕ → FVec Ideal S256x256 .f32) (n : ℕ) (g : Vec Ideal S1x128 .f32) (hM : M = diag) :
    outOf 0xBB800000#32 M W q (tile X 3 n) (tile Y 3 n) (state2 (k0_pay172 k0_pay115 q) (k0_pay173 k0_pay116 q) (tile X 3) (tile Y 3) B n) g
      = finish W (head (half0 q) (tile X 3) (tile Y 3) B (diagB 0xBB800000#32 k0_pay117 diag) n) (head (half1 q) (tile X 3) (tile Y 3) B (diagB 0xBB800000#32 k0_pay117 diag) n) g :=
  outOf_head _ M W q _ _ (tile X 3) (tile Y 3) B n g hM rfl rfl

/-- The mask of the tile on the diagonal, by the name it goes by. -/
theorem diag_eq : k0_pay120 (iota .tc S256x256 32 [0] iota_S256x256_d0_w32) (iota .tc S256x256 32 [1] iota_S256x256_d1_w32) 64#32 k0_pay118 k0_pay119 1#32 0#32 = diag := rfl

/-- Where the tiles on the diagonal lie. -/
theorem offD : ∀ t : Fin cfg0.N, k0_off3 (grid0.coords t) = ![256 * (t.val % 16), 128 * 0] ∧ k0_off6 (grid0.coords t) = ![256 * (t.val % 16), 128 * 1] ∧ k0_off9 (grid0.coords t) = ![256 * (t.val % 16), 128 * 2] ∧ k0_off12 (grid0.coords t) = ![256 * (t.val % 16), 128 * 3] :=
  (by decide +kernel : ∀ t : Fin grid0.N, k0_off3 (grid0.coords t) = ![256 * (t.val % 16), 128 * 0] ∧ k0_off6 (grid0.coords t) = ![256 * (t.val % 16), 128 * 1] ∧ k0_off9 (grid0.coords t) = ![256 * (t.val % 16), 128 * 2] ∧ k0_off12 (grid0.coords t) = ![256 * (t.val % 16), 128 * 3])

/-- The queries' and the output's blocks. -/
theorem placesQ : ∀ t : Fin cfg0.N, win0_0.index t = ![t.val, 0] ∧ win0_8.index t = ![t.val, 0] :=
  (by decide +kernel : ∀ t : Fin grid0.N, win0_0.index t = ![t.val, 0] ∧ win0_8.index t = ![t.val, 0])

/-- The keys' and the values' blocks. -/
theorem placesK : ∀ t : Fin cfg0.N, win0_1.index t = ![t.val / 16, 1] ∧ win0_2.index t = ![t.val / 16, 2] :=
  (by decide +kernel : ∀ t : Fin grid0.N, win0_1.index t = ![t.val / 16, 1] ∧ win0_2.index t = ![t.val / 16, 2])

/-- The blocks of the weights' vectors and of the gain. -/
theorem placesL : ∀ t : Fin cfg0.N, win0_3.index t = ![0, 0] ∧ win0_4.index t = ![0, 0] ∧ win0_5.index t = ![0, 0] ∧ win0_6.index t = ![0, 0] ∧ win0_7.index t = ![0, 0] :=
  (by decide +kernel : ∀ t : Fin grid0.N, win0_3.index t = ![0, 0] ∧ win0_4.index t = ![0, 0] ∧ win0_5.index t = ![0, 0] ∧ win0_6.index t = ![0, 0] ∧ win0_7.index t = ![0, 0])

/-- A block's queries, read at their place. -/
theorem readQ (c : Dev nD) (t : Fin cfg0.N) (a : Fin 256) (l : Fin 512) (ht : t.val < 64) :
    iblk m c 0 t (ix2 a l) = m ((c : Thread nD τ).loc main_arg0) (ix2 ⟨256 * t.val + a.val, by omega⟩ ⟨l.val, by omega⟩) := by
  have e := (placesQ t).1
  blk_simp [iblk]
  entry_read
  blk_ext [e]

/-- A batch's keys, read at their place. -/
theorem readK (c : Dev nD) (t : Fin cfg0.N) (p : Fin 4096) (l : Fin 512) (ht : t.val < 64) :
    iblk m c 1 t (ix2 p l) = m ((c : Thread nD τ).loc main_arg0) (ix2 ⟨4096 * (t.val / 16) + p.val, by omega⟩ ⟨512 + l.val, by omega⟩) := by
  have e := (placesK t).1
  blk_simp [iblk]
  entry_read
  blk_ext [e]

/-- A batch's values, read at their place. -/
theorem readV (c : Dev nD) (t : Fin cfg0.N) (p : Fin 4096) (l : Fin 512) (ht : t.val < 64) :
    iblk m c 2 t (ix2 p l) = m ((c : Thread nD τ).loc main_arg0) (ix2 ⟨4096 * (t.val / 16) + p.val, by omega⟩ ⟨1024 + l.val, by omega⟩) := by
  have e := (placesK t).2
  blk_simp [iblk]
  entry_read
  blk_ext [e]

/-- The first vector of the weight, read at its place. -/
theorem readL0 (c : Dev nD) (t : Fin cfg0.N) (k : Fin 64) : iblk m c 3 t (ix2 0 k) = m ((c : Thread nD τ).loc main_arg1) (ix1 k) := by
  have e := (placesL t).1
  blk_simp [iblk]
  entry_read
  pointwise
  blk_ext [e]

/-- The second vector of the weight, read at its place. -/
theorem readL1 (c : Dev nD) (t : Fin cfg0.N) (k : Fin 64) : iblk m c 4 t (ix2 0 k) = m ((c : Thread nD τ).loc main_arg2) (ix1 k) := by
  have e := (placesL t).2.1
  blk_simp [iblk]
  entry_read
  pointwise
  blk_ext [e]

/-- The third vector of the weight, read at its place. -/
theorem readL2 (c : Dev nD) (t : Fin cfg0.N) (k : Fin 64) : iblk m c 5 t (ix2 0 k) = m ((c : Thread nD τ).loc main_arg3) (ix1 k) := by
  have e := (placesL t).2.2.1
  blk_simp [iblk]
  entry_read
  pointwise
  blk_ext [e]

/-- The fourth vector of the weight, read at its place. -/
theorem readL3 (c : Dev nD) (t : Fin cfg0.N) (k : Fin 64) : iblk m c 6 t (ix2 0 k) = m ((c : Thread nD τ).loc main_arg4) (ix1 k) := by
  have e := (placesL t).2.2.2.1
  blk_simp [iblk]
  entry_read
  pointwise
  blk_ext [e]

/-- The gain, read at its place. -/
theorem readG (c : Dev nD) (t : Fin cfg0.N) (k : Fin 128) : iblk m c 7 t (ix2 0 k) = m ((c : Thread nD τ).loc main_arg5) (ix1 k) := by
  have e := (placesL t).2.2.2.2
  blk_simp [iblk]
  entry_read
  pointwise
  blk_ext [e]

/-- A load of a whole row of sixty-four is the row. -/
theorem ld_row (x : Vec Ideal S1x64 .f32) : View.ld x (Rect.unit ![0, 0] ![1, 64] inb_S1x64_S1x64_0_0) = x := by
  funext j
  obtain ⟨a, l, rfl⟩ : ∃ (a : Fin 1) (l : Fin 64), j = ix2 a l := ⟨j 0, j 1, eq_ix2 j⟩
  exact View.ld_unit_apply_of x _ _ _ _ (ix2 a l) fun b => by fin_cases b <;> exact (Nat.zero_add _).symm

/-- A load of the whole gain is the gain. -/
theorem ld_gain (x : Vec Ideal S1x128 .f32) : View.ld x (Rect.unit ![0, 0] ![1, 128] inb_S1x128_S1x128_0_0) = x := by
  funext j
  obtain ⟨a, l, rfl⟩ : ∃ (a : Fin 1) (l : Fin 128), j = ix2 a l := ⟨j 0, j 1, eq_ix2 j⟩
  exact View.ld_unit_apply_of x _ _ _ _ (ix2 a l) fun b => by fin_cases b <;> exact (Nat.zero_add _).symm

/-- The second map's weight. -/
abbrev mixed (c : Dev nD) : EReal := Cert.Maps.mix (m ((c : Thread nD τ).loc main_arg1)) (m ((c : Thread nD τ).loc main_arg2)) (m ((c : Thread nD τ).loc main_arg3)) (m ((c : Thread nD τ).loc main_arg4))

/-- The weight that a point of the grid computes. -/
theorem weight (c : Dev nD) (t : Fin cfg0.N) :
    (k0_pay114 (iblk m c 3 t) (iblk m c 4 t) (iblk m c 5 t) (iblk m c 6 t) : FVec Ideal S1x1 .f32) (ix2 0 0) = mixed m c := by
  have h : ∀ (f : (⟨1, ![64]⟩ : Shape).Idx → EReal) (g : Fin 64 → EReal), (∀ k, g k = f (ix1 k)) → (fun i : (⟨1, ![64]⟩ : Shape).Idx => g (i 0)) = f := fun f g h =>
    funext fun i => (h (i 0)).trans (congrArg f (eq_ix1 i).symm)
  refine (mix_at _ _ _ _).trans ?_
  rw [h _ (fun k => iblk m c 3 t (ix2 0 k)) (readL0 m c t), h _ (fun k => iblk m c 4 t (ix2 0 k)) (readL1 m c t), h _ (fun k => iblk m c 5 t (ix2 0 k)) (readL2 m c t), h _ (fun k => iblk m c 6 t (ix2 0 k)) (readL3 m c t)]

/-- The queries of head 0, read at their place. -/
theorem queries_0 (c : Dev nD) (t : Fin cfg0.N) (ht : t.val < 64) (a : Fin 256) (l : Fin 128) :
    (View.ld (iblk m c 0 t) (Rect.unit ![0, 0] S256x128.size inb_S256x512_S256x128_0_0)) (ix2 a l)
      = m ((c : Thread nD τ).loc main_arg0) (ix2 ⟨t.val / 16 * 4096 + (256 * (t.val % 16) + a.val), by omega⟩ ⟨0 * 128 + l.val, by omega⟩) := by
  refine (View.ld_unit_apply_of (iblk m c 0 t) _ _ _ _ (ix2 a ⟨0 * 128 + l.val, by omega⟩) fun b => ?_).trans ?_
  · fin_cases b <;> first | rfl | exact (Nat.zero_add _).symm
  · rw [readQ m c t _ _ ht]
    exact congrArg _ (congrArg₂ ix2 (Fin.ext (by show 256 * t.val + a.val = t.val / 16 * 4096 + (256 * (t.val % 16) + a.val); omega)) rfl)

/-- The queries of head 1, read at their place. -/
theorem queries_1 (c : Dev nD) (t : Fin cfg0.N) (ht : t.val < 64) (a : Fin 256) (l : Fin 128) :
    (View.ld (iblk m c 0 t) (Rect.unit ![0, 128] S256x128.size inb_S256x512_S256x128_0_128)) (ix2 a l)
      = m ((c : Thread nD τ).loc main_arg0) (ix2 ⟨t.val / 16 * 4096 + (256 * (t.val % 16) + a.val), by omega⟩ ⟨1 * 128 + l.val, by omega⟩) := by
  refine (View.ld_unit_apply_of (iblk m c 0 t) _ _ _ _ (ix2 a ⟨1 * 128 + l.val, by omega⟩) fun b => ?_).trans ?_
  · fin_cases b <;> first | rfl | exact (Nat.zero_add _).symm
  · rw [readQ m c t _ _ ht]
    exact congrArg _ (congrArg₂ ix2 (Fin.ext (by show 256 * t.val + a.val = t.val / 16 * 4096 + (256 * (t.val % 16) + a.val); omega)) rfl)

/-- The queries of head 2, read at their place. -/
theorem queries_2 (c : Dev nD) (t : Fin cfg0.N) (ht : t.val < 64) (a : Fin 256) (l : Fin 128) :
    (View.ld (iblk m c 0 t) (Rect.unit ![0, 256] S256x128.size inb_S256x512_S256x128_0_256)) (ix2 a l)
      = m ((c : Thread nD τ).loc main_arg0) (ix2 ⟨t.val / 16 * 4096 + (256 * (t.val % 16) + a.val), by omega⟩ ⟨2 * 128 + l.val, by omega⟩) := by
  refine (View.ld_unit_apply_of (iblk m c 0 t) _ _ _ _ (ix2 a ⟨2 * 128 + l.val, by omega⟩) fun b => ?_).trans ?_
  · fin_cases b <;> first | rfl | exact (Nat.zero_add _).symm
  · rw [readQ m c t _ _ ht]
    exact congrArg _ (congrArg₂ ix2 (Fin.ext (by show 256 * t.val + a.val = t.val / 16 * 4096 + (256 * (t.val % 16) + a.val); omega)) rfl)

/-- The queries of head 3, read at their place. -/
theorem queries_3 (c : Dev nD) (t : Fin cfg0.N) (ht : t.val < 64) (a : Fin 256) (l : Fin 128) :
    (View.ld (iblk m c 0 t) (Rect.unit ![0, 384] S256x128.size inb_S256x512_S256x128_0_384)) (ix2 a l)
      = m ((c : Thread nD τ).loc main_arg0) (ix2 ⟨t.val / 16 * 4096 + (256 * (t.val % 16) + a.val), by omega⟩ ⟨3 * 128 + l.val, by omega⟩) := by
  refine (View.ld_unit_apply_of (iblk m c 0 t) _ _ _ _ (ix2 a ⟨3 * 128 + l.val, by omega⟩) fun b => ?_).trans ?_
  · fin_cases b <;> first | rfl | exact (Nat.zero_add _).symm
  · rw [readQ m c t _ _ ht]
    exact congrArg _ (congrArg₂ ix2 (Fin.ext (by show 256 * t.val + a.val = t.val / 16 * 4096 + (256 * (t.val % 16) + a.val); omega)) rfl)

set_option maxHeartbeats 1000000 in
/-- The block that the body leaves, its four heads side by side. -/
theorem tiles (c : Dev nD) (t : Fin cfg0.N) :
    outsAt0 m c t = View.canon ([
      ⟨Rect.unit ![0, 384] S256x128.size inb_S256x512_S256x128_0_384, finish (k0_pay114 (iblk m c 3 t) (iblk m c 4 t) (iblk m c 5 t) (iblk m c 6 t))
        (head (half0 (View.ld (iblk m c 0 t) (Rect.unit ![0, 384] S256x128.size inb_S256x512_S256x128_0_384))) (tile (iblk m c 1 t) 3) (tile (iblk m c 2 t) 3) (offB 0xBB800000#32 0xBF800000#32 k0_pay117 (BitVec.ofNat 32 (grid0.coords t 1).val)) (diagB 0xBB800000#32 k0_pay117 diag) (t.val % 16))
        (head (half1 (View.ld (iblk m c 0 t) (Rect.unit ![0, 384] S256x128.size inb_S256x512_S256x128_0_384))) (tile (iblk m c 1 t) 3) (tile (iblk m c 2 t) 3) (offB 0xBB800000#32 0xBF800000#32 k0_pay117 (BitVec.ofNat 32 (grid0.coords t 1).val)) (diagB 0xBB800000#32 k0_pay117 diag) (t.val % 16)) (iblk m c 7 t)⟩,
      ⟨Rect.unit ![0, 256] S256x128.size inb_S256x512_S256x128_0_256, finish (k0_pay114 (iblk m c 3 t) (iblk m c 4 t) (iblk m c 5 t) (iblk m c 6 t))
        (head (half0 (View.ld (iblk m c 0 t) (Rect.unit ![0, 256] S256x128.size inb_S256x512_S256x128_0_256))) (tile (iblk m c 1 t) 2) (tile (iblk m c 2 t) 2) (offB 0xBC800000#32 0xC0800000#32 k0_pay117 (BitVec.ofNat 32 (grid0.coords t 1).val)) (diagB 0xBC800000#32 k0_pay117 diag) (t.val % 16))
        (head (half1 (View.ld (iblk m c 0 t) (Rect.unit ![0, 256] S256x128.size inb_S256x512_S256x128_0_256))) (tile (iblk m c 1 t) 2) (tile (iblk m c 2 t) 2) (offB 0xBC800000#32 0xC0800000#32 k0_pay117 (BitVec.ofNat 32 (grid0.coords t 1).val)) (diagB 0xBC800000#32 k0_pay117 diag) (t.val % 16)) (iblk m c 7 t)⟩,
      ⟨Rect.unit ![0, 128] S256x128.size inb_S256x512_S256x128_0_128, finish (k0_pay114 (iblk m c 3 t) (iblk m c 4 t) (iblk m c 5 t) (iblk m c 6 t))
        (head (half0 (View.ld (iblk m c 0 t) (Rect.unit ![0, 128] S256x128.size inb_S256x512_S256x128_0_128))) (tile (iblk m c 1 t) 1) (tile (iblk m c 2 t) 1) (offB 0xBD800000#32 0xC1800000#32 k0_pay117 (BitVec.ofNat 32 (grid0.coords t 1).val)) (diagB 0xBD800000#32 k0_pay117 diag) (t.val % 16))
        (head (half1 (View.ld (iblk m c 0 t) (Rect.unit ![0, 128] S256x128.size inb_S256x512_S256x128_0_128))) (tile (iblk m c 1 t) 1) (tile (iblk m c 2 t) 1) (offB 0xBD800000#32 0xC1800000#32 k0_pay117 (BitVec.ofNat 32 (grid0.coords t 1).val)) (diagB 0xBD800000#32 k0_pay117 diag) (t.val % 16)) (iblk m c 7 t)⟩,
      ⟨Rect.unit ![0, 0] S256x128.size inb_S256x512_S256x128_0_0, finish (k0_pay114 (iblk m c 3 t) (iblk m c 4 t) (iblk m c 5 t) (iblk m c 6 t))
        (head (half0 (View.ld (iblk m c 0 t) (Rect.unit ![0, 0] S256x128.size inb_S256x512_S256x128_0_0))) (tile (iblk m c 1 t) 0) (tile (iblk m c 2 t) 0) (offB 0xBE800000#32 0xC2800000#32 k0_pay117 (BitVec.ofNat 32 (grid0.coords t 1).val)) (diagB 0xBE800000#32 k0_pay117 diag) (t.val % 16))
        (head (half1 (View.ld (iblk m c 0 t) (Rect.unit ![0, 0] S256x128.size inb_S256x512_S256x128_0_0))) (tile (iblk m c 1 t) 0) (tile (iblk m c 2 t) 0) (offB 0xBE800000#32 0xC2800000#32 k0_pay117 (BitVec.ofNat 32 (grid0.coords t 1).val)) (diagB 0xBE800000#32 k0_pay117 diag) (t.val % 16)) (iblk m c 7 t)⟩] : List (View.Piece (Elt Ideal) S256x512 .bf16)) := by
  obtain ⟨k0, k1, k2, k3⟩ := offD t
  unfold outsAt0
  frame_open
  simp only [View.read_writes_junk_eq_canon]
  simp only [↓loop_1, ↓loop_2, ↓loop_3, ↓loop_4, ↓loop_5, ↓loop_6, ↓loop_7, ↓loop_8]
  simp only [View.readAt_eq_ld, Memref.IsWhole.read_unread, ld_row, ld_gain]
  rw [out_0, out_1, out_2, out_3]
  simp only [ld_tile _ _ _ 0 (t.val % 16) k0, ld_tile _ _ _ 1 (t.val % 16) k1, ld_tile _ _ _ 2 (t.val % 16) k2, ld_tile _ _ _ 3 (t.val % 16) k3]
  rw [outOf_0, outOf_1, outOf_2, outOf_3]
  any_goals exact diag_eq
  rfl

/-- The call's output: every position's normed difference of its two maps' averages over the keys of the chunks up to its own. -/
abbrev out (c : Dev nD) : Buf (Elt Ideal) ((c : Thread nD τ).loc main_v5) := fun i =>
  Cert.Maps.seen (m ((c : Thread nD τ).loc main_arg0)) (mixed m c) (m ((c : Thread nD τ).loc main_arg5)) ⟨(i 0).val / 4096, by have := (i 0).isLt; change (i 0).val < 16384 at this; omega⟩
    ⟨(i 1).val / 128, by have := (i 1).isLt; change (i 1).val < 512 at this; omega⟩ ⟨(i 0).val % 4096, by omega⟩ ⟨(i 1).val % 128, by omega⟩

/-- Two places of the output with the same numbers. -/
theorem seen_at (x : (⟨2, ![16384, 1536]⟩ : Shape).Idx → EReal) (w : EReal) (g : (⟨1, ![128]⟩ : Shape).Idx → EReal) {b b' : Fin 4} {h h' : Fin 4} {p p' : Fin 4096} {d d' : Fin 128}
    (hb : b.val = b'.val) (hh : h.val = h'.val) (hp : p.val = p'.val) (hd : d.val = d'.val) : Cert.Maps.seen x w g b h p d = Cert.Maps.seen x w g b' h' p' d' := by
  rw [Fin.ext hb, Fin.ext hh, Fin.ext hp, Fin.ext hd]

/-- The second coordinate of a point of the grid. -/
theorem coord : ∀ t : Fin cfg0.N, (grid0.coords t 1).val = t.val % 16 :=
  (by decide +kernel : ∀ t : Fin grid0.N, (grid0.coords t 1).val = t.val % 16)

/-- A block of the call's output is what the body leaves. -/
theorem block (c : Dev nD) (hfin : Cert.Maps.Finite (m ((c : Thread nD τ).loc main_arg0))) (t : Fin cfg0.N) (ht : t.val < 64) (a : Fin 256) (d : Fin 512) :
    outsAt0 m c t (ix2 a d) = out m c (ix2 ⟨256 * t.val + a.val, by omega⟩ d) := by
  rw [tiles m c t, coord t]
  generalize hi : (ix2 a d : S256x512.Idx) = i
  canon_tiles x h
  · obtain ⟨a', l, rfl⟩ : ∃ (a : Fin 256) (l : Fin 128), x = ix2 a l := ⟨x 0, x 1, eq_ix2 x⟩
    subst hi
    have h0' : a.val = a'.val := h0
    have h1' : d.val = 384 + l.val := h1
    refine (head_out hfin ⟨t.val / 16, by omega⟩ 3 ⟨t.val % 16, by omega⟩ _ _ _ (queries_3 m c t ht) (fun p l => readK m c t p l ht) (fun p l => readV m c t p l ht) _ _ (slope_at 3) (slope_tile 3)
      _ _ (weight m c t) _ _ (readG m c t) a' l).trans ?_
    refine seen_at _ _ _ ?_ ?_ ?_ ?_
    · show t.val / 16 = (256 * t.val + a.val) / 4096; omega
    · show 3 = d.val / 128; omega
    · show 256 * (t.val % 16) + a'.val = (256 * t.val + a.val) % 4096; omega
    · show l.val = d.val % 128; omega
  · obtain ⟨a', l, rfl⟩ : ∃ (a : Fin 256) (l : Fin 128), x = ix2 a l := ⟨x 0, x 1, eq_ix2 x⟩
    subst hi
    have h0' : a.val = a'.val := h0
    have h1' : d.val = 256 + l.val := h1
    refine (head_out hfin ⟨t.val / 16, by omega⟩ 2 ⟨t.val % 16, by omega⟩ _ _ _ (queries_2 m c t ht) (fun p l => readK m c t p l ht) (fun p l => readV m c t p l ht) _ _ (slope_at 2) (slope_tile 2)
      _ _ (weight m c t) _ _ (readG m c t) a' l).trans ?_
    refine seen_at _ _ _ ?_ ?_ ?_ ?_
    · show t.val / 16 = (256 * t.val + a.val) / 4096; omega
    · show 2 = d.val / 128; omega
    · show 256 * (t.val % 16) + a'.val = (256 * t.val + a.val) % 4096; omega
    · show l.val = d.val % 128; omega
  · obtain ⟨a', l, rfl⟩ : ∃ (a : Fin 256) (l : Fin 128), x = ix2 a l := ⟨x 0, x 1, eq_ix2 x⟩
    subst hi
    have h0' : a.val = a'.val := h0
    have h1' : d.val = 128 + l.val := h1
    refine (head_out hfin ⟨t.val / 16, by omega⟩ 1 ⟨t.val % 16, by omega⟩ _ _ _ (queries_1 m c t ht) (fun p l => readK m c t p l ht) (fun p l => readV m c t p l ht) _ _ (slope_at 1) (slope_tile 1)
      _ _ (weight m c t) _ _ (readG m c t) a' l).trans ?_
    refine seen_at _ _ _ ?_ ?_ ?_ ?_
    · show t.val / 16 = (256 * t.val + a.val) / 4096; omega
    · show 1 = d.val / 128; omega
    · show 256 * (t.val % 16) + a'.val = (256 * t.val + a.val) % 4096; omega
    · show l.val = d.val % 128; omega
  · obtain ⟨a', l, rfl⟩ : ∃ (a : Fin 256) (l : Fin 128), x = ix2 a l := ⟨x 0, x 1, eq_ix2 x⟩
    subst hi
    have h0' : a.val = a'.val := h0
    have h1' : d.val = l.val := h1
    refine (head_out hfin ⟨t.val / 16, by omega⟩ 0 ⟨t.val % 16, by omega⟩ _ _ _ (queries_0 m c t ht) (fun p l => readK m c t p l ht) (fun p l => readV m c t p l ht) _ _ (slope_at 0) (slope_tile 0)
      _ _ (weight m c t) _ _ (readG m c t) a' l).trans ?_
    refine seen_at _ _ _ ?_ ?_ ?_ ?_
    · show t.val / 16 = (256 * t.val + a.val) / 4096; omega
    · show 0 = d.val / 128; omega
    · show 256 * (t.val % 16) + a'.val = (256 * t.val + a.val) % 4096; omega
    · show l.val = d.val % 128; omega

/-- The call leaves every position's normed difference of its two maps' averages. -/
theorem final (c : Dev nD) (hfin : Cert.Maps.Finite (m ((c : Thread nD τ).loc main_arg0))) : (dats m 0 c).arrAt 8 (cfgs 0).N = out m c := by
  refine (dats m 0 c).arrAt_eq_of_covers 8 _ (by decide +kernel) fun t hf y => ?_
  have e := (placesQ t).2
  obtain ⟨a, d, rfl⟩ : ∃ (a : Fin 256) (d : Fin 512), y = ix2 a d := ⟨y 0, y 1, eq_ix2 y⟩
  rw [after0_8]
  refine Eq.trans ?_ ((block m c hfin t t.isLt a d).trans (congrArg (out m c) ?_))
  · rfl
  · blk_ext [e]

/-- The precondition says that the queries, keys and values are numbers. -/
theorem finite (h : Cert.Pre_DiffIdeal_finite_maps (hPre_finite_maps := Cert.Pre_finite_maps.Gen.facts) m) (c : Dev nD) : Cert.Maps.Finite (m ((c : Thread nD τ).loc main_arg0)) := by
  have e := congrFun (h c) ix0
  dsimp only [Cert.Pre_finite_maps.fn, Cert.Pre_finite_maps.fn_part1] at e
  obtain ⟨e, _⟩ := Cert.Numbers.both _ _ e
  obtain ⟨e, _⟩ := Cert.Numbers.both _ _ e
  obtain ⟨e, _⟩ := Cert.Numbers.both _ _ e
  obtain ⟨e, _⟩ := Cert.Numbers.both _ _ e
  exact fun r j => Cert.Numbers.number _ _ _ _ (Host.reduce_andi_all _ _ _ _ _ e (ix2 r j))

/-- The precondition says that the second map's weight is a number. -/
theorem weighed (h : Cert.Pre_DiffIdeal_finite_maps (hPre_finite_maps := Cert.Pre_finite_maps.Gen.facts) m) (c : Dev nD) : ∃ w : ℝ, mixed m c = (w : EReal) := by
  have e := congrFun (h c) ix0
  dsimp only [Cert.Pre_finite_maps.fn, Cert.Pre_finite_maps.fn_part1] at e
  obtain ⟨e, e4⟩ := Cert.Numbers.both _ _ e
  obtain ⟨e, e3⟩ := Cert.Numbers.both _ _ e
  obtain ⟨e, e2⟩ := Cert.Numbers.both _ _ e
  obtain ⟨_, e1⟩ := Cert.Numbers.both _ _ e
  exact Cert.Maps.mix_number _ _ _ _ (fun d => Cert.Numbers.number _ _ _ _ (Host.reduce_andi_all _ _ _ _ _ e1 (ix1 d))) (fun d => Cert.Numbers.number _ _ _ _ (Host.reduce_andi_all _ _ _ _ _ e2 (ix1 d)))
    (fun d => Cert.Numbers.number _ _ _ _ (Host.reduce_andi_all _ _ _ _ _ e3 (ix1 d))) (fun d => Cert.Numbers.number _ _ _ _ (Host.reduce_andi_all _ _ _ _ _ e4 (ix1 d)))

end Cert.DiffIdeal.Whole

namespace Cert.Proof.DiffClaims

/-- The kernel's frame at the bit instance. -/
theorem frame_p : Cert.quiescent_Diff (hDiff := Cert.Diff.Gen.facts) := fun m ρ _ => Cert.Diff.Gen.frame m ρ
/-- The kernel's frame at the ideal instance. -/
theorem frame_pi : Cert.quiescent_DiffIdeal (hDiffIdeal := Cert.DiffIdeal.Gen.facts) := fun m ρ _ => Cert.DiffIdeal.Gen.frame m ρ
/-- The kernel's frame at the ideal instance, where the arguments are numbers. -/
theorem frame_pi_pre : Cert.quiescent_DiffIdeal_pre_finite_maps (hDiffIdeal := Cert.DiffIdeal.Gen.facts) (hPre_finite_maps := Cert.Pre_finite_maps.Gen.facts) :=
  fun m ρ _ => Cert.DiffIdeal.Gen.frame m ρ
/-- The reference keeps its arguments and has no semaphore. -/
theorem frame_ri : Cert.quiescent_DiffRefIdeal (hDiffRefIdeal := Cert.DiffRefIdeal.Gen.facts) := fun m ρ _ =>
  (θ_run Cert.DiffRefIdeal.defs _ _).mono (fun r h => ⟨fun c => (h c).2,
      Idealize.ShloMosaic.sem_eq_zero_of_no_sems (by decide) r.2⟩)
    (Cert.DiffRefIdeal.Value.run (F := Ideal) m ρ)
/-- The reference keeps its arguments and has no semaphore, where the arguments are numbers. -/
theorem frame_ri_pre : Cert.quiescent_DiffRefIdeal_pre_finite_maps (hDiffRefIdeal := Cert.DiffRefIdeal.Gen.facts) (hPre_finite_maps := Cert.Pre_finite_maps.Gen.facts) :=
  fun m ρ _ => frame_ri m ρ trivial
/-- The name for the masked score stands for minus infinity. -/
theorem preserves : Cert.preserves_Diff_DiffIdeal :=
  IdealRules.named_const.statement Cert.DiffIdeal.κ "masked" .f32 0xF149F2CA#32 (⊥ : EReal) rfl

/-- The kernel's two running forms over the tiles compute the difference of the two attentions over all keys that the reference defines. -/
theorem algebraic : Cert.algebraic_DiffIdeal_DiffRefIdeal_pre_finite_maps (hDiffIdeal := Cert.DiffIdeal.Gen.facts) (hDiffRefIdeal := Cert.DiffRefIdeal.Gen.facts) (hPre_finite_maps := Cert.Pre_finite_maps.Gen.facts) := by
  intro m ρ m' ρ' hpre hagree
  refine ⟨fun c => Cert.DiffIdeal.Whole.out m c, ?_, ?_⟩
  · exact (θ_run Cert.DiffIdeal.defs _ _).mono
      (fun _ h c => ⟨(h c).1.trans (Cert.DiffIdeal.Whole.final m c (Cert.DiffIdeal.Whole.finite m hpre c)), (h c).2⟩)
      (Cert.DiffIdeal.Value.run_blocks (F := Ideal) m ρ)
  · refine (θ_run Cert.DiffRefIdeal.defs _ _).mono (fun _ h c => ⟨(h c).1.trans ?_, (h c).2⟩)
      (Cert.DiffRefIdeal.Value.run (F := Ideal) m' ρ')
    obtain ⟨h0, h1, h2, h3, h4, h5⟩ := hagree c
    funext j
    idx_vars j
    refine (Cert.DiffRefIdeal.Whole.ref_out m' c (by rw [h0]; exact Cert.DiffIdeal.Whole.finite m hpre c) (by rw [h1, h2, h3, h4]; exact Cert.DiffIdeal.Whole.weighed m hpre c) j0 j1).trans ?_
    rw [h0, h1, h2, h3, h4, h5]
    rfl

end Cert.Proof.DiffClaims

end
-- ==== Proof.ProjValue.lean ====
module

public import proofs.«01_k».proof.Defs
public import proofs.«01_k».proof.Proof.Gen.ProjIdeal.Value
public import proofs.«01_k».proof.Proof.Gen.ProjRefIdeal.Run
public import proofs.«01_k».proof.Proof.Gen.Proj.Frame
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-- Entry `(r, n)` of an array of rows times an array of weights: the sum over the contracted positions. -/
def Cert.rowsTimes {M K N : ℕ} (x : (⟨2, ![M, K]⟩ : Shape).Idx → EReal) (w : (⟨2, ![K, N]⟩ : Shape).Idx → EReal)
    (j : (⟨2, ![M, N]⟩ : Shape).Idx) : EReal :=
  ∑ k : Fin K, x (ix2 (j 0) k) * w (ix2 k (j 1))

namespace Cert.ProjIdeal.Whole

open Cert.ProjIdeal Cert.ProjIdeal.Gen

variable (m : (ℓ : Loc nD τ sig) → Buf (Elt Ideal) ℓ) (ρ : Dev nD → PrngReg)

/-- The whole product of the run's hidden rows and weights. -/
abbrev prod (c : Dev nD) : Buf (Elt Ideal) ((c : Thread nD τ).loc main_v1) :=
  Cert.rowsTimes (m ((c : Thread nD τ).loc main_arg0)) (m ((c : Thread nD τ).loc main_arg1))

/-- Where each window's block sits: the rows of point `t`, and the whole weight array. -/
theorem places : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The result array after the run is the whole product. -/
theorem final (c : Dev nD) : (dats m 0 c).arrAt 2 (cfgs 0).N = prod m c := by
  refine (dats m 0 c).arrAt_eq_of_covers 2 _ (by decide +kernel) fun t hf y => ?_
  obtain ⟨e0, e1, e2⟩ := places t
  rw [after0_2]
  unfold out0_2
  canon_tiles x h
  all_goals
    open_payloads
    idx_vars x
    unfold prod Cert.rowsTimes
    pointwise
    refine Finset.sum_congr rfl fun k _ => ?_
    congr 1 <;> blk_ext [iblk, V, e0, e1, e2]

end Cert.ProjIdeal.Whole

namespace Cert.Proof.ProjClaims

/-- The kernel's frame at the bit instance. -/
theorem frame_p : Cert.quiescent_Proj (hProj := Cert.Proj.Gen.facts) := fun m ρ _ => Cert.Proj.Gen.frame m ρ
/-- The kernel's frame at the ideal instance. -/
theorem frame_pi : Cert.quiescent_ProjIdeal (hProjIdeal := Cert.ProjIdeal.Gen.facts) := fun m ρ _ => Cert.ProjIdeal.Gen.frame m ρ
/-- The reference keeps its arguments and has no semaphore. -/
theorem frame_ri : Cert.quiescent_ProjRefIdeal (hProjRefIdeal := Cert.ProjRefIdeal.Gen.facts) := fun m ρ _ =>
  (θ_run Cert.ProjRefIdeal.defs _ _).mono (fun r h => ⟨fun c => (h c).2,
      Idealize.ShloMosaic.sem_eq_zero_of_no_sems (by decide) r.2⟩)
    (Cert.ProjRefIdeal.Value.run (F := Ideal) m ρ)

/-- The reference's product, read at an entry, is the sum over the contracted positions. -/
theorem ref_eq (x : FVec Ideal Cert.ProjRefIdeal.S16384x1024 .bf16) (w : FVec Ideal Cert.ProjRefIdeal.S1024x1536 .f32) :
    truncf .bf16 (Host.dotGeneral Cert.ProjRefIdeal.dot_S16384x1024_S1024x1536_S16384x1536_1_0_0_1_n_n none
      (extf .f32 x (by decide)) w) (by decide) = Cert.rowsTimes x w := by
  funext j
  idx_vars j
  unfold Cert.rowsTimes
  pointwise!

/-- The tiled kernel computes the product the reference defines. -/
theorem algebraic : Cert.algebraic_ProjIdeal_ProjRefIdeal (hProjIdeal := Cert.ProjIdeal.Gen.facts) (hProjRefIdeal := Cert.ProjRefIdeal.Gen.facts) := by
  intro m ρ m' ρ' _ hagree
  refine ⟨fun c => Cert.ProjIdeal.Whole.prod m c, ?_, ?_⟩
  · exact (θ_run Cert.ProjIdeal.defs _ _).mono
      (fun _ h c => ⟨(h c).1.trans (Cert.ProjIdeal.Whole.final m c), (h c).2⟩)
      (Cert.ProjIdeal.Value.run_blocks (F := Ideal) m ρ)
  · refine (θ_run Cert.ProjRefIdeal.defs _ _).mono (fun _ h c => ⟨(h c).1.trans ?_, (h c).2⟩)
      (Cert.ProjRefIdeal.Value.run (F := Ideal) m' ρ')
    rw [(hagree c).1, (hagree c).2]
    exact ref_eq _ _

/-- No constant is named and nothing is rewritten. -/
theorem preserves : Cert.preserves_Proj_ProjIdeal := trivial

end Cert.Proof.ProjClaims
-- ==== Proof.GateValue.lean ====
module

public import proofs.«01_k».proof.Defs
public import proofs.«01_k».proof.Proof.ProjValue
public import proofs.«01_k».proof.Proof.Gen.GateIdeal.Value
public import proofs.«01_k».proof.Proof.Gen.GateRefIdeal.Run
public import proofs.«01_k».proof.Proof.Gen.Gate.Frame
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-- Entry `(r, n)` of the gates: one over one plus the exponential of minus the product's entry. -/
def Cert.gates {M K N : ℕ} (x : (⟨2, ![M, K]⟩ : Shape).Idx → EReal) (w : (⟨2, ![K, N]⟩ : Shape).Idx → EReal)
    (j : (⟨2, ![M, N]⟩ : Shape).Idx) : EReal :=
  Ideal.logistic (Cert.rowsTimes x w j)

namespace Cert.GateIdeal.Whole

open Cert.GateIdeal Cert.GateIdeal.Gen

variable (m : (ℓ : Loc nD τ sig) → Buf (Elt Ideal) ℓ) (ρ : Dev nD → PrngReg)

/-- The logistic function of the whole product of the run's hidden rows and weights. -/
abbrev prod (c : Dev nD) : Buf (Elt Ideal) ((c : Thread nD τ).loc main_v1) :=
  Cert.gates (m ((c : Thread nD τ).loc main_arg0)) (m ((c : Thread nD τ).loc main_arg1))

/-- Where each window's block sits: the rows of point `t`, and the whole weight array. -/
theorem places : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The result array after the run is the whole product. -/
theorem final (c : Dev nD) : (dats m 0 c).arrAt 2 (cfgs 0).N = prod m c := by
  refine (dats m 0 c).arrAt_eq_of_covers 2 _ (by decide +kernel) fun t hf y => ?_
  obtain ⟨e0, e1, e2⟩ := places t
  rw [after0_2]
  unfold out0_2
  canon_tiles x h
  all_goals
    open_payloads
    idx_vars x
    unfold prod Cert.gates Cert.rowsTimes
    pointwise
    refine congrArg Ideal.logistic ?_
    refine Finset.sum_congr rfl fun k _ => ?_
    congr 1 <;> blk_ext [iblk, V, e0, e1, e2]

end Cert.GateIdeal.Whole

namespace Cert.Proof.GateClaims

/-- The kernel's frame at the bit instance. -/
theorem frame_p : Cert.quiescent_Gate (hGate := Cert.Gate.Gen.facts) := fun m ρ _ => Cert.Gate.Gen.frame m ρ
/-- The kernel's frame at the ideal instance. -/
theorem frame_pi : Cert.quiescent_GateIdeal (hGateIdeal := Cert.GateIdeal.Gen.facts) := fun m ρ _ => Cert.GateIdeal.Gen.frame m ρ
/-- The reference keeps its arguments and has no semaphore. -/
theorem frame_ri : Cert.quiescent_GateRefIdeal (hGateRefIdeal := Cert.GateRefIdeal.Gen.facts) := fun m ρ _ =>
  (θ_run Cert.GateRefIdeal.defs _ _).mono (fun r h => ⟨fun c => (h c).2,
      Idealize.ShloMosaic.sem_eq_zero_of_no_sems (by decide) r.2⟩)
    (Cert.GateRefIdeal.Value.run (F := Ideal) m ρ)

/-- The reference's gates, read at an entry, are the logistic function of the sum over the contracted positions. -/
theorem ref_eq (x : FVec Ideal Cert.GateRefIdeal.S16384x1024 .bf16) (w : FVec Ideal Cert.GateRefIdeal.S1024x3072 .f32) :
    truncf .bf16 (Host.divf (broadcastInDim Cert.GateRefIdeal.S16384x3072 ![] (by decide) (constant Cert.GateRefIdeal.S_ .f32 0x3F800000#32))
      (addf (broadcastInDim Cert.GateRefIdeal.S16384x3072 ![] (by decide) (constant Cert.GateRefIdeal.S_ .f32 0x3F800000#32))
        (Host.exp (Host.negf (Host.dotGeneral Cert.GateRefIdeal.dot_S16384x1024_S1024x3072_S16384x3072_1_0_0_1_n_n none
          (extf .f32 x (by decide)) w))))) (by decide) = Cert.gates x w := by
  funext j
  idx_vars j
  unfold Cert.gates Cert.rowsTimes
  pointwise
  rfl

/-- The tiled kernel computes the gates the reference defines. -/
theorem algebraic : Cert.algebraic_GateIdeal_GateRefIdeal (hGateIdeal := Cert.GateIdeal.Gen.facts) (hGateRefIdeal := Cert.GateRefIdeal.Gen.facts) := by
  intro m ρ m' ρ' _ hagree
  refine ⟨fun c => Cert.GateIdeal.Whole.prod m c, ?_, ?_⟩
  · exact (θ_run Cert.GateIdeal.defs _ _).mono
      (fun _ h c => ⟨(h c).1.trans (Cert.GateIdeal.Whole.final m c), (h c).2⟩)
      (Cert.GateIdeal.Value.run_blocks (F := Ideal) m ρ)
  · refine (θ_run Cert.GateRefIdeal.defs _ _).mono (fun _ h c => ⟨(h c).1.trans ?_, (h c).2⟩)
      (Cert.GateRefIdeal.Value.run (F := Ideal) m' ρ')
    rw [(hagree c).1, (hagree c).2]
    exact ref_eq _ _

/-- No constant is named and nothing is rewritten. -/
theorem preserves : Cert.preserves_Gate_GateIdeal := trivial

end Cert.Proof.GateClaims
-- ==== Proof.MlaLoops.lean ====
module

public import proofs.«01_k».proof.Proof.MlaTile

@[expose] public section

set_option maxRecDepth 16384

noncomputable section

open Idealize.ShloMosaic Idealize.ShloMosaic.TcCoe Idealize.SL.Sem
open Idealize.ShloMosaic.Pipeline (Dat)

namespace Cert.MlaIdeal.Whole

open Cert.MlaIdeal Cert.MlaIdeal.Gen

/-- Tile `n` of a head's keys. -/
def keyTile (X : Vec Ideal S4096x1024 .bf16) (h n : ℕ) : Vec Ideal S256x128 .bf16 := fun j =>
  X (ix2 ⟨(256 * n + (j 0).val) % 4096, Nat.mod_lt _ (by decide)⟩ ⟨(128 * h + (j 1).val) % 1024, Nat.mod_lt _ (by decide)⟩)

/-- Tile `n` of a pair of heads' values. -/
def valTile (Y : Vec Ideal S4096x512 .bf16) (g n : ℕ) : Vec Ideal S256x128 .bf16 := fun j =>
  Y (ix2 ⟨(256 * n + (j 0).val) % 4096, Nat.mod_lt _ (by decide)⟩ ⟨(128 * g + (j 1).val) % 512, Nat.mod_lt _ (by decide)⟩)

/-- A load of the keys at a tile's place. -/
theorem ld_keys (X : Vec Ideal S4096x1024 .bf16) (off : Fin 2 → ℕ) (inb) (h n : ℕ) (e : off = ![256 * n, 128 * h]) :
    View.ld X (Rect.unit (s := S4096x1024) off S256x128.size inb) = keyTile X h n := by
  subst e
  have h0 : 256 * n + 256 ≤ 4096 := inb 0
  have h1 : 128 * h + 128 ≤ 1024 := inb 1
  funext j
  obtain ⟨a, l, rfl⟩ : ∃ (a : Fin 256) (l : Fin 128), j = ix2 a l := ⟨j 0, j 1, eq_ix2 j⟩
  refine (View.ld_unit_apply_of X _ _ _ _ (ix2 ⟨256 * n + a.val, by omega⟩ ⟨128 * h + l.val, by omega⟩) fun b => ?_).trans (congrArg X ?_)
  · fin_cases b <;> rfl
  · exact congrArg₂ ix2 (Fin.ext (Nat.mod_eq_of_lt (show 256 * n + a.val < 4096 by omega)).symm) (Fin.ext (Nat.mod_eq_of_lt (show 128 * h + l.val < 1024 by omega)).symm)

/-- A load of the values at a tile's place. -/
theorem ld_vals (Y : Vec Ideal S4096x512 .bf16) (off : Fin 2 → ℕ) (inb) (g n : ℕ) (e : off = ![256 * n, 128 * g]) :
    View.ld Y (Rect.unit (s := S4096x512) off S256x128.size inb) = valTile Y g n := by
  subst e
  have h0 : 256 * n + 256 ≤ 4096 := inb 0
  have h1 : 128 * g + 128 ≤ 512 := inb 1
  funext j
  obtain ⟨a, l, rfl⟩ : ∃ (a : Fin 256) (l : Fin 128), j = ix2 a l := ⟨j 0, j 1, eq_ix2 j⟩
  refine (View.ld_unit_apply_of Y _ _ _ _ (ix2 ⟨256 * n + a.val, by omega⟩ ⟨128 * g + l.val, by omega⟩) fun b => ?_).trans (congrArg Y ?_)
  · fin_cases b <;> rfl
  · exact congrArg₂ ix2 (Fin.ext (Nat.mod_eq_of_lt (show 256 * n + a.val < 4096 by omega)).symm) (Fin.ext (Nat.mod_eq_of_lt (show 128 * g + l.val < 512 by omega)).symm)

/-- Loop 1 makes one trip per tile before the diagonal. -/
theorem trips_1 : ∀ t : Fin cfg0.N, (k0_t1_loop (grid0.coords t)).trips = t.val % 16 := by
  decide +kernel

/-- Where trip `k` of loop 1 reads the keys. -/
theorem offK_1 : ∀ (t : Fin cfg0.N) (k : Fin (k0_t1_loop (grid0.coords t)).trips), k0_off1 (grid0.coords t) k = ![256 * k.val, 128 * 0] := by
  decide +kernel

/-- Where trip `k` of loop 1 reads the values. -/
theorem offV_1 : ∀ (t : Fin cfg0.N) (k : Fin (k0_t1_loop (grid0.coords t)).trips), k0_off2 (grid0.coords t) k = ![256 * k.val, 128 * 0] := by
  decide +kernel

/-- A trip of loop 1 is a tile's step. -/
theorem trip_1 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v3 : IVec S256x256 32) (v28 : IVec S256x256 32) (c64_i32_5 : BitVec 32) (v30 : IVec S256x256 32) (v44 : IVec S256x256 1) (v57 : Vec Ideal S256x128 .bf16) (X Y) (k) (acc : Acc) :
    tripR_k0_t1 (F := Ideal) 𝒱 c bd (grid0.coords t) arg2 harg2 arg3 harg3 arg4 harg4 arg5 harg5 arg1 v3 v28 c64_i32_5 v30 v44 v57 (harg3.unread X) (harg4.unread Y) k acc
      = step (prod v57 (keyTile X 0 k.val)) (valTile Y 0 k.val) acc := by
  unfold tripR_k0_t1 trip_k0_t1
  dsimp only
  simp only [View.readAt_eq_ld, harg3.read_unread, harg4.read_unread]
  rw [ld_keys X _ _ 0 k.val (offK_1 t k), ld_vals Y _ _ 0 k.val (offV_1 t k)]
  rfl

/-- Loop 1 carries a head's running form. -/
theorem states_1 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v3 : IVec S256x256 32) (v28 : IVec S256x256 32) (c64_i32_5 : BitVec 32) (v30 : IVec S256x256 32) (v44 : IVec S256x256 1) (v57 : Vec Ideal S256x128 .bf16) (X Y) : ∀ n ≤ t.val % 16,
    st_k0_t1 (F := Ideal) 𝒱 c bd (grid0.coords t) arg2 harg2 arg3 harg3 arg4 harg4 arg5 harg5 arg1 v3 v28 c64_i32_5 v30 v44 v57 (harg3.unread X) (harg4.unread Y) (k0_pay7, k0_pay8, k0_pay9) n
      = state v57 (keyTile X 0) (valTile Y 0) n
  | 0, _ => rfl
  | n + 1, hn => by
    have hk : n < (k0_t1_loop (grid0.coords t)).trips := by rw [trips_1]; exact hn
    refine (st_k0_t1_succ (F := Ideal) 𝒱 c bd (grid0.coords t) arg2 harg2 arg3 harg3 arg4 harg4 arg5 harg5 arg1 v3 v28 c64_i32_5 v30 v44 v57 (harg3.unread X) (harg4.unread Y) _ ⟨n, hk⟩).trans ?_
    rw [trip_1]
    exact congrArg (step _ _) (states_1 𝒱 c bd t arg2 harg2 arg3 harg3 arg4 harg4 arg5 harg5 arg1 v3 v28 c64_i32_5 v30 v44 v57 X Y n (Nat.le_of_succ_le hn))

/-- What loop 1 leaves. -/
theorem loop_1 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v3 : IVec S256x256 32) (v28 : IVec S256x256 32) (c64_i32_5 : BitVec 32) (v30 : IVec S256x256 32) (v44 : IVec S256x256 1) (v57 : Vec Ideal S256x128 .bf16) (X Y) :
    st_k0_t1 (F := Ideal) 𝒱 c bd (grid0.coords t) arg2 harg2 arg3 harg3 arg4 harg4 arg5 harg5 arg1 v3 v28 c64_i32_5 v30 v44 v57 (harg3.unread X) (harg4.unread Y) (k0_pay7, k0_pay8, k0_pay9) (Scf.trips 0#32 (Scalar.addi 0#32 (Scalar.muli (Scalar.divsi (Scalar.subi (BitVec.ofNat 32 (grid0.coords t 1).val) 0#32) 1#32) 1#32)) 1#32)
      = state v57 (keyTile X 0) (valTile Y 0) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_1 t]
  exact states_1 𝒱 c bd t arg2 harg2 arg3 harg3 arg4 harg4 arg5 harg5 arg1 v3 v28 c64_i32_5 v30 v44 v57 X Y _ le_rfl

/-- Loop 2 makes no trips. -/
theorem trips_2 : ∀ t : Fin cfg0.N, (k0_t2_loop (grid0.coords t)).trips = 0 := by
  decide +kernel

/-- Loop 2 leaves what it finds. -/
theorem loop_2 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v3 : IVec S256x256 32) (v28 : IVec S256x256 32) (c64_i32_5 : BitVec 32) (v30 : IVec S256x256 32) (v44 : IVec S256x256 1) (v57 : Vec Ideal S256x128 .bf16) (X X' init) :
    st_k0_t2 (F := Ideal) 𝒱 c bd (grid0.coords t) arg2 harg2 arg3 harg3 arg4 harg4 arg5 harg5 arg1 v3 v28 c64_i32_5 v30 v44 v57 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_2 t]
  rfl

/-- Loop 3 makes one trip per tile before the diagonal. -/
theorem trips_3 : ∀ t : Fin cfg0.N, (k0_t3_loop (grid0.coords t)).trips = t.val % 16 := by
  decide +kernel

/-- Where trip `k` of loop 3 reads the keys. -/
theorem offK_3 : ∀ (t : Fin cfg0.N) (k : Fin (k0_t3_loop (grid0.coords t)).trips), k0_off7 (grid0.coords t) k = ![256 * k.val, 128 * 1] := by
  decide +kernel

/-- Where trip `k` of loop 3 reads the values. -/
theorem offV_3 : ∀ (t : Fin cfg0.N) (k : Fin (k0_t3_loop (grid0.coords t)).trips), k0_off8 (grid0.coords t) k = ![256 * k.val, 128 * 0] := by
  decide +kernel

/-- A trip of loop 3 is a tile's step. -/
theorem trip_3 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v64_2 : FVec Ideal S256x128 .f32) (v73 : Vec Ideal S256x128 .bf16) (v81 : FVec Ideal S256x256 .f32) (v85 : FVec Ideal S256x1 .f32) (v86 : FVec Ideal S256x128 .f32) (v93 : Vec Ideal S256x128 .bf16) (X Y) (k) (acc : Acc) :
    tripR_k0_t3 (F := Ideal) 𝒱 c bd (grid0.coords t) arg2 harg2 arg3 harg3 arg4 harg4 arg5 harg5 arg1 v2 v53 v54 v55 v56 v64_2 v73 v81 v85 v86 v93 (harg3.unread X) (harg4.unread Y) k acc
      = step (prod v93 (keyTile X 1 k.val)) (valTile Y 0 k.val) acc := by
  unfold tripR_k0_t3 trip_k0_t3
  dsimp only
  simp only [View.readAt_eq_ld, harg3.read_unread, harg4.read_unread]
  rw [ld_keys X _ _ 1 k.val (offK_3 t k), ld_vals Y _ _ 0 k.val (offV_3 t k)]
  rfl

/-- Loop 3 carries a head's running form. -/
theorem states_3 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v64_2 : FVec Ideal S256x128 .f32) (v73 : Vec Ideal S256x128 .bf16) (v81 : FVec Ideal S256x256 .f32) (v85 : FVec Ideal S256x1 .f32) (v86 : FVec Ideal S256x128 .f32) (v93 : Vec Ideal S256x128 .bf16) (X Y) : ∀ n ≤ t.val % 16,
    st_k0_t3 (F := Ideal) 𝒱 c bd (grid0.coords t) arg2 harg2 arg3 harg3 arg4 harg4 arg5 harg5 arg1 v2 v53 v54 v55 v56 v64_2 v73 v81 v85 v86 v93 (harg3.unread X) (harg4.unread Y) (k0_pay7, k0_pay8, k0_pay9) n
      = state v93 (keyTile X 1) (valTile Y 0) n
  | 0, _ => rfl
  | n + 1, hn => by
    have hk : n < (k0_t3_loop (grid0.coords t)).trips := by rw [trips_3]; exact hn
    refine (st_k0_t3_succ (F := Ideal) 𝒱 c bd (grid0.coords t) arg2 harg2 arg3 harg3 arg4 harg4 arg5 harg5 arg1 v2 v53 v54 v55 v56 v64_2 v73 v81 v85 v86 v93 (harg3.unread X) (harg4.unread Y) _ ⟨n, hk⟩).trans ?_
    rw [trip_3]
    exact congrArg (step _ _) (states_3 𝒱 c bd t arg2 harg2 arg3 harg3 arg4 harg4 arg5 harg5 arg1 v2 v53 v54 v55 v56 v64_2 v73 v81 v85 v86 v93 X Y n (Nat.le_of_succ_le hn))

/-- What loop 3 leaves. -/
theorem loop_3 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v64_2 : FVec Ideal S256x128 .f32) (v73 : Vec Ideal S256x128 .bf16) (v81 : FVec Ideal S256x256 .f32) (v85 : FVec Ideal S256x1 .f32) (v86 : FVec Ideal S256x128 .f32) (v93 : Vec Ideal S256x128 .bf16) (X Y) :
    st_k0_t3 (F := Ideal) 𝒱 c bd (grid0.coords t) arg2 harg2 arg3 harg3 arg4 harg4 arg5 harg5 arg1 v2 v53 v54 v55 v56 v64_2 v73 v81 v85 v86 v93 (harg3.unread X) (harg4.unread Y) (k0_pay7, k0_pay8, k0_pay9) (Scf.trips 0#32 (Scalar.addi 0#32 (Scalar.muli (Scalar.divsi (Scalar.subi (BitVec.ofNat 32 (grid0.coords t 1).val) 0#32) 1#32) 1#32)) 1#32)
      = state v93 (keyTile X 1) (valTile Y 0) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_3 t]
  exact states_3 𝒱 c bd t arg2 harg2 arg3 harg3 arg4 harg4 arg5 harg5 arg1 v2 v53 v54 v55 v56 v64_2 v73 v81 v85 v86 v93 X Y _ le_rfl

/-- Loop 4 makes no trips. -/
theorem trips_4 : ∀ t : Fin cfg0.N, (k0_t4_loop (grid0.coords t)).trips = 0 := by
  decide +kernel

/-- Loop 4 leaves what it finds. -/
theorem loop_4 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v64_2 : FVec Ideal S256x128 .f32) (v73 : Vec Ideal S256x128 .bf16) (v81 : FVec Ideal S256x256 .f32) (v85 : FVec Ideal S256x1 .f32) (v86 : FVec Ideal S256x128 .f32) (v93 : Vec Ideal S256x128 .bf16) (X X' init) :
    st_k0_t4 (F := Ideal) 𝒱 c bd (grid0.coords t) arg2 harg2 arg3 harg3 arg4 harg4 arg5 harg5 arg1 v2 v53 v54 v55 v56 v64_2 v73 v81 v85 v86 v93 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_4 t]
  rfl

/-- Loop 5 makes one trip per tile before the diagonal. -/
theorem trips_5 : ∀ t : Fin cfg0.N, (k0_t5_loop (grid0.coords t)).trips = t.val % 16 := by
  decide +kernel

/-- Where trip `k` of loop 5 reads the keys. -/
theorem offK_5 : ∀ (t : Fin cfg0.N) (k : Fin (k0_t5_loop (grid0.coords t)).trips), k0_off12 (grid0.coords t) k = ![256 * k.val, 128 * 2] := by
  decide +kernel

/-- Where trip `k` of loop 5 reads the values. -/
theorem offV_5 : ∀ (t : Fin cfg0.N) (k : Fin (k0_t5_loop (grid0.coords t)).trips), k0_off13 (grid0.coords t) k = ![256 * k.val, 128 * 1] := by
  decide +kernel

/-- A trip of loop 5 is a tile's step. -/
theorem trip_5 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v130 : FVec Ideal S256x128 .bf16) (v132 : Vec Ideal S256x128 .bf16) (X Y) (k) (acc : Acc) :
    tripR_k0_t5 (F := Ideal) 𝒱 c bd (grid0.coords t) arg2 harg2 arg3 harg3 arg4 harg4 arg5 harg5 arg1 v53 v54 v55 v56 v130 v132 (harg3.unread X) (harg4.unread Y) k acc
      = step (prod v132 (keyTile X 2 k.val)) (valTile Y 1 k.val) acc := by
  unfold tripR_k0_t5 trip_k0_t5
  dsimp only
  simp only [View.readAt_eq_ld, harg3.read_unread, harg4.read_unread]
  rw [ld_keys X _ _ 2 k.val (offK_5 t k), ld_vals Y _ _ 1 k.val (offV_5 t k)]
  rfl

/-- Loop 5 carries a head's running form. -/
theorem states_5 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v130 : FVec Ideal S256x128 .bf16) (v132 : Vec Ideal S256x128 .bf16) (X Y) : ∀ n ≤ t.val % 16,
    st_k0_t5 (F := Ideal) 𝒱 c bd (grid0.coords t) arg2 harg2 arg3 harg3 arg4 harg4 arg5 harg5 arg1 v53 v54 v55 v56 v130 v132 (harg3.unread X) (harg4.unread Y) (k0_pay7, k0_pay8, k0_pay9) n
      = state v132 (keyTile X 2) (valTile Y 1) n
  | 0, _ => rfl
  | n + 1, hn => by
    have hk : n < (k0_t5_loop (grid0.coords t)).trips := by rw [trips_5]; exact hn
    refine (st_k0_t5_succ (F := Ideal) 𝒱 c bd (grid0.coords t) arg2 harg2 arg3 harg3 arg4 harg4 arg5 harg5 arg1 v53 v54 v55 v56 v130 v132 (harg3.unread X) (harg4.unread Y) _ ⟨n, hk⟩).trans ?_
    rw [trip_5]
    exact congrArg (step _ _) (states_5 𝒱 c bd t arg2 harg2 arg3 harg3 arg4 harg4 arg5 harg5 arg1 v53 v54 v55 v56 v130 v132 X Y n (Nat.le_of_succ_le hn))

/-- What loop 5 leaves. -/
theorem loop_5 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v130 : FVec Ideal S256x128 .bf16) (v132 : Vec Ideal S256x128 .bf16) (X Y) :
    st_k0_t5 (F := Ideal) 𝒱 c bd (grid0.coords t) arg2 harg2 arg3 harg3 arg4 harg4 arg5 harg5 arg1 v53 v54 v55 v56 v130 v132 (harg3.unread X) (harg4.unread Y) (k0_pay7, k0_pay8, k0_pay9) (Scf.trips 0#32 (Scalar.addi 0#32 (Scalar.muli (Scalar.divsi (Scalar.subi (BitVec.ofNat 32 (grid0.coords t 1).val) 0#32) 1#32) 1#32)) 1#32)
      = state v132 (keyTile X 2) (valTile Y 1) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_5 t]
  exact states_5 𝒱 c bd t arg2 harg2 arg3 harg3 arg4 harg4 arg5 harg5 arg1 v53 v54 v55 v56 v130 v132 X Y _ le_rfl

/-- Loop 6 makes no trips. -/
theorem trips_6 : ∀ t : Fin cfg0.N, (k0_t6_loop (grid0.coords t)).trips = 0 := by
  decide +kernel

/-- Loop 6 leaves what it finds. -/
theorem loop_6 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v130 : FVec Ideal S256x128 .bf16) (v132 : Vec Ideal S256x128 .bf16) (X X' init) :
    st_k0_t6 (F := Ideal) 𝒱 c bd (grid0.coords t) arg2 harg2 arg3 harg3 arg4 harg4 arg5 harg5 arg1 v53 v54 v55 v56 v130 v132 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_6 t]
  rfl

/-- Loop 7 makes one trip per tile before the diagonal. -/
theorem trips_7 : ∀ t : Fin cfg0.N, (k0_t7_loop (grid0.coords t)).trips = t.val % 16 := by
  decide +kernel

/-- Where trip `k` of loop 7 reads the keys. -/
theorem offK_7 : ∀ (t : Fin cfg0.N) (k : Fin (k0_t7_loop (grid0.coords t)).trips), k0_off18 (grid0.coords t) k = ![256 * k.val, 128 * 3] := by
  decide +kernel

/-- Where trip `k` of loop 7 reads the values. -/
theorem offV_7 : ∀ (t : Fin cfg0.N) (k : Fin (k0_t7_loop (grid0.coords t)).trips), k0_off19 (grid0.coords t) k = ![256 * k.val, 128 * 1] := by
  decide +kernel

/-- A trip of loop 7 is a tile's step. -/
theorem trip_7 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v167 : FVec Ideal S256x128 .f32) (v168 : Vec Ideal S256x128 .bf16) (c0_i32_55 : BitVec 32) (v169 : BitVec 32) (c1_i32_56 : BitVec 32) (X Y) (k) (acc : Acc) :
    tripR_k0_t7 (F := Ideal) 𝒱 c bd (grid0.coords t) arg2 harg2 arg3 harg3 arg4 harg4 arg5 harg5 arg1 v2 v53 v54 v55 v56 v167 v168 c0_i32_55 v169 c1_i32_56 (harg3.unread X) (harg4.unread Y) k acc
      = step (prod v168 (keyTile X 3 k.val)) (valTile Y 1 k.val) acc := by
  unfold tripR_k0_t7 trip_k0_t7
  dsimp only
  simp only [View.readAt_eq_ld, harg3.read_unread, harg4.read_unread]
  rw [ld_keys X _ _ 3 k.val (offK_7 t k), ld_vals Y _ _ 1 k.val (offV_7 t k)]
  rfl

/-- Loop 7 carries a head's running form. -/
theorem states_7 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v167 : FVec Ideal S256x128 .f32) (v168 : Vec Ideal S256x128 .bf16) (c0_i32_55 : BitVec 32) (v169 : BitVec 32) (c1_i32_56 : BitVec 32) (X Y) : ∀ n ≤ t.val % 16,
    st_k0_t7 (F := Ideal) 𝒱 c bd (grid0.coords t) arg2 harg2 arg3 harg3 arg4 harg4 arg5 harg5 arg1 v2 v53 v54 v55 v56 v167 v168 c0_i32_55 v169 c1_i32_56 (harg3.unread X) (harg4.unread Y) (k0_pay7, k0_pay8, k0_pay9) n
      = state v168 (keyTile X 3) (valTile Y 1) n
  | 0, _ => rfl
  | n + 1, hn => by
    have hk : n < (k0_t7_loop (grid0.coords t)).trips := by rw [trips_7]; exact hn
    refine (st_k0_t7_succ (F := Ideal) 𝒱 c bd (grid0.coords t) arg2 harg2 arg3 harg3 arg4 harg4 arg5 harg5 arg1 v2 v53 v54 v55 v56 v167 v168 c0_i32_55 v169 c1_i32_56 (harg3.unread X) (harg4.unread Y) _ ⟨n, hk⟩).trans ?_
    rw [trip_7]
    exact congrArg (step _ _) (states_7 𝒱 c bd t arg2 harg2 arg3 harg3 arg4 harg4 arg5 harg5 arg1 v2 v53 v54 v55 v56 v167 v168 c0_i32_55 v169 c1_i32_56 X Y n (Nat.le_of_succ_le hn))

/-- What loop 7 leaves. -/
theorem loop_7 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v167 : FVec Ideal S256x128 .f32) (v168 : Vec Ideal S256x128 .bf16) (c0_i32_55 : BitVec 32) (v169 : BitVec 32) (c1_i32_56 : BitVec 32) (X Y) :
    st_k0_t7 (F := Ideal) 𝒱 c bd (grid0.coords t) arg2 harg2 arg3 harg3 arg4 harg4 arg5 harg5 arg1 v2 v53 v54 v55 v56 v167 v168 c0_i32_55 v169 c1_i32_56 (harg3.unread X) (harg4.unread Y) (k0_pay7, k0_pay8, k0_pay9) (Scf.trips 0#32 (Scalar.addi 0#32 (Scalar.muli (Scalar.divsi (Scalar.subi (BitVec.ofNat 32 (grid0.coords t 1).val) 0#32) 1#32) 1#32)) 1#32)
      = state v168 (keyTile X 3) (valTile Y 1) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_7 t]
  exact states_7 𝒱 c bd t arg2 harg2 arg3 harg3 arg4 harg4 arg5 harg5 arg1 v2 v53 v54 v55 v56 v167 v168 c0_i32_55 v169 c1_i32_56 X Y _ le_rfl

/-- Loop 8 makes no trips. -/
theorem trips_8 : ∀ t : Fin cfg0.N, (k0_t8_loop (grid0.coords t)).trips = 0 := by
  decide +kernel

/-- Loop 8 leaves what it finds. -/
theorem loop_8 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v167 : FVec Ideal S256x128 .f32) (v168 : Vec Ideal S256x128 .bf16) (c0_i32_55 : BitVec 32) (v169 : BitVec 32) (c1_i32_56 : BitVec 32) (X X' init) :
    st_k0_t8 (F := Ideal) 𝒱 c bd (grid0.coords t) arg2 harg2 arg3 harg3 arg4 harg4 arg5 harg5 arg1 v2 v53 v54 v55 v56 v167 v168 c0_i32_55 v169 c1_i32_56 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_8 t]
  rfl

/-- Loop 9 makes one trip per tile before the diagonal. -/
theorem trips_9 : ∀ t : Fin cfg0.N, (k0_t9_loop (grid0.coords t)).trips = t.val % 16 := by
  decide +kernel

/-- Where trip `k` of loop 9 reads the keys. -/
theorem offK_9 : ∀ (t : Fin cfg0.N) (k : Fin (k0_t9_loop (grid0.coords t)).trips), k0_off23 (grid0.coords t) k = ![256 * k.val, 128 * 4] := by
  decide +kernel

/-- Where trip `k` of loop 9 reads the values. -/
theorem offV_9 : ∀ (t : Fin cfg0.N) (k : Fin (k0_t9_loop (grid0.coords t)).trips), k0_off24 (grid0.coords t) k = ![256 * k.val, 128 * 2] := by
  decide +kernel

/-- A trip of loop 9 is a tile's step. -/
theorem trip_9 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v207 : Vec Ideal S256x128 .bf16) (c0_i32_70 : BitVec 32) (v212 : BitVec 32) (c1_i32_72 : BitVec 32) (X Y) (k) (acc : Acc) :
    tripR_k0_t9 (F := Ideal) 𝒱 c bd (grid0.coords t) arg2 harg2 arg3 harg3 arg4 harg4 arg5 harg5 arg1 v53 v54 v55 v56 v207 c0_i32_70 v212 c1_i32_72 (harg3.unread X) (harg4.unread Y) k acc
      = step (prod v207 (keyTile X 4 k.val)) (valTile Y 2 k.val) acc := by
  unfold tripR_k0_t9 trip_k0_t9
  dsimp only
  simp only [View.readAt_eq_ld, harg3.read_unread, harg4.read_unread]
  rw [ld_keys X _ _ 4 k.val (offK_9 t k), ld_vals Y _ _ 2 k.val (offV_9 t k)]
  rfl

/-- Loop 9 carries a head's running form. -/
theorem states_9 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v207 : Vec Ideal S256x128 .bf16) (c0_i32_70 : BitVec 32) (v212 : BitVec 32) (c1_i32_72 : BitVec 32) (X Y) : ∀ n ≤ t.val % 16,
    st_k0_t9 (F := Ideal) 𝒱 c bd (grid0.coords t) arg2 harg2 arg3 harg3 arg4 harg4 arg5 harg5 arg1 v53 v54 v55 v56 v207 c0_i32_70 v212 c1_i32_72 (harg3.unread X) (harg4.unread Y) (k0_pay7, k0_pay8, k0_pay9) n
      = state v207 (keyTile X 4) (valTile Y 2) n
  | 0, _ => rfl
  | n + 1, hn => by
    have hk : n < (k0_t9_loop (grid0.coords t)).trips := by rw [trips_9]; exact hn
    refine (st_k0_t9_succ (F := Ideal) 𝒱 c bd (grid0.coords t) arg2 harg2 arg3 harg3 arg4 harg4 arg5 harg5 arg1 v53 v54 v55 v56 v207 c0_i32_70 v212 c1_i32_72 (harg3.unread X) (harg4.unread Y) _ ⟨n, hk⟩).trans ?_
    rw [trip_9]
    exact congrArg (step _ _) (states_9 𝒱 c bd t arg2 harg2 arg3 harg3 arg4 harg4 arg5 harg5 arg1 v53 v54 v55 v56 v207 c0_i32_70 v212 c1_i32_72 X Y n (Nat.le_of_succ_le hn))

/-- What loop 9 leaves. -/
theorem loop_9 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v207 : Vec Ideal S256x128 .bf16) (c0_i32_70 : BitVec 32) (v212 : BitVec 32) (c1_i32_72 : BitVec 32) (X Y) :
    st_k0_t9 (F := Ideal) 𝒱 c bd (grid0.coords t) arg2 harg2 arg3 harg3 arg4 harg4 arg5 harg5 arg1 v53 v54 v55 v56 v207 c0_i32_70 v212 c1_i32_72 (harg3.unread X) (harg4.unread Y) (k0_pay7, k0_pay8, k0_pay9) (Scf.trips 0#32 (Scalar.addi 0#32 (Scalar.muli (Scalar.divsi (Scalar.subi (BitVec.ofNat 32 (grid0.coords t 1).val) 0#32) 1#32) 1#32)) 1#32)
      = state v207 (keyTile X 4) (valTile Y 2) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_9 t]
  exact states_9 𝒱 c bd t arg2 harg2 arg3 harg3 arg4 harg4 arg5 harg5 arg1 v53 v54 v55 v56 v207 c0_i32_70 v212 c1_i32_72 X Y _ le_rfl

/-- Loop 10 makes no trips. -/
theorem trips_10 : ∀ t : Fin cfg0.N, (k0_t10_loop (grid0.coords t)).trips = 0 := by
  decide +kernel

/-- Loop 10 leaves what it finds. -/
theorem loop_10 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v207 : Vec Ideal S256x128 .bf16) (c0_i32_70 : BitVec 32) (v212 : BitVec 32) (c1_i32_72 : BitVec 32) (X X' init) :
    st_k0_t10 (F := Ideal) 𝒱 c bd (grid0.coords t) arg2 harg2 arg3 harg3 arg4 harg4 arg5 harg5 arg1 v53 v54 v55 v56 v207 c0_i32_70 v212 c1_i32_72 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_10 t]
  rfl

/-- Loop 11 makes one trip per tile before the diagonal. -/
theorem trips_11 : ∀ t : Fin cfg0.N, (k0_t11_loop (grid0.coords t)).trips = t.val % 16 := by
  decide +kernel

/-- Where trip `k` of loop 11 reads the keys. -/
theorem offK_11 : ∀ (t : Fin cfg0.N) (k : Fin (k0_t11_loop (grid0.coords t)).trips), k0_off29 (grid0.coords t) k = ![256 * k.val, 128 * 5] := by
  decide +kernel

/-- Where trip `k` of loop 11 reads the values. -/
theorem offV_11 : ∀ (t : Fin cfg0.N) (k : Fin (k0_t11_loop (grid0.coords t)).trips), k0_off30 (grid0.coords t) k = ![256 * k.val, 128 * 2] := by
  decide +kernel

/-- A trip of loop 11 is a tile's step. -/
theorem trip_11 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v207 : Vec Ideal S256x128 .bf16) (c0_i32_70 : BitVec 32) (v212 : BitVec 32) (c1_i32_72 : BitVec 32) (v243 : Vec Ideal S256x128 .bf16) (X Y) (k) (acc : Acc) :
    tripR_k0_t11 (F := Ideal) 𝒱 c bd (grid0.coords t) arg2 harg2 arg3 harg3 arg4 harg4 arg5 harg5 arg1 v53 v54 v55 v56 v207 c0_i32_70 v212 c1_i32_72 v243 (harg3.unread X) (harg4.unread Y) k acc
      = step (prod v243 (keyTile X 5 k.val)) (valTile Y 2 k.val) acc := by
  unfold tripR_k0_t11 trip_k0_t11
  dsimp only
  simp only [View.readAt_eq_ld, harg3.read_unread, harg4.read_unread]
  rw [ld_keys X _ _ 5 k.val (offK_11 t k), ld_vals Y _ _ 2 k.val (offV_11 t k)]
  rfl

/-- Loop 11 carries a head's running form. -/
theorem states_11 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v207 : Vec Ideal S256x128 .bf16) (c0_i32_70 : BitVec 32) (v212 : BitVec 32) (c1_i32_72 : BitVec 32) (v243 : Vec Ideal S256x128 .bf16) (X Y) : ∀ n ≤ t.val % 16,
    st_k0_t11 (F := Ideal) 𝒱 c bd (grid0.coords t) arg2 harg2 arg3 harg3 arg4 harg4 arg5 harg5 arg1 v53 v54 v55 v56 v207 c0_i32_70 v212 c1_i32_72 v243 (harg3.unread X) (harg4.unread Y) (k0_pay7, k0_pay8, k0_pay9) n
      = state v243 (keyTile X 5) (valTile Y 2) n
  | 0, _ => rfl
  | n + 1, hn => by
    have hk : n < (k0_t11_loop (grid0.coords t)).trips := by rw [trips_11]; exact hn
    refine (st_k0_t11_succ (F := Ideal) 𝒱 c bd (grid0.coords t) arg2 harg2 arg3 harg3 arg4 harg4 arg5 harg5 arg1 v53 v54 v55 v56 v207 c0_i32_70 v212 c1_i32_72 v243 (harg3.unread X) (harg4.unread Y) _ ⟨n, hk⟩).trans ?_
    rw [trip_11]
    exact congrArg (step _ _) (states_11 𝒱 c bd t arg2 harg2 arg3 harg3 arg4 harg4 arg5 harg5 arg1 v53 v54 v55 v56 v207 c0_i32_70 v212 c1_i32_72 v243 X Y n (Nat.le_of_succ_le hn))

/-- What loop 11 leaves. -/
theorem loop_11 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v207 : Vec Ideal S256x128 .bf16) (c0_i32_70 : BitVec 32) (v212 : BitVec 32) (c1_i32_72 : BitVec 32) (v243 : Vec Ideal S256x128 .bf16) (X Y) :
    st_k0_t11 (F := Ideal) 𝒱 c bd (grid0.coords t) arg2 harg2 arg3 harg3 arg4 harg4 arg5 harg5 arg1 v53 v54 v55 v56 v207 c0_i32_70 v212 c1_i32_72 v243 (harg3.unread X) (harg4.unread Y) (k0_pay7, k0_pay8, k0_pay9) (Scf.trips 0#32 (Scalar.addi 0#32 (Scalar.muli (Scalar.divsi (Scalar.subi (BitVec.ofNat 32 (grid0.coords t 1).val) 0#32) 1#32) 1#32)) 1#32)
      = state v243 (keyTile X 5) (valTile Y 2) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_11 t]
  exact states_11 𝒱 c bd t arg2 harg2 arg3 harg3 arg4 harg4 arg5 harg5 arg1 v53 v54 v55 v56 v207 c0_i32_70 v212 c1_i32_72 v243 X Y _ le_rfl

/-- Loop 12 makes no trips. -/
theorem trips_12 : ∀ t : Fin cfg0.N, (k0_t12_loop (grid0.coords t)).trips = 0 := by
  decide +kernel

/-- Loop 12 leaves what it finds. -/
theorem loop_12 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v207 : Vec Ideal S256x128 .bf16) (c0_i32_70 : BitVec 32) (v212 : BitVec 32) (c1_i32_72 : BitVec 32) (v243 : Vec Ideal S256x128 .bf16) (X X' init) :
    st_k0_t12 (F := Ideal) 𝒱 c bd (grid0.coords t) arg2 harg2 arg3 harg3 arg4 harg4 arg5 harg5 arg1 v53 v54 v55 v56 v207 c0_i32_70 v212 c1_i32_72 v243 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_12 t]
  rfl

/-- Loop 13 makes one trip per tile before the diagonal. -/
theorem trips_13 : ∀ t : Fin cfg0.N, (k0_t13_loop (grid0.coords t)).trips = t.val % 16 := by
  decide +kernel

/-- Where trip `k` of loop 13 reads the keys. -/
theorem offK_13 : ∀ (t : Fin cfg0.N) (k : Fin (k0_t13_loop (grid0.coords t)).trips), k0_off34 (grid0.coords t) k = ![256 * k.val, 128 * 6] := by
  decide +kernel

/-- Where trip `k` of loop 13 reads the values. -/
theorem offV_13 : ∀ (t : Fin cfg0.N) (k : Fin (k0_t13_loop (grid0.coords t)).trips), k0_off35 (grid0.coords t) k = ![256 * k.val, 128 * 3] := by
  decide +kernel

/-- A trip of loop 13 is a tile's step. -/
theorem trip_13 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v242 : FVec Ideal S256x128 .f32) (v243 : Vec Ideal S256x128 .bf16) (v250_0 : FVec Ideal S256x1 .f32) (v250_1 : FVec Ideal S256x1 .f32) (v250_2 : FVec Ideal S256x128 .f32) (v252 : BitVec 32) (v254 : Vec Ideal S256x128 .bf16) (cst_89 : FVec Ideal S256x256 .f32) (v282 : Vec Ideal S256x128 .bf16) (X Y) (k) (acc : Acc) :
    tripR_k0_t13 (F := Ideal) 𝒱 c bd (grid0.coords t) arg2 harg2 arg3 harg3 arg4 harg4 arg5 harg5 arg1 v2 v53 v54 v55 v56 v242 v243 v250_0 v250_1 v250_2 v252 v254 cst_89 v282 (harg3.unread X) (harg4.unread Y) k acc
      = step (prod v282 (keyTile X 6 k.val)) (valTile Y 3 k.val) acc := by
  unfold tripR_k0_t13 trip_k0_t13
  dsimp only
  simp only [View.readAt_eq_ld, harg3.read_unread, harg4.read_unread]
  rw [ld_keys X _ _ 6 k.val (offK_13 t k), ld_vals Y _ _ 3 k.val (offV_13 t k)]
  rfl

/-- Loop 13 carries a head's running form. -/
theorem states_13 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v242 : FVec Ideal S256x128 .f32) (v243 : Vec Ideal S256x128 .bf16) (v250_0 : FVec Ideal S256x1 .f32) (v250_1 : FVec Ideal S256x1 .f32) (v250_2 : FVec Ideal S256x128 .f32) (v252 : BitVec 32) (v254 : Vec Ideal S256x128 .bf16) (cst_89 : FVec Ideal S256x256 .f32) (v282 : Vec Ideal S256x128 .bf16) (X Y) : ∀ n ≤ t.val % 16,
    st_k0_t13 (F := Ideal) 𝒱 c bd (grid0.coords t) arg2 harg2 arg3 harg3 arg4 harg4 arg5 harg5 arg1 v2 v53 v54 v55 v56 v242 v243 v250_0 v250_1 v250_2 v252 v254 cst_89 v282 (harg3.unread X) (harg4.unread Y) (k0_pay7, k0_pay8, k0_pay9) n
      = state v282 (keyTile X 6) (valTile Y 3) n
  | 0, _ => rfl
  | n + 1, hn => by
    have hk : n < (k0_t13_loop (grid0.coords t)).trips := by rw [trips_13]; exact hn
    refine (st_k0_t13_succ (F := Ideal) 𝒱 c bd (grid0.coords t) arg2 harg2 arg3 harg3 arg4 harg4 arg5 harg5 arg1 v2 v53 v54 v55 v56 v242 v243 v250_0 v250_1 v250_2 v252 v254 cst_89 v282 (harg3.unread X) (harg4.unread Y) _ ⟨n, hk⟩).trans ?_
    rw [trip_13]
    exact congrArg (step _ _) (states_13 𝒱 c bd t arg2 harg2 arg3 harg3 arg4 harg4 arg5 harg5 arg1 v2 v53 v54 v55 v56 v242 v243 v250_0 v250_1 v250_2 v252 v254 cst_89 v282 X Y n (Nat.le_of_succ_le hn))

/-- What loop 13 leaves. -/
theorem loop_13 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v242 : FVec Ideal S256x128 .f32) (v243 : Vec Ideal S256x128 .bf16) (v250_0 : FVec Ideal S256x1 .f32) (v250_1 : FVec Ideal S256x1 .f32) (v250_2 : FVec Ideal S256x128 .f32) (v252 : BitVec 32) (v254 : Vec Ideal S256x128 .bf16) (cst_89 : FVec Ideal S256x256 .f32) (v282 : Vec Ideal S256x128 .bf16) (X Y) :
    st_k0_t13 (F := Ideal) 𝒱 c bd (grid0.coords t) arg2 harg2 arg3 harg3 arg4 harg4 arg5 harg5 arg1 v2 v53 v54 v55 v56 v242 v243 v250_0 v250_1 v250_2 v252 v254 cst_89 v282 (harg3.unread X) (harg4.unread Y) (k0_pay7, k0_pay8, k0_pay9) (Scf.trips 0#32 (Scalar.addi 0#32 (Scalar.muli (Scalar.divsi (Scalar.subi (BitVec.ofNat 32 (grid0.coords t 1).val) 0#32) 1#32) 1#32)) 1#32)
      = state v282 (keyTile X 6) (valTile Y 3) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_13 t]
  exact states_13 𝒱 c bd t arg2 harg2 arg3 harg3 arg4 harg4 arg5 harg5 arg1 v2 v53 v54 v55 v56 v242 v243 v250_0 v250_1 v250_2 v252 v254 cst_89 v282 X Y _ le_rfl

/-- Loop 14 makes no trips. -/
theorem trips_14 : ∀ t : Fin cfg0.N, (k0_t14_loop (grid0.coords t)).trips = 0 := by
  decide +kernel

/-- Loop 14 leaves what it finds. -/
theorem loop_14 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v2 : IVec S256x128 1) (v53 : IVec S256x256 1) (v54 : FVec Ideal S256x1 .f32) (v55 : FVec Ideal S256x1 .f32) (v56 : FVec Ideal S256x128 .f32) (v242 : FVec Ideal S256x128 .f32) (v243 : Vec Ideal S256x128 .bf16) (v250_0 : FVec Ideal S256x1 .f32) (v250_1 : FVec Ideal S256x1 .f32) (v250_2 : FVec Ideal S256x128 .f32) (v252 : BitVec 32) (v254 : Vec Ideal S256x128 .bf16) (cst_89 : FVec Ideal S256x256 .f32) (v282 : Vec Ideal S256x128 .bf16) (X X' init) :
    st_k0_t14 (F := Ideal) 𝒱 c bd (grid0.coords t) arg2 harg2 arg3 harg3 arg4 harg4 arg5 harg5 arg1 v2 v53 v54 v55 v56 v242 v243 v250_0 v250_1 v250_2 v252 v254 cst_89 v282 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_14 t]
  rfl

/-- Loop 15 makes one trip per tile before the diagonal. -/
theorem trips_15 : ∀ t : Fin cfg0.N, (k0_t15_loop (grid0.coords t)).trips = t.val % 16 := by
  decide +kernel

/-- Where trip `k` of loop 15 reads the keys. -/
theorem offK_15 : ∀ (t : Fin cfg0.N) (k : Fin (k0_t15_loop (grid0.coords t)).trips), k0_off40 (grid0.coords t) k = ![256 * k.val, 128 * 7] := by
  decide +kernel

/-- Where trip `k` of loop 15 reads the values. -/
theorem offV_15 : ∀ (t : Fin cfg0.N) (k : Fin (k0_t15_loop (grid0.coords t)).trips), k0_off41 (grid0.coords t) k = ![256 * k.val, 128 * 3] := by
  decide +kernel

/-- A trip of loop 15 is a tile's step. -/
theorem trip_15 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v289_0 : FVec Ideal S256x1 .f32) (v289_1 : FVec Ideal S256x1 .f32) (v289_2 : FVec Ideal S256x128 .f32) (v291 : BitVec 32) (v296 : FVec Ideal S256x256 .f32) (v318 : Vec Ideal S256x128 .bf16) (X Y) (k) (acc : Acc) :
    tripR_k0_t15 (F := Ideal) 𝒱 c bd (grid0.coords t) arg2 harg2 arg3 harg3 arg4 harg4 arg5 harg5 arg1 v53 v54 v55 v56 v289_0 v289_1 v289_2 v291 v296 v318 (harg3.unread X) (harg4.unread Y) k acc
      = step (prod v318 (keyTile X 7 k.val)) (valTile Y 3 k.val) acc := by
  unfold tripR_k0_t15 trip_k0_t15
  dsimp only
  simp only [View.readAt_eq_ld, harg3.read_unread, harg4.read_unread]
  rw [ld_keys X _ _ 7 k.val (offK_15 t k), ld_vals Y _ _ 3 k.val (offV_15 t k)]
  rfl

/-- Loop 15 carries a head's running form. -/
theorem states_15 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v289_0 : FVec Ideal S256x1 .f32) (v289_1 : FVec Ideal S256x1 .f32) (v289_2 : FVec Ideal S256x128 .f32) (v291 : BitVec 32) (v296 : FVec Ideal S256x256 .f32) (v318 : Vec Ideal S256x128 .bf16) (X Y) : ∀ n ≤ t.val % 16,
    st_k0_t15 (F := Ideal) 𝒱 c bd (grid0.coords t) arg2 harg2 arg3 harg3 arg4 harg4 arg5 harg5 arg1 v53 v54 v55 v56 v289_0 v289_1 v289_2 v291 v296 v318 (harg3.unread X) (harg4.unread Y) (k0_pay7, k0_pay8, k0_pay9) n
      = state v318 (keyTile X 7) (valTile Y 3) n
  | 0, _ => rfl
  | n + 1, hn => by
    have hk : n < (k0_t15_loop (grid0.coords t)).trips := by rw [trips_15]; exact hn
    refine (st_k0_t15_succ (F := Ideal) 𝒱 c bd (grid0.coords t) arg2 harg2 arg3 harg3 arg4 harg4 arg5 harg5 arg1 v53 v54 v55 v56 v289_0 v289_1 v289_2 v291 v296 v318 (harg3.unread X) (harg4.unread Y) _ ⟨n, hk⟩).trans ?_
    rw [trip_15]
    exact congrArg (step _ _) (states_15 𝒱 c bd t arg2 harg2 arg3 harg3 arg4 harg4 arg5 harg5 arg1 v53 v54 v55 v56 v289_0 v289_1 v289_2 v291 v296 v318 X Y n (Nat.le_of_succ_le hn))

/-- What loop 15 leaves. -/
theorem loop_15 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v289_0 : FVec Ideal S256x1 .f32) (v289_1 : FVec Ideal S256x1 .f32) (v289_2 : FVec Ideal S256x128 .f32) (v291 : BitVec 32) (v296 : FVec Ideal S256x256 .f32) (v318 : Vec Ideal S256x128 .bf16) (X Y) :
    st_k0_t15 (F := Ideal) 𝒱 c bd (grid0.coords t) arg2 harg2 arg3 harg3 arg4 harg4 arg5 harg5 arg1 v53 v54 v55 v56 v289_0 v289_1 v289_2 v291 v296 v318 (harg3.unread X) (harg4.unread Y) (k0_pay7, k0_pay8, k0_pay9) (Scf.trips 0#32 (Scalar.addi 0#32 (Scalar.muli (Scalar.divsi (Scalar.subi (BitVec.ofNat 32 (grid0.coords t 1).val) 0#32) 1#32) 1#32)) 1#32)
      = state v318 (keyTile X 7) (valTile Y 3) (t.val % 16) := by
  rw [show Scf.trips 0#32 (Scalar.addi 0#32 (Scalar.muli (Scalar.divsi (Scalar.subi (BitVec.ofNat 32 (grid0.coords t 1).val) 0#32) 1#32) 1#32)) 1#32 = t.val % 16 from trips_15 t]
  exact states_15 𝒱 c bd t arg2 harg2 arg3 harg3 arg4 harg4 arg5 harg5 arg1 v53 v54 v55 v56 v289_0 v289_1 v289_2 v291 v296 v318 X Y _ le_rfl

/-- Loop 16 makes no trips. -/
theorem trips_16 : ∀ t : Fin cfg0.N, (k0_t16_loop (grid0.coords t)).trips = 0 := by
  decide +kernel

/-- Loop 16 leaves what it finds. -/
theorem loop_16 (𝒱 : Variants) (c : Dev nD) (bd : Option 𝒱.V) (t : Fin cfg0.N) (arg2 : Memref sig .tc .vmem S256x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S256x512 .bf16) (harg5 : arg5.IsWhole) (arg1 : BitVec 32) (v53 : IVec S256x256 1) (v54 : FVec Ideal S256x1 .f32) (v55 : FVec Ideal S256x1 .f32) (v56 : FVec Ideal S256x128 .f32) (v289_0 : FVec Ideal S256x1 .f32) (v289_1 : FVec Ideal S256x1 .f32) (v289_2 : FVec Ideal S256x128 .f32) (v291 : BitVec 32) (v296 : FVec Ideal S256x256 .f32) (v318 : Vec Ideal S256x128 .bf16) (X X' init) :
    st_k0_t16 (F := Ideal) 𝒱 c bd (grid0.coords t) arg2 harg2 arg3 harg3 arg4 harg4 arg5 harg5 arg1 v53 v54 v55 v56 v289_0 v289_1 v289_2 v291 v296 v318 X X' init (Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32) = init := by
  rw [show Scf.trips (Scalar.addi 0#32 (Scalar.muli (Scalar.divsi (Scalar.subi (BitVec.ofNat 32 (grid0.coords t 1).val) 0#32) 1#32) 1#32)) (Scalar.addi 0#32 (Scalar.subi (BitVec.ofNat 32 (grid0.coords t 1).val) 0#32)) 1#32 = 0 from trips_16 t]
  rfl

end Cert.MlaIdeal.Whole

end
-- ==== Proof.MlaHead.lean ====
module

public import proofs.«01_k».proof.Proof.MlaLoops
public import proofs.«01_k».proof.Proof.Numbers

@[expose] public section

set_option maxRecDepth 16384

noncomputable section

open Idealize.ShloMosaic Idealize.ShloMosaic.TcCoe Idealize.SL.Sem
open Idealize.ShloMosaic.Pipeline (Dat)

namespace Cert.MlaIdeal.Whole

open Cert.MlaIdeal Cert.MlaIdeal.Gen

/-- The queries and the keys are numbers. -/
def Finite (Q K : (⟨2, ![16384, 1024]⟩ : Shape).Idx → EReal) : Prop :=
  (∀ (r : Fin 16384) (j : Fin 1024), Q (ix2 r j) ≠ ⊤ ∧ Q (ix2 r j) ≠ ⊥) ∧ ∀ (r : Fin 16384) (j : Fin 1024), K (ix2 r j) ≠ ⊤ ∧ K (ix2 r j) ≠ ⊥

variable {Q K : (⟨2, ![16384, 1024]⟩ : Shape).Idx → EReal} {V : (⟨2, ![16384, 512]⟩ : Shape).Idx → EReal}

/-- A key in reach has a score that is a number. -/
theorem score_number (hfin : Finite Q K) (b : Fin 4) (h : Fin 8) (p j : Fin 4096) (hn : j.val / 64 ≤ p.val / 64) :
    ∃ r : ℝ, Cert.Causal.score Q K b h p j = (r : EReal) := by
  unfold Cert.Causal.score
  rw [if_pos hn]
  exact Cert.Numbers.sum_number 128 _ _ (fun d => hfin.1 _ _) (fun d => hfin.2 _ _)

/-- No score is the top. -/
theorem score_ne_top (hfin : Finite Q K) (b : Fin 4) (h : Fin 8) (p j : Fin 4096) : Cert.Causal.score Q K b h p j ≠ ⊤ := by
  by_cases hn : j.val / 64 ≤ p.val / 64
  · obtain ⟨r, hr⟩ := score_number hfin b h p j hn
    rw [hr]
    exact EReal.coe_ne_top r
  · unfold Cert.Causal.score
    rw [if_neg hn]
    exact bot_ne_top

/-- The average over the keys of the tiles up to the diagonal is the average over all keys. -/
theorem seen_quot (hfin : Finite Q K) (b : Fin 4) (h : Fin 8) (n : Fin 16) (a : Fin 256) (e : Fin 64) :
    Cert.Softmax.quot (Finset.range (256 * n.val + 256))
        (fun j => Cert.Causal.score Q K b h ⟨256 * n.val + a.val, by omega⟩ ⟨j % 4096, Nat.mod_lt _ (by decide)⟩) (fun j => Cert.Causal.value V b h e ⟨j % 4096, Nat.mod_lt _ (by decide)⟩)
      = Cert.Causal.seen Q K V b h ⟨256 * n.val + a.val, by omega⟩ e := by
  unfold Cert.Causal.seen
  rw [Cert.Softmax.attend_eq_quot _ _ _ (fun j _ => score_ne_top hfin b h _ j)]
  · rw [Cert.Softmax.quot_below]
    rw [Cert.Softmax.quot_embed (⟨fun w : Fin (256 * n.val + 256) => ⟨w.val, by omega⟩, fun w w' e => Fin.ext (by have := congrArg Fin.val e; simp only at this; omega)⟩ : Fin (256 * n.val + 256) ↪ Fin 4096)]
    · refine Cert.Softmax.quot_congr (fun w _ => ?_) (fun w _ => ?_)
      · exact congrArg _ (Fin.ext (Nat.mod_eq_of_lt (by omega)))
      · exact congrArg _ (Fin.ext (Nat.mod_eq_of_lt (by omega)))
    · intro j hj
      unfold Cert.Causal.score
      refine if_neg fun hn => ?_
      have hn' : j.val / 64 ≤ (256 * n.val + a.val) / 64 := hn
      exact hj ⟨j.val, by omega⟩ rfl
  · refine ⟨⟨0, by decide⟩, Finset.mem_univ _, ?_⟩
    obtain ⟨r, hr⟩ := score_number hfin b h ⟨256 * n.val + a.val, by omega⟩ ⟨0, by decide⟩ (Nat.zero_le _)
    rw [hr]
    exact EReal.coe_ne_bot r

/-- A tile's product is the score, where the keys are in reach. -/
theorem prod_score (b : Fin 4) (h : Fin 8) (n : Fin 16) (q : Vec Ideal S256x128 .bf16) (X : Vec Ideal S4096x1024 .bf16)
    (hq : ∀ (a : Fin 256) (l : Fin 128), q (ix2 a l) = Q (ix2 ⟨4096 * b.val + (256 * n.val + a.val), by omega⟩ ⟨128 * h.val + l.val, by omega⟩))
    (hX : ∀ (p : Fin 4096) (l : Fin 1024), X (ix2 p l) = K (ix2 ⟨4096 * b.val + p.val, by omega⟩ l)) (a w : Fin 256) (i : ℕ) (hi : i < 16) :
    (∑ l : Fin 128, q (ix2 a l) * keyTile X h.val i (ix2 w l))
      = ∑ l : Fin 128, Q (ix2 ⟨b.val * 4096 + (256 * n.val + a.val), by omega⟩ ⟨h.val * 128 + l.val, by omega⟩) * K (ix2 ⟨b.val * 4096 + (256 * i + w.val) % 4096, by omega⟩ ⟨h.val * 128 + l.val, by omega⟩) := by
  refine Finset.sum_congr rfl fun l _ => ?_
  rw [hq]
  refine congrArg₂ (· * ·) (congrArg Q ?_) ((hX _ _).trans (congrArg K ?_))
  · exact congrArg₂ ix2 (Fin.ext (by show 4096 * b.val + (256 * n.val + a.val) = b.val * 4096 + (256 * n.val + a.val); omega)) (Fin.ext (by show 128 * h.val + l.val = h.val * 128 + l.val; omega))
  · exact congrArg₂ ix2 (Fin.ext (by show 4096 * b.val + (256 * i + w.val) % 4096 = b.val * 4096 + (256 * i + w.val) % 4096; omega)) (Fin.ext (by show (128 * h.val + l.val) % 1024 = h.val * 128 + l.val; omega))

/-- A head's output from its tiles is its softmax average over all keys. -/
theorem head_seen (hfin : Finite Q K) (b : Fin 4) (h : Fin 8) (n : Fin 16) (g : ℕ) (hg : g = h.val / 2) (q : Vec Ideal S256x128 .bf16) (X : Vec Ideal S4096x1024 .bf16) (Y : Vec Ideal S4096x512 .bf16)
    (hq : ∀ (a : Fin 256) (l : Fin 128), q (ix2 a l) = Q (ix2 ⟨4096 * b.val + (256 * n.val + a.val), by omega⟩ ⟨128 * h.val + l.val, by omega⟩))
    (hX : ∀ (p : Fin 4096) (l : Fin 1024), X (ix2 p l) = K (ix2 ⟨4096 * b.val + p.val, by omega⟩ l))
    (hY : ∀ (p : Fin 4096) (l : Fin 512), Y (ix2 p l) = V (ix2 ⟨4096 * b.val + p.val, by omega⟩ l)) (a : Fin 256) (l : Fin 128) (e : Fin 64) (hl : l.val = 64 * (h.val % 2) + e.val) :
    head q (keyTile X h.val) (valTile Y g) n.val (ix2 a l) = Cert.Causal.seen Q K V b h ⟨256 * n.val + a.val, by omega⟩ e := by
  refine (head_at q _ _ a l n.val ?_ ?_ ?_ ?_).trans (seen_quot hfin b h n a e)
  · intro i hi w
    rw [prod_at, prod_score b h n q X hq hX a w i (by omega)]
    exact (if_pos (show (256 * i + w.val) % 4096 / 64 ≤ (256 * n.val + a.val) / 64 by omega)).symm
  · intro w
    rw [masked_at, prod_score b h n q X hq hX a w n.val n.isLt]
    unfold Cert.Causal.score
    exact if_congr (show w.val / 64 ≤ a.val / 64 ↔ (256 * n.val + w.val) % 4096 / 64 ≤ (256 * n.val + a.val) / 64 by omega) rfl rfl
  · intro i hi w
    refine (hY _ _).trans (congrArg V ?_)
    exact congrArg₂ ix2 (Fin.ext (by show 4096 * b.val + (256 * i + w.val) % 4096 = b.val * 4096 + (256 * i + w.val) % 4096; omega)) (Fin.ext (by show (128 * g + l.val) % 512 = h.val * 64 + e.val; omega))
  · exact fun i _ => score_ne_top hfin b h _ _

end Cert.MlaIdeal.Whole

end
-- ==== Proof.MlaRefSide.lean ====
module

public import Idealize.ShloMosaic.Lib.Pipeline.ValueKit
public import Idealize.ShloMosaic.Lib.Pipeline.ReadBack
public import Idealize.ShloMosaic.Lib.Pointwise
public import Idealize.ShloMosaic.Lib.Quiescent
public import proofs.«01_k».proof.Proof.HostMax
public import proofs.«01_k».proof.Proof.Causal
public import proofs.«01_k».proof.Proof.Gen.MlaRefIdeal.Run

@[expose] public section

set_option maxRecDepth 16384

noncomputable section

open Idealize.ShloMosaic Idealize.ShloMosaic.TcCoe Idealize.SL.Sem

namespace Cert.MlaRefIdeal.Whole

open Cert.MlaRefIdeal Cert.MlaRefIdeal.Gen

/-- The largest score of a row, spread over the row, read at an entry. -/
theorem ref_spread (R : FVec Ideal S4x8x4096 .f32) (b : Fin 4) (h : Fin 8) (p k : Fin 4096) :
    broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) R)) (ix4 b h p k)
      = max (Ideal.ofBits .f32 0xFF800000#32) (R (ix3 b h p)) := by
  pointwise

/-- The largest score of a row, read at an entry. -/
theorem ref_max (S : FVec Ideal S4x8x4096x4096 .f32) (b : Fin 4) (h : Fin 8) (p k : Fin 4096) :
    broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (Host.reduce FloatOps.maximumf S (constant S_ .f32 0xFF800000#32) reducesTo_S4x8x4096x4096_S4x8x4096_d3 h_S_))) (ix4 b h p k)
      = Cert.Softmax.top Finset.univ fun i : Fin 4096 => S (ix4 b h p i) := by
  have hb : Ideal.ofBits .f32 0xFF800000#32 = (⊥ : EReal) := by simp [Ideal.ofBits, Ideal.ieee]
  rw [ref_spread, hb, max_eq_right bot_le]
  exact Cert.Softmax.reduce_max reducesTo_S4x8x4096x4096_S4x8x4096_d3 S _ h_S_ hb b h p

/-- The sum of a row's weights, read at an entry. -/
theorem ref_sum (E : FVec Ideal S4x8x4096x4096 .f32) (b : Fin 4) (h : Fin 8) (p k : Fin 4096) :
    broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd E (constant S_ .f32 0x00000000#32) reducesTo_S4x8x4096x4096_S4x8x4096_d3 h_S_)) (ix4 b h p k)
      = ∑ i : Fin 4096, E (ix4 b h p i) := by
  pointwise

/-- The weighted sum of the values, read at an entry. -/
theorem ref_avg (V : FVec Ideal S4x4096x8x64 .f32) (W : FVec Ideal S4x8x4096x4096 .f32) (b : Fin 4) (p : Fin 4096) (h : Fin 8) (d : Fin 64) :
    transpose S4x4096x8x64 [0, 3, 1, 2] (Host.dotGeneral dot_S4x4096x8x64_S4x8x4096x4096_S4x8x64x4096_1_3_3_2_02_01 none V W) transposes_S4x8x64x4096_S4x4096x8x64_0_3_1_2 (ix4 b p h d)
      = ∑ i : Fin 4096, V (ix4 b i h d) * W (ix4 b h p i) := by
  pointwise

/-- The result's rows, read at an entry. -/
theorem ref_flat (Y : FVec Ideal S4x4096x8x64 .f32) (r : Fin 16384) (d : Fin 512) :
    (truncf .bf16 (shapeCast S16384x512 Y shapeCasts_S4x4096x8x64_S16384x512) bitsLt_bf16_f32 : FVec Ideal S16384x512 .bf16) (ix2 r d)
      = Y (ix4 ⟨r.val / 4096, by omega⟩ ⟨r.val % 4096, by omega⟩ ⟨d.val / 64, by omega⟩ ⟨d.val % 64, by omega⟩) := by
  pointwise

/-- A row of the result is the softmax average of the values, each weight divided by their sum. -/
theorem ref_rows (V : FVec Ideal S4x4096x8x64 .f32) (S : FVec Ideal S4x8x4096x4096 .f32) (b : Fin 4) (p : Fin 4096) (h : Fin 8) (d : Fin 64) :
    transpose S4x4096x8x64 [0, 3, 1, 2] (Host.dotGeneral dot_S4x4096x8x64_S4x8x4096x4096_S4x8x64x4096_1_3_3_2_02_01 none V
      (Host.divf (Host.exp (subf S (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (Host.reduce FloatOps.maximumf S (constant S_ .f32 0xFF800000#32) reducesTo_S4x8x4096x4096_S4x8x4096_d3 h_S_))))))
        (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd (Host.exp (subf S (broadcastInDim S4x8x4096x4096 ![0, 1, 2, 3] bcast_S4x8x4096x1_S4x8x4096x4096_0_1_2_3 (broadcastInDim S4x8x4096x1 ![0, 1, 2] bcast_S4x8x4096_S4x8x4096x1_0_1_2 (maximumf (broadcastInDim S4x8x4096 ![] bcast_S_S4x8x4096 (constant S_ .f32 0xFF800000#32)) (Host.reduce FloatOps.maximumf S (constant S_ .f32 0xFF800000#32) reducesTo_S4x8x4096x4096_S4x8x4096_d3 h_S_)))))) (constant S_ .f32 0x00000000#32) reducesTo_S4x8x4096x4096_S4x8x4096_d3 h_S_))))) transposes_S4x8x64x4096_S4x4096x8x64_0_3_1_2 (ix4 b p h d)
      = Cert.Softmax.attend Finset.univ (fun k => S (ix4 b h p k)) (fun k => V (ix4 b k h d)) := by
  refine (ref_avg _ _ b p h d).trans ?_
  unfold Cert.Softmax.attend
  refine Finset.sum_congr rfl fun k _ => ?_
  rw [mul_comm]
  refine congrArg (· * V (ix4 b k h d)) ?_
  refine congrArg₂ Ideal.div ?_ ?_
  · exact congrArg (fun y => Ideal.exp (S (ix4 b h p k) - y)) (ref_max S b h p k)
  · refine (ref_sum _ b h p k).trans ?_
    unfold Cert.Softmax.mass
    refine Finset.sum_congr rfl fun i _ => ?_
    exact congrArg (fun y => Ideal.exp (S (ix4 b h p i) - y)) (ref_max S b h p i)

/-- A head's part of the queries or keys, read at an entry. -/
theorem ref_q (x : FVec Ideal S16384x1024 .bf16) (b : Fin 4) (p : Fin 4096) (h : Fin 8) (d : Fin 128) :
    (shapeCast S4x4096x8x128 (extf .f32 x bitsLt_bf16_f32) shapeCasts_S16384x1024_S4x4096x8x128 : FVec Ideal S4x4096x8x128 .f32) (ix4 b p h d)
      = x (ix2 ⟨b.val * 4096 + p.val, by omega⟩ ⟨h.val * 128 + d.val, by omega⟩) := by
  pointwise

/-- A head's part of the values, read at an entry. -/
theorem ref_v (x : FVec Ideal S16384x512 .bf16) (b : Fin 4) (p : Fin 4096) (h : Fin 8) (d : Fin 64) :
    (shapeCast S4x4096x8x64 (extf .f32 x bitsLt_bf16_f32) shapeCasts_S16384x512_S4x4096x8x64 : FVec Ideal S4x4096x8x64 .f32) (ix4 b p h d)
      = x (ix2 ⟨b.val * 4096 + p.val, by omega⟩ ⟨h.val * 64 + d.val, by omega⟩) := by
  pointwise

/-- The products of the queries and keys, read at an entry. -/
theorem ref_qk (Q K : FVec Ideal S4x4096x8x128 .f32) (b : Fin 4) (h : Fin 8) (p k : Fin 4096) :
    Host.dotGeneral dot_S4x4096x8x128_S4x4096x8x128_S4x8x4096x4096_3_3_1_1_02_02 none Q K (ix4 b h p k)
      = ∑ d : Fin 128, Q (ix4 b p h d) * K (ix4 b k h d) := by
  pointwise

/-- The number of a position's chunk, as the words along a row compute it. -/
theorem ref_row (i : Fin 1) (p : Fin 4096) :
    (select (andi (cmpi .ne (signi (broadcastInDim S1x4096 ![1] bcast_S4096_S1x4096_1 (iotaInDim S4096 32 0))) (broadcastInDim S1x4096 ![] bcast_S_S1x4096 (signi (id (constantI S_ 32 64#32))))) (cmpi .ne (Host.remsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 0#32)))) (subi (Host.divsi (broadcastInDim S1x4096 ![1] bcast_S4096_S1x4096_1 (iotaInDim S4096 32 0)) (broadcastInDim S1x4096 ![] bcast_S_S1x4096 (id (constantI S_ 32 64#32)))) (broadcastInDim S1x4096 ![] bcast_S_S1x4096 (constantI S_ 32 1#32))) (Host.divsi (broadcastInDim S1x4096 ![1] bcast_S4096_S1x4096_1 (iotaInDim S4096 32 0)) (broadcastInDim S1x4096 ![] bcast_S_S1x4096 (id (constantI S_ 32 64#32)))) : IVec S1x4096 32) (ix2 i p) = BitVec.ofNat 32 (p.val / 64) := by
  pointwise
  revert p
  decide +kernel

/-- The number of a position's chunk, as the words down a column compute it. -/
theorem ref_col (p : Fin 4096) (i : Fin 1) :
    (select (andi (cmpi .ne (signi (broadcastInDim S4096x1 ![0] bcast_S4096_S4096x1_0 (iotaInDim S4096 32 0))) (broadcastInDim S4096x1 ![] bcast_S_S4096x1 (signi (id (constantI S_ 32 64#32))))) (cmpi .ne (Host.remsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 0#32)))) (subi (Host.divsi (broadcastInDim S4096x1 ![0] bcast_S4096_S4096x1_0 (iotaInDim S4096 32 0)) (broadcastInDim S4096x1 ![] bcast_S_S4096x1 (id (constantI S_ 32 64#32)))) (broadcastInDim S4096x1 ![] bcast_S_S4096x1 (constantI S_ 32 1#32))) (Host.divsi (broadcastInDim S4096x1 ![0] bcast_S4096_S4096x1_0 (iotaInDim S4096 32 0)) (broadcastInDim S4096x1 ![] bcast_S_S4096x1 (id (constantI S_ 32 64#32)))) : IVec S4096x1 32) (ix2 p i) = BitVec.ofNat 32 (p.val / 64) := by
  pointwise
  revert p
  decide +kernel

/-- The mask at a query and a key is set where the key's chunk is not after the query's. -/
theorem ref_mask (A : IVec S4096x1 32) (B : IVec S1x4096 32) (hA : ∀ p i, A (ix2 p i) = BitVec.ofNat 32 (p.val / 64))
    (hB : ∀ i p, B (ix2 i p) = BitVec.ofNat 32 (p.val / 64)) (b : Fin 4) (h : Fin 8) (p k : Fin 4096) :
    (broadcastInDim S4x8x4096x4096 ![2, 3] bcast_S4096x4096_S4x8x4096x4096_2_3 (cmpi .sle (broadcastInDim S4096x4096 ![0, 1] bcast_S1x4096_S4096x4096_0_1 B) (broadcastInDim S4096x4096 ![0, 1] bcast_S4096x1_S4096x4096_0_1 A)) : IVec S4x8x4096x4096 1) (ix4 b h p k) = if k.val / 64 ≤ p.val / 64 then 1#1 else 0#1 := by
  pointwise
  rw [hA, hB]
  exact Cert.Causal.before_word ⟨p.val / 64, by omega⟩ ⟨k.val / 64, by omega⟩

/-- A score, read at an entry: the product where the mask is set, the bottom elsewhere. -/
theorem ref_score (M : IVec S4x8x4096x4096 1) (X : FVec Ideal S4x8x4096x4096 .f32) (b : Fin 4) (h : Fin 8) (p k : Fin 4096) :
    (select M X (broadcastInDim S4x8x4096x4096 ![] bcast_S_S4x8x4096x4096 (id (constant S_ .f32 0xFF800000#32))) : FVec Ideal S4x8x4096x4096 .f32) (ix4 b h p k)
      = Scalar.select (M (ix4 b h p k)) (X (ix4 b h p k)) ⊥ := by
  have hb : Ideal.ofBits .f32 0xFF800000#32 = (⊥ : EReal) := by simp [Ideal.ofBits, Ideal.ieee]
  pointwise
  show Scalar.select _ _ (Ideal.ofBits .f32 0xFF800000#32) = _
  rw [hb]

/-- The reference's result at one entry. -/
theorem ref_out (m : (ℓ : Loc nD τ sig) → Buf (Elt Ideal) ℓ) (c : Dev nD) (r : Fin 16384) (d : Fin 512) :
    Value.res_main_v30 m c (ix2 r d)
      = Cert.Causal.seen (m ((c.tc : Thread nD τ).loc main_arg0)) (m ((c.tc : Thread nD τ).loc main_arg1)) (m ((c.tc : Thread nD τ).loc main_arg2))
          ⟨r.val / 4096, by omega⟩ ⟨d.val / 64, by omega⟩ ⟨r.val % 4096, by omega⟩ ⟨d.val % 64, by omega⟩ := by
  unfold Value.res_main_v30
  refine (ref_flat _ r d).trans ((ref_rows _ _ _ _ _ _).trans ?_)
  unfold Cert.Causal.seen
  refine congrArg₂ (Cert.Softmax.attend Finset.univ) (funext fun k => ?_) (funext fun k => ?_)
  · refine (ref_score _ _ _ _ _ _).trans ?_
    rw [ref_mask _ _ ref_col ref_row, ref_qk]
    unfold Cert.Causal.score
    split
    · refine Eq.trans (b := ∑ d : Fin 128, (shapeCast S4x4096x8x128 (extf .f32 (m ((c.tc : Thread nD τ).loc main_arg0)) bitsLt_bf16_f32) shapeCasts_S16384x1024_S4x4096x8x128 : FVec Ideal S4x4096x8x128 .f32) (ix4 _ _ _ d) * (shapeCast S4x4096x8x128 (extf .f32 (m ((c.tc : Thread nD τ).loc main_arg1)) bitsLt_bf16_f32) shapeCasts_S16384x1024_S4x4096x8x128 : FVec Ideal S4x4096x8x128 .f32) (ix4 _ _ _ d)) rfl ?_
      exact Finset.sum_congr rfl fun d _ => congrArg₂ (· * ·) (ref_q _ _ _ _ _) (ref_q _ _ _ _ _)
    · rfl
  · exact ref_v _ _ _ _ _

end Cert.MlaRefIdeal.Whole

end
-- ==== Proof.MlaValue.lean ====
module

public import Idealize.ShloMosaic.Lib.Quiescent
public import proofs.«01_k».proof.Defs
public import proofs.«01_k».proof.Proof.MlaHead
public import proofs.«01_k».proof.Proof.MlaRefSide
public import proofs.«01_k».proof.Proof.Gen.MlaRefIdeal.Run
public import proofs.«01_k».proof.Proof.Gen.Mla.Frame
public import proofs.«01_k».proof.Proof.Gen.Pre_finite_latent

@[expose] public section

set_option maxRecDepth 16384

noncomputable section

open Idealize.ShloMosaic Idealize.ShloMosaic.TcCoe Idealize.SL.Sem
open Idealize.ShloMosaic.Pipeline (Dat)

namespace Cert.MlaIdeal.Whole

open Cert.MlaIdeal Cert.MlaIdeal.Gen

variable (m : (ℓ : Loc nD τ sig) → Buf (Elt Ideal) ℓ)

/-- The row numbers of a tile of scores. -/
abbrev rows : IVec S256x256 32 := iota .tc S256x256 32 [0] iota_S256x256_d0_w32

/-- The outputs of a pair of heads, side by side in the lanes. -/
def both (A B : FVec Ideal S256x128 .f32) : FVec Ideal S256x128 .bf16 := truncf .bf16 (select k0_pay2 A B) bitsLt_bf16_f32

/-- The first pair's output. -/
theorem pair_0 (q q' k k' v v' : Vec Ideal S256x128 .bf16) (s s' : Acc) :
    k0_pay40 k0_pay2 (k0_pay6 rows k0_pay3 64#32 k0_pay4 k0_pay5) s.2.2 v (k0_pay25 rows k0_pay3 64#32 k0_pay4 k0_pay5 q s.1 k) (k0_pay26 rows k0_pay3 64#32 k0_pay4 k0_pay5 q s.1 s.2.1 k)
        (k0_pay27 rows k0_pay3 64#32 k0_pay4 k0_pay5 q s.1 k) q' s'.1 s'.2.1 s'.2.2 k' v'
      = both (quo (step (masked q k) v s)) (quo (step (masked q' k') v' s')) := rfl

/-- The second pair's output. -/
theorem pair_1 (q q' k k' v v' : Vec Ideal S256x128 .bf16) (s s' : Acc) :
    k0_pay66 k0_pay2 (k0_pay6 rows k0_pay3 64#32 k0_pay4 k0_pay5) (k0_pay53 (k0_pay6 rows k0_pay3 64#32 k0_pay4 k0_pay5) q s.1 s.2.1 s.2.2 k v) q' s'.1 s'.2.1 s'.2.2 k' v'
      = both (quo (step (masked q k) v s)) (quo (step (masked q' k') v' s')) := rfl

/-- The third pair's output. -/
theorem pair_2 (q q' k k' v v' : Vec Ideal S256x128 .bf16) (s s' : Acc) :
    k0_pay92 k0_pay2 (k0_pay6 rows k0_pay3 64#32 k0_pay4 k0_pay5) (k0_pay79 (k0_pay6 rows k0_pay3 64#32 k0_pay4 k0_pay5) q s.1 s.2.1 s.2.2 k v) q' s'.1 s'.2.1 s'.2.2 k' (constant S256x256 .f32 0x00000000#32) v'
      = both (quo (step (masked q k) v s)) (quo (step (masked q' k') v' s')) := rfl

/-- The fourth pair's output. -/
theorem pair_3 (q q' k k' v v' : Vec Ideal S256x128 .bf16) (s s' : Acc) :
    k0_pay1 k0_pay2 (k0_pay106 s.1 s.2.1 s.2.2 (k0_pay105 (k0_pay6 rows k0_pay3 64#32 k0_pay4 k0_pay5) q k) v) s'.2.1 s'.2.2 (k0_pay119 (k0_pay6 rows k0_pay3 64#32 k0_pay4 k0_pay5) q' k') v'
        (k0_pay121 (k0_pay6 rows k0_pay3 64#32 k0_pay4 k0_pay5) q' s'.1 k') (k0_pay122 (k0_pay6 rows k0_pay3 64#32 k0_pay4 k0_pay5) q' s'.1 k')
      = both (quo (step (masked q k) v s)) (quo (step (masked q' k') v' s')) := rfl

/-- Where the tiles on the diagonal lie. -/
theorem offD : ∀ t : Fin cfg0.N, k0_off5 (grid0.coords t) = ![256 * (t.val % 16), 128 * 0] ∧ k0_off11 (grid0.coords t) = ![256 * (t.val % 16), 128 * 1] ∧ k0_off16 (grid0.coords t) = ![256 * (t.val % 16), 128 * 2] ∧ k0_off22 (grid0.coords t) = ![256 * (t.val % 16), 128 * 3] ∧ k0_off27 (grid0.coords t) = ![256 * (t.val % 16), 128 * 4] ∧ k0_off33 (grid0.coords t) = ![256 * (t.val % 16), 128 * 5] ∧ k0_off38 (grid0.coords t) = ![256 * (t.val % 16), 128 * 6] ∧ k0_off44 (grid0.coords t) = ![256 * (t.val % 16), 128 * 7] ∧ k0_off6 (grid0.coords t) = ![256 * (t.val % 16), 128 * 0] ∧ k0_off17 (grid0.coords t) = ![256 * (t.val % 16), 128 * 1] ∧ k0_off28 (grid0.coords t) = ![256 * (t.val % 16), 128 * 2] ∧ k0_off39 (grid0.coords t) = ![256 * (t.val % 16), 128 * 3] :=
  (by decide +kernel : ∀ t : Fin grid0.N, k0_off5 (grid0.coords t) = ![256 * (t.val % 16), 128 * 0] ∧ k0_off11 (grid0.coords t) = ![256 * (t.val % 16), 128 * 1] ∧ k0_off16 (grid0.coords t) = ![256 * (t.val % 16), 128 * 2] ∧ k0_off22 (grid0.coords t) = ![256 * (t.val % 16), 128 * 3] ∧ k0_off27 (grid0.coords t) = ![256 * (t.val % 16), 128 * 4] ∧ k0_off33 (grid0.coords t) = ![256 * (t.val % 16), 128 * 5] ∧ k0_off38 (grid0.coords t) = ![256 * (t.val % 16), 128 * 6] ∧ k0_off44 (grid0.coords t) = ![256 * (t.val % 16), 128 * 7] ∧ k0_off6 (grid0.coords t) = ![256 * (t.val % 16), 128 * 0] ∧ k0_off17 (grid0.coords t) = ![256 * (t.val % 16), 128 * 1] ∧ k0_off28 (grid0.coords t) = ![256 * (t.val % 16), 128 * 2] ∧ k0_off39 (grid0.coords t) = ![256 * (t.val % 16), 128 * 3])

theorem placesQ : ∀ t : Fin cfg0.N, win0_0.index t = ![t.val, 0] ∧ win0_3.index t = ![t.val, 0] :=
  (by decide +kernel : ∀ t : Fin grid0.N, win0_0.index t = ![t.val, 0] ∧ win0_3.index t = ![t.val, 0])

theorem placesK : ∀ t : Fin cfg0.N, win0_1.index t = ![t.val / 16, 0] ∧ win0_2.index t = ![t.val / 16, 0] :=
  (by decide +kernel : ∀ t : Fin grid0.N, win0_1.index t = ![t.val / 16, 0] ∧ win0_2.index t = ![t.val / 16, 0])

/-- A block's queries, read at their place. -/
theorem readQ (c : Dev nD) (t : Fin cfg0.N) (a : Fin 256) (l : Fin 1024) (ht : t.val < 64) :
    iblk m c 0 t (ix2 a l) = m ((c : Thread nD τ).loc main_arg0) (ix2 ⟨256 * t.val + a.val, by omega⟩ l) := by
  have e := (placesQ t).1
  blk_ext [iblk, V, e]

/-- A batch's keys, read at their place. -/
theorem readK (c : Dev nD) (t : Fin cfg0.N) (p : Fin 4096) (l : Fin 1024) (ht : t.val < 64) :
    iblk m c 1 t (ix2 p l) = m ((c : Thread nD τ).loc main_arg1) (ix2 ⟨4096 * (t.val / 16) + p.val, by omega⟩ l) := by
  have e := (placesK t).1
  blk_ext [iblk, V, e]

/-- A batch's values, read at their place. -/
theorem readV (c : Dev nD) (t : Fin cfg0.N) (p : Fin 4096) (l : Fin 512) (ht : t.val < 64) :
    iblk m c 2 t (ix2 p l) = m ((c : Thread nD τ).loc main_arg2) (ix2 ⟨4096 * (t.val / 16) + p.val, by omega⟩ l) := by
  have e := (placesK t).2
  blk_ext [iblk, V, e]

/-- Head 0's queries, read at their place. -/
theorem queries_0 (c : Dev nD) (t : Fin cfg0.N) (ht : t.val < 64) (a : Fin 256) (l : Fin 128) :
    (View.ld (iblk m c 0 t) (Rect.unit ![0, 0] S256x128.size inb_S256x1024_S256x128_0_0)) (ix2 a l)
      = m ((c : Thread nD τ).loc main_arg0) (ix2 ⟨4096 * (t.val / 16) + (256 * (t.val % 16) + a.val), by omega⟩ ⟨128 * 0 + l.val, by omega⟩) := by
  refine (View.ld_unit_apply_of (iblk m c 0 t) _ _ _ _ (ix2 a ⟨128 * 0 + l.val, by omega⟩) fun b => ?_).trans ?_
  · fin_cases b <;> first | rfl | exact (Nat.zero_add _).symm
  · rw [readQ m c t _ _ ht]
    exact congrArg _ (congrArg₂ ix2 (Fin.ext (by show 256 * t.val + a.val = 4096 * (t.val / 16) + (256 * (t.val % 16) + a.val); omega)) rfl)

/-- Head 1's queries, read at their place. -/
theorem queries_1 (c : Dev nD) (t : Fin cfg0.N) (ht : t.val < 64) (a : Fin 256) (l : Fin 128) :
    (View.ld (iblk m c 0 t) (Rect.unit ![0, 128] S256x128.size inb_S256x1024_S256x128_0_128)) (ix2 a l)
      = m ((c : Thread nD τ).loc main_arg0) (ix2 ⟨4096 * (t.val / 16) + (256 * (t.val % 16) + a.val), by omega⟩ ⟨128 * 1 + l.val, by omega⟩) := by
  refine (View.ld_unit_apply_of (iblk m c 0 t) _ _ _ _ (ix2 a ⟨128 * 1 + l.val, by omega⟩) fun b => ?_).trans ?_
  · fin_cases b <;> first | rfl | exact (Nat.zero_add _).symm
  · rw [readQ m c t _ _ ht]
    exact congrArg _ (congrArg₂ ix2 (Fin.ext (by show 256 * t.val + a.val = 4096 * (t.val / 16) + (256 * (t.val % 16) + a.val); omega)) rfl)

/-- Head 2's queries, read at their place. -/
theorem queries_2 (c : Dev nD) (t : Fin cfg0.N) (ht : t.val < 64) (a : Fin 256) (l : Fin 128) :
    (View.ld (iblk m c 0 t) (Rect.unit ![0, 256] S256x128.size inb_S256x1024_S256x128_0_256)) (ix2 a l)
      = m ((c : Thread nD τ).loc main_arg0) (ix2 ⟨4096 * (t.val / 16) + (256 * (t.val % 16) + a.val), by omega⟩ ⟨128 * 2 + l.val, by omega⟩) := by
  refine (View.ld_unit_apply_of (iblk m c 0 t) _ _ _ _ (ix2 a ⟨128 * 2 + l.val, by omega⟩) fun b => ?_).trans ?_
  · fin_cases b <;> first | rfl | exact (Nat.zero_add _).symm
  · rw [readQ m c t _ _ ht]
    exact congrArg _ (congrArg₂ ix2 (Fin.ext (by show 256 * t.val + a.val = 4096 * (t.val / 16) + (256 * (t.val % 16) + a.val); omega)) rfl)

/-- Head 3's queries, read at their place. -/
theorem queries_3 (c : Dev nD) (t : Fin cfg0.N) (ht : t.val < 64) (a : Fin 256) (l : Fin 128) :
    (View.ld (iblk m c 0 t) (Rect.unit ![0, 384] S256x128.size inb_S256x1024_S256x128_0_384)) (ix2 a l)
      = m ((c : Thread nD τ).loc main_arg0) (ix2 ⟨4096 * (t.val / 16) + (256 * (t.val % 16) + a.val), by omega⟩ ⟨128 * 3 + l.val, by omega⟩) := by
  refine (View.ld_unit_apply_of (iblk m c 0 t) _ _ _ _ (ix2 a ⟨128 * 3 + l.val, by omega⟩) fun b => ?_).trans ?_
  · fin_cases b <;> first | rfl | exact (Nat.zero_add _).symm
  · rw [readQ m c t _ _ ht]
    exact congrArg _ (congrArg₂ ix2 (Fin.ext (by show 256 * t.val + a.val = 4096 * (t.val / 16) + (256 * (t.val % 16) + a.val); omega)) rfl)

/-- Head 4's queries, read at their place. -/
theorem queries_4 (c : Dev nD) (t : Fin cfg0.N) (ht : t.val < 64) (a : Fin 256) (l : Fin 128) :
    (View.ld (iblk m c 0 t) (Rect.unit ![0, 512] S256x128.size inb_S256x1024_S256x128_0_512)) (ix2 a l)
      = m ((c : Thread nD τ).loc main_arg0) (ix2 ⟨4096 * (t.val / 16) + (256 * (t.val % 16) + a.val), by omega⟩ ⟨128 * 4 + l.val, by omega⟩) := by
  refine (View.ld_unit_apply_of (iblk m c 0 t) _ _ _ _ (ix2 a ⟨128 * 4 + l.val, by omega⟩) fun b => ?_).trans ?_
  · fin_cases b <;> first | rfl | exact (Nat.zero_add _).symm
  · rw [readQ m c t _ _ ht]
    exact congrArg _ (congrArg₂ ix2 (Fin.ext (by show 256 * t.val + a.val = 4096 * (t.val / 16) + (256 * (t.val % 16) + a.val); omega)) rfl)

/-- Head 5's queries, read at their place. -/
theorem queries_5 (c : Dev nD) (t : Fin cfg0.N) (ht : t.val < 64) (a : Fin 256) (l : Fin 128) :
    (View.ld (iblk m c 0 t) (Rect.unit ![0, 640] S256x128.size inb_S256x1024_S256x128_0_640)) (ix2 a l)
      = m ((c : Thread nD τ).loc main_arg0) (ix2 ⟨4096 * (t.val / 16) + (256 * (t.val % 16) + a.val), by omega⟩ ⟨128 * 5 + l.val, by omega⟩) := by
  refine (View.ld_unit_apply_of (iblk m c 0 t) _ _ _ _ (ix2 a ⟨128 * 5 + l.val, by omega⟩) fun b => ?_).trans ?_
  · fin_cases b <;> first | rfl | exact (Nat.zero_add _).symm
  · rw [readQ m c t _ _ ht]
    exact congrArg _ (congrArg₂ ix2 (Fin.ext (by show 256 * t.val + a.val = 4096 * (t.val / 16) + (256 * (t.val % 16) + a.val); omega)) rfl)

/-- Head 6's queries, read at their place. -/
theorem queries_6 (c : Dev nD) (t : Fin cfg0.N) (ht : t.val < 64) (a : Fin 256) (l : Fin 128) :
    (View.ld (iblk m c 0 t) (Rect.unit ![0, 768] S256x128.size inb_S256x1024_S256x128_0_768)) (ix2 a l)
      = m ((c : Thread nD τ).loc main_arg0) (ix2 ⟨4096 * (t.val / 16) + (256 * (t.val % 16) + a.val), by omega⟩ ⟨128 * 6 + l.val, by omega⟩) := by
  refine (View.ld_unit_apply_of (iblk m c 0 t) _ _ _ _ (ix2 a ⟨128 * 6 + l.val, by omega⟩) fun b => ?_).trans ?_
  · fin_cases b <;> first | rfl | exact (Nat.zero_add _).symm
  · rw [readQ m c t _ _ ht]
    exact congrArg _ (congrArg₂ ix2 (Fin.ext (by show 256 * t.val + a.val = 4096 * (t.val / 16) + (256 * (t.val % 16) + a.val); omega)) rfl)

/-- Head 7's queries, read at their place. -/
theorem queries_7 (c : Dev nD) (t : Fin cfg0.N) (ht : t.val < 64) (a : Fin 256) (l : Fin 128) :
    (View.ld (iblk m c 0 t) (Rect.unit ![0, 896] S256x128.size inb_S256x1024_S256x128_0_896)) (ix2 a l)
      = m ((c : Thread nD τ).loc main_arg0) (ix2 ⟨4096 * (t.val / 16) + (256 * (t.val % 16) + a.val), by omega⟩ ⟨128 * 7 + l.val, by omega⟩) := by
  refine (View.ld_unit_apply_of (iblk m c 0 t) _ _ _ _ (ix2 a ⟨128 * 7 + l.val, by omega⟩) fun b => ?_).trans ?_
  · fin_cases b <;> first | rfl | exact (Nat.zero_add _).symm
  · rw [readQ m c t _ _ ht]
    exact congrArg _ (congrArg₂ ix2 (Fin.ext (by show 256 * t.val + a.val = 4096 * (t.val / 16) + (256 * (t.val % 16) + a.val); omega)) rfl)

/-- The block that the body leaves, its four pairs of heads side by side. -/
theorem tiles (c : Dev nD) (t : Fin cfg0.N) :
    outsAt0 m c t = View.canon ([
      ⟨Rect.unit ![0, 384] S256x128.size inb_S256x512_S256x128_0_384, both (head (View.ld (iblk m c 0 t) (Rect.unit ![0, 768] S256x128.size inb_S256x1024_S256x128_0_768)) (keyTile (iblk m c 1 t) 6) (valTile (iblk m c 2 t) 3) (t.val % 16))
        (head (View.ld (iblk m c 0 t) (Rect.unit ![0, 896] S256x128.size inb_S256x1024_S256x128_0_896)) (keyTile (iblk m c 1 t) 7) (valTile (iblk m c 2 t) 3) (t.val % 16))⟩,
      ⟨Rect.unit ![0, 256] S256x128.size inb_S256x512_S256x128_0_256, both (head (View.ld (iblk m c 0 t) (Rect.unit ![0, 512] S256x128.size inb_S256x1024_S256x128_0_512)) (keyTile (iblk m c 1 t) 4) (valTile (iblk m c 2 t) 2) (t.val % 16))
        (head (View.ld (iblk m c 0 t) (Rect.unit ![0, 640] S256x128.size inb_S256x1024_S256x128_0_640)) (keyTile (iblk m c 1 t) 5) (valTile (iblk m c 2 t) 2) (t.val % 16))⟩,
      ⟨Rect.unit ![0, 128] S256x128.size inb_S256x512_S256x128_0_128, both (head (View.ld (iblk m c 0 t) (Rect.unit ![0, 256] S256x128.size inb_S256x1024_S256x128_0_256)) (keyTile (iblk m c 1 t) 2) (valTile (iblk m c 2 t) 1) (t.val % 16))
        (head (View.ld (iblk m c 0 t) (Rect.unit ![0, 384] S256x128.size inb_S256x1024_S256x128_0_384)) (keyTile (iblk m c 1 t) 3) (valTile (iblk m c 2 t) 1) (t.val % 16))⟩,
      ⟨Rect.unit ![0, 0] S256x128.size inb_S256x512_S256x128_0_0, both (head (View.ld (iblk m c 0 t) (Rect.unit ![0, 0] S256x128.size inb_S256x1024_S256x128_0_0)) (keyTile (iblk m c 1 t) 0) (valTile (iblk m c 2 t) 0) (t.val % 16))
        (head (View.ld (iblk m c 0 t) (Rect.unit ![0, 128] S256x128.size inb_S256x1024_S256x128_0_128)) (keyTile (iblk m c 1 t) 1) (valTile (iblk m c 2 t) 0) (t.val % 16))⟩] : List (View.Piece (Elt Ideal) S256x512 .bf16)) := by
  obtain ⟨k0, k1, k2, k3, k4, k5, k6, k7, v0, v1, v2, v3⟩ := offD t
  unfold outsAt0
  frame_open
  simp only [View.read_writes_junk_eq_canon]
  simp only [↓loop_1, ↓loop_2, ↓loop_3, ↓loop_4, ↓loop_5, ↓loop_6, ↓loop_7, ↓loop_8, ↓loop_9, ↓loop_10, ↓loop_11, ↓loop_12, ↓loop_13, ↓loop_14, ↓loop_15, ↓loop_16]
  simp only [View.readAt_eq_ld, Memref.IsWhole.read_unread]
  rw [pair_0, pair_1, pair_2, pair_3]
  simp only [ld_keys _ _ _ 0 (t.val % 16) k0, ld_keys _ _ _ 1 (t.val % 16) k1, ld_keys _ _ _ 2 (t.val % 16) k2, ld_keys _ _ _ 3 (t.val % 16) k3, ld_keys _ _ _ 4 (t.val % 16) k4, ld_keys _ _ _ 5 (t.val % 16) k5, ld_keys _ _ _ 6 (t.val % 16) k6, ld_keys _ _ _ 7 (t.val % 16) k7, ld_vals _ _ _ 0 (t.val % 16) v0, ld_vals _ _ _ 1 (t.val % 16) v1, ld_vals _ _ _ 2 (t.val % 16) v2, ld_vals _ _ _ 3 (t.val % 16) v3]
  rfl

/-- A lane of a pair's output is of the head it lies in. -/
theorem both_at (A B : FVec Ideal S256x128 .f32) (a : Fin 256) (l : Fin 128) : both A B (ix2 a l) = if l.val < 64 then A (ix2 a l) else B (ix2 a l) := by
  have h : (k0_pay2 : IVec S256x128 1) (ix2 a l) = if l.val < 64 then 1#1 else 0#1 := by
    unfold k0_pay2
    pointwise
    revert l
    decide +kernel
  have e : both A B (ix2 a l) = Scalar.select (k0_pay2 (ix2 a l)) (A (ix2 a l)) (B (ix2 a l)) := rfl
  rw [e, h]
  split <;> rfl

/-- The call's output: every position's softmax average over the keys of the chunks up to its own. -/
abbrev out (c : Dev nD) : Buf (Elt Ideal) ((c : Thread nD τ).loc main_v0) := fun i =>
  Cert.Causal.seen (m ((c : Thread nD τ).loc main_arg0)) (m ((c : Thread nD τ).loc main_arg1)) (m ((c : Thread nD τ).loc main_arg2)) ⟨(i 0).val / 4096, by have := (i 0).isLt; change (i 0).val < 16384 at this; omega⟩
    ⟨(i 1).val / 64, by have := (i 1).isLt; change (i 1).val < 512 at this; omega⟩ ⟨(i 0).val % 4096, by omega⟩ ⟨(i 1).val % 64, by omega⟩

/-- Two places of the attention's output with the same numbers. -/
theorem seen_at (q k : (⟨2, ![16384, 1024]⟩ : Shape).Idx → EReal) (v : (⟨2, ![16384, 512]⟩ : Shape).Idx → EReal) {b b' : Fin 4} {h h' : Fin 8} {p p' : Fin 4096} {d d' : Fin 64}
    (hb : b.val = b'.val) (hh : h.val = h'.val) (hp : p.val = p'.val) (hd : d.val = d'.val) : Cert.Causal.seen q k v b h p d = Cert.Causal.seen q k v b' h' p' d' := by
  rw [Fin.ext hb, Fin.ext hh, Fin.ext hp, Fin.ext hd]

/-- A block of the call's output is what the body leaves. -/
theorem block (c : Dev nD) (hfin : Finite (m ((c : Thread nD τ).loc main_arg0)) (m ((c : Thread nD τ).loc main_arg1))) (t : Fin cfg0.N) (ht : t.val < 64) (a : Fin 256) (d : Fin 512) :
    outsAt0 m c t (ix2 a d) = out m c (ix2 ⟨256 * t.val + a.val, by omega⟩ d) := by
  rw [tiles m c t]
  generalize hi : (ix2 a d : S256x512.Idx) = i
  canon_tiles x h
  · obtain ⟨a', l, rfl⟩ : ∃ (a : Fin 256) (l : Fin 128), x = ix2 a l := ⟨x 0, x 1, eq_ix2 x⟩
    subst hi
    have h0' : a.val = a'.val := h0
    have h1' : d.val = 384 + l.val := h1
    refine (both_at _ _ a' l).trans ?_
    split
    · refine (head_seen hfin ⟨t.val / 16, by omega⟩ 6 ⟨t.val % 16, by omega⟩ 3 rfl _ _ _ (queries_6 m c t ht) (fun p l => readK m c t p l ht) (fun p l => readV m c t p l ht) a' l
        ⟨l.val, by omega⟩ (show l.val = 64 * 0 + (l.val) by omega)).trans ?_
      refine seen_at _ _ _ ?_ ?_ ?_ ?_
      · show t.val / 16 = (256 * t.val + a.val) / 4096; omega
      · show 6 = d.val / 64; omega
      · show 256 * (t.val % 16) + a'.val = (256 * t.val + a.val) % 4096; omega
      · show l.val = d.val % 64; omega
    · refine (head_seen hfin ⟨t.val / 16, by omega⟩ 7 ⟨t.val % 16, by omega⟩ 3 rfl _ _ _ (queries_7 m c t ht) (fun p l => readK m c t p l ht) (fun p l => readV m c t p l ht) a' l
        ⟨l.val - 64, by omega⟩ (show l.val = 64 * 1 + (l.val - 64) by omega)).trans ?_
      refine seen_at _ _ _ ?_ ?_ ?_ ?_
      · show t.val / 16 = (256 * t.val + a.val) / 4096; omega
      · show 7 = d.val / 64; omega
      · show 256 * (t.val % 16) + a'.val = (256 * t.val + a.val) % 4096; omega
      · show l.val - 64 = d.val % 64; omega
  · obtain ⟨a', l, rfl⟩ : ∃ (a : Fin 256) (l : Fin 128), x = ix2 a l := ⟨x 0, x 1, eq_ix2 x⟩
    subst hi
    have h0' : a.val = a'.val := h0
    have h1' : d.val = 256 + l.val := h1
    refine (both_at _ _ a' l).trans ?_
    split
    · refine (head_seen hfin ⟨t.val / 16, by omega⟩ 4 ⟨t.val % 16, by omega⟩ 2 rfl _ _ _ (queries_4 m c t ht) (fun p l => readK m c t p l ht) (fun p l => readV m c t p l ht) a' l
        ⟨l.val, by omega⟩ (show l.val = 64 * 0 + (l.val) by omega)).trans ?_
      refine seen_at _ _ _ ?_ ?_ ?_ ?_
      · show t.val / 16 = (256 * t.val + a.val) / 4096; omega
      · show 4 = d.val / 64; omega
      · show 256 * (t.val % 16) + a'.val = (256 * t.val + a.val) % 4096; omega
      · show l.val = d.val % 64; omega
    · refine (head_seen hfin ⟨t.val / 16, by omega⟩ 5 ⟨t.val % 16, by omega⟩ 2 rfl _ _ _ (queries_5 m c t ht) (fun p l => readK m c t p l ht) (fun p l => readV m c t p l ht) a' l
        ⟨l.val - 64, by omega⟩ (show l.val = 64 * 1 + (l.val - 64) by omega)).trans ?_
      refine seen_at _ _ _ ?_ ?_ ?_ ?_
      · show t.val / 16 = (256 * t.val + a.val) / 4096; omega
      · show 5 = d.val / 64; omega
      · show 256 * (t.val % 16) + a'.val = (256 * t.val + a.val) % 4096; omega
      · show l.val - 64 = d.val % 64; omega
  · obtain ⟨a', l, rfl⟩ : ∃ (a : Fin 256) (l : Fin 128), x = ix2 a l := ⟨x 0, x 1, eq_ix2 x⟩
    subst hi
    have h0' : a.val = a'.val := h0
    have h1' : d.val = 128 + l.val := h1
    refine (both_at _ _ a' l).trans ?_
    split
    · refine (head_seen hfin ⟨t.val / 16, by omega⟩ 2 ⟨t.val % 16, by omega⟩ 1 rfl _ _ _ (queries_2 m c t ht) (fun p l => readK m c t p l ht) (fun p l => readV m c t p l ht) a' l
        ⟨l.val, by omega⟩ (show l.val = 64 * 0 + (l.val) by omega)).trans ?_
      refine seen_at _ _ _ ?_ ?_ ?_ ?_
      · show t.val / 16 = (256 * t.val + a.val) / 4096; omega
      · show 2 = d.val / 64; omega
      · show 256 * (t.val % 16) + a'.val = (256 * t.val + a.val) % 4096; omega
      · show l.val = d.val % 64; omega
    · refine (head_seen hfin ⟨t.val / 16, by omega⟩ 3 ⟨t.val % 16, by omega⟩ 1 rfl _ _ _ (queries_3 m c t ht) (fun p l => readK m c t p l ht) (fun p l => readV m c t p l ht) a' l
        ⟨l.val - 64, by omega⟩ (show l.val = 64 * 1 + (l.val - 64) by omega)).trans ?_
      refine seen_at _ _ _ ?_ ?_ ?_ ?_
      · show t.val / 16 = (256 * t.val + a.val) / 4096; omega
      · show 3 = d.val / 64; omega
      · show 256 * (t.val % 16) + a'.val = (256 * t.val + a.val) % 4096; omega
      · show l.val - 64 = d.val % 64; omega
  · obtain ⟨a', l, rfl⟩ : ∃ (a : Fin 256) (l : Fin 128), x = ix2 a l := ⟨x 0, x 1, eq_ix2 x⟩
    subst hi
    have h0' : a.val = a'.val := h0
    have h1' : d.val = l.val := h1
    refine (both_at _ _ a' l).trans ?_
    split
    · refine (head_seen hfin ⟨t.val / 16, by omega⟩ 0 ⟨t.val % 16, by omega⟩ 0 rfl _ _ _ (queries_0 m c t ht) (fun p l => readK m c t p l ht) (fun p l => readV m c t p l ht) a' l
        ⟨l.val, by omega⟩ (show l.val = 64 * 0 + (l.val) by omega)).trans ?_
      refine seen_at _ _ _ ?_ ?_ ?_ ?_
      · show t.val / 16 = (256 * t.val + a.val) / 4096; omega
      · show 0 = d.val / 64; omega
      · show 256 * (t.val % 16) + a'.val = (256 * t.val + a.val) % 4096; omega
      · show l.val = d.val % 64; omega
    · refine (head_seen hfin ⟨t.val / 16, by omega⟩ 1 ⟨t.val % 16, by omega⟩ 0 rfl _ _ _ (queries_1 m c t ht) (fun p l => readK m c t p l ht) (fun p l => readV m c t p l ht) a' l
        ⟨l.val - 64, by omega⟩ (show l.val = 64 * 1 + (l.val - 64) by omega)).trans ?_
      refine seen_at _ _ _ ?_ ?_ ?_ ?_
      · show t.val / 16 = (256 * t.val + a.val) / 4096; omega
      · show 1 = d.val / 64; omega
      · show 256 * (t.val % 16) + a'.val = (256 * t.val + a.val) % 4096; omega
      · show l.val - 64 = d.val % 64; omega

/-- The call leaves every position's softmax average over the keys of the chunks up to its own. -/
theorem final (c : Dev nD) (hfin : Finite (m ((c : Thread nD τ).loc main_arg0)) (m ((c : Thread nD τ).loc main_arg1))) :
    (dats m 0 c).arrAt 3 (cfgs 0).N = out m c := by
  refine (dats m 0 c).arrAt_eq_of_covers 3 _ (by decide +kernel) fun t hf y => ?_
  have e := (placesQ t).2
  obtain ⟨a, d, rfl⟩ : ∃ (a : Fin 256) (d : Fin 512), y = ix2 a d := ⟨y 0, y 1, eq_ix2 y⟩
  rw [after0_3]
  refine Eq.trans ?_ ((block m c hfin t t.isLt a d).trans (congrArg (out m c) ?_))
  · rfl
  · blk_ext [e]

/-- The precondition says that the queries and the keys are numbers. -/
theorem finite (h : Cert.Pre_MlaIdeal_finite_latent (hPre_finite_latent := Cert.Pre_finite_latent.Gen.facts) m) (c : Dev nD) :
    Finite (m ((c : Thread nD τ).loc main_arg0)) (m ((c : Thread nD τ).loc main_arg1)) := by
  have e := congrFun (h c) ix0
  dsimp only [Cert.Pre_finite_latent.fn] at e
  obtain ⟨e0, e1⟩ := Cert.Numbers.both _ _ e
  constructor
  · intro r j
    exact Cert.Numbers.number _ _ _ _ (Host.reduce_andi_all _ _ _ _ _ e0 (ix2 r j))
  · intro r j
    exact Cert.Numbers.number _ _ _ _ (Host.reduce_andi_all _ _ _ _ _ e1 (ix2 r j))

end Cert.MlaIdeal.Whole

namespace Cert.Proof.MlaClaims

/-- The kernel's frame at the bit instance. -/
theorem frame_p : Cert.quiescent_Mla (hMla := Cert.Mla.Gen.facts) := fun m ρ _ => Cert.Mla.Gen.frame m ρ
/-- The kernel's frame at the ideal instance. -/
theorem frame_pi : Cert.quiescent_MlaIdeal (hMlaIdeal := Cert.MlaIdeal.Gen.facts) := fun m ρ _ => Cert.MlaIdeal.Gen.frame m ρ
/-- The kernel's frame at the ideal instance, where the arguments are numbers. -/
theorem frame_pi_pre : Cert.quiescent_MlaIdeal_pre_finite_latent (hMlaIdeal := Cert.MlaIdeal.Gen.facts) (hPre_finite_latent := Cert.Pre_finite_latent.Gen.facts) :=
  fun m ρ _ => Cert.MlaIdeal.Gen.frame m ρ
/-- The reference keeps its arguments and has no semaphore. -/
theorem frame_ri : Cert.quiescent_MlaRefIdeal (hMlaRefIdeal := Cert.MlaRefIdeal.Gen.facts) := fun m ρ _ =>
  (θ_run Cert.MlaRefIdeal.defs _ _).mono (fun r h => ⟨fun c => (h c).2,
      Idealize.ShloMosaic.sem_eq_zero_of_no_sems (by decide) r.2⟩)
    (Cert.MlaRefIdeal.Value.run (F := Ideal) m ρ)
/-- The reference keeps its arguments and has no semaphore, where the arguments are numbers. -/
theorem frame_ri_pre : Cert.quiescent_MlaRefIdeal_pre_finite_latent (hMlaRefIdeal := Cert.MlaRefIdeal.Gen.facts) (hPre_finite_latent := Cert.Pre_finite_latent.Gen.facts) :=
  fun m ρ _ => frame_ri m ρ trivial
/-- The name for the masked score stands for minus infinity. -/
theorem preserves : Cert.preserves_Mla_MlaIdeal :=
  IdealRules.named_const.statement Cert.MlaIdeal.κ "masked" .f32 0xF149F2CA#32 (⊥ : EReal) rfl

/-- The kernel's running form over the tiles computes the attention over all keys that the reference defines. -/
theorem algebraic : Cert.algebraic_MlaIdeal_MlaRefIdeal_pre_finite_latent (hMlaIdeal := Cert.MlaIdeal.Gen.facts) (hMlaRefIdeal := Cert.MlaRefIdeal.Gen.facts) (hPre_finite_latent := Cert.Pre_finite_latent.Gen.facts) := by
  intro m ρ m' ρ' hpre hagree
  refine ⟨fun c => Cert.MlaIdeal.Whole.out m c, ?_, ?_⟩
  · exact (θ_run Cert.MlaIdeal.defs _ _).mono
      (fun _ h c => ⟨(h c).1.trans (Cert.MlaIdeal.Whole.final m c (Cert.MlaIdeal.Whole.finite m hpre c)), (h c).2⟩)
      (Cert.MlaIdeal.Value.run_blocks (F := Ideal) m ρ)
  · refine (θ_run Cert.MlaRefIdeal.defs _ _).mono (fun _ h c => ⟨(h c).1.trans ?_, (h c).2⟩)
      (Cert.MlaRefIdeal.Value.run (F := Ideal) m' ρ')
    obtain ⟨h0, h1, h2⟩ := hagree c
    funext j
    idx_vars j
    refine (Cert.MlaRefIdeal.Whole.ref_out m' c j0 j1).trans ?_
    rw [h0, h1, h2]
    rfl

end Cert.Proof.MlaClaims

end
-- ==== Proof.MoeValue.lean ====
module

public import proofs.«01_k».proof.Defs
public import proofs.«01_k».proof.Proof.Gen.Moe.Frame
public import proofs.«01_k».proof.Proof.Gen.MoeIdeal.Value
public import proofs.«01_k».proof.Proof.Gen.MoeRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Experts

/-- Entry `f` of expert `e`'s projection of row `r`: the sum over the 1024 features. -/
def hidden (h : (⟨2, ![16384, 1024]⟩ : Shape).Idx → EReal) (w : (⟨3, ![16, 1024, 512]⟩ : Shape).Idx → EReal)
    (e : Fin 16) (r : Fin 16384) (f : Fin 512) : EReal :=
  ∑ k : Fin 1024, h (ix2 r k) * w (ix3 e k f)

/-- The gated unit: the first projection times its logistic function times the second projection. -/
def gated (a b : EReal) : EReal := a * Ideal.logistic a * b

/-- What expert `e` adds to row `r` at feature `d`: its weight times its gated network's output. -/
def share (h : (⟨2, ![16384, 1024]⟩ : Shape).Idx → EReal) (ct : (⟨2, ![16, 16384]⟩ : Shape).Idx → EReal)
    (wg wu : (⟨3, ![16, 1024, 512]⟩ : Shape).Idx → EReal) (wd : (⟨3, ![16, 512, 1024]⟩ : Shape).Idx → EReal)
    (e : Fin 16) (r : Fin 16384) (d : Fin 1024) : EReal :=
  ct (ix2 e r) * ∑ f : Fin 512, gated (hidden h wg e r f) (hidden h wu e r f) * wd (ix3 e f d)

/-- The layer's new rows: the old row plus the gate times the sum of the sixteen experts' shares. -/
def rows (h : (⟨2, ![16384, 1024]⟩ : Shape).Idx → EReal) (ct : (⟨2, ![16, 16384]⟩ : Shape).Idx → EReal)
    (x : (⟨2, ![16384, 1024]⟩ : Shape).Idx → EReal) (gt : (⟨3, ![4, 1, 1024]⟩ : Shape).Idx → EReal)
    (wg wu : (⟨3, ![16, 1024, 512]⟩ : Shape).Idx → EReal) (wd : (⟨3, ![16, 512, 1024]⟩ : Shape).Idx → EReal)
    (j : (⟨2, ![16384, 1024]⟩ : Shape).Idx) : EReal :=
  x j + gt (ix3 ⟨(j 0).val / 4096, by have : (j 0).val < 16384 := (j 0).isLt; omega⟩ 0 (j 1))
    * ∑ e : Fin 16, share h ct wg wu wd e (j 0) (j 1)

end Cert.Experts

namespace Cert.MoeIdeal.Whole

open Cert.MoeIdeal Cert.MoeIdeal.Gen

variable (m : (ℓ : Loc nD τ sig) → Buf (Elt Ideal) ℓ) (ρ : Dev nD → PrngReg)

/-- The new rows of the run's arguments. -/
abbrev out (c : Dev nD) : Buf (Elt Ideal) ((c : Thread nD τ).loc main_v4) :=
  Cert.Experts.rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- What point `t` adds to the carried block: expert `t % 16`'s share of the block of rows `t / 16`. -/
def term (c : Dev nD) (t : Fin cfg0.N) (j : S1024x1024.Idx) : EReal :=
  Cert.Experts.share (m ((c : Thread nD τ).loc main_arg0)) (m ((c : Thread nD τ).loc main_arg1))
    (m ((c : Thread nD τ).loc main_arg4)) (m ((c : Thread nD τ).loc main_arg5)) (m ((c : Thread nD τ).loc main_arg6))
    ⟨t.val % 16, Nat.mod_lt _ (by decide)⟩
    ⟨t.val / 16 * 1024 + (j 0).val, by
      have h0 : (j 0).val < 1024 := (j 0).isLt
      have h1 : t.val < 256 := lt_of_lt_of_eq t.isLt N_0
      omega⟩ (j 1)

/-- Where the blocks of rows sit. -/
theorem places_rows : ∀ t : Fin cfg0.N, win0_0.index t = ![t.val / 16, 0] ∧ win0_5.index t = ![t.val / 16, 0] ∧ win0_7.index t = ![t.val / 16, 0] :=
  (by decide +kernel : ∀ t : Fin grid0.N, win0_0.index t = ![t.val / 16, 0] ∧ win0_5.index t = ![t.val / 16, 0] ∧ win0_7.index t = ![t.val / 16, 0])
/-- Where the blocks of expert weights sit. -/
theorem places_experts : ∀ t : Fin cfg0.N, win0_1.index t = ![t.val % 16, 0, 0] ∧ win0_2.index t = ![t.val % 16, 0, 0] ∧ win0_3.index t = ![t.val % 16, 0, 0] :=
  (by decide +kernel : ∀ t : Fin grid0.N, win0_1.index t = ![t.val % 16, 0, 0] ∧ win0_2.index t = ![t.val % 16, 0, 0] ∧ win0_3.index t = ![t.val % 16, 0, 0])
/-- Where the blocks of combination weights and of gates sit. -/
theorem places_scales : ∀ t : Fin cfg0.N, win0_4.index t = ![t.val % 16, t.val / 16, 0] ∧ win0_6.index t = ![t.val / 64, 0, 0] :=
  (by decide +kernel : ∀ t : Fin grid0.N, win0_4.index t = ![t.val % 16, t.val / 16, 0] ∧ win0_6.index t = ![t.val / 64, 0, 0])

/-- The grid has 256 points. -/
theorem point_lt (t : Fin cfg0.N) : t.val < 256 := lt_of_lt_of_eq t.isLt N_0

/-- Row `a` of point `t`'s block of rows, in the whole array. -/
abbrev row (t : Fin cfg0.N) (a : Fin 1024) : Fin 16384 := ⟨t.val / 16 * 1024 + a.val, by have := point_lt t; omega⟩
/-- The expert of point `t`. -/
abbrev expert (t : Fin cfg0.N) : Fin 16 := ⟨t.val % 16, Nat.mod_lt _ (by decide)⟩

/-- The block of hidden rows is those rows of the argument. -/
theorem read0 (c : Dev nD) (t : Fin cfg0.N) (a : Fin 1024) (k : Fin 1024) :
    iblk m c 0 t (ix2 a k) = m ((c : Thread nD τ).loc main_arg0) (ix2 (row t a) k) := by
  have e := (places_rows t).1
  blk_ext [iblk, V, e]
/-- The block of first weights is the expert's slice of the argument. -/
theorem read1 (c : Dev nD) (t : Fin cfg0.N) (k : Fin 1024) (f : Fin 512) :
    iblk m c 1 t (ix3 0 k f) = m ((c : Thread nD τ).loc main_arg4) (ix3 (expert t) k f) := by
  have e := (places_experts t).1
  blk_ext [iblk, V, e]
/-- The block of second weights is the expert's slice of the argument. -/
theorem read2 (c : Dev nD) (t : Fin cfg0.N) (k : Fin 1024) (f : Fin 512) :
    iblk m c 2 t (ix3 0 k f) = m ((c : Thread nD τ).loc main_arg5) (ix3 (expert t) k f) := by
  have e := (places_experts t).2.1
  blk_ext [iblk, V, e]
/-- The block of output weights is the expert's slice of the argument. -/
theorem read3 (c : Dev nD) (t : Fin cfg0.N) (f : Fin 512) (d : Fin 1024) :
    iblk m c 3 t (ix3 0 f d) = m ((c : Thread nD τ).loc main_arg6) (ix3 (expert t) f d) := by
  have e := (places_experts t).2.2
  blk_ext [iblk, V, e]
/-- The block of combination weights is the expert's weights of the block's rows. -/
theorem read4 (c : Dev nD) (t : Fin cfg0.N) (a : Fin 1024) :
    iblk m c 4 t (ix3 0 a 0) = m ((c : Thread nD τ).loc main_arg1) (ix2 (expert t) (row t a)) := by
  have e := (places_scales t).1
  blk_simp [iblk]
  entry_read
  pointwise
  blk_ext [e]
/-- The block of old rows is those rows of the argument. -/
theorem read5 (c : Dev nD) (t : Fin cfg0.N) (a : Fin 1024) (k : Fin 1024) :
    iblk m c 5 t (ix2 a k) = m ((c : Thread nD τ).loc main_arg2) (ix2 (row t a) k) := by
  have e := (places_rows t).2.1
  blk_ext [iblk, V, e]
/-- The block of gates is the batch entry's gates. -/
theorem read6 (c : Dev nD) (t : Fin cfg0.N) (d : Fin 1024) :
    iblk m c 6 t (ix3 0 0 d) = m ((c : Thread nD τ).loc main_arg3) (ix3 ⟨t.val / 64, by have := point_lt t; omega⟩ 0 d) := by
  have e := (places_scales t).2
  blk_ext [iblk, V, e]

/-- One point's update of a block `acc`: the old entry plus the point's share. -/
theorem step (c : Dev nD) (t : Fin cfg0.N) (acc : FVec Ideal S1024x1024 .f32) (j : S1024x1024.Idx) :
    k0_pay2 (F := Ideal) (iblk m c 0 t) (iblk m c 1 t) (iblk m c 2 t) acc (iblk m c 4 t) (iblk m c 3 t) j = acc j + term m c t j := by
  idx_vars j
  unfold term Cert.Experts.share Cert.Experts.gated Cert.Experts.hidden
  pointwise [k0_pay2]
  simp only [read0, read1, read2, read3, read4]

/-- The carried block after point `t`, at the last of a block's sixteen points: the sum of the sixteen shares. -/
theorem carried (c : Dev nD) (t : Fin cfg0.N) (h : t.val % 16 = 15) (j : S1024x1024.Idx) :
    (outsAt0 m c t.val t.isLt).2 j = 0 + ∑ s : Fin 16, term m c ⟨16 * (t.val / 16) + s.val, Pipeline.run_point_lt_of_flush t h s⟩ j := by
  refine Pipeline.eq_sum_fin_of_reset_step_apply_of_flush (fun n h => (outsAt0 m c n h).2) 16 (fun _ => (0 : EReal)) (term m c) ?_ ?_ t h j
  · intro t h0 j
    show (outsAt0 m c t.val t.isLt).2 j = _
    rw [outsAt0_A m c t h0 (by omega)]
    frame_out
    rw [step]
    congr 1
    pointwise! [k0_pay1]
  · intro t h0 j
    show (outsAt0 m c t.val t.isLt).2 j = (outsAt0 m c (t.val - 1) _).2 j + _
    by_cases h1 : t.val % 16 = 15
    · rw [outsAt0_C m c t h0 h1]
      frame_out
      simp only [read_unread_whole]
      exact step m c t _ j
    · rw [outsAt0_B m c t h0 h1]
      frame_out
      simp only [read_unread_whole]
      exact step m c t _ j

/-- At the last of a block's points the body writes the old rows plus the gates times the carried block. -/
theorem written (c : Dev nD) (t : Fin cfg0.N) (h : t.val % 16 = 15) (j : S1024x1024.Idx) :
    (outsAt0 m c t.val t.isLt).1 j = k0_pay3 (F := Ideal) (iblk m c 5 t) (iblk m c 6 t) (outsAt0 m c t.val t.isLt).2 j := by
  rw [outsAt0_C m c t (by omega) h]
  frame_out

/-- The block point `t` writes back, entry by entry: the layer's new rows at the block's place. -/
theorem block (c : Dev nD) (t : Fin cfg0.N) (h : t.val % 16 = 15) (a d : Fin 1024) :
    (outsAt0 m c t.val t.isLt).1 (ix2 a d) = out m c (ix2 (row t a) d) := by
  have ht := point_lt t
  rw [written m c t h]
  have hc := carried m c t h (ix2 a d)
  generalize (outsAt0 m c t.val t.isLt).2 = acc at hc ⊢
  unfold out Cert.Experts.rows
  pointwise [k0_pay3]
  rw [hc, zero_add, read5, read6]
  refine congrArg₂ (· + ·) rfl (congrArg₂ (· * ·) ?_ (Finset.sum_congr rfl fun s _ => ?_))
  · blk_ext []
  · unfold term
    have hs := s.isLt
    congr 1
    all_goals (apply Fin.ext; pointwise; omega)

/-- The result array after the run is the layer's new rows. -/
theorem final (c : Dev nD) : (dats m 0 c).arrAt 7 (cfgs 0).N = out m c := by
  refine (dats m 0 c).arrAt_eq_of_covers 7 _ (by decide +kernel) fun t hf y => ?_
  have e := (places_rows t).2.2
  obtain ⟨a, d, rfl⟩ : ∃ (a d : Fin 1024), y = ix2 a d := ⟨y 0, y 1, eq_ix2 y⟩
  rw [after0_7]
  refine Eq.trans ?_ ((block m c t ((flush0_7 t).mp hf) a d).trans (congrArg (out m c) ?_))
  · rfl
  · blk_ext [e]

end Cert.MoeIdeal.Whole

namespace Cert.Proof.MoeClaims

/-- The kernel's frame at the bit instance. -/
theorem frame_p : Cert.quiescent_Moe (hMoe := Cert.Moe.Gen.facts) := fun m ρ _ => Cert.Moe.Gen.frame m ρ
/-- The kernel's frame at the ideal instance. -/
theorem frame_pi : Cert.quiescent_MoeIdeal (hMoeIdeal := Cert.MoeIdeal.Gen.facts) := fun m ρ _ => Cert.MoeIdeal.Gen.frame m ρ
/-- The reference keeps its arguments and has no semaphore. -/
theorem frame_ri : Cert.quiescent_MoeRefIdeal (hMoeRefIdeal := Cert.MoeRefIdeal.Gen.facts) := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

open Cert.MoeRefIdeal in
/-- The reference's first products, read at an entry. -/
theorem ref_hidden (w : FVec Ideal S16x1024x512 .f32) (h : FVec Ideal S16384x1024 .f32) (e : Fin 16) (f : Fin 512) (r : Fin 16384) :
    Host.dotGeneral dot_S16x1024x512_S16384x1024_S16x512x16384_1_1_02_0_n_n none w h (ix3 e f r) = Cert.Experts.hidden h w e r f := by
  unfold Cert.Experts.hidden
  pointwise
  exact Finset.sum_congr rfl fun k _ => mul_comm _ _

open Cert.MoeRefIdeal in
/-- The reference's last product, read at an entry. -/
theorem ref_down (L : FVec Ideal S16x16384x512 .f32) (w : FVec Ideal S16x512x1024 .f32) (e : Fin 16) (r : Fin 16384) (d : Fin 1024) :
    Host.dotGeneral dot_S16x16384x512_S16x512x1024_S16x16384x1024_2_1_1_2_0_0 none L w (ix3 e r d) = ∑ f : Fin 512, L (ix3 e r f) * w (ix3 e f d) := by
  pointwise

open Cert.MoeRefIdeal Cert.MoeRefIdeal.Gen in
/-- The reference's sum over the experts, gated and added to the old rows, read at an entry. -/
theorem ref_rows (x : FVec Ideal S16384x1024 .f32) (gt : FVec Ideal S4x1x1024 .f32) (Y : FVec Ideal S16x16384x1024 .f32) (r : Fin 16384) (d : Fin 1024) :
    shapeCast S16384x1024 (addf (shapeCast S4x4096x1024 x shapeCasts_S16384x1024_S4x4096x1024)
      (mulf (broadcastInDim S4x4096x1024 ![0, 1, 2] bcast_S4x1x1024_S4x4096x1024_0_1_2 gt)
        (shapeCast S4x4096x1024 (Host.reduceAdd Y (constant S_ .f32 0x00000000#32) reducesTo_S16x16384x1024_S16384x1024_d0 h_S_) shapeCasts_S16384x1024_S4x4096x1024)))
      shapeCasts_S4x4096x1024_S16384x1024 (ix2 r d)
      = x (ix2 r d) + gt (ix3 ⟨r.val / 4096, by omega⟩ 0 d) * ∑ e : Fin 16, Y (ix3 e r d) := by
  pointwise

open Cert.MoeRefIdeal Cert.MoeRefIdeal.Gen in
/-- The reference's weighting of an expert's rows, read at an entry. -/
theorem ref_weighted (ct : FVec Ideal S16x16384 .f32) (Z : FVec Ideal S16x16384x1024 .f32) (e : Fin 16) (r : Fin 16384) (d : Fin 1024) :
    mulf (broadcastInDim S16x16384x1024 ![0, 1, 2] bcast_S16x16384x1_S16x16384x1024_0_1_2 (broadcastInDim S16x16384x1 ![0, 1] bcast_S16x16384_S16x16384x1_0_1 ct)) Z (ix3 e r d)
      = ct (ix2 e r) * Z (ix3 e r d) := by
  pointwise

open Cert.MoeRefIdeal Cert.MoeRefIdeal.Gen in
/-- The reference's gated unit, read at an entry. -/
theorem ref_gated (A B : FVec Ideal S16x512x16384 .f32) (e : Fin 16) (r : Fin 16384) (f : Fin 512) :
    mulf (mulf (transpose S16x16384x512 [0, 2, 1] A transposes_S16x512x16384_S16x16384x512_0_2_1)
        (Host.divf (broadcastInDim S16x16384x512 ![] bcast_S_S16x16384x512 (constant S_ .f32 0x3F800000#32))
          (addf (broadcastInDim S16x16384x512 ![] bcast_S_S16x16384x512 (constant S_ .f32 0x3F800000#32))
            (Host.exp (Host.negf (transpose S16x16384x512 [0, 2, 1] A transposes_S16x512x16384_S16x16384x512_0_2_1))))))
      (transpose S16x16384x512 [0, 2, 1] B transposes_S16x512x16384_S16x16384x512_0_2_1) (ix3 e r f)
      = Cert.Experts.gated (A (ix3 e f r)) (B (ix3 e f r)) := by
  unfold Cert.Experts.gated
  pointwise
  rfl

/-- The kernel's sweep over the experts computes the rows the reference defines. -/
theorem algebraic : Cert.algebraic_MoeIdeal_MoeRefIdeal (hMoeIdeal := Cert.MoeIdeal.Gen.facts) (hMoeRefIdeal := Cert.MoeRefIdeal.Gen.facts) := by
  intro m ρ m' ρ' _ hagree
  refine ⟨fun c => Cert.MoeIdeal.Whole.out m c, ?_, ?_⟩
  · exact (θ_run Cert.MoeIdeal.defs _ _).mono
      (fun _ h c => ⟨(h c).1.trans ((Cert.MoeIdeal.Value.final7 m c).symm.trans (Cert.MoeIdeal.Whole.final m c)), (h c).2⟩)
      (Cert.MoeIdeal.Value.run (F := Ideal) m ρ)
  · refine (θ_run Cert.MoeRefIdeal.defs _ _).mono (fun _ h c => ⟨(h c).1.trans ?_, (h c).2⟩)
      (Cert.MoeRefIdeal.Value.run (F := Ideal) m' ρ')
    obtain ⟨h0, h1, h2, h3, h4, h5, h6⟩ := hagree c
    rw [h0, h1, h2, h3, h4, h5, h6]
    funext j
    idx_vars j
    refine (ref_rows _ _ _ j0 j1).trans ?_
    refine congrArg₂ (· + ·) rfl (congrArg₂ (· * ·) rfl (Finset.sum_congr rfl fun e _ => ?_))
    refine (ref_weighted _ _ e j0 j1).trans ?_
    refine congrArg₂ (· * ·) rfl ?_
    refine (ref_down _ _ e j0 j1).trans (Finset.sum_congr rfl fun f _ => ?_)
    refine congrArg₂ (· * ·) ?_ rfl
    refine (ref_gated _ _ e j0 f).trans ?_
    rw [ref_hidden, ref_hidden]
    rfl

/-- No constant is named and nothing is rewritten. -/
theorem preserves : Cert.preserves_Moe_MoeIdeal := trivial

end Cert.Proof.MoeClaims
-- ==== Proof.NormValue.lean ====
module

public import proofs.«01_k».proof.Defs
public import proofs.«01_k».proof.Proof.Gen.FinalNormIdeal.Value
public import proofs.«01_k».proof.Proof.Gen.FinalNormRefIdeal.Run
public import proofs.«01_k».proof.Proof.Gen.FinalNorm.Frame
public import proofs.«01_k».proof.Proof.Gen.NormModIdeal.Value
public import proofs.«01_k».proof.Proof.Gen.NormModRefIdeal.Run
public import proofs.«01_k».proof.Proof.Gen.NormMod.Frame
public import Idealize.ShloMosaic.Lib.Quiescent
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-- A row's reciprocal root mean square. -/
def Cert.rmsOf (x : (⟨2, ![16384, 1024]⟩ : Shape).Idx → EReal) (r : Fin 16384) : EReal :=
  Ideal.rsqrt (Ideal.div (∑ k : Fin 1024, x (ix2 r k) * x (ix2 r k)) (Ideal.ofBits .f32 0x44800000#32) + Ideal.ofBits .f32 0x358637BD#32)

/-- The rows scaled to unit root mean square and by the weights of the columns. -/
def Cert.normed (x : (⟨2, ![16384, 1024]⟩ : Shape).Idx → EReal) (g : (⟨1, ![1024]⟩ : Shape).Idx → EReal) (j : (⟨2, ![16384, 1024]⟩ : Shape).Idx) : EReal :=
  x j * Cert.rmsOf x (j 0) * g (ix1 (j 1))

/-- The scaled rows modulated by their batch's scales and shifts. -/
def Cert.modulated (x : (⟨2, ![16384, 1024]⟩ : Shape).Idx → EReal) (g : (⟨1, ![1024]⟩ : Shape).Idx → EReal) (sc sh : (⟨3, ![4, 1, 1024]⟩ : Shape).Idx → EReal) (j : (⟨2, ![16384, 1024]⟩ : Shape).Idx) : EReal :=
  Cert.normed x g j * (Ideal.ofBits .f32 0x3F800000#32 + sc (ix3 ⟨(j 0).val / 4096, by have := (j 0).isLt; change (j 0).val < 16384 at this; omega⟩ 0 (j 1)))
    + sh (ix3 ⟨(j 0).val / 4096, by have := (j 0).isLt; change (j 0).val < 16384 at this; omega⟩ 0 (j 1))

namespace Cert.FinalNormIdeal.Whole

open Cert.FinalNormIdeal Cert.FinalNormIdeal.Gen

variable (m : (ℓ : Loc nD τ sig) → Buf (Elt Ideal) ℓ)

/-- The call's output. -/
abbrev out (c : Dev nD) : Buf (Elt Ideal) ((c : Thread nD τ).loc main_v1) := Cert.normed (m ((c : Thread nD τ).loc main_arg0)) (m ((c : Thread nD τ).loc main_arg1))

theorem places : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem readX (c : Dev nD) (t : Fin cfg0.N) (ht : t.val < 32) (a : Fin 512) (k : Fin 1024) :
    iblk m c 0 t (ix2 a k) = m ((c : Thread nD τ).loc main_arg0) (ix2 ⟨512 * t.val + a.val, by omega⟩ k) := by
  have e := (places t).1
  blk_ext [iblk, V, e]

theorem readG (c : Dev nD) (t : Fin cfg0.N) (k : Fin 1024) :
    iblk m c 1 t (ix2 0 k) = m ((c : Thread nD τ).loc main_arg1) (ix1 k) := by
  have e := (places t).2.1
  blk_simp [iblk]
  entry_read
  pointwise
  blk_ext [e]

/-- The body's payload, read at an entry. -/
theorem payload (x : Vec Ideal S512x1024 .f32) (g : Vec Ideal S1x1024 .f32) (a : Fin 512) (d : Fin 1024) :
    k0_pay1 x g (ix2 a d) = x (ix2 a d) * Ideal.rsqrt (Ideal.div (∑ k : Fin 1024, x (ix2 a k) * x (ix2 a k)) (Ideal.ofBits .f32 0x44800000#32) + Ideal.ofBits .f32 0x358637BD#32) * g (ix2 0 d) := by
  pointwise [k0_pay1]

/-- A block of the output is the payload of its rows. -/
theorem block (c : Dev nD) (t : Fin cfg0.N) (ht : t.val < 32) (a : Fin 512) (d : Fin 1024) :
    k0_pay1 (iblk m c 0 t) (iblk m c 1 t) (ix2 a d) = out m c (ix2 ⟨512 * t.val + a.val, by omega⟩ d) := by
  refine (payload _ _ a d).trans ?_
  simp only [readX m c t ht, readG m c t]
  rfl

/-- A load of the whole buffer reads it. -/
theorem ld_0 (X : Vec Ideal S512x1024 .f32) : View.ld X r0_0 = X := View.ld_unit_lit _ X (by decide)

/-- A load of the whole buffer reads it. -/
theorem ld_1 (X : Vec Ideal S1x1024 .f32) : View.ld X r0_1 = X := View.ld_unit_lit _ X (by decide)

/-- The call leaves its output. -/
theorem final (c : Dev nD) : (dats m 0 c).arrAt 2 (cfgs 0).N = out m c := by
  refine (dats m 0 c).arrAt_eq_of_covers 2 _ (by decide +kernel) fun t hf y => ?_
  have e := (places t).2.2
  rw [after0_2]
  unfold out0_2
  canon_tiles x h
  obtain ⟨a, d, rfl⟩ : ∃ (a : Fin 512) (d : Fin 1024), x = ix2 a d := ⟨x 0, x 1, eq_ix2 x⟩
  refine Eq.trans ?_ ((block m c t t.isLt a d).trans (congrArg (out m c) ?_))
  · rw [ld_0, ld_1]
  · have h0' : (y 0).val = a.val := h0
    have h1' : (y 1).val = d.val := h1
    blk_ext [e]

end Cert.FinalNormIdeal.Whole

namespace Cert.Proof.FinalNormClaims

/-- The kernel's frame at the bit instance. -/
theorem frame_p : Cert.quiescent_FinalNorm (hFinalNorm := Cert.FinalNorm.Gen.facts) := fun m ρ _ => Cert.FinalNorm.Gen.frame m ρ
/-- The kernel's frame at the ideal instance. -/
theorem frame_pi : Cert.quiescent_FinalNormIdeal (hFinalNormIdeal := Cert.FinalNormIdeal.Gen.facts) := fun m ρ _ => Cert.FinalNormIdeal.Gen.frame m ρ
/-- The reference keeps its arguments and has no semaphore. -/
theorem frame_ri : Cert.quiescent_FinalNormRefIdeal (hFinalNormRefIdeal := Cert.FinalNormRefIdeal.Gen.facts) := fun m ρ _ =>
  (θ_run Cert.FinalNormRefIdeal.defs _ _).mono (fun r h => ⟨fun c => (h c).2,
      Idealize.ShloMosaic.sem_eq_zero_of_no_sems (by decide) r.2⟩)
    (Cert.FinalNormRefIdeal.Value.run (F := Ideal) m ρ)

set_option maxRecDepth 200000 in
/-- The kernel computes the rows that the reference defines. -/
theorem algebraic : Cert.algebraic_FinalNormIdeal_FinalNormRefIdeal (hFinalNormIdeal := Cert.FinalNormIdeal.Gen.facts) (hFinalNormRefIdeal := Cert.FinalNormRefIdeal.Gen.facts) := by
  intro m ρ m' ρ' _ hagree
  refine ⟨fun c => Cert.FinalNormIdeal.Whole.out m c, ?_, ?_⟩
  · exact (θ_run Cert.FinalNormIdeal.defs _ _).mono
      (fun _ h c => ⟨(h c).1.trans (Cert.FinalNormIdeal.Whole.final m c), (h c).2⟩)
      (Cert.FinalNormIdeal.Value.run_blocks (F := Ideal) m ρ)
  · refine (θ_run Cert.FinalNormRefIdeal.defs _ _).mono (fun _ h c => ⟨(h c).1.trans ?_, (h c).2⟩)
      (Cert.FinalNormRefIdeal.Value.run (F := Ideal) m' ρ')
    obtain ⟨h0, h1⟩ := hagree c
    rw [h0, h1]
    funext j
    idx_vars j
    unfold Cert.FinalNormIdeal.Whole.out Cert.normed Cert.rmsOf
    pointwise

/-- No constant is named and nothing is rewritten. -/
theorem preserves : Cert.preserves_FinalNorm_FinalNormIdeal := trivial

end Cert.Proof.FinalNormClaims

namespace Cert.NormModIdeal.Whole

open Cert.NormModIdeal Cert.NormModIdeal.Gen

variable (m : (ℓ : Loc nD τ sig) → Buf (Elt Ideal) ℓ)

/-- The call's output. -/
abbrev out (c : Dev nD) : Buf (Elt Ideal) ((c : Thread nD τ).loc main_v1) := Cert.modulated (m ((c : Thread nD τ).loc main_arg0)) (m ((c : Thread nD τ).loc main_arg1)) (m ((c : Thread nD τ).loc main_arg2)) (m ((c : Thread nD τ).loc main_arg3))

theorem places : ∀ t : Fin cfg0.N, win0_0.index t = ![t.val, 0] ∧ win0_1.index t = ![0, 0] ∧ win0_4.index t = ![t.val, 0] :=
  (by decide +kernel : ∀ t : Fin grid0.N, win0_0.index t = ![t.val, 0] ∧ win0_1.index t = ![0, 0] ∧ win0_4.index t = ![t.val, 0])

theorem readX (c : Dev nD) (t : Fin cfg0.N) (ht : t.val < 32) (a : Fin 512) (k : Fin 1024) :
    iblk m c 0 t (ix2 a k) = m ((c : Thread nD τ).loc main_arg0) (ix2 ⟨512 * t.val + a.val, by omega⟩ k) := by
  have e := (places t).1
  blk_ext [iblk, V, e]

theorem readG (c : Dev nD) (t : Fin cfg0.N) (k : Fin 1024) :
    iblk m c 1 t (ix2 0 k) = m ((c : Thread nD τ).loc main_arg1) (ix1 k) := by
  have e := (places t).2.1
  blk_simp [iblk]
  entry_read
  pointwise
  blk_ext [e]

theorem places_mod : ∀ t : Fin cfg0.N, win0_2.index t = ![t.val / 8, 0, 0] ∧ win0_3.index t = ![t.val / 8, 0, 0] :=
  (by decide +kernel : ∀ t : Fin grid0.N, win0_2.index t = ![t.val / 8, 0, 0] ∧ win0_3.index t = ![t.val / 8, 0, 0])

theorem readS (c : Dev nD) (t : Fin cfg0.N) (ht : t.val < 32) (k : Fin 1024) :
    iblk m c 2 t (ix3 0 0 k) = m ((c : Thread nD τ).loc main_arg2) (ix3 ⟨t.val / 8, by omega⟩ 0 k) := by
  have e := (places_mod t).1
  blk_ext [iblk, V, e]

theorem readT (c : Dev nD) (t : Fin cfg0.N) (ht : t.val < 32) (k : Fin 1024) :
    iblk m c 3 t (ix3 0 0 k) = m ((c : Thread nD τ).loc main_arg3) (ix3 ⟨t.val / 8, by omega⟩ 0 k) := by
  have e := (places_mod t).2
  blk_ext [iblk, V, e]

/-- The body's payload, read at an entry. -/
theorem payload (x : Vec Ideal S512x1024 .f32) (g : Vec Ideal S1x1024 .f32) (sc sh : Vec Ideal S1x1x1024 .f32) (a : Fin 512) (d : Fin 1024) :
    k0_pay1 x g sc sh (ix2 a d) = x (ix2 a d) * Ideal.rsqrt (Ideal.div (∑ k : Fin 1024, x (ix2 a k) * x (ix2 a k)) (Ideal.ofBits .f32 0x44800000#32) + Ideal.ofBits .f32 0x358637BD#32) * g (ix2 0 d)
      * (Ideal.ofBits .f32 0x3F800000#32 + sc (ix3 0 0 d)) + sh (ix3 0 0 d) := by
  pointwise [k0_pay1]

/-- A block of the output is the payload of its rows. -/
theorem block (c : Dev nD) (t : Fin cfg0.N) (ht : t.val < 32) (a : Fin 512) (d : Fin 1024) :
    k0_pay1 (iblk m c 0 t) (iblk m c 1 t) (iblk m c 2 t) (iblk m c 3 t) (ix2 a d) = out m c (ix2 ⟨512 * t.val + a.val, by omega⟩ d) := by
  refine (payload _ _ _ _ a d).trans ?_
  simp only [readX m c t ht, readG m c t, readS m c t ht, readT m c t ht]
  have hb : (⟨t.val / 8, by omega⟩ : Fin 4) = ⟨(512 * t.val + a.val) / 4096, by omega⟩ := Fin.ext (by show t.val / 8 = (512 * t.val + a.val) / 4096; omega)
  rw [hb]
  rfl

/-- A load of the whole buffer reads it. -/
theorem ld_0 (X : Vec Ideal S512x1024 .f32) : View.ld X r0_0 = X := View.ld_unit_lit _ X (by decide)

/-- A load of the whole buffer reads it. -/
theorem ld_1 (X : Vec Ideal S1x1024 .f32) : View.ld X r0_1 = X := View.ld_unit_lit _ X (by decide)

/-- A load of the whole buffer reads it. -/
theorem ld_2 (X : Vec Ideal S1x1x1024 .f32) : View.ld X r0_2 = X := View.ld_unit_lit _ X (by decide)

/-- The call leaves its output. -/
theorem final (c : Dev nD) : (dats m 0 c).arrAt 4 (cfgs 0).N = out m c := by
  refine (dats m 0 c).arrAt_eq_of_covers 4 _ (by decide +kernel) fun t hf y => ?_
  have e := (places t).2.2
  rw [after0_4]
  unfold out0_4
  canon_tiles x h
  obtain ⟨a, d, rfl⟩ : ∃ (a : Fin 512) (d : Fin 1024), x = ix2 a d := ⟨x 0, x 1, eq_ix2 x⟩
  refine Eq.trans ?_ ((block m c t t.isLt a d).trans (congrArg (out m c) ?_))
  · rw [ld_0, ld_1, ld_2, ld_2]
  · have h0' : (y 0).val = a.val := h0
    have h1' : (y 1).val = d.val := h1
    blk_ext [e]

end Cert.NormModIdeal.Whole

namespace Cert.Proof.NormModClaims

/-- The kernel's frame at the bit instance. -/
theorem frame_p : Cert.quiescent_NormMod (hNormMod := Cert.NormMod.Gen.facts) := fun m ρ _ => Cert.NormMod.Gen.frame m ρ
/-- The kernel's frame at the ideal instance. -/
theorem frame_pi : Cert.quiescent_NormModIdeal (hNormModIdeal := Cert.NormModIdeal.Gen.facts) := fun m ρ _ => Cert.NormModIdeal.Gen.frame m ρ
/-- The reference keeps its arguments and has no semaphore. -/
theorem frame_ri : Cert.quiescent_NormModRefIdeal (hNormModRefIdeal := Cert.NormModRefIdeal.Gen.facts) := fun m ρ _ =>
  (θ_run Cert.NormModRefIdeal.defs _ _).mono (fun r h => ⟨fun c => (h c).2,
      Idealize.ShloMosaic.sem_eq_zero_of_no_sems (by decide) r.2⟩)
    (Cert.NormModRefIdeal.Value.run (F := Ideal) m ρ)

open Cert.NormModRefIdeal Cert.NormModRefIdeal.Gen in
/-- The reference's scaled rows, read at an entry. -/
theorem ref_normed (x : FVec Ideal S16384x1024 .f32) (g : FVec Ideal S1024 .f32) (r : Fin 16384) (d : Fin 1024) :
    mulf (mulf x (broadcastInDim S16384x1024 ![0, 1] bcast_S16384x1_S16384x1024_0_1
        (Host.rsqrt (addf (Host.divf (broadcastInDim S16384x1 ![0] bcast_S16384_S16384x1_0
            (Host.reduceAdd (mulf x x) (constant S_ .f32 0x00000000#32) reducesTo_S16384x1024_S16384_d1 h_S_))
          (broadcastInDim S16384x1 ![] bcast_S_S16384x1 (constant S_ .f32 0x44800000#32)))
          (broadcastInDim S16384x1 ![] bcast_S_S16384x1 (constant S_ .f32 0x358637BD#32))))))
      (broadcastInDim S16384x1024 ![0, 1] bcast_S1x1024_S16384x1024_0_1 (broadcastInDim S1x1024 ![1] bcast_S1024_S1x1024_1 g)) (ix2 r d)
      = Cert.normed x g (ix2 r d) := by
  unfold Cert.normed Cert.rmsOf
  pointwise

open Cert.NormModRefIdeal Cert.NormModRefIdeal.Gen in
/-- The reference's modulation, read at an entry. -/
theorem ref_modulated (N : FVec Ideal S16384x1024 .f32) (sc sh : FVec Ideal S4x1x1024 .f32) (r : Fin 16384) (d : Fin 1024) :
    truncf .bf16 (shapeCast S16384x1024 (addf (mulf (shapeCast S4x4096x1024 N shapeCasts_S16384x1024_S4x4096x1024)
        (broadcastInDim S4x4096x1024 ![0, 1, 2] bcast_S4x1x1024_S4x4096x1024_0_1_2
          (addf (broadcastInDim S4x1x1024 ![] bcast_S_S4x1x1024 (constant S_ .f32 0x3F800000#32)) sc)))
        (broadcastInDim S4x4096x1024 ![0, 1, 2] bcast_S4x1x1024_S4x4096x1024_0_1_2 sh)) shapeCasts_S4x4096x1024_S16384x1024) bitsLt_bf16_f32 (ix2 r d)
      = N (ix2 r d) * (Ideal.ofBits .f32 0x3F800000#32 + sc (ix3 ⟨r.val / 4096, by omega⟩ 0 d)) + sh (ix3 ⟨r.val / 4096, by omega⟩ 0 d) := by
  pointwise

set_option maxRecDepth 200000 in
/-- The kernel computes the rows that the reference defines. -/
theorem algebraic : Cert.algebraic_NormModIdeal_NormModRefIdeal (hNormModIdeal := Cert.NormModIdeal.Gen.facts) (hNormModRefIdeal := Cert.NormModRefIdeal.Gen.facts) := by
  intro m ρ m' ρ' _ hagree
  refine ⟨fun c => Cert.NormModIdeal.Whole.out m c, ?_, ?_⟩
  · exact (θ_run Cert.NormModIdeal.defs _ _).mono
      (fun _ h c => ⟨(h c).1.trans (Cert.NormModIdeal.Whole.final m c), (h c).2⟩)
      (Cert.NormModIdeal.Value.run_blocks (F := Ideal) m ρ)
  · refine (θ_run Cert.NormModRefIdeal.defs _ _).mono (fun _ h c => ⟨(h c).1.trans ?_, (h c).2⟩)
      (Cert.NormModRefIdeal.Value.run (F := Ideal) m' ρ')
    obtain ⟨h0, h1, h2, h3⟩ := hagree c
    rw [h0, h1, h2, h3]
    funext j
    idx_vars j
    refine (ref_modulated _ _ _ j0 j1).trans ?_
    rw [ref_normed]
    rfl

/-- No constant is named and nothing is rewritten. -/
theorem preserves : Cert.preserves_NormMod_NormModIdeal := trivial

end Cert.Proof.NormModClaims

end
-- ==== Proof.lean ====
/-
  The certificate: each program's claims are proved in a module of its own (frames, what the named constants stand for, and
  the equality of the kernel's result with its reference's); this file only puts them together.
-/
module

public import proofs.«01_k».proof.Defs
public import proofs.«01_k».proof.Proof.ChunkValue
public import proofs.«01_k».proof.Proof.DiffValue
public import proofs.«01_k».proof.Proof.GateValue
public import proofs.«01_k».proof.Proof.MlaValue
public import proofs.«01_k».proof.Proof.MoeValue
public import proofs.«01_k».proof.Proof.NormValue
public import proofs.«01_k».proof.Proof.ProjValue
public import proofs.«01_k».proof.Proof.Gen.Chunk
public import proofs.«01_k».proof.Proof.Gen.ChunkIdeal
public import proofs.«01_k».proof.Proof.Gen.ChunkRefIdeal
public import proofs.«01_k».proof.Proof.Gen.Moe
public import proofs.«01_k».proof.Proof.Gen.MoeIdeal
public import proofs.«01_k».proof.Proof.Gen.MoeRefIdeal
public import proofs.«01_k».proof.Proof.Gen.Mla
public import proofs.«01_k».proof.Proof.Gen.MlaIdeal
public import proofs.«01_k».proof.Proof.Gen.MlaRefIdeal
public import proofs.«01_k».proof.Proof.Gen.Diff
public import proofs.«01_k».proof.Proof.Gen.DiffIdeal
public import proofs.«01_k».proof.Proof.Gen.DiffRefIdeal
public import proofs.«01_k».proof.Proof.Gen.Proj
public import proofs.«01_k».proof.Proof.Gen.ProjIdeal
public import proofs.«01_k».proof.Proof.Gen.ProjRefIdeal
public import proofs.«01_k».proof.Proof.Gen.Gate
public import proofs.«01_k».proof.Proof.Gen.GateIdeal
public import proofs.«01_k».proof.Proof.Gen.GateRefIdeal
public import proofs.«01_k».proof.Proof.Gen.FinalNorm
public import proofs.«01_k».proof.Proof.Gen.FinalNormIdeal
public import proofs.«01_k».proof.Proof.Gen.FinalNormRefIdeal
public import proofs.«01_k».proof.Proof.Gen.NormMod
public import proofs.«01_k».proof.Proof.Gen.NormModIdeal
public import proofs.«01_k».proof.Proof.Gen.NormModRefIdeal
public import proofs.«01_k».proof.Proof.Gen.Pre_finite_scores
public import proofs.«01_k».proof.Proof.Gen.Pre_finite_latent
public import proofs.«01_k».proof.Proof.Gen.Pre_finite_maps

@[expose] public section

noncomputable section

namespace Cert.Proof

/-- Everything the certificate claims. -/
theorem claim : Cert.Claim :=
  ⟨Cert.Chunk.Gen.facts, Cert.ChunkIdeal.Gen.facts, Cert.ChunkRefIdeal.Gen.facts, Cert.Moe.Gen.facts, Cert.MoeIdeal.Gen.facts, Cert.MoeRefIdeal.Gen.facts, Cert.Mla.Gen.facts, Cert.MlaIdeal.Gen.facts, Cert.MlaRefIdeal.Gen.facts, Cert.Diff.Gen.facts, Cert.DiffIdeal.Gen.facts, Cert.DiffRefIdeal.Gen.facts, Cert.Proj.Gen.facts, Cert.ProjIdeal.Gen.facts, Cert.ProjRefIdeal.Gen.facts, Cert.Gate.Gen.facts, Cert.GateIdeal.Gen.facts, Cert.GateRefIdeal.Gen.facts, Cert.FinalNorm.Gen.facts, Cert.FinalNormIdeal.Gen.facts, Cert.FinalNormRefIdeal.Gen.facts, Cert.NormMod.Gen.facts, Cert.NormModIdeal.Gen.facts, Cert.NormModRefIdeal.Gen.facts, Cert.Pre_finite_scores.Gen.facts, Cert.Pre_finite_latent.Gen.facts, Cert.Pre_finite_maps.Gen.facts,
    ChunkClaims.frame_p,
    ChunkClaims.frame_pi,
    ChunkClaims.frame_pi_pre,
    ChunkClaims.frame_ri,
    ChunkClaims.frame_ri_pre,
    MoeClaims.frame_p,
    MoeClaims.frame_pi,
    MoeClaims.frame_ri,
    MlaClaims.frame_p,
    MlaClaims.frame_pi,
    MlaClaims.frame_pi_pre,
    MlaClaims.frame_ri,
    MlaClaims.frame_ri_pre,
    DiffClaims.frame_p,
    DiffClaims.frame_pi,
    DiffClaims.frame_pi_pre,
    DiffClaims.frame_ri,
    DiffClaims.frame_ri_pre,
    ProjClaims.frame_p,
    ProjClaims.frame_pi,
    ProjClaims.frame_ri,
    GateClaims.frame_p,
    GateClaims.frame_pi,
    GateClaims.frame_ri,
    FinalNormClaims.frame_p,
    FinalNormClaims.frame_pi,
    FinalNormClaims.frame_ri,
    NormModClaims.frame_p,
    NormModClaims.frame_pi,
    NormModClaims.frame_ri,
    ChunkClaims.preserves,
    ChunkClaims.algebraic,
    MoeClaims.preserves,
    MoeClaims.algebraic,
    MlaClaims.preserves,
    MlaClaims.algebraic,
    DiffClaims.preserves,
    DiffClaims.algebraic,
    ProjClaims.preserves,
    ProjClaims.algebraic,
    GateClaims.preserves,
    GateClaims.algebraic,
    FinalNormClaims.preserves,
    FinalNormClaims.algebraic,
    NormModClaims.preserves,
    NormModClaims.algebraic⟩

end Cert.Proof

end
